-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_States (m : (ℓ : Loc Cert.States.nD Cert.States.τ Cert.States.sig) → Buf (Elt Bits) ℓ) : Prop :=
  True

def Pre_StatesIdeal (m : (ℓ : Loc Cert.StatesIdeal.nD Cert.StatesIdeal.τ Cert.StatesIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_MergePrompt (m : (ℓ : Loc Cert.MergePrompt.nD Cert.MergePrompt.τ Cert.MergePrompt.sig) → Buf (Elt Bits) ℓ) : Prop :=
  True

def Pre_MergePromptIdeal (m : (ℓ : Loc Cert.MergePromptIdeal.nD Cert.MergePromptIdeal.τ Cert.MergePromptIdeal.sig) → Buf (Elt Ideal) ℓ) : Prop :=
  True

def Pre_MergePromptReferenceIdeal (m : (ℓ : Loc Cert.MergePromptReferenceIdeal.nD Cert.MergePromptReferenceIdeal.τ Cert.MergePromptReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3)
      ∧ r.2.mem ((c.tc : Thread Cert.Gates.nD Cert.Gates.τ).loc Cert.Gates.main_arg4) = m ((c.tc : Thread Cert.Gates.nD Cert.Gates.τ).loc Cert.Gates.main_arg4))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1)
      ∧ r.2.mem ((c.tc : Thread Cert.GatesReferenceIdeal.nD Cert.GatesReferenceIdeal.τ).loc Cert.GatesReferenceIdeal.main_arg2) = m ((c.tc : Thread Cert.GatesReferenceIdeal.nD Cert.GatesReferenceIdeal.τ).loc Cert.GatesReferenceIdeal.main_arg2)
      ∧ r.2.mem ((c.tc : Thread Cert.GatesReferenceIdeal.nD Cert.GatesReferenceIdeal.τ).loc Cert.GatesReferenceIdeal.main_arg3) = m ((c.tc : Thread Cert.GatesReferenceIdeal.nD Cert.GatesReferenceIdeal.τ).loc Cert.GatesReferenceIdeal.main_arg3)
      ∧ r.2.mem ((c.tc : Thread Cert.GatesReferenceIdeal.nD Cert.GatesReferenceIdeal.τ).loc Cert.GatesReferenceIdeal.main_arg4) = m ((c.tc : Thread Cert.GatesReferenceIdeal.nD Cert.GatesReferenceIdeal.τ).loc Cert.GatesReferenceIdeal.main_arg4))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3))
      ∧ r.2.sem = fun _ => 0)

def quiescent_States [hStates : Cert.States.Facts] : Prop :=
  ∀ (m : (ℓ : Loc Cert.States.nD Cert.States.τ Cert.States.sig) → Buf (Elt Bits) ℓ) (g : Dev Cert.States.nD → PrngReg), Pre_States m →
    θ_run (Cert.States.defs (F := Bits)) (onTc (τ := Cert.States.τ) (Cert.States.main (F := Bits))) ⟨m, fun _ => 0, g⟩ (fun r => (∀ c : Dev Cert.States.nD,
      r.2.mem ((c.tc : Thread Cert.States.nD Cert.States.τ).loc Cert.States.main_arg0) = m ((c.tc : Thread Cert.States.nD Cert.States.τ).loc Cert.States.main_arg0)
      ∧ r.2.mem ((c.tc : Thread Cert.States.nD Cert.States.τ).loc Cert.States.main_arg1) = m ((c.tc : Thread Cert.States.nD Cert.States.τ).loc Cert.States.main_arg1)
      ∧ r.2.mem ((c.tc : Thread Cert.States.nD Cert.States.τ).loc Cert.States.main_arg2) = m ((c.tc : Thread Cert.States.nD Cert.States.τ).loc Cert.States.main_arg2)
      ∧ r.2.mem ((c.tc : Thread Cert.States.nD Cert.States.τ).loc Cert.States.main_arg3) = m ((c.tc : Thread Cert.States.nD Cert.States.τ).loc Cert.States.main_arg3)
      ∧ r.2.mem ((c.tc : Thread Cert.States.nD Cert.States.τ).loc Cert.States.main_arg4) = m ((c.tc : Thread Cert.States.nD Cert.States.τ).loc Cert.States.main_arg4))
      ∧ r.2.sem = fun _ => 0)

def quiescent_StatesIdeal [hStatesIdeal : Cert.StatesIdeal.Facts] : Prop :=
  ∀ (m : (ℓ : Loc Cert.StatesIdeal.nD Cert.StatesIdeal.τ Cert.StatesIdeal.sig) → Buf (Elt Ideal) ℓ) (g : Dev Cert.StatesIdeal.nD → PrngReg), Pre_StatesIdeal m →
    θ_run (Cert.StatesIdeal.defs (F := Ideal)) (onTc (τ := Cert.StatesIdeal.τ) (Cert.StatesIdeal.main (F := Ideal))) ⟨m, fun _ => 0, g⟩ (fun r => (∀ c : Dev Cert.StatesIdeal.nD,
      r.2.mem ((c.tc : Thread Cert.StatesIdeal.nD Cert.StatesIdeal.τ).loc Cert.StatesIdeal.main_arg0) = m ((c.tc : Thread Cert.StatesIdeal.nD Cert.StatesIdeal.τ).loc Cert.StatesIdeal.main_arg0)
      ∧ r.2.mem ((c.tc : Thread Cert.StatesIdeal.nD Cert.StatesIdeal.τ).loc Cert.StatesIdeal.main_arg1) = m ((c.tc : Thread Cert.StatesIdeal.nD Cert.StatesIdeal.τ).loc Cert.StatesIdeal.main_arg1)
      ∧ r.2.mem ((c.tc : Thread Cert.StatesIdeal.nD Cert.StatesIdeal.τ).loc Cert.StatesIdeal.main_arg2) = m ((c.tc : Thread Cert.StatesIdeal.nD Cert.StatesIdeal.τ).loc Cert.StatesIdeal.main_arg2)
      ∧ r.2.mem ((c.tc : Thread Cert.StatesIdeal.nD Cert.StatesIdeal.τ).loc Cert.StatesIdeal.main_arg3) = m ((c.tc : Thread Cert.StatesIdeal.nD Cert.StatesIdeal.τ).loc Cert.StatesIdeal.main_arg3)
      ∧ r.2.mem ((c.tc : Thread Cert.StatesIdeal.nD Cert.StatesIdeal.τ).loc Cert.StatesIdeal.main_arg4) = m ((c.tc : Thread Cert.StatesIdeal.nD Cert.StatesIdeal.τ).loc Cert.StatesIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8))
      ∧ r.2.sem = fun _ => 0)

def quiescent_MergePrompt [hMergePrompt : Cert.MergePrompt.Facts] : Prop :=
  ∀ (m : (ℓ : Loc Cert.MergePrompt.nD Cert.MergePrompt.τ Cert.MergePrompt.sig) → Buf (Elt Bits) ℓ) (g : Dev Cert.MergePrompt.nD → PrngReg), Pre_MergePrompt m →
    θ_run (Cert.MergePrompt.defs (F := Bits)) (onTc (τ := Cert.MergePrompt.τ) (Cert.MergePrompt.main (F := Bits))) ⟨m, fun _ => 0, g⟩ (fun r => (∀ c : Dev Cert.MergePrompt.nD,
      r.2.mem ((c.tc : Thread Cert.MergePrompt.nD Cert.MergePrompt.τ).loc Cert.MergePrompt.main_arg0) = m ((c.tc : Thread Cert.MergePrompt.nD Cert.MergePrompt.τ).loc Cert.MergePrompt.main_arg0)
      ∧ r.2.mem ((c.tc : Thread Cert.MergePrompt.nD Cert.MergePrompt.τ).loc Cert.MergePrompt.main_arg1) = m ((c.tc : Thread Cert.MergePrompt.nD Cert.MergePrompt.τ).loc Cert.MergePrompt.main_arg1)
      ∧ r.2.mem ((c.tc : Thread Cert.MergePrompt.nD Cert.MergePrompt.τ).loc Cert.MergePrompt.main_arg2) = m ((c.tc : Thread Cert.MergePrompt.nD Cert.MergePrompt.τ).loc Cert.MergePrompt.main_arg2)
      ∧ r.2.mem ((c.tc : Thread Cert.MergePrompt.nD Cert.MergePrompt.τ).loc Cert.MergePrompt.main_arg3) = m ((c.tc : Thread Cert.MergePrompt.nD Cert.MergePrompt.τ).loc Cert.MergePrompt.main_arg3)
      ∧ r.2.mem ((c.tc : Thread Cert.MergePrompt.nD Cert.MergePrompt.τ).loc Cert.MergePrompt.main_arg4) = m ((c.tc : Thread Cert.MergePrompt.nD Cert.MergePrompt.τ).loc Cert.MergePrompt.main_arg4)
      ∧ r.2.mem ((c.tc : Thread Cert.MergePrompt.nD Cert.MergePrompt.τ).loc Cert.MergePrompt.main_arg5) = m ((c.tc : Thread Cert.MergePrompt.nD Cert.MergePrompt.τ).loc Cert.MergePrompt.main_arg5)
      ∧ r.2.mem ((c.tc : Thread Cert.MergePrompt.nD Cert.MergePrompt.τ).loc Cert.MergePrompt.main_arg6) = m ((c.tc : Thread Cert.MergePrompt.nD Cert.MergePrompt.τ).loc Cert.MergePrompt.main_arg6)
      ∧ r.2.mem ((c.tc : Thread Cert.MergePrompt.nD Cert.MergePrompt.τ).loc Cert.MergePrompt.main_arg7) = m ((c.tc : Thread Cert.MergePrompt.nD Cert.MergePrompt.τ).loc Cert.MergePrompt.main_arg7)
      ∧ r.2.mem ((c.tc : Thread Cert.MergePrompt.nD Cert.MergePrompt.τ).loc Cert.MergePrompt.main_arg8) = m ((c.tc : Thread Cert.MergePrompt.nD Cert.MergePrompt.τ).loc Cert.MergePrompt.main_arg8))
      ∧ r.2.sem = fun _ => 0)

def quiescent_MergePromptIdeal [hMergePromptIdeal : Cert.MergePromptIdeal.Facts] : Prop :=
  ∀ (m : (ℓ : Loc Cert.MergePromptIdeal.nD Cert.MergePromptIdeal.τ Cert.MergePromptIdeal.sig) → Buf (Elt Ideal) ℓ) (g : Dev Cert.MergePromptIdeal.nD → PrngReg), Pre_MergePromptIdeal m →
    θ_run (Cert.MergePromptIdeal.defs (F := Ideal)) (onTc (τ := Cert.MergePromptIdeal.τ) (Cert.MergePromptIdeal.main (F := Ideal))) ⟨m, fun _ => 0, g⟩ (fun r => (∀ c : Dev Cert.MergePromptIdeal.nD,
      r.2.mem ((c.tc : Thread Cert.MergePromptIdeal.nD Cert.MergePromptIdeal.τ).loc Cert.MergePromptIdeal.main_arg0) = m ((c.tc : Thread Cert.MergePromptIdeal.nD Cert.MergePromptIdeal.τ).loc Cert.MergePromptIdeal.main_arg0)
      ∧ r.2.mem ((c.tc : Thread Cert.MergePromptIdeal.nD Cert.MergePromptIdeal.τ).loc Cert.MergePromptIdeal.main_arg1) = m ((c.tc : Thread Cert.MergePromptIdeal.nD Cert.MergePromptIdeal.τ).loc Cert.MergePromptIdeal.main_arg1)
      ∧ r.2.mem ((c.tc : Thread Cert.MergePromptIdeal.nD Cert.MergePromptIdeal.τ).loc Cert.MergePromptIdeal.main_arg2) = m ((c.tc : Thread Cert.MergePromptIdeal.nD Cert.MergePromptIdeal.τ).loc Cert.MergePromptIdeal.main_arg2)
      ∧ r.2.mem ((c.tc : Thread Cert.MergePromptIdeal.nD Cert.MergePromptIdeal.τ).loc Cert.MergePromptIdeal.main_arg3) = m ((c.tc : Thread Cert.MergePromptIdeal.nD Cert.MergePromptIdeal.τ).loc Cert.MergePromptIdeal.main_arg3)
      ∧ r.2.mem ((c.tc : Thread Cert.MergePromptIdeal.nD Cert.MergePromptIdeal.τ).loc Cert.MergePromptIdeal.main_arg4) = m ((c.tc : Thread Cert.MergePromptIdeal.nD Cert.MergePromptIdeal.τ).loc Cert.MergePromptIdeal.main_arg4)
      ∧ r.2.mem ((c.tc : Thread Cert.MergePromptIdeal.nD Cert.MergePromptIdeal.τ).loc Cert.MergePromptIdeal.main_arg5) = m ((c.tc : Thread Cert.MergePromptIdeal.nD Cert.MergePromptIdeal.τ).loc Cert.MergePromptIdeal.main_arg5)
      ∧ r.2.mem ((c.tc : Thread Cert.MergePromptIdeal.nD Cert.MergePromptIdeal.τ).loc Cert.MergePromptIdeal.main_arg6) = m ((c.tc : Thread Cert.MergePromptIdeal.nD Cert.MergePromptIdeal.τ).loc Cert.MergePromptIdeal.main_arg6)
      ∧ r.2.mem ((c.tc : Thread Cert.MergePromptIdeal.nD Cert.MergePromptIdeal.τ).loc Cert.MergePromptIdeal.main_arg7) = m ((c.tc : Thread Cert.MergePromptIdeal.nD Cert.MergePromptIdeal.τ).loc Cert.MergePromptIdeal.main_arg7)
      ∧ r.2.mem ((c.tc : Thread Cert.MergePromptIdeal.nD Cert.MergePromptIdeal.τ).loc Cert.MergePromptIdeal.main_arg8) = m ((c.tc : Thread Cert.MergePromptIdeal.nD Cert.MergePromptIdeal.τ).loc Cert.MergePromptIdeal.main_arg8))
      ∧ r.2.sem = fun _ => 0)

def quiescent_MergePromptReferenceIdeal [hMergePromptReferenceIdeal : Cert.MergePromptReferenceIdeal.Facts] : Prop :=
  ∀ (m : (ℓ : Loc Cert.MergePromptReferenceIdeal.nD Cert.MergePromptReferenceIdeal.τ Cert.MergePromptReferenceIdeal.sig) → Buf (Elt Ideal) ℓ) (g : Dev Cert.MergePromptReferenceIdeal.nD → PrngReg), Pre_MergePromptReferenceIdeal m →
    θ_run (Cert.MergePromptReferenceIdeal.defs (F := Ideal)) (onTc (τ := Cert.MergePromptReferenceIdeal.τ) (Cert.MergePromptReferenceIdeal.main (F := Ideal))) ⟨m, fun _ => 0, g⟩ (fun r => (∀ c : Dev Cert.MergePromptReferenceIdeal.nD,
      r.2.mem ((c.tc : Thread Cert.MergePromptReferenceIdeal.nD Cert.MergePromptReferenceIdeal.τ).loc Cert.MergePromptReferenceIdeal.main_arg0) = m ((c.tc : Thread Cert.MergePromptReferenceIdeal.nD Cert.MergePromptReferenceIdeal.τ).loc Cert.MergePromptReferenceIdeal.main_arg0)
      ∧ r.2.mem ((c.tc : Thread Cert.MergePromptReferenceIdeal.nD Cert.MergePromptReferenceIdeal.τ).loc Cert.MergePromptReferenceIdeal.main_arg1) = m ((c.tc : Thread Cert.MergePromptReferenceIdeal.nD Cert.MergePromptReferenceIdeal.τ).loc Cert.MergePromptReferenceIdeal.main_arg1)
      ∧ r.2.mem ((c.tc : Thread Cert.MergePromptReferenceIdeal.nD Cert.MergePromptReferenceIdeal.τ).loc Cert.MergePromptReferenceIdeal.main_arg2) = m ((c.tc : Thread Cert.MergePromptReferenceIdeal.nD Cert.MergePromptReferenceIdeal.τ).loc Cert.MergePromptReferenceIdeal.main_arg2)
      ∧ r.2.mem ((c.tc : Thread Cert.MergePromptReferenceIdeal.nD Cert.MergePromptReferenceIdeal.τ).loc Cert.MergePromptReferenceIdeal.main_arg3) = m ((c.tc : Thread Cert.MergePromptReferenceIdeal.nD Cert.MergePromptReferenceIdeal.τ).loc Cert.MergePromptReferenceIdeal.main_arg3)
      ∧ r.2.mem ((c.tc : Thread Cert.MergePromptReferenceIdeal.nD Cert.MergePromptReferenceIdeal.τ).loc Cert.MergePromptReferenceIdeal.main_arg4) = m ((c.tc : Thread Cert.MergePromptReferenceIdeal.nD Cert.MergePromptReferenceIdeal.τ).loc Cert.MergePromptReferenceIdeal.main_arg4)
      ∧ r.2.mem ((c.tc : Thread Cert.MergePromptReferenceIdeal.nD Cert.MergePromptReferenceIdeal.τ).loc Cert.MergePromptReferenceIdeal.main_arg5) = m ((c.tc : Thread Cert.MergePromptReferenceIdeal.nD Cert.MergePromptReferenceIdeal.τ).loc Cert.MergePromptReferenceIdeal.main_arg5)
      ∧ r.2.mem ((c.tc : Thread Cert.MergePromptReferenceIdeal.nD Cert.MergePromptReferenceIdeal.τ).loc Cert.MergePromptReferenceIdeal.main_arg6) = m ((c.tc : Thread Cert.MergePromptReferenceIdeal.nD Cert.MergePromptReferenceIdeal.τ).loc Cert.MergePromptReferenceIdeal.main_arg6)
      ∧ r.2.mem ((c.tc : Thread Cert.MergePromptReferenceIdeal.nD Cert.MergePromptReferenceIdeal.τ).loc Cert.MergePromptReferenceIdeal.main_arg7) = m ((c.tc : Thread Cert.MergePromptReferenceIdeal.nD Cert.MergePromptReferenceIdeal.τ).loc Cert.MergePromptReferenceIdeal.main_arg7)
      ∧ r.2.mem ((c.tc : Thread Cert.MergePromptReferenceIdeal.nD Cert.MergePromptReferenceIdeal.τ).loc Cert.MergePromptReferenceIdeal.main_arg8) = m ((c.tc : Thread Cert.MergePromptReferenceIdeal.nD Cert.MergePromptReferenceIdeal.τ).loc Cert.MergePromptReferenceIdeal.main_arg8))
      ∧ r.2.sem = fun _ => 0)

def preserves_Kernel_KernelIdeal : Prop :=
  IdealRules.named_const.Statement Cert.KernelIdeal.κ "q_scale" .f32 0x3E38AA3B#32 (((Real.log 2)⁻¹ * 8⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)
      ∧ m' ((c.tc : Thread Cert.QkvReferenceIdeal.nD Cert.QkvReferenceIdeal.τ).loc Cert.QkvReferenceIdeal.main_arg3) = m ((c.tc : Thread Cert.QkvIdeal.nD Cert.QkvIdeal.τ).loc Cert.QkvIdeal.main_arg3)) →
    ∃ (v0 : (c : Dev Cert.QkvIdeal.nD) → Buf (Elt Ideal) ((c.tc : Thread Cert.QkvIdeal.nD Cert.QkvIdeal.τ).loc Cert.QkvIdeal.main_v67_0)) (v1 : (c : Dev Cert.QkvIdeal.nD) → Buf (Elt Ideal) ((c.tc : Thread Cert.QkvIdeal.nD Cert.QkvIdeal.τ).loc Cert.QkvIdeal.main_v67_1)) (v2 : (c : Dev Cert.QkvIdeal.nD) → Buf (Elt Ideal) ((c.tc : Thread Cert.QkvIdeal.nD Cert.QkvIdeal.τ).loc Cert.QkvIdeal.main_v67_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v67_0) = v0 c
          ∧ r.2.mem ((c.tc : Thread Cert.QkvIdeal.nD Cert.QkvIdeal.τ).loc Cert.QkvIdeal.main_v67_1) = v1 c
          ∧ r.2.mem ((c.tc : Thread Cert.QkvIdeal.nD Cert.QkvIdeal.τ).loc Cert.QkvIdeal.main_v67_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v126) = v0 c
          ∧ r.2.mem ((c.tc : Thread Cert.QkvReferenceIdeal.nD Cert.QkvReferenceIdeal.τ).loc Cert.QkvReferenceIdeal.main_v127) = v1 c
          ∧ r.2.mem ((c.tc : Thread Cert.QkvReferenceIdeal.nD Cert.QkvReferenceIdeal.τ).loc Cert.QkvReferenceIdeal.main_v129) = v2 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3))

def preserves_Gates_GatesIdeal : Prop :=
  True

def algebraic_GatesIdeal_GatesReferenceIdeal [hGatesIdeal : Cert.GatesIdeal.Facts] [hGatesReferenceIdeal : Cert.GatesReferenceIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesIdeal m →
    (∀ c : Dev Cert.GatesIdeal.nD,
      m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0)
      ∧ m' ((c.tc : Thread Cert.GatesReferenceIdeal.nD Cert.GatesReferenceIdeal.τ).loc Cert.GatesReferenceIdeal.main_arg1) = m ((c.tc : Thread Cert.GatesIdeal.nD Cert.GatesIdeal.τ).loc Cert.GatesIdeal.main_arg1)
      ∧ m' ((c.tc : Thread Cert.GatesReferenceIdeal.nD Cert.GatesReferenceIdeal.τ).loc Cert.GatesReferenceIdeal.main_arg2) = m ((c.tc : Thread Cert.GatesIdeal.nD Cert.GatesIdeal.τ).loc Cert.GatesIdeal.main_arg2)
      ∧ m' ((c.tc : Thread Cert.GatesReferenceIdeal.nD Cert.GatesReferenceIdeal.τ).loc Cert.GatesReferenceIdeal.main_arg3) = m ((c.tc : Thread Cert.GatesIdeal.nD Cert.GatesIdeal.τ).loc Cert.GatesIdeal.main_arg3)
      ∧ m' ((c.tc : Thread Cert.GatesReferenceIdeal.nD Cert.GatesReferenceIdeal.τ).loc Cert.GatesReferenceIdeal.main_arg4) = m ((c.tc : Thread Cert.GatesIdeal.nD Cert.GatesIdeal.τ).loc Cert.GatesIdeal.main_arg4)) →
    ∃ (v0 : (c : Dev Cert.GatesIdeal.nD) → Buf (Elt Ideal) ((c.tc : Thread Cert.GatesIdeal.nD Cert.GatesIdeal.τ).loc Cert.GatesIdeal.main_v15_0)) (v1 : (c : Dev Cert.GatesIdeal.nD) → Buf (Elt Ideal) ((c.tc : Thread Cert.GatesIdeal.nD Cert.GatesIdeal.τ).loc Cert.GatesIdeal.main_v15_1)) (v2 : (c : Dev Cert.GatesIdeal.nD) → Buf (Elt Ideal) ((c.tc : Thread Cert.GatesIdeal.nD Cert.GatesIdeal.τ).loc Cert.GatesIdeal.main_v15_2)) (v3 : (c : Dev Cert.GatesIdeal.nD) → Buf (Elt Ideal) ((c.tc : Thread Cert.GatesIdeal.nD Cert.GatesIdeal.τ).loc Cert.GatesIdeal.main_v15_3)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v15_0) = v0 c
          ∧ r.2.mem ((c.tc : Thread Cert.GatesIdeal.nD Cert.GatesIdeal.τ).loc Cert.GatesIdeal.main_v15_1) = v1 c
          ∧ r.2.mem ((c.tc : Thread Cert.GatesIdeal.nD Cert.GatesIdeal.τ).loc Cert.GatesIdeal.main_v15_2) = v2 c
          ∧ r.2.mem ((c.tc : Thread Cert.GatesIdeal.nD Cert.GatesIdeal.τ).loc Cert.GatesIdeal.main_v15_3) = v3 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
          ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v15) = v0 c
          ∧ r.2.mem ((c.tc : Thread Cert.GatesReferenceIdeal.nD Cert.GatesReferenceIdeal.τ).loc Cert.GatesReferenceIdeal.main_v17) = v1 c
          ∧ r.2.mem ((c.tc : Thread Cert.GatesReferenceIdeal.nD Cert.GatesReferenceIdeal.τ).loc Cert.GatesReferenceIdeal.main_v27) = v2 c
          ∧ r.2.mem ((c.tc : Thread Cert.GatesReferenceIdeal.nD Cert.GatesReferenceIdeal.τ).loc Cert.GatesReferenceIdeal.main_v28) = v3 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1)
          ∧ r.2.mem ((c.tc : Thread Cert.GatesReferenceIdeal.nD Cert.GatesReferenceIdeal.τ).loc Cert.GatesReferenceIdeal.main_arg2) = m' ((c.tc : Thread Cert.GatesReferenceIdeal.nD Cert.GatesReferenceIdeal.τ).loc Cert.GatesReferenceIdeal.main_arg2)
          ∧ r.2.mem ((c.tc : Thread Cert.GatesReferenceIdeal.nD Cert.GatesReferenceIdeal.τ).loc Cert.GatesReferenceIdeal.main_arg3) = m' ((c.tc : Thread Cert.GatesReferenceIdeal.nD Cert.GatesReferenceIdeal.τ).loc Cert.GatesReferenceIdeal.main_arg3)
          ∧ r.2.mem ((c.tc : Thread Cert.GatesReferenceIdeal.nD Cert.GatesReferenceIdeal.τ).loc Cert.GatesReferenceIdeal.main_arg4) = m' ((c.tc : Thread Cert.GatesReferenceIdeal.nD Cert.GatesReferenceIdeal.τ).loc Cert.GatesReferenceIdeal.main_arg4))

def preserves_Conv_ConvIdeal : Prop :=
  True

def algebraic_ConvIdeal_ConvReferenceIdeal [hConvIdeal : Cert.ConvIdeal.Facts] [hConvReferenceIdeal : Cert.ConvReferenceIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)
      ∧ m' ((c.tc : Thread Cert.ConvReferenceIdeal.nD Cert.ConvReferenceIdeal.τ).loc Cert.ConvReferenceIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v10_0)) (v1 : (c : Dev Cert.ConvIdeal.nD) → Buf (Elt Ideal) ((c.tc : Thread Cert.ConvIdeal.nD Cert.ConvIdeal.τ).loc Cert.ConvIdeal.main_v10_1)) (v2 : (c : Dev Cert.ConvIdeal.nD) → Buf (Elt Ideal) ((c.tc : Thread Cert.ConvIdeal.nD Cert.ConvIdeal.τ).loc Cert.ConvIdeal.main_v10_2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v10_0) = v0 c
          ∧ r.2.mem ((c.tc : Thread Cert.ConvIdeal.nD Cert.ConvIdeal.τ).loc Cert.ConvIdeal.main_v10_1) = v1 c
          ∧ r.2.mem ((c.tc : Thread Cert.ConvIdeal.nD Cert.ConvIdeal.τ).loc Cert.ConvIdeal.main_v10_2) = v2 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v53) = v0 c
          ∧ r.2.mem ((c.tc : Thread Cert.ConvReferenceIdeal.nD Cert.ConvReferenceIdeal.τ).loc Cert.ConvReferenceIdeal.main_v54) = v1 c
          ∧ r.2.mem ((c.tc : Thread Cert.ConvReferenceIdeal.nD Cert.ConvReferenceIdeal.τ).loc Cert.ConvReferenceIdeal.main_v55) = v2 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3))

def preserves_States_StatesIdeal : Prop :=
  True

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v8)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v8) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v34) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8))

def preserves_MergePrompt_MergePromptIdeal : Prop :=
  True

def algebraic_MergePromptIdeal_MergePromptReferenceIdeal [hMergePromptIdeal : Cert.MergePromptIdeal.Facts] [hMergePromptReferenceIdeal : Cert.MergePromptReferenceIdeal.Facts] : Prop :=
  ∀ (m : (ℓ : Loc Cert.MergePromptIdeal.nD Cert.MergePromptIdeal.τ Cert.MergePromptIdeal.sig) → Buf (Elt Ideal) ℓ) (g : Dev Cert.MergePromptIdeal.nD → PrngReg)
    (m' : (ℓ : Loc Cert.MergePromptReferenceIdeal.nD Cert.MergePromptReferenceIdeal.τ Cert.MergePromptReferenceIdeal.sig) → Buf (Elt Ideal) ℓ) (g' : Dev Cert.MergePromptReferenceIdeal.nD → PrngReg), Pre_MergePromptIdeal m →
    (∀ c : Dev Cert.MergePromptIdeal.nD,
      m' ((c.tc : Thread Cert.MergePromptReferenceIdeal.nD Cert.MergePromptReferenceIdeal.τ).loc Cert.MergePromptReferenceIdeal.main_arg0) = m ((c.tc : Thread Cert.MergePromptIdeal.nD Cert.MergePromptIdeal.τ).loc Cert.MergePromptIdeal.main_arg0)
      ∧ m' ((c.tc : Thread Cert.MergePromptReferenceIdeal.nD Cert.MergePromptReferenceIdeal.τ).loc Cert.MergePromptReferenceIdeal.main_arg1) = m ((c.tc : Thread Cert.MergePromptIdeal.nD Cert.MergePromptIdeal.τ).loc Cert.MergePromptIdeal.main_arg1)
      ∧ m' ((c.tc : Thread Cert.MergePromptReferenceIdeal.nD Cert.MergePromptReferenceIdeal.τ).loc Cert.MergePromptReferenceIdeal.main_arg2) = m ((c.tc : Thread Cert.MergePromptIdeal.nD Cert.MergePromptIdeal.τ).loc Cert.MergePromptIdeal.main_arg2)
      ∧ m' ((c.tc : Thread Cert.MergePromptReferenceIdeal.nD Cert.MergePromptReferenceIdeal.τ).loc Cert.MergePromptReferenceIdeal.main_arg3) = m ((c.tc : Thread Cert.MergePromptIdeal.nD Cert.MergePromptIdeal.τ).loc Cert.MergePromptIdeal.main_arg3)
      ∧ m' ((c.tc : Thread Cert.MergePromptReferenceIdeal.nD Cert.MergePromptReferenceIdeal.τ).loc Cert.MergePromptReferenceIdeal.main_arg4) = m ((c.tc : Thread Cert.MergePromptIdeal.nD Cert.MergePromptIdeal.τ).loc Cert.MergePromptIdeal.main_arg4)
      ∧ m' ((c.tc : Thread Cert.MergePromptReferenceIdeal.nD Cert.MergePromptReferenceIdeal.τ).loc Cert.MergePromptReferenceIdeal.main_arg5) = m ((c.tc : Thread Cert.MergePromptIdeal.nD Cert.MergePromptIdeal.τ).loc Cert.MergePromptIdeal.main_arg5)
      ∧ m' ((c.tc : Thread Cert.MergePromptReferenceIdeal.nD Cert.MergePromptReferenceIdeal.τ).loc Cert.MergePromptReferenceIdeal.main_arg6) = m ((c.tc : Thread Cert.MergePromptIdeal.nD Cert.MergePromptIdeal.τ).loc Cert.MergePromptIdeal.main_arg6)
      ∧ m' ((c.tc : Thread Cert.MergePromptReferenceIdeal.nD Cert.MergePromptReferenceIdeal.τ).loc Cert.MergePromptReferenceIdeal.main_arg7) = m ((c.tc : Thread Cert.MergePromptIdeal.nD Cert.MergePromptIdeal.τ).loc Cert.MergePromptIdeal.main_arg7)
      ∧ m' ((c.tc : Thread Cert.MergePromptReferenceIdeal.nD Cert.MergePromptReferenceIdeal.τ).loc Cert.MergePromptReferenceIdeal.main_arg8) = m ((c.tc : Thread Cert.MergePromptIdeal.nD Cert.MergePromptIdeal.τ).loc Cert.MergePromptIdeal.main_arg8)) →
    ∃ (v0 : (c : Dev Cert.MergePromptIdeal.nD) → Buf (Elt Ideal) ((c.tc : Thread Cert.MergePromptIdeal.nD Cert.MergePromptIdeal.τ).loc Cert.MergePromptIdeal.main_v8)),
      θ_run (Cert.MergePromptIdeal.defs (F := Ideal)) (onTc (τ := Cert.MergePromptIdeal.τ) (Cert.MergePromptIdeal.main (F := Ideal))) ⟨m, fun _ => 0, g⟩ (fun r => ∀ c : Dev Cert.MergePromptIdeal.nD,
          r.2.mem ((c.tc : Thread Cert.MergePromptIdeal.nD Cert.MergePromptIdeal.τ).loc Cert.MergePromptIdeal.main_v8) = v0 c
          ∧ r.2.mem ((c.tc : Thread Cert.MergePromptIdeal.nD Cert.MergePromptIdeal.τ).loc Cert.MergePromptIdeal.main_arg0) = m ((c.tc : Thread Cert.MergePromptIdeal.nD Cert.MergePromptIdeal.τ).loc Cert.MergePromptIdeal.main_arg0)
          ∧ r.2.mem ((c.tc : Thread Cert.MergePromptIdeal.nD Cert.MergePromptIdeal.τ).loc Cert.MergePromptIdeal.main_arg1) = m ((c.tc : Thread Cert.MergePromptIdeal.nD Cert.MergePromptIdeal.τ).loc Cert.MergePromptIdeal.main_arg1)
          ∧ r.2.mem ((c.tc : Thread Cert.MergePromptIdeal.nD Cert.MergePromptIdeal.τ).loc Cert.MergePromptIdeal.main_arg2) = m ((c.tc : Thread Cert.MergePromptIdeal.nD Cert.MergePromptIdeal.τ).loc Cert.MergePromptIdeal.main_arg2)
          ∧ r.2.mem ((c.tc : Thread Cert.MergePromptIdeal.nD Cert.MergePromptIdeal.τ).loc Cert.MergePromptIdeal.main_arg3) = m ((c.tc : Thread Cert.MergePromptIdeal.nD Cert.MergePromptIdeal.τ).loc Cert.MergePromptIdeal.main_arg3)
          ∧ r.2.mem ((c.tc : Thread Cert.MergePromptIdeal.nD Cert.MergePromptIdeal.τ).loc Cert.MergePromptIdeal.main_arg4) = m ((c.tc : Thread Cert.MergePromptIdeal.nD Cert.MergePromptIdeal.τ).loc Cert.MergePromptIdeal.main_arg4)
          ∧ r.2.mem ((c.tc : Thread Cert.MergePromptIdeal.nD Cert.MergePromptIdeal.τ).loc Cert.MergePromptIdeal.main_arg5) = m ((c.tc : Thread Cert.MergePromptIdeal.nD Cert.MergePromptIdeal.τ).loc Cert.MergePromptIdeal.main_arg5)
          ∧ r.2.mem ((c.tc : Thread Cert.MergePromptIdeal.nD Cert.MergePromptIdeal.τ).loc Cert.MergePromptIdeal.main_arg6) = m ((c.tc : Thread Cert.MergePromptIdeal.nD Cert.MergePromptIdeal.τ).loc Cert.MergePromptIdeal.main_arg6)
          ∧ r.2.mem ((c.tc : Thread Cert.MergePromptIdeal.nD Cert.MergePromptIdeal.τ).loc Cert.MergePromptIdeal.main_arg7) = m ((c.tc : Thread Cert.MergePromptIdeal.nD Cert.MergePromptIdeal.τ).loc Cert.MergePromptIdeal.main_arg7)
          ∧ r.2.mem ((c.tc : Thread Cert.MergePromptIdeal.nD Cert.MergePromptIdeal.τ).loc Cert.MergePromptIdeal.main_arg8) = m ((c.tc : Thread Cert.MergePromptIdeal.nD Cert.MergePromptIdeal.τ).loc Cert.MergePromptIdeal.main_arg8))
      ∧ θ_run (Cert.MergePromptReferenceIdeal.defs (F := Ideal)) (onTc (τ := Cert.MergePromptReferenceIdeal.τ) (Cert.MergePromptReferenceIdeal.main (F := Ideal))) ⟨m', fun _ => 0, g'⟩ (fun r => ∀ c : Dev Cert.MergePromptReferenceIdeal.nD,
          r.2.mem ((c.tc : Thread Cert.MergePromptReferenceIdeal.nD Cert.MergePromptReferenceIdeal.τ).loc Cert.MergePromptReferenceIdeal.main_v34) = v0 c
          ∧ r.2.mem ((c.tc : Thread Cert.MergePromptReferenceIdeal.nD Cert.MergePromptReferenceIdeal.τ).loc Cert.MergePromptReferenceIdeal.main_arg0) = m' ((c.tc : Thread Cert.MergePromptReferenceIdeal.nD Cert.MergePromptReferenceIdeal.τ).loc Cert.MergePromptReferenceIdeal.main_arg0)
          ∧ r.2.mem ((c.tc : Thread Cert.MergePromptReferenceIdeal.nD Cert.MergePromptReferenceIdeal.τ).loc Cert.MergePromptReferenceIdeal.main_arg1) = m' ((c.tc : Thread Cert.MergePromptReferenceIdeal.nD Cert.MergePromptReferenceIdeal.τ).loc Cert.MergePromptReferenceIdeal.main_arg1)
          ∧ r.2.mem ((c.tc : Thread Cert.MergePromptReferenceIdeal.nD Cert.MergePromptReferenceIdeal.τ).loc Cert.MergePromptReferenceIdeal.main_arg2) = m' ((c.tc : Thread Cert.MergePromptReferenceIdeal.nD Cert.MergePromptReferenceIdeal.τ).loc Cert.MergePromptReferenceIdeal.main_arg2)
          ∧ r.2.mem ((c.tc : Thread Cert.MergePromptReferenceIdeal.nD Cert.MergePromptReferenceIdeal.τ).loc Cert.MergePromptReferenceIdeal.main_arg3) = m' ((c.tc : Thread Cert.MergePromptReferenceIdeal.nD Cert.MergePromptReferenceIdeal.τ).loc Cert.MergePromptReferenceIdeal.main_arg3)
          ∧ r.2.mem ((c.tc : Thread Cert.MergePromptReferenceIdeal.nD Cert.MergePromptReferenceIdeal.τ).loc Cert.MergePromptReferenceIdeal.main_arg4) = m' ((c.tc : Thread Cert.MergePromptReferenceIdeal.nD Cert.MergePromptReferenceIdeal.τ).loc Cert.MergePromptReferenceIdeal.main_arg4)
          ∧ r.2.mem ((c.tc : Thread Cert.MergePromptReferenceIdeal.nD Cert.MergePromptReferenceIdeal.τ).loc Cert.MergePromptReferenceIdeal.main_arg5) = m' ((c.tc : Thread Cert.MergePromptReferenceIdeal.nD Cert.MergePromptReferenceIdeal.τ).loc Cert.MergePromptReferenceIdeal.main_arg5)
          ∧ r.2.mem ((c.tc : Thread Cert.MergePromptReferenceIdeal.nD Cert.MergePromptReferenceIdeal.τ).loc Cert.MergePromptReferenceIdeal.main_arg6) = m' ((c.tc : Thread Cert.MergePromptReferenceIdeal.nD Cert.MergePromptReferenceIdeal.τ).loc Cert.MergePromptReferenceIdeal.main_arg6)
          ∧ r.2.mem ((c.tc : Thread Cert.MergePromptReferenceIdeal.nD Cert.MergePromptReferenceIdeal.τ).loc Cert.MergePromptReferenceIdeal.main_arg7) = m' ((c.tc : Thread Cert.MergePromptReferenceIdeal.nD Cert.MergePromptReferenceIdeal.τ).loc Cert.MergePromptReferenceIdeal.main_arg7)
          ∧ r.2.mem ((c.tc : Thread Cert.MergePromptReferenceIdeal.nD Cert.MergePromptReferenceIdeal.τ).loc Cert.MergePromptReferenceIdeal.main_arg8) = m' ((c.tc : Thread Cert.MergePromptReferenceIdeal.nD Cert.MergePromptReferenceIdeal.τ).loc Cert.MergePromptReferenceIdeal.main_arg8))

def Claim : Prop :=
  ∃ (hKernel : Cert.Kernel.Facts) (hKernelIdeal : Cert.KernelIdeal.Facts) (hReferenceIdeal : Cert.ReferenceIdeal.Facts) (hQkv : Cert.Qkv.Facts) (hQkvIdeal : Cert.QkvIdeal.Facts) (hQkvReferenceIdeal : Cert.QkvReferenceIdeal.Facts) (hGates : Cert.Gates.Facts) (hGatesIdeal : Cert.GatesIdeal.Facts) (hGatesReferenceIdeal : Cert.GatesReferenceIdeal.Facts) (hConv : Cert.Conv.Facts) (hConvIdeal : Cert.ConvIdeal.Facts) (hConvReferenceIdeal : Cert.ConvReferenceIdeal.Facts) (hStates : Cert.States.Facts) (hStatesIdeal : Cert.StatesIdeal.Facts) (hMerge : Cert.Merge.Facts) (hMergeIdeal : Cert.MergeIdeal.Facts) (hMergeReferenceIdeal : Cert.MergeReferenceIdeal.Facts) (hMergePrompt : Cert.MergePrompt.Facts) (hMergePromptIdeal : Cert.MergePromptIdeal.Facts) (hMergePromptReferenceIdeal : Cert.MergePromptReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Qkv (hQkv := hQkv)
    ∧ quiescent_QkvIdeal (hQkvIdeal := hQkvIdeal)
    ∧ quiescent_QkvReferenceIdeal (hQkvReferenceIdeal := hQkvReferenceIdeal)
    ∧ quiescent_Gates (hGates := hGates)
    ∧ quiescent_GatesIdeal (hGatesIdeal := hGatesIdeal)
    ∧ quiescent_GatesReferenceIdeal (hGatesReferenceIdeal := hGatesReferenceIdeal)
    ∧ quiescent_Conv (hConv := hConv)
    ∧ quiescent_ConvIdeal (hConvIdeal := hConvIdeal)
    ∧ quiescent_ConvReferenceIdeal (hConvReferenceIdeal := hConvReferenceIdeal)
    ∧ quiescent_States (hStates := hStates)
    ∧ quiescent_StatesIdeal (hStatesIdeal := hStatesIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_MergePrompt (hMergePrompt := hMergePrompt)
    ∧ quiescent_MergePromptIdeal (hMergePromptIdeal := hMergePromptIdeal)
    ∧ quiescent_MergePromptReferenceIdeal (hMergePromptReferenceIdeal := hMergePromptReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Qkv_QkvIdeal
    ∧ algebraic_QkvIdeal_QkvReferenceIdeal (hQkvIdeal := hQkvIdeal) (hQkvReferenceIdeal := hQkvReferenceIdeal)
    ∧ preserves_Gates_GatesIdeal
    ∧ algebraic_GatesIdeal_GatesReferenceIdeal (hGatesIdeal := hGatesIdeal) (hGatesReferenceIdeal := hGatesReferenceIdeal)
    ∧ preserves_Conv_ConvIdeal
    ∧ algebraic_ConvIdeal_ConvReferenceIdeal (hConvIdeal := hConvIdeal) (hConvReferenceIdeal := hConvReferenceIdeal)
    ∧ preserves_States_StatesIdeal
    ∧ preserves_Merge_MergeIdeal
    ∧ algebraic_MergeIdeal_MergeReferenceIdeal (hMergeIdeal := hMergeIdeal) (hMergeReferenceIdeal := hMergeReferenceIdeal)
    ∧ preserves_MergePrompt_MergePromptIdeal
    ∧ algebraic_MergePromptIdeal_MergePromptReferenceIdeal (hMergePromptIdeal := hMergePromptIdeal) (hMergePromptReferenceIdeal := hMergePromptReferenceIdeal)
-- ==== Pre_finite_scores.lean ====
abbrev S16x4096x16x64 : Shape := ⟨4, ![16, 4096, 16, 64]⟩
abbrev S16x4096x4x64 : Shape := ⟨4, ![16, 4096, 4, 64]⟩
abbrev S16x4096x1024 : Shape := ⟨3, ![16, 4096, 1024]⟩
abbrev S_ : Shape := ⟨0, ![]⟩

class Facts : Prop where
  bcast_S_S16x4096x16x64 : S_.BroadcastsInDim S16x4096x16x64 (![] : Fin 0 → Fin S16x4096x16x64.rank)
  reducesTo_S16x4096x16x64_S_d0_1_2_3 : S16x4096x16x64.ReducesTo [0, 1, 2, 3] S_
  h_S_ : 0 < S_.numel
  bcast_S_S16x4096x4x64 : S_.BroadcastsInDim S16x4096x4x64 (![] : Fin 0 → Fin S16x4096x4x64.rank)
  reducesTo_S16x4096x4x64_S_d0_1_2_3 : S16x4096x4x64.ReducesTo [0, 1, 2, 3] S_

variable [Facts]

def fn {F : FTy → Type} [FloatOps F] (main_arg0 : FVec F S16x4096x16x64 .f32) (main_arg1 : FVec F S16x4096x4x64 .f32) (main_arg2 : FVec F S16x4096x4x64 .f32) (main_arg3 : FVec F S16x4096x1024 .f32) : IVec S_ 1 :=
  let main_v0 : FVec F S16x4096x16x64 .f32 := Host.absf main_arg0
  let main_cst : FVec F S_ .f32 := constant S_ .f32 0x7F800000#32
  let main_v1 : FVec F S16x4096x16x64 .f32 := broadcastInDim S16x4096x16x64 ![] bcast_S_S16x4096x16x64 main_cst
  let main_v2 : IVec S16x4096x16x64 1 := cmpf .olt main_v0 main_v1
  let main_c : IVec S_ 1 := constantI S_ 1 1#1
  let main_v3 : IVec S_ 1 := (fun x v => Host.reduce IntOp.andi x v reducesTo_S16x4096x16x64_S_d0_1_2_3 h_S_) main_v2 main_c
  let main_v4 : FVec F S16x4096x4x64 .f32 := Host.absf main_arg1
  let main_cst_0 : FVec F S_ .f32 := constant S_ .f32 0x7F800000#32
  let main_v5 : FVec F S16x4096x4x64 .f32 := broadcastInDim S16x4096x4x64 ![] bcast_S_S16x4096x4x64 main_cst_0
  let main_v6 : IVec S16x4096x4x64 1 := cmpf .olt main_v4 main_v5
  let main_c_1 : IVec S_ 1 := constantI S_ 1 1#1
  let main_v7 : IVec S_ 1 := (fun x v => Host.reduce IntOp.andi x v reducesTo_S16x4096x4x64_S_d0_1_2_3 h_S_) main_v6 main_c_1
  let main_v8 : IVec S_ 1 := andi main_v3 main_v7
  main_v8
-- ==== Kernel.lean ====
abbrev S16x4096x16x64 : Shape := ⟨4, ![16, 4096, 16, 64]⟩
abbrev S16x4096x4x64 : Shape := ⟨4, ![16, 4096, 4, 64]⟩
abbrev S16x4096x1024 : Shape := ⟨3, ![16, 4096, 1024]⟩
abbrev S16x1024x4096 : Shape := ⟨3, ![16, 1024, 4096]⟩
abbrev S16x4x4096x64 : Shape := ⟨4, ![16, 4, 4096, 64]⟩
abbrev S16x4096x256 : Shape := ⟨3, ![16, 4096, 256]⟩
abbrev S16x256x4096 : Shape := ⟨3, ![16, 256, 4096]⟩
abbrev S1x256x1024 : Shape := ⟨3, ![1, 256, 1024]⟩
abbrev S1x1x4096x64 : Shape := ⟨4, ![1, 1, 4096, 64]⟩
abbrev S1x64x4096 : Shape := ⟨3, ![1, 64, 4096]⟩
abbrev S1x1024x256 : Shape := ⟨3, ![1, 1024, 256]⟩
abbrev S4096x64 : Shape := ⟨2, ![4096, 64]⟩
abbrev S64x4096 : Shape := ⟨2, ![64, 4096]⟩
abbrev S16x4096 : Shape := ⟨2, ![16, 4096]⟩
abbrev S80x4096 : Shape := ⟨2, ![80, 4096]⟩
abbrev S1x64x1024 : Shape := ⟨3, ![1, 64, 1024]⟩
abbrev S64x1024 : Shape := ⟨2, ![64, 1024]⟩
abbrev S256x64 : Shape := ⟨2, ![256, 64]⟩
abbrev S256x4096 : Shape := ⟨2, ![256, 4096]⟩
abbrev S4096 : Shape := ⟨1, ![4096]⟩
abbrev S1x4096 : Shape := ⟨2, ![1, 4096]⟩
abbrev S80x256 : Shape := ⟨2, ![80, 256]⟩
abbrev S1024x64 : Shape := ⟨2, ![1024, 64]⟩
abbrev S1024x256 : Shape := ⟨2, ![1024, 256]⟩

abbrev nBuf : Space → Nat
  | .hbm => 14
  | .vmem => 10
  | .smem => 0
  | _ => 0

abbrev bufTy : (tb : Table) → Fin (tcTables nBuf tb) → BufTy
  | .hbm, ⟨0, _⟩ => ⟨S16x4096x16x64, .f32⟩
  | .hbm, ⟨1, _⟩ => ⟨S16x4096x4x64, .f32⟩
  | .hbm, ⟨2, _⟩ => ⟨S16x4096x4x64, .f32⟩
  | .hbm, ⟨3, _⟩ => ⟨S16x4096x1024, .f32⟩
  | .hbm, ⟨4, _⟩ => ⟨S16x4096x1024, .f32⟩
  | .hbm, ⟨5, _⟩ => ⟨S16x1024x4096, .f32⟩
  | .hbm, ⟨6, _⟩ => ⟨S16x1024x4096, .bf16⟩
  | .hbm, ⟨7, _⟩ => ⟨S16x4x4096x64, .f32⟩
  | .hbm, ⟨8, _⟩ => ⟨S16x4x4096x64, .bf16⟩
  | .hbm, ⟨9, _⟩ => ⟨S16x4096x256, .f32⟩
  | .hbm, ⟨10, _⟩ => ⟨S16x256x4096, .f32⟩
  | .hbm, ⟨11, _⟩ => ⟨S16x256x4096, .bf16⟩
  | .hbm, ⟨12, _⟩ => ⟨S16x4096x1024, .bf16⟩
  | .hbm, ⟨13, _⟩ => ⟨S16x4096x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x1x4096x64, .bf16⟩
  | .local _ .vmem, ⟨3, _⟩ => ⟨S1x1x4096x64, .bf16⟩
  | .local _ .vmem, ⟨4, _⟩ => ⟨S1x64x4096, .bf16⟩
  | .local _ .vmem, ⟨5, _⟩ => ⟨S1x64x4096, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x1024x256, .bf16⟩
  | _, _ => ⟨S16x4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4096x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x64x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "q_scale" => some (((Real.log 2)⁻¹ * 8⁻¹ : ℝ) : EReal)
  | _ => none
-- ==== ReferenceIdeal.lean ====
abbrev S16x4096x16x64 : Shape := ⟨4, ![16, 4096, 16, 64]⟩
abbrev S16x4096x4x64 : Shape := ⟨4, ![16, 4096, 4, 64]⟩
abbrev S16x4096x1024 : Shape := ⟨3, ![16, 4096, 1024]⟩
abbrev S_ : Shape := ⟨0, ![]⟩
abbrev S16x4096x4x4x64 : Shape := ⟨5, ![16, 4096, 4, 4, 64]⟩
abbrev S16x4x4096x4096x4 : Shape := ⟨5, ![16, 4, 4096, 4096, 4]⟩
abbrev S16x4x4x4096x4096 : Shape := ⟨5, ![16, 4, 4, 4096, 4096]⟩
abbrev S16x4x4x4096 : Shape := ⟨4, ![16, 4, 4, 4096]⟩
abbrev S16x4x4x4096x1 : Shape := ⟨5, ![16, 4, 4, 4096, 1]⟩
abbrev S16x4x64x4x4096 : Shape := ⟨5, ![16, 4, 64, 4, 4096]⟩

abbrev nBuf : Space → Nat
  | .hbm => 29
  | .vmem => 0
  | .smem => 0
  | _ => 0

abbrev bufTy : (tb : Table) → Fin (tcTables nBuf tb) → BufTy
  | .hbm, ⟨0, _⟩ => ⟨S16x4096x16x64, .f32⟩
  | .hbm, ⟨1, _⟩ => ⟨S16x4096x4x64, .f32⟩
  | .hbm, ⟨2, _⟩ => ⟨S16x4096x4x64, .f32⟩
  | .hbm, ⟨3, _⟩ => ⟨S16x4096x1024, .f32⟩
  | .hbm, ⟨4, _⟩ => ⟨S_, .f32⟩
  | .hbm, ⟨5, _⟩ => ⟨S16x4096x16x64, .f32⟩
  | .hbm, ⟨6, _⟩ => ⟨S16x4096x16x64, .f32⟩
  | .hbm, ⟨7, _⟩ => ⟨S16x4096x4x4x64, .f32⟩
  | .hbm, ⟨8, _⟩ => ⟨S16x4x4096x4096x4, .f32⟩
  | .hbm, ⟨9, _⟩ => ⟨S16x4x4x4096x4096, .f32⟩
  | .hbm, ⟨10, _⟩ => ⟨S_, .f32⟩
  | .hbm, ⟨11, _⟩ => ⟨S16x4x4x4096, .f32⟩
  | .hbm, ⟨12, _⟩ => ⟨S_, .f32⟩
  | .hbm, ⟨13, _⟩ => ⟨S16x4x4x4096, .f32⟩
  | .hbm, ⟨14, _⟩ => ⟨S16x4x4x4096, .f32⟩
  | .hbm, ⟨15, _⟩ => ⟨S16x4x4x4096x1, .f32⟩
  | .hbm, ⟨16, _⟩ => ⟨S16x4x4x4096x4096, .f32⟩
  | .hbm, ⟨17, _⟩ => ⟨S16x4x4x4096x4096, .f32⟩
  | .hbm, ⟨18, _⟩ => ⟨S16x4x4x4096x4096, .f32⟩
  | .hbm, ⟨19, _⟩ => ⟨S_, .f32⟩
  | .hbm, ⟨20, _⟩ => ⟨S16x4x4x4096, .f32⟩
  | .hbm, ⟨21, _⟩ => ⟨S16x4x4x4096x1, .f32⟩
  | .hbm, ⟨22, _⟩ => ⟨S16x4x4x4096x4096, .f32⟩
  | .hbm, ⟨23, _⟩ => ⟨S16x4x4x4096x4096, .f32⟩
  | .hbm, ⟨24, _⟩ => ⟨S16x4x64x4x4096, .f32⟩
  | .hbm, ⟨25, _⟩ => ⟨S16x4096x4x4x64, .f32⟩
  | .hbm, ⟨26, _⟩ => ⟨S16x4096x1024, .f32⟩
  | .hbm, ⟨27, _⟩ => ⟨S16x4096x1024, .f32⟩
  | .hbm, ⟨28, _⟩ => ⟨S16x4096x1024, .bf16⟩
  | _, _ => ⟨S16x4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Qkv.lean ====
abbrev S16x4096x1024 : Shape := ⟨3, ![16, 4096, 1024]⟩
abbrev S1024x9792 : Shape := ⟨2, ![1024, 9792]⟩
abbrev S64 : Shape := ⟨1, ![64]⟩
abbrev S1024 : Shape := ⟨1, ![1024]⟩
abbrev S256 : Shape := ⟨1, ![256]⟩
abbrev S1024x1024 : Shape := ⟨2, ![1024, 1024]⟩
abbrev S1024x256 : Shape := ⟨2, ![1024, 256]⟩
abbrev S1024x2048 : Shape := ⟨2, ![1024, 2048]⟩
abbrev S1024x3072 : Shape := ⟨2, ![1024, 3072]⟩
abbrev S1024x64 : Shape := ⟨2, ![1024, 64]⟩
abbrev S_ : Shape := ⟨0, ![]⟩
abbrev S1024x1 : Shape := ⟨2, ![1024, 1]⟩
abbrev S256x1 : Shape := ⟨2, ![256, 1]⟩
abbrev S1024x1536 : Shape := ⟨2, ![1024, 1536]⟩
abbrev S1536x1024 : Shape := ⟨2, ![1536, 1024]⟩
abbrev S64x1 : Shape := ⟨2, ![64, 1]⟩
abbrev S64x512 : Shape := ⟨2, ![64, 512]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S32x4096 : Shape := ⟨2, ![32, 4096]⟩
abbrev S16x1024x4096 : Shape := ⟨3, ![16, 1024, 4096]⟩
abbrev S16x4x4096x64 : Shape := ⟨4, ![16, 4, 4096, 64]⟩
abbrev S16x256x4096 : Shape := ⟨3, ![16, 256, 4096]⟩
abbrev S1x512x1024 : Shape := ⟨3, ![1, 512, 1024]⟩
abbrev S32x512 : Shape := ⟨2, ![32, 512]⟩
abbrev S1x1024x512 : Shape := ⟨3, ![1, 1024, 512]⟩
abbrev S1x4x512x64 : Shape := ⟨4, ![1, 4, 512, 64]⟩
abbrev S1x256x512 : Shape := ⟨3, ![1, 256, 512]⟩
abbrev S512x1024 : Shape := ⟨2, ![512, 1024]⟩
abbrev S256x1024 : Shape := ⟨2, ![256, 1024]⟩
abbrev S256x512 : Shape := ⟨2, ![256, 512]⟩
abbrev S512 : Shape := ⟨1, ![512]⟩
abbrev S1x512 : Shape := ⟨2, ![1, 512]⟩
abbrev S1x32x512 : Shape := ⟨3, ![1, 32, 512]⟩
abbrev S512x64 : Shape := ⟨2, ![512, 64]⟩
abbrev S1x1x512x64 : Shape := ⟨4, ![1, 1, 512, 64]⟩

abbrev nBuf : Space → Nat
  | .hbm => 89
  | .vmem => 15
  | .smem => 0
  | _ => 0

abbrev bufTy : (tb : Table) → Fin (tcTables nBuf tb) → BufTy
  | .hbm, ⟨0, _⟩ => ⟨S16x4096x1024, .f32⟩
  | .hbm, ⟨1, _⟩ => ⟨S1024x9792, .f32⟩
  | .hbm, ⟨2, _⟩ => ⟨S64, .f32⟩
  | .hbm, ⟨3, _⟩ => ⟨S64, .f32⟩
  | .hbm, ⟨4, _⟩ => ⟨S1024, .i32⟩
  | .hbm, ⟨5, _⟩ => ⟨S1024, .i1⟩
  | .hbm, ⟨6, _⟩ => ⟨S256, .i32⟩
  | .hbm, ⟨7, _⟩ => ⟨S256, .i1⟩
  | .hbm, ⟨8, _⟩ => ⟨S64, .i32⟩
  | .hbm, ⟨9, _⟩ => ⟨S64, .i1⟩
  | .hbm, ⟨10, _⟩ => ⟨S64, .i1⟩
  | .hbm, ⟨11, _⟩ => ⟨S1024x1024, .f32⟩
  | .hbm, ⟨12, _⟩ => ⟨S1024x256, .f32⟩
  | .hbm, ⟨13, _⟩ => ⟨S1024x256, .f32⟩
  | .hbm, ⟨14, _⟩ => ⟨S1024x1024, .f32⟩
  | .hbm, ⟨15, _⟩ => ⟨S1024x2048, .f32⟩
  | .hbm, ⟨16, _⟩ => ⟨S1024x3072, .f32⟩
  | .hbm, ⟨17, _⟩ => ⟨S1024x64, .f32⟩
  | .hbm, ⟨18, _⟩ => ⟨S1024x2048, .f32⟩
  | .hbm, ⟨19, _⟩ => ⟨S_, .i32⟩
  | .hbm, ⟨20, _⟩ => ⟨S1024, .i32⟩
  | .hbm, ⟨21, _⟩ => ⟨S1024, .i32⟩
  | .hbm, ⟨22, _⟩ => ⟨S1024, .i32⟩
  | .hbm, ⟨23, _⟩ => ⟨S1024x1, .i32⟩
  | .hbm, ⟨24, _⟩ => ⟨S1024x1024, .f32⟩
  | .hbm, ⟨25, _⟩ => ⟨S_, .i32⟩
  | .hbm, ⟨26, _⟩ => ⟨S256, .i32⟩
  | .hbm, ⟨27, _⟩ => ⟨S256, .i32⟩
  | .hbm, ⟨28, _⟩ => ⟨S256, .i32⟩
  | .hbm, ⟨29, _⟩ => ⟨S256x1, .i32⟩
  | .hbm, ⟨30, _⟩ => ⟨S1024x256, .f32⟩
  | .hbm, ⟨31, _⟩ => ⟨S1024x1536, .f32⟩
  | .hbm, ⟨32, _⟩ => ⟨S1536x1024, .f32⟩
  | .hbm, ⟨33, _⟩ => ⟨S1536x1024, .bf16⟩
  | .hbm, ⟨34, _⟩ => ⟨S_, .i32⟩
  | .hbm, ⟨35, _⟩ => ⟨S64, .i32⟩
  | .hbm, ⟨36, _⟩ => ⟨S64, .i32⟩
  | .hbm, ⟨37, _⟩ => ⟨S64, .i32⟩
  | .hbm, ⟨38, _⟩ => ⟨S64x1, .i32⟩
  | .hbm, ⟨39, _⟩ => ⟨S64, .f32⟩
  | .hbm, ⟨40, _⟩ => ⟨S64x1, .f32⟩
  | .hbm, ⟨41, _⟩ => ⟨S64x512, .f32⟩
  | .hbm, ⟨42, _⟩ => ⟨S_, .i32⟩
  | .hbm, ⟨43, _⟩ => ⟨S64, .i32⟩
  | .hbm, ⟨44, _⟩ => ⟨S64, .i32⟩
  | .hbm, ⟨45, _⟩ => ⟨S64, .i32⟩
  | .hbm, ⟨46, _⟩ => ⟨S64x1, .i32⟩
  | .hbm, ⟨47, _⟩ => ⟨S64, .f32⟩
  | .hbm, ⟨48, _⟩ => ⟨S64x1, .f32⟩
  | .hbm, ⟨49, _⟩ => ⟨S64x512, .f32⟩
  | .hbm, ⟨50, _⟩ => ⟨S64, .f32⟩
  | .hbm, ⟨51, _⟩ => ⟨S64x64, .f32⟩
  | .hbm, ⟨52, _⟩ => ⟨S4096, .f32⟩
  | .hbm, ⟨53, _⟩ => ⟨S64, .f32⟩
  | .hbm, ⟨54, _⟩ => ⟨S1x64, .f32⟩
  | .hbm, ⟨55, _⟩ => ⟨S64x64, .f32⟩
  | .hbm, ⟨56, _⟩ => ⟨S4096, .f32⟩
  | .hbm, ⟨57, _⟩ => ⟨S16, .f32⟩
  | .hbm, ⟨58, _⟩ => ⟨S_, .f32⟩
  | .hbm, ⟨59, _⟩ => ⟨S16, .f32⟩
  | .hbm, ⟨60, _⟩ => ⟨S16, .f32⟩
  | .hbm, ⟨61, _⟩ => ⟨S_, .f32⟩
  | .hbm, ⟨62, _⟩ => ⟨S16, .f32⟩
  | .hbm, ⟨63, _⟩ => ⟨S16, .f32⟩
  | .hbm, ⟨64, _⟩ => ⟨S16, .f32⟩
  | .hbm, ⟨65, _⟩ => ⟨S_, .f32⟩
  | .hbm, ⟨66, _⟩ => ⟨S16, .f32⟩
  | .hbm, ⟨67, _⟩ => ⟨S16, .f32⟩
  | .hbm, ⟨68, _⟩ => ⟨S_, .f32⟩
  | .hbm, ⟨69, _⟩ => ⟨S16, .f32⟩
  | .hbm, ⟨70, _⟩ => ⟨S16, .f32⟩
  | .hbm, ⟨71, _⟩ => ⟨S4096x1, .f32⟩
  | .hbm, ⟨72, _⟩ => ⟨S1x16, .f32⟩
  | .hbm, ⟨73, _⟩ => ⟨S4096x16, .f32⟩
  | .hbm, ⟨74, _⟩ => ⟨S4096x16, .f32⟩
  | .hbm, ⟨75, _⟩ => ⟨S4096x16, .f32⟩
  | .hbm, ⟨76, _⟩ => ⟨S4096x1, .f32⟩
  | .hbm, ⟨77, _⟩ => ⟨S1x16, .f32⟩
  | .hbm, ⟨78, _⟩ => ⟨S4096x16, .f32⟩
  | .hbm, ⟨79, _⟩ => ⟨S4096x16, .f32⟩
  | .hbm, ⟨80, _⟩ => ⟨S4096x16, .f32⟩
  | .hbm, ⟨81, _⟩ => ⟨S4096x32, .f32⟩
  | .hbm, ⟨82, _⟩ => ⟨S4096x32, .f32⟩
  | .hbm, ⟨83, _⟩ => ⟨S32x4096, .f32⟩
  | .hbm, ⟨84, _⟩ => ⟨S4096x32, .f32⟩
  | .hbm, ⟨85, _⟩ => ⟨S32x4096, .f32⟩
  | .hbm, ⟨86, _⟩ => ⟨S16x1024x4096, .bf16⟩
  | .hbm, ⟨87, _⟩ => ⟨S16x4x4096x64, .bf16⟩
  | .hbm, ⟨88, _⟩ => ⟨S16x256x4096, .bf16⟩
  | .local _ .vmem, ⟨0, _⟩ => ⟨S1x512x1024, .f32⟩
  | .local _ .vmem, ⟨1, _⟩ => ⟨S1x512x1024, .f32⟩
  | .local _ .vmem, ⟨2, _⟩ => ⟨S1536x1024, .bf16⟩
  | .local _ .vmem, ⟨3, _⟩ => ⟨S32x512, .f32⟩
  | .local _ .vmem, ⟨4, _⟩ => ⟨S32x512, .f32⟩
  | .local _ .vmem, ⟨5, _⟩ => ⟨S32x512, .f32⟩
  | .local _ .vmem, ⟨6, _⟩ => ⟨S32x512, .f32⟩
  | .local _ .vmem, ⟨7, _⟩ => ⟨S64x512, .f32⟩
  | .local _ .vmem, ⟨8, _⟩ => ⟨S64x512, .f32⟩
  | .local _ .vmem, ⟨9, _⟩ => ⟨S1x1024x512, .bf16⟩
  | .local _ .vmem, ⟨10, _⟩ => ⟨S1x1024x512, .bf16⟩
  | .local _ .vmem, ⟨11, _⟩ => ⟨S1x4x512x64, .bf16⟩
  | .local _ .vmem, ⟨12, _⟩ => ⟨S1x4x512x64, .bf16⟩
  | .local _ .vmem, ⟨13, _⟩ => ⟨S1x256x512, .bf16⟩
  | .local _ .vmem, ⟨14, _⟩ => ⟨S1x256x512, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_c_3 : Ref sig .tc := ⟨.hbm, 8, rfl⟩
abbrev main_c_4 : Ref sig .tc := ⟨.hbm, 9, rfl⟩
abbrev main_c_5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_6 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_7 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_8 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_9 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_11 : Ref sig .tc := ⟨.hbm, 65, rfl⟩
abbrev main_v48 : Ref sig .tc := ⟨.hbm, 66, rfl⟩
abbrev main_v49 : Ref sig .tc := ⟨.hbm, 67, rfl⟩
abbrev main_cst_12 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67_0 : Ref sig .tc := ⟨.hbm, 86, rfl⟩
abbrev main_v67_1 : Ref sig .tc := ⟨.hbm, 87, rfl⟩
abbrev main_v67_2 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x512x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== QkvReferenceIdeal.lean ====
abbrev S16x4096x1024 : Shape := ⟨3, ![16, 4096, 1024]⟩
abbrev S1024x9792 : Shape := ⟨2, ![1024, 9792]⟩
abbrev S64 : Shape := ⟨1, ![64]⟩
abbrev S16x4096x9792 : Shape := ⟨3, ![16, 4096, 9792]⟩
abbrev S16x4096x256 : Shape := ⟨3, ![16, 4096, 256]⟩
abbrev S16x4096x2048 : Shape := ⟨3, ![16, 4096, 2048]⟩
abbrev S16x4096x3072 : Shape := ⟨3, ![16, 4096, 3072]⟩
abbrev S16x4096x64 : Shape := ⟨3, ![16, 4096, 64]⟩
abbrev S16x4096x16x64 : Shape := ⟨4, ![16, 4096, 16, 64]⟩
abbrev S_ : Shape := ⟨0, ![]⟩
abbrev S16x4096x16 : Shape := ⟨3, ![16, 4096, 16]⟩
abbrev S16x4096x16x1 : Shape := ⟨4, ![16, 4096, 16, 1]⟩
abbrev S1x1x1x64 : Shape := ⟨4, ![1, 1, 1, 64]⟩
abbrev S16x4096x4x64 : Shape := ⟨4, ![16, 4096, 4, 64]⟩
abbrev S16x4096x4 : Shape := ⟨3, ![16, 4096, 4]⟩
abbrev S16x4096x4x1 : Shape := ⟨4, ![16, 4096, 4, 1]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S16x4096x16x32x2 : Shape := ⟨5, ![16, 4096, 16, 32, 2]⟩
abbrev S16x4096x16x32x1 : Shape := ⟨5, ![16, 4096, 16, 32, 1]⟩
abbrev S16x4096x16x32 : Shape := ⟨4, ![16, 4096, 16, 32]⟩
abbrev S4096x1x32 : Shape := ⟨3, ![4096, 1, 32]⟩
abbrev S1x4096x1x32 : Shape := ⟨4, ![1, 4096, 1, 32]⟩
abbrev S16x1024x4096 : Shape := ⟨3, ![16, 1024, 4096]⟩
abbrev S16x4096x4x32x2 : Shape := ⟨5, ![16, 4096, 4, 32, 2]⟩
abbrev S16x4096x4x32x1 : Shape := ⟨5, ![16, 4096, 4, 32, 1]⟩
abbrev S16x4096x4x32 : Shape := ⟨4, ![16, 4096, 4, 32]⟩
abbrev S16x4x4096x64 : Shape := ⟨4, ![16, 4, 4096, 64]⟩
abbrev S16x256x4096 : Shape := ⟨3, ![16, 256, 4096]⟩

abbrev nBuf : Space → Nat
  | .hbm => 144
  | .vmem => 0
  | .smem => 0
  | _ => 0

abbrev hbmTy0_0 (i : Nat) : BufTy := match i % 128 with
  | 0 => ⟨S16x4096x1024, .f32⟩
  | 1 => ⟨S1024x9792, .f32⟩
  | 2 => ⟨S64, .f32⟩
  | 3 => ⟨S64, .f32⟩
  | 4 => ⟨S16x4096x9792, .f32⟩
  | 5 => ⟨S16x4096x1024, .f32⟩
  | 6 => ⟨S16x4096x256, .f32⟩
  | 7 => ⟨S16x4096x256, .f32⟩
  | 8 => ⟨S16x4096x1024, .f32⟩
  | 9 => ⟨S16x4096x2048, .f32⟩
  | 10 => ⟨S16x4096x3072, .f32⟩
  | 11 => ⟨S16x4096x64, .f32⟩
  | 12 => ⟨S16x4096x2048, .f32⟩
  | 13 => ⟨S16x4096x16x64, .f32⟩
  | 14 => ⟨S16x4096x16x64, .f32⟩
  | 15 => ⟨S_, .f32⟩
  | 16 => ⟨S16x4096x16, .f32⟩
  | 17 => ⟨S16x4096x16x1, .f32⟩
  | 18 => ⟨S_, .f32⟩
  | 19 => ⟨S16x4096x16x1, .f32⟩
  | 20 => ⟨S16x4096x16x1, .f32⟩
  | 21 => ⟨S_, .f32⟩
  | 22 => ⟨S16x4096x16x1, .f32⟩
  | 23 => ⟨S16x4096x16x1, .f32⟩
  | 24 => ⟨S16x4096x16x1, .f32⟩
  | 25 => ⟨S16x4096x16x64, .f32⟩
  | 26 => ⟨S16x4096x16x64, .f32⟩
  | 27 => ⟨S1x1x1x64, .f32⟩
  | 28 => ⟨S16x4096x16x64, .f32⟩
  | 29 => ⟨S16x4096x16x64, .f32⟩
  | 30 => ⟨S16x4096x4x64, .f32⟩
  | 31 => ⟨S16x4096x4x64, .f32⟩
  | 32 => ⟨S_, .f32⟩
  | 33 => ⟨S16x4096x4, .f32⟩
  | 34 => ⟨S16x4096x4x1, .f32⟩
  | 35 => ⟨S_, .f32⟩
  | 36 => ⟨S16x4096x4x1, .f32⟩
  | 37 => ⟨S16x4096x4x1, .f32⟩
  | 38 => ⟨S_, .f32⟩
  | 39 => ⟨S16x4096x4x1, .f32⟩
  | 40 => ⟨S16x4096x4x1, .f32⟩
  | 41 => ⟨S16x4096x4x1, .f32⟩
  | 42 => ⟨S16x4096x4x64, .f32⟩
  | 43 => ⟨S16x4096x4x64, .f32⟩
  | 44 => ⟨S1x1x1x64, .f32⟩
  | 45 => ⟨S16x4096x4x64, .f32⟩
  | 46 => ⟨S16x4096x4x64, .f32⟩
  | 47 => ⟨S64, .f32⟩
  | 48 => ⟨S64x64, .f32⟩
  | 49 => ⟨S4096, .f32⟩
  | 50 => ⟨S64, .f32⟩
  | 51 => ⟨S1x64, .f32⟩
  | 52 => ⟨S64x64, .f32⟩
  | 53 => ⟨S4096, .f32⟩
  | 54 => ⟨S16, .f32⟩
  | 55 => ⟨S_, .f32⟩
  | 56 => ⟨S16, .f32⟩
  | 57 => ⟨S16, .f32⟩
  | 58 => ⟨S_, .f32⟩
  | 59 => ⟨S16, .f32⟩
  | 60 => ⟨S16, .f32⟩
  | 61 => ⟨S16, .f32⟩
  | 62 => ⟨S_, .f32⟩
  | 63 => ⟨S16, .f32⟩
  | 64 => ⟨S16, .f32⟩
  | 65 => ⟨S_, .f32⟩
  | 66 => ⟨S16, .f32⟩
  | 67 => ⟨S16, .f32⟩
  | 68 => ⟨S4096x1, .f32⟩
  | 69 => ⟨S1x16, .f32⟩
  | 70 => ⟨S4096x16, .f32⟩
  | 71 => ⟨S4096x16, .f32⟩
  | 72 => ⟨S4096x16, .f32⟩
  | 73 => ⟨S4096x1, .f32⟩
  | 74 => ⟨S1x16, .f32⟩
  | 75 => ⟨S4096x16, .f32⟩
  | 76 => ⟨S4096x16, .f32⟩
  | 77 => ⟨S4096x16, .f32⟩
  | 78 => ⟨S4096x32, .f32⟩
  | 79 => ⟨S4096x32, .f32⟩
  | 80 => ⟨S4096x32, .f32⟩
  | 81 => ⟨S16x4096x16x32x2, .f32⟩
  | 82 => ⟨S16x4096x16x32x1, .f32⟩
  | 83 => ⟨S16x4096x16x32, .f32⟩
  | 84 => ⟨S16x4096x16x32x1, .f32⟩
  | 85 => ⟨S16x4096x16x32, .f32⟩
  | 86 => ⟨S4096x1x32, .f32⟩
  | 87 => ⟨S4096x1x32, .f32⟩
  | 88 => ⟨S1x4096x1x32, .f32⟩
  | 89 => ⟨S16x4096x16x32, .f32⟩
  | 90 => ⟨S16x4096x16x32, .f32⟩
  | 91 => ⟨S1x4096x1x32, .f32⟩
  | 92 => ⟨S16x4096x16x32, .f32⟩
  | 93 => ⟨S16x4096x16x32, .f32⟩
  | 94 => ⟨S16x4096x16x32, .f32⟩
  | 95 => ⟨S1x4096x1x32, .f32⟩
  | 96 => ⟨S16x4096x16x32, .f32⟩
  | 97 => ⟨S16x4096x16x32, .f32⟩
  | 98 => ⟨S1x4096x1x32, .f32⟩
  | 99 => ⟨S16x4096x16x32, .f32⟩
  | 100 => ⟨S16x4096x16x32, .f32⟩
  | 101 => ⟨S16x4096x16x32, .f32⟩
  | 102 => ⟨S16x4096x16x32x1, .f32⟩
  | 103 => ⟨S16x4096x16x32x1, .f32⟩
  | 104 => ⟨S16x4096x16x32x2, .f32⟩
  | 105 => ⟨S16x4096x16x64, .f32⟩
  | 106 => ⟨S16x4096x16x32, .f32⟩
  | 107 => ⟨S16x4096x16x32, .f32⟩
  | 108 => ⟨S16x4096x16x64, .f32⟩
  | 109 => ⟨S16x4096x1024, .f32⟩
  | 110 => ⟨S16x1024x4096, .f32⟩
  | 111 => ⟨S16x4096x4x32x2, .f32⟩
  | 112 => ⟨S16x4096x4x32x1, .f32⟩
  | 113 => ⟨S16x4096x4x32, .f32⟩
  | 114 => ⟨S16x4096x4x32x1, .f32⟩
  | 115 => ⟨S16x4096x4x32, .f32⟩
  | 116 => ⟨S4096x1x32, .f32⟩
  | 117 => ⟨S4096x1x32, .f32⟩
  | 118 => ⟨S1x4096x1x32, .f32⟩
  | 119 => ⟨S16x4096x4x32, .f32⟩
  | 120 => ⟨S16x4096x4x32, .f32⟩
  | 121 => ⟨S1x4096x1x32, .f32⟩
  | 122 => ⟨S16x4096x4x32, .f32⟩
  | 123 => ⟨S16x4096x4x32, .f32⟩
  | 124 => ⟨S16x4096x4x32, .f32⟩
  | 125 => ⟨S1x4096x1x32, .f32⟩
  | 126 => ⟨S16x4096x4x32, .f32⟩
  | 127 => ⟨S16x4096x4x32, .f32⟩
  | _ => ⟨S16x4096x1024, .f32⟩

abbrev hbmTy0_1 (i : Nat) : BufTy := match i % 128 with
  | 0 => ⟨S1x4096x1x32, .f32⟩
  | 1 => ⟨S16x4096x4x32, .f32⟩
  | 2 => ⟨S16x4096x4x32, .f32⟩
  | 3 => ⟨S16x4096x4x32, .f32⟩
  | 4 => ⟨S16x4096x4x32x1, .f32⟩
  | 5 => ⟨S16x4096x4x32x1, .f32⟩
  | 6 => ⟨S16x4096x4x32x2, .f32⟩
  | 7 => ⟨S16x4096x4x64, .f32⟩
  | 8 => ⟨S16x4096x4x32, .f32⟩
  | 9 => ⟨S16x4096x4x32, .f32⟩
  | 10 => ⟨S16x4096x4x64, .f32⟩
  | 11 => ⟨S16x4x4096x64, .f32⟩
  | 12 => ⟨S16x1024x4096, .bf16⟩
  | 13 => ⟨S16x4x4096x64, .bf16⟩
  | 14 => ⟨S16x256x4096, .f32⟩
  | 15 => ⟨S16x256x4096, .bf16⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_5 : Ref sig .tc := ⟨.hbm, 55, rfl⟩
abbrev main_v45 : Ref sig .tc := ⟨.hbm, 56, rfl⟩
abbrev main_v46 : Ref sig .tc := ⟨.hbm, 57, rfl⟩
abbrev main_cst_6 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_7 : Ref sig .tc := ⟨.hbm, 62, rfl⟩
abbrev main_v50 : Ref sig .tc := ⟨.hbm, 63, rfl⟩
abbrev main_v51 : Ref sig .tc := ⟨.hbm, 64, rfl⟩
abbrev main_cst_8 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩

abbrev nD : Nat := 1
abbrev τ : Topo := Topo.v7x

variable {F : FTy → Type} [FloatOps F]
-- ==== Gates.lean ====
abbrev S16x4096x1024 : Shape := ⟨3, ![16, 4096, 1024]⟩
abbrev S1024x9792 : Shape := ⟨2, ![1024, 9792]⟩
abbrev S2048 : Shape := ⟨1, ![2048]⟩
abbrev S32 : Shape := ⟨1, ![32]⟩
abbrev S1024x1024 : Shape := ⟨2, ![1024, 1024]⟩
abbrev S1024x256 : Shape := ⟨2, ![1024, 256]⟩
abbrev S1024x2048 : Shape := ⟨2, ![1024, 2048]⟩
abbrev S1024x3072 : Shape := ⟨2, ![1024, 3072]⟩
abbrev S1024x64 : Shape := ⟨2, ![1024, 64]⟩
abbrev S_ : Shape := ⟨0, ![]⟩
abbrev S1024x5248 : Shape := ⟨2, ![1024, 5248]⟩
abbrev S64 : Shape := ⟨1, ![64]⟩
abbrev S128 : Shape := ⟨1, ![128]⟩
abbrev S1x128 : Shape := ⟨2, ![1, 128]⟩
abbrev S1x2048 : Shape := ⟨2, ![1, 2048]⟩
abbrev S16x4096x2048 : Shape := ⟨3, ![16, 4096, 2048]⟩
abbrev S16x4096x128 : Shape := ⟨3, ![16, 4096, 128]⟩
abbrev S1x256x1024 : Shape := ⟨3, ![1, 256, 1024]⟩
abbrev S1x256x2048 : Shape := ⟨3, ![1, 256, 2048]⟩
abbrev S1x256x128 : Shape := ⟨3, ![1, 256, 128]⟩
abbrev S256x1024 : Shape := ⟨2, ![256, 1024]⟩
abbrev S1024x512 : Shape := ⟨2, ![1024, 512]⟩
abbrev S256x512 : Shape := ⟨2, ![256, 512]⟩
abbrev S1x256x512 : Shape := ⟨3, ![1, 256, 512]⟩
abbrev S1x512 : Shape := ⟨2, ![1, 512]⟩
abbrev S1024x128 : Shape := ⟨2, ![1024, 128]⟩
abbrev S256x128 : Shape := ⟨2, ![256, 128]⟩

abbrev nBuf : Space → Nat
  | .hbm => 26
  | .vmem => 13
  | .smem => 0
  | _ => 0

abbrev bufTy : (tb : Table) → Fin (tcTables nBuf tb) → BufTy
  | .hbm, ⟨0, _⟩ => ⟨S16x4096x1024, .f32⟩
  | .hbm, ⟨1, _⟩ => ⟨S1024x9792, .f32⟩
  | .hbm, ⟨2, _⟩ => ⟨S2048, .f32⟩
  | .hbm, ⟨3, _⟩ => ⟨S32, .f32⟩
  | .hbm, ⟨4, _⟩ => ⟨S32, .f32⟩
  | .hbm, ⟨5, _⟩ => ⟨S1024x1024, .f32⟩
  | .hbm, ⟨6, _⟩ => ⟨S1024x256, .f32⟩
  | .hbm, ⟨7, _⟩ => ⟨S1024x256, .f32⟩
  | .hbm, ⟨8, _⟩ => ⟨S1024x1024, .f32⟩
  | .hbm, ⟨9, _⟩ => ⟨S1024x2048, .f32⟩
  | .hbm, ⟨10, _⟩ => ⟨S1024x3072, .f32⟩
  | .hbm, ⟨11, _⟩ => ⟨S1024x64, .f32⟩
  | .hbm, ⟨12, _⟩ => ⟨S1024x2048, .f32⟩
  | .hbm, ⟨13, _⟩ => ⟨S_, .f32⟩
  | .hbm, ⟨14, _⟩ => ⟨S1024x64, .f32⟩
  | .hbm, ⟨15, _⟩ => ⟨S1024x5248, .f32⟩
  | .hbm, ⟨16, _⟩ => ⟨S1024x5248, .bf16⟩
  | .hbm, ⟨17, _⟩ => ⟨S_, .f32⟩
  | .hbm, ⟨18, _⟩ => ⟨S64, .f32⟩
  | .hbm, ⟨19, _⟩ => ⟨S128, .f32⟩
  | .hbm, ⟨20, _⟩ => ⟨S1x128, .f32⟩
  | .hbm, ⟨21, _⟩ => ⟨S1x2048, .f32⟩
  | .hbm, ⟨22, _⟩ => ⟨S16x4096x1024, .bf16⟩
  | .hbm, ⟨23, _⟩ => ⟨S16x4096x2048, .bf16⟩
  | .hbm, ⟨24, _⟩ => ⟨S16x4096x2048, .bf16⟩
  | .hbm, ⟨25, _⟩ => ⟨S16x4096x128, .f32⟩
  | .local _ .vmem, ⟨0, _⟩ => ⟨S1x256x1024, .f32⟩
  | .local _ .vmem, ⟨1, _⟩ => ⟨S1x256x1024, .f32⟩
  | .local _ .vmem, ⟨2, _⟩ => ⟨S1024x5248, .bf16⟩
  | .local _ .vmem, ⟨3, _⟩ => ⟨S1x2048, .f32⟩
  | .local _ .vmem, ⟨4, _⟩ => ⟨S1x128, .f32⟩
  | .local _ .vmem, ⟨5, _⟩ => ⟨S1x256x1024, .bf16⟩
  | .local _ .vmem, ⟨6, _⟩ => ⟨S1x256x1024, .bf16⟩
  | .local _ .vmem, ⟨7, _⟩ => ⟨S1x256x2048, .bf16⟩
  | .local _ .vmem, ⟨8, _⟩ => ⟨S1x256x2048, .bf16⟩
  | .local _ .vmem, ⟨9, _⟩ => ⟨S1x256x2048, .bf16⟩
  | .local _ .vmem, ⟨10, _⟩ => ⟨S1x256x2048, .bf16⟩
  | .local _ .vmem, ⟨11, _⟩ => ⟨S1x256x128, .f32⟩
  | .local _ .vmem, ⟨12, _⟩ => ⟨S1x256x128, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev main_v15_2 : Ref sig .tc := ⟨.hbm, 24, rfl⟩
abbrev main_v15_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x5248 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== GatesReferenceIdeal.lean ====
abbrev S16x4096x1024 : Shape := ⟨3, ![16, 4096, 1024]⟩
abbrev S1024x9792 : Shape := ⟨2, ![1024, 9792]⟩
abbrev S2048 : Shape := ⟨1, ![2048]⟩
abbrev S32 : Shape := ⟨1, ![32]⟩
abbrev S16x4096x9792 : Shape := ⟨3, ![16, 4096, 9792]⟩
abbrev S16x4096x256 : Shape := ⟨3, ![16, 4096, 256]⟩
abbrev S16x4096x2048 : Shape := ⟨3, ![16, 4096, 2048]⟩
abbrev S16x4096x3072 : Shape := ⟨3, ![16, 4096, 3072]⟩
abbrev S16x4096x64 : Shape := ⟨3, ![16, 4096, 64]⟩
abbrev S64 : Shape := ⟨1, ![64]⟩
abbrev S1x1x64 : Shape := ⟨3, ![1, 1, 64]⟩
abbrev S_ : Shape := ⟨0, ![]⟩
abbrev S16x4096x128 : Shape := ⟨3, ![16, 4096, 128]⟩
abbrev S1x1x2048 : Shape := ⟨3, ![1, 1, 2048]⟩

abbrev nBuf : Space → Nat
  | .hbm => 67
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024x9792, .f32⟩
  | .hbm, ⟨2, _⟩ => ⟨S2048, .f32⟩
  | .hbm, ⟨3, _⟩ => ⟨S32, .f32⟩
  | .hbm, ⟨4, _⟩ => ⟨S32, .f32⟩
  | .hbm, ⟨5, _⟩ => ⟨S16x4096x9792, .f32⟩
  | .hbm, ⟨6, _⟩ => ⟨S16x4096x1024, .f32⟩
  | .hbm, ⟨7, _⟩ => ⟨S16x4096x256, .f32⟩
  | .hbm, ⟨8, _⟩ => ⟨S16x4096x256, .f32⟩
  | .hbm, ⟨9, _⟩ => ⟨S16x4096x1024, .f32⟩
  | .hbm, ⟨10, _⟩ => ⟨S16x4096x2048, .f32⟩
  | .hbm, ⟨11, _⟩ => ⟨S16x4096x3072, .f32⟩
  | .hbm, ⟨12, _⟩ => ⟨S16x4096x64, .f32⟩
  | .hbm, ⟨13, _⟩ => ⟨S16x4096x2048, .f32⟩
  | .hbm, ⟨14, _⟩ => ⟨S64, .f32⟩
  | .hbm, ⟨15, _⟩ => ⟨S1x1x64, .f32⟩
  | .hbm, ⟨16, _⟩ => ⟨S16x4096x64, .f32⟩
  | .hbm, ⟨17, _⟩ => ⟨S16x4096x64, .f32⟩
  | .hbm, ⟨18, _⟩ => ⟨S_, .i32⟩
  | .hbm, ⟨19, _⟩ => ⟨S_, .f32⟩
  | .hbm, ⟨20, _⟩ => ⟨S16x4096x128, .f32⟩
  | .hbm, ⟨21, _⟩ => ⟨S16x4096x1024, .f32⟩
  | .hbm, ⟨22, _⟩ => ⟨S16x4096x1024, .f32⟩
  | .hbm, ⟨23, _⟩ => ⟨S_, .f32⟩
  | .hbm, ⟨24, _⟩ => ⟨S16x4096x1024, .f32⟩
  | .hbm, ⟨25, _⟩ => ⟨S16x4096x1024, .f32⟩
  | .hbm, ⟨26, _⟩ => ⟨S_, .f32⟩
  | .hbm, ⟨27, _⟩ => ⟨S16x4096x1024, .f32⟩
  | .hbm, ⟨28, _⟩ => ⟨S16x4096x1024, .f32⟩
  | .hbm, ⟨29, _⟩ => ⟨S16x4096x1024, .f32⟩
  | .hbm, ⟨30, _⟩ => ⟨S16x4096x1024, .bf16⟩
  | .hbm, ⟨31, _⟩ => ⟨S16x4096x2048, .f32⟩
  | .hbm, ⟨32, _⟩ => ⟨S16x4096x2048, .f32⟩
  | .hbm, ⟨33, _⟩ => ⟨S_, .f32⟩
  | .hbm, ⟨34, _⟩ => ⟨S16x4096x2048, .f32⟩
  | .hbm, ⟨35, _⟩ => ⟨S16x4096x2048, .f32⟩
  | .hbm, ⟨36, _⟩ => ⟨S_, .f32⟩
  | .hbm, ⟨37, _⟩ => ⟨S16x4096x2048, .f32⟩
  | .hbm, ⟨38, _⟩ => ⟨S16x4096x2048, .f32⟩
  | .hbm, ⟨39, _⟩ => ⟨S16x4096x2048, .f32⟩
  | .hbm, ⟨40, _⟩ => ⟨S16x4096x2048, .bf16⟩
  | .hbm, ⟨41, _⟩ => ⟨S1x1x2048, .f32⟩
  | .hbm, ⟨42, _⟩ => ⟨S16x4096x2048, .f32⟩
  | .hbm, ⟨43, _⟩ => ⟨S16x4096x2048, .f32⟩
  | .hbm, ⟨44, _⟩ => ⟨S16x4096x2048, .f32⟩
  | .hbm, ⟨45, _⟩ => ⟨S16x4096x2048, .f32⟩
  | .hbm, ⟨46, _⟩ => ⟨S_, .f32⟩
  | .hbm, ⟨47, _⟩ => ⟨S16x4096x2048, .f32⟩
  | .hbm, ⟨48, _⟩ => ⟨S16x4096x2048, .f32⟩
  | .hbm, ⟨49, _⟩ => ⟨S_, .f32⟩
  | .hbm, ⟨50, _⟩ => ⟨S16x4096x2048, .f32⟩
  | .hbm, ⟨51, _⟩ => ⟨S16x4096x2048, .f32⟩
  | .hbm, ⟨52, _⟩ => ⟨S16x4096x2048, .bf16⟩
  | .hbm, ⟨53, _⟩ => ⟨S_, .f32⟩
  | .hbm, ⟨54, _⟩ => ⟨S16x4096x128, .f32⟩
  | .hbm, ⟨55, _⟩ => ⟨S16x4096x128, .f32⟩
  | .hbm, ⟨56, _⟩ => ⟨S16x4096x128, .f32⟩
  | .hbm, ⟨57, _⟩ => ⟨S16x4096x128, .f32⟩
  | .hbm, ⟨58, _⟩ => ⟨S16x4096x128, .i1⟩
  | .hbm, ⟨59, _⟩ => ⟨S16x4096x128, .f32⟩
  | .hbm, ⟨60, _⟩ => ⟨S16x4096x128, .f32⟩
  | .hbm, ⟨61, _⟩ => ⟨S16x4096x128, .f32⟩
  | .hbm, ⟨62, _⟩ => ⟨S16x4096x128, .f32⟩
  | .hbm, ⟨63, _⟩ => ⟨S16x4096x128, .f32⟩
  | .hbm, ⟨64, _⟩ => ⟨S16x4096x128, .f32⟩
  | .hbm, ⟨65, _⟩ => ⟨S16x4096x128, .f32⟩
  | .hbm, ⟨66, _⟩ => ⟨S16x4096x128, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_call0_v0 : Ref sig .tc := ⟨.hbm, 19, rfl⟩
abbrev main_v13 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v14 : Ref sig .tc := ⟨.hbm, 29, rfl⟩
abbrev main_v15 : Ref sig .tc := ⟨.hbm, 30, rfl⟩
abbrev main_call2_v0 : Ref sig .tc := ⟨.hbm, 31, rfl⟩
abbrev main_call2_v1 : Ref sig .tc := ⟨.hbm, 32, rfl⟩
abbrev main_call2_cst : Ref sig .tc := ⟨.hbm, 33, rfl⟩
abbrev main_call2_v2 : Ref sig .tc := ⟨.hbm, 34, rfl⟩
abbrev main_call2_v3 : Ref sig .tc := ⟨.hbm, 35, rfl⟩
abbrev main_call2_cst_0 : Ref sig .tc := ⟨.hbm, 36, rfl⟩
abbrev main_call2_v4 : Ref sig .tc := ⟨.hbm, 37, rfl⟩
abbrev main_call2_v5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst : Ref sig .tc := ⟨.hbm, 46, rfl⟩
abbrev main_v23 : Ref sig .tc := ⟨.hbm, 47, rfl⟩
abbrev main_v24 : Ref sig .tc := ⟨.hbm, 48, rfl⟩
abbrev main_cst_0 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_call3_cst : Ref sig .tc := ⟨.hbm, 53, rfl⟩
abbrev main_call3_v0 : Ref sig .tc := ⟨.hbm, 54, rfl⟩
abbrev main_call3_v1 : Ref sig .tc := ⟨.hbm, 55, rfl⟩
abbrev main_call3_v2 : Ref sig .tc := ⟨.hbm, 56, rfl⟩
abbrev main_call3_v3 : Ref sig .tc := ⟨.hbm, 57, rfl⟩
abbrev main_call3_v4 : Ref sig .tc := ⟨.hbm, 58, rfl⟩
abbrev main_call3_v5 : Ref sig .tc := ⟨.hbm, 59, rfl⟩
abbrev main_call3_v6 : Ref sig .tc := ⟨.hbm, 60, rfl⟩
abbrev main_call3_v7 : Ref sig .tc := ⟨.hbm, 61, rfl⟩
abbrev main_call3_v8 : Ref sig .tc := ⟨.hbm, 62, rfl⟩
abbrev main_call3_v9 : Ref sig .tc := ⟨.hbm, 63, rfl⟩
abbrev main_call3_v10 : Ref sig .tc := ⟨.hbm, 64, rfl⟩
abbrev main_call3_v11 : Ref sig .tc := ⟨.hbm, 65, rfl⟩
abbrev main_v28 : Ref sig .tc := ⟨.hbm, 66, rfl⟩

abbrev nD : Nat := 1
abbrev τ : Topo := Topo.v7x

variable {F : FTy → Type} [FloatOps F]
-- ==== Conv.lean ====
abbrev S16x4096x1024 : Shape := ⟨3, ![16, 4096, 1024]⟩
abbrev S1024x9792 : Shape := ⟨2, ![1024, 9792]⟩
abbrev S5x3072 : Shape := ⟨2, ![5, 3072]⟩
abbrev S3072 : Shape := ⟨1, ![3072]⟩
abbrev S1024x1024 : Shape := ⟨2, ![1024, 1024]⟩
abbrev S1024x256 : Shape := ⟨2, ![1024, 256]⟩
abbrev S1024x2048 : Shape := ⟨2, ![1024, 2048]⟩
abbrev S1024x3072 : Shape := ⟨2, ![1024, 3072]⟩
abbrev S1024x64 : Shape := ⟨2, ![1024, 64]⟩
abbrev S1x3072 : Shape := ⟨2, ![1, 3072]⟩
abbrev S16x4096x2048 : Shape := ⟨3, ![16, 4096, 2048]⟩
abbrev S16x4096x512 : Shape := ⟨3, ![16, 4096, 512]⟩
abbrev S1x512x1024 : Shape := ⟨3, ![1, 512, 1024]⟩
abbrev S1x8x1024 : Shape := ⟨3, ![1, 8, 1024]⟩
abbrev S1x512x2048 : Shape := ⟨3, ![1, 512, 2048]⟩
abbrev S1x512x512 : Shape := ⟨3, ![1, 512, 512]⟩
abbrev S4x528x128 : Shape := ⟨3, ![4, 528, 128]⟩
abbrev S4x512x128 : Shape := ⟨3, ![4, 512, 128]⟩
abbrev S8x1024 : Shape := ⟨2, ![8, 1024]⟩
abbrev S512x1024 : Shape := ⟨2, ![512, 1024]⟩
abbrev S528x1024 : Shape := ⟨2, ![528, 1024]⟩
abbrev S1024x512 : Shape := ⟨2, ![1024, 512]⟩
abbrev S528x512 : Shape := ⟨2, ![528, 512]⟩
abbrev S528x128 : Shape := ⟨2, ![528, 128]⟩
abbrev S1x528x128 : Shape := ⟨3, ![1, 528, 128]⟩
abbrev S1x128 : Shape := ⟨2, ![1, 128]⟩
abbrev S1x128x128 : Shape := ⟨3, ![1, 128, 128]⟩
abbrev S128x128 : Shape := ⟨2, ![128, 128]⟩
abbrev S1x512x128 : Shape := ⟨3, ![1, 512, 128]⟩
abbrev S512x128 : Shape := ⟨2, ![512, 128]⟩
abbrev S512x512 : Shape := ⟨2, ![512, 512]⟩

abbrev nBuf : Space → Nat
  | .hbm => 17
  | .vmem => 19
  | .smem => 0
  | _ => 0

abbrev bufTy : (tb : Table) → Fin (tcTables nBuf tb) → BufTy
  | .hbm, ⟨0, _⟩ => ⟨S16x4096x1024, .f32⟩
  | .hbm, ⟨1, _⟩ => ⟨S1024x9792, .f32⟩
  | .hbm, ⟨2, _⟩ => ⟨S5x3072, .f32⟩
  | .hbm, ⟨3, _⟩ => ⟨S3072, .f32⟩
  | .hbm, ⟨4, _⟩ => ⟨S1024x1024, .f32⟩
  | .hbm, ⟨5, _⟩ => ⟨S1024x256, .f32⟩
  | .hbm, ⟨6, _⟩ => ⟨S1024x256, .f32⟩
  | .hbm, ⟨7, _⟩ => ⟨S1024x1024, .f32⟩
  | .hbm, ⟨8, _⟩ => ⟨S1024x2048, .f32⟩
  | .hbm, ⟨9, _⟩ => ⟨S1024x3072, .f32⟩
  | .hbm, ⟨10, _⟩ => ⟨S1024x64, .f32⟩
  | .hbm, ⟨11, _⟩ => ⟨S1024x2048, .f32⟩
  | .hbm, ⟨12, _⟩ => ⟨S1024x3072, .bf16⟩
  | .hbm, ⟨13, _⟩ => ⟨S1x3072, .f32⟩
  | .hbm, ⟨14, _⟩ => ⟨S16x4096x2048, .bf16⟩
  | .hbm, ⟨15, _⟩ => ⟨S16x4096x512, .bf16⟩
  | .hbm, ⟨16, _⟩ => ⟨S16x4096x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1024x3072, .bf16⟩
  | .local _ .vmem, ⟨7, _⟩ => ⟨S5x3072, .f32⟩
  | .local _ .vmem, ⟨8, _⟩ => ⟨S1x3072, .f32⟩
  | .local _ .vmem, ⟨9, _⟩ => ⟨S1x512x2048, .bf16⟩
  | .local _ .vmem, ⟨10, _⟩ => ⟨S1x512x2048, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S4x528x128, .f32⟩
  | .local _ .vmem, ⟨16, _⟩ => ⟨S4x528x128, .f32⟩
  | .local _ .vmem, ⟨17, _⟩ => ⟨S4x512x128, .f32⟩
  | .local _ .vmem, ⟨18, _⟩ => ⟨S4x512x128, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_v10_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S5x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ConvReferenceIdeal.lean ====
abbrev S16x4096x1024 : Shape := ⟨3, ![16, 4096, 1024]⟩
abbrev S1024x9792 : Shape := ⟨2, ![1024, 9792]⟩
abbrev S5x3072 : Shape := ⟨2, ![5, 3072]⟩
abbrev S3072 : Shape := ⟨1, ![3072]⟩
abbrev S16x4096x9792 : Shape := ⟨3, ![16, 4096, 9792]⟩
abbrev S16x4096x256 : Shape := ⟨3, ![16, 4096, 256]⟩
abbrev S16x4096x2048 : Shape := ⟨3, ![16, 4096, 2048]⟩
abbrev S16x4096x3072 : Shape := ⟨3, ![16, 4096, 3072]⟩
abbrev S16x4096x64 : Shape := ⟨3, ![16, 4096, 64]⟩
abbrev S_ : Shape := ⟨0, ![]⟩
abbrev S16x4100x3072 : Shape := ⟨3, ![16, 4100, 3072]⟩
abbrev S1x3072 : Shape := ⟨2, ![1, 3072]⟩
abbrev S1x1x3072 : Shape := ⟨3, ![1, 1, 3072]⟩
abbrev S16x4096x512 : Shape := ⟨3, ![16, 4096, 512]⟩

abbrev nBuf : Space → Nat
  | .hbm => 71
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024x9792, .f32⟩
  | .hbm, ⟨2, _⟩ => ⟨S5x3072, .f32⟩
  | .hbm, ⟨3, _⟩ => ⟨S3072, .f32⟩
  | .hbm, ⟨4, _⟩ => ⟨S16x4096x9792, .f32⟩
  | .hbm, ⟨5, _⟩ => ⟨S16x4096x1024, .f32⟩
  | .hbm, ⟨6, _⟩ => ⟨S16x4096x256, .f32⟩
  | .hbm, ⟨7, _⟩ => ⟨S16x4096x256, .f32⟩
  | .hbm, ⟨8, _⟩ => ⟨S16x4096x1024, .f32⟩
  | .hbm, ⟨9, _⟩ => ⟨S16x4096x2048, .f32⟩
  | .hbm, ⟨10, _⟩ => ⟨S16x4096x3072, .f32⟩
  | .hbm, ⟨11, _⟩ => ⟨S16x4096x64, .f32⟩
  | .hbm, ⟨12, _⟩ => ⟨S16x4096x2048, .f32⟩
  | .hbm, ⟨13, _⟩ => ⟨S_, .i32⟩
  | .hbm, ⟨14, _⟩ => ⟨S_, .f32⟩
  | .hbm, ⟨15, _⟩ => ⟨S16x4100x3072, .f32⟩
  | .hbm, ⟨16, _⟩ => ⟨S16x4096x3072, .f32⟩
  | .hbm, ⟨17, _⟩ => ⟨S1x3072, .f32⟩
  | .hbm, ⟨18, _⟩ => ⟨S3072, .f32⟩
  | .hbm, ⟨19, _⟩ => ⟨S1x1x3072, .f32⟩
  | .hbm, ⟨20, _⟩ => ⟨S16x4096x3072, .f32⟩
  | .hbm, ⟨21, _⟩ => ⟨S16x4096x3072, .f32⟩
  | .hbm, ⟨22, _⟩ => ⟨S_, .f32⟩
  | .hbm, ⟨23, _⟩ => ⟨S16x4096x3072, .f32⟩
  | .hbm, ⟨24, _⟩ => ⟨S16x4096x3072, .f32⟩
  | .hbm, ⟨25, _⟩ => ⟨S16x4096x3072, .f32⟩
  | .hbm, ⟨26, _⟩ => ⟨S1x3072, .f32⟩
  | .hbm, ⟨27, _⟩ => ⟨S3072, .f32⟩
  | .hbm, ⟨28, _⟩ => ⟨S1x1x3072, .f32⟩
  | .hbm, ⟨29, _⟩ => ⟨S16x4096x3072, .f32⟩
  | .hbm, ⟨30, _⟩ => ⟨S16x4096x3072, .f32⟩
  | .hbm, ⟨31, _⟩ => ⟨S16x4096x3072, .f32⟩
  | .hbm, ⟨32, _⟩ => ⟨S16x4096x3072, .f32⟩
  | .hbm, ⟨33, _⟩ => ⟨S1x3072, .f32⟩
  | .hbm, ⟨34, _⟩ => ⟨S3072, .f32⟩
  | .hbm, ⟨35, _⟩ => ⟨S1x1x3072, .f32⟩
  | .hbm, ⟨36, _⟩ => ⟨S16x4096x3072, .f32⟩
  | .hbm, ⟨37, _⟩ => ⟨S16x4096x3072, .f32⟩
  | .hbm, ⟨38, _⟩ => ⟨S16x4096x3072, .f32⟩
  | .hbm, ⟨39, _⟩ => ⟨S16x4096x3072, .f32⟩
  | .hbm, ⟨40, _⟩ => ⟨S1x3072, .f32⟩
  | .hbm, ⟨41, _⟩ => ⟨S3072, .f32⟩
  | .hbm, ⟨42, _⟩ => ⟨S1x1x3072, .f32⟩
  | .hbm, ⟨43, _⟩ => ⟨S16x4096x3072, .f32⟩
  | .hbm, ⟨44, _⟩ => ⟨S16x4096x3072, .f32⟩
  | .hbm, ⟨45, _⟩ => ⟨S16x4096x3072, .f32⟩
  | .hbm, ⟨46, _⟩ => ⟨S16x4096x3072, .f32⟩
  | .hbm, ⟨47, _⟩ => ⟨S1x3072, .f32⟩
  | .hbm, ⟨48, _⟩ => ⟨S3072, .f32⟩
  | .hbm, ⟨49, _⟩ => ⟨S1x1x3072, .f32⟩
  | .hbm, ⟨50, _⟩ => ⟨S16x4096x3072, .f32⟩
  | .hbm, ⟨51, _⟩ => ⟨S16x4096x3072, .f32⟩
  | .hbm, ⟨52, _⟩ => ⟨S16x4096x3072, .f32⟩
  | .hbm, ⟨53, _⟩ => ⟨S1x1x3072, .f32⟩
  | .hbm, ⟨54, _⟩ => ⟨S16x4096x3072, .f32⟩
  | .hbm, ⟨55, _⟩ => ⟨S16x4096x3072, .f32⟩
  | .hbm, ⟨56, _⟩ => ⟨S16x4096x3072, .f32⟩
  | .hbm, ⟨57, _⟩ => ⟨S16x4096x3072, .f32⟩
  | .hbm, ⟨58, _⟩ => ⟨S_, .f32⟩
  | .hbm, ⟨59, _⟩ => ⟨S16x4096x3072, .f32⟩
  | .hbm, ⟨60, _⟩ => ⟨S16x4096x3072, .f32⟩
  | .hbm, ⟨61, _⟩ => ⟨S_, .f32⟩
  | .hbm, ⟨62, _⟩ => ⟨S16x4096x3072, .f32⟩
  | .hbm, ⟨63, _⟩ => ⟨S16x4096x3072, .f32⟩
  | .hbm, ⟨64, _⟩ => ⟨S16x4096x3072, .f32⟩
  | .hbm, ⟨65, _⟩ => ⟨S16x4096x2048, .f32⟩
  | .hbm, ⟨66, _⟩ => ⟨S16x4096x512, .f32⟩
  | .hbm, ⟨67, _⟩ => ⟨S16x4096x512, .f32⟩
  | .hbm, ⟨68, _⟩ => ⟨S16x4096x2048, .bf16⟩
  | .hbm, ⟨69, _⟩ => ⟨S16x4096x512, .bf16⟩
  | .hbm, ⟨70, _⟩ => ⟨S16x4096x512, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_call1_v5 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩

abbrev nD : Nat := 1
abbrev τ : Topo := Topo.v7x

variable {F : FTy → Type} [FloatOps F]
-- ==== States.lean ====
abbrev S16x4096x2048 : Shape := ⟨3, ![16, 4096, 2048]⟩
abbrev S16x4096x512 : Shape := ⟨3, ![16, 4096, 512]⟩
abbrev S16x4096x128 : Shape := ⟨3, ![16, 4096, 128]⟩
abbrev S32 : Shape := ⟨1, ![32]⟩
abbrev S_ : Shape := ⟨0, ![]⟩
abbrev S64 : Shape := ⟨1, ![64]⟩
abbrev S128 : Shape := ⟨1, ![128]⟩
abbrev S1x128 : Shape := ⟨2, ![1, 128]⟩
abbrev S128x128 : Shape := ⟨2, ![128, 128]⟩
abbrev S2048 : Shape := ⟨1, ![2048]⟩
abbrev S128x1 : Shape := ⟨2, ![128, 1]⟩
abbrev S1x2048 : Shape := ⟨2, ![1, 2048]⟩
abbrev S128x2048 : Shape := ⟨2, ![128, 2048]⟩
abbrev S16x32x128x2048 : Shape := ⟨4, ![16, 32, 128, 2048]⟩
abbrev S1x1024x2048 : Shape := ⟨3, ![1, 1024, 2048]⟩
abbrev S1x1024x512 : Shape := ⟨3, ![1, 1024, 512]⟩
abbrev S1x1024x128 : Shape := ⟨3, ![1, 1024, 128]⟩
abbrev S1x8x128x2048 : Shape := ⟨4, ![1, 8, 128, 2048]⟩
abbrev S1x128x128 : Shape := ⟨3, ![1, 128, 128]⟩
abbrev S16x128 : Shape := ⟨2, ![16, 128]⟩
abbrev S144x128 : Shape := ⟨2, ![144, 128]⟩
abbrev S144x2048 : Shape := ⟨2, ![144, 2048]⟩
abbrev S1x128x2048 : Shape := ⟨3, ![1, 128, 2048]⟩
abbrev S128x512 : Shape := ⟨2, ![128, 512]⟩
abbrev S1x1x128x2048 : Shape := ⟨4, ![1, 1, 128, 2048]⟩
abbrev S1x512 : Shape := ⟨2, ![1, 512]⟩

abbrev nBuf : Space → Nat
  | .hbm => 46
  | .vmem => 12
  | .smem => 0
  | _ => 0

abbrev bufTy : (tb : Table) → Fin (tcTables nBuf tb) → BufTy
  | .hbm, ⟨0, _⟩ => ⟨S16x4096x2048, .f32⟩
  | .hbm, ⟨1, _⟩ => ⟨S16x4096x512, .f32⟩
  | .hbm, ⟨2, _⟩ => ⟨S16x4096x128, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S64, .f32⟩
  | .hbm, ⟨7, _⟩ => ⟨S128, .f32⟩
  | .hbm, ⟨8, _⟩ => ⟨S1x128, .f32⟩
  | .hbm, ⟨9, _⟩ => ⟨S_, .f32⟩
  | .hbm, ⟨10, _⟩ => ⟨S128x128, .f32⟩
  | .hbm, ⟨11, _⟩ => ⟨S128x128, .i32⟩
  | .hbm, ⟨12, _⟩ => ⟨S_, .i32⟩
  | .hbm, ⟨13, _⟩ => ⟨S128x128, .i32⟩
  | .hbm, ⟨14, _⟩ => ⟨S128x128, .i32⟩
  | .hbm, ⟨15, _⟩ => ⟨S128x128, .i32⟩
  | .hbm, ⟨16, _⟩ => ⟨S128x128, .i1⟩
  | .hbm, ⟨17, _⟩ => ⟨S_, .f32⟩
  | .hbm, ⟨18, _⟩ => ⟨S128x128, .f32⟩
  | .hbm, ⟨19, _⟩ => ⟨S128x128, .f32⟩
  | .hbm, ⟨20, _⟩ => ⟨S128x128, .bf16⟩
  | .hbm, ⟨21, _⟩ => ⟨S16x4096x2048, .bf16⟩
  | .hbm, ⟨22, _⟩ => ⟨S16x4096x512, .bf16⟩
  | .hbm, ⟨23, _⟩ => ⟨S128, .i32⟩
  | .hbm, ⟨24, _⟩ => ⟨S_, .i32⟩
  | .hbm, ⟨25, _⟩ => ⟨S128, .i32⟩
  | .hbm, ⟨26, _⟩ => ⟨S128, .i32⟩
  | .hbm, ⟨27, _⟩ => ⟨S2048, .i32⟩
  | .hbm, ⟨28, _⟩ => ⟨S_, .i32⟩
  | .hbm, ⟨29, _⟩ => ⟨S2048, .i32⟩
  | .hbm, ⟨30, _⟩ => ⟨S2048, .i32⟩
  | .hbm, ⟨31, _⟩ => ⟨S128x1, .i32⟩
  | .hbm, ⟨32, _⟩ => ⟨S1x2048, .i32⟩
  | .hbm, ⟨33, _⟩ => ⟨S_, .i32⟩
  | .hbm, ⟨34, _⟩ => ⟨S1x2048, .i32⟩
  | .hbm, ⟨35, _⟩ => ⟨S1x2048, .i32⟩
  | .hbm, ⟨36, _⟩ => ⟨S128x2048, .i32⟩
  | .hbm, ⟨37, _⟩ => ⟨S128x2048, .i32⟩
  | .hbm, ⟨38, _⟩ => ⟨S128x2048, .i1⟩
  | .hbm, ⟨39, _⟩ => ⟨S_, .f32⟩
  | .hbm, ⟨40, _⟩ => ⟨S_, .f32⟩
  | .hbm, ⟨41, _⟩ => ⟨S128x2048, .f32⟩
  | .hbm, ⟨42, _⟩ => ⟨S128x2048, .f32⟩
  | .hbm, ⟨43, _⟩ => ⟨S128x2048, .f32⟩
  | .hbm, ⟨44, _⟩ => ⟨S128x2048, .bf16⟩
  | .hbm, ⟨45, _⟩ => ⟨S16x32x128x2048, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x128, .f32⟩
  | .local _ .vmem, ⟨5, _⟩ => ⟨S1x1024x128, .f32⟩
  | .local _ .vmem, ⟨6, _⟩ => ⟨S1x128, .f32⟩
  | .local _ .vmem, ⟨7, _⟩ => ⟨S128x128, .bf16⟩
  | .local _ .vmem, ⟨8, _⟩ => ⟨S128x2048, .bf16⟩
  | .local _ .vmem, ⟨9, _⟩ => ⟨S1x8x128x2048, .bf16⟩
  | .local _ .vmem, ⟨10, _⟩ => ⟨S1x8x128x2048, .bf16⟩
  | .local _ .vmem, ⟨11, _⟩ => ⟨S128x2048, .f32⟩
  | _, _ => ⟨S16x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_cst : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  let c0_i32_1 : BitVec 32 := 0#32
  ![arg0.toNat, v0.toNat, c0_i32.toNat, c0_i32_0.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8x128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Merge.lean ====
abbrev S16x4096x1024 : Shape := ⟨3, ![16, 4096, 1024]⟩
abbrev S16x4096x2048 : Shape := ⟨3, ![16, 4096, 2048]⟩
abbrev S1024x1024 : Shape := ⟨2, ![1024, 1024]⟩
abbrev S2048x1024 : Shape := ⟨2, ![2048, 1024]⟩
abbrev S1024 : Shape := ⟨1, ![1024]⟩
abbrev S1x1024 : Shape := ⟨2, ![1, 1024]⟩
abbrev S1x512x1024 : Shape := ⟨3, ![1, 512, 1024]⟩
abbrev S1x512x2048 : Shape := ⟨3, ![1, 512, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 18
  | .vmem => 15
  | .smem => 0
  | _ => 0

abbrev bufTy : (tb : Table) → Fin (tcTables nBuf tb) → BufTy
  | .hbm, ⟨0, _⟩ => ⟨S16x4096x1024, .f32⟩
  | .hbm, ⟨1, _⟩ => ⟨S16x4096x1024, .f32⟩
  | .hbm, ⟨2, _⟩ => ⟨S16x4096x2048, .f32⟩
  | .hbm, ⟨3, _⟩ => ⟨S16x4096x2048, .f32⟩
  | .hbm, ⟨4, _⟩ => ⟨S1024x1024, .f32⟩
  | .hbm, ⟨5, _⟩ => ⟨S2048x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S16x4096x1024, .bf16⟩
  | .hbm, ⟨10, _⟩ => ⟨S16x4096x2048, .bf16⟩
  | .hbm, ⟨11, _⟩ => ⟨S16x4096x2048, .bf16⟩
  | .hbm, ⟨12, _⟩ => ⟨S1024x1024, .bf16⟩
  | .hbm, ⟨13, _⟩ => ⟨S2048x1024, .bf16⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x512x2048, .bf16⟩
  | .local _ .vmem, ⟨7, _⟩ => ⟨S1x512x2048, .bf16⟩
  | .local _ .vmem, ⟨8, _⟩ => ⟨S1024x1024, .bf16⟩
  | .local _ .vmem, ⟨9, _⟩ => ⟨S2048x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1x512x1024, .f32⟩
  | .local _ .vmem, ⟨14, _⟩ => ⟨S1x512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeIdeal.lean ====
abbrev S16x4096x1024 : Shape := ⟨3, ![16, 4096, 1024]⟩
abbrev S16x4096x2048 : Shape := ⟨3, ![16, 4096, 2048]⟩
abbrev S1024x1024 : Shape := ⟨2, ![1024, 1024]⟩
abbrev S2048x1024 : Shape := ⟨2, ![2048, 1024]⟩
abbrev S1024 : Shape := ⟨1, ![1024]⟩
abbrev S1x1024 : Shape := ⟨2, ![1, 1024]⟩
abbrev S1x512x1024 : Shape := ⟨3, ![1, 512, 1024]⟩
abbrev S1x512x2048 : Shape := ⟨3, ![1, 512, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 18
  | .vmem => 15
  | .smem => 0
  | _ => 0

abbrev bufTy : (tb : Table) → Fin (tcTables nBuf tb) → BufTy
  | .hbm, ⟨0, _⟩ => ⟨S16x4096x1024, .f32⟩
  | .hbm, ⟨1, _⟩ => ⟨S16x4096x1024, .f32⟩
  | .hbm, ⟨2, _⟩ => ⟨S16x4096x2048, .f32⟩
  | .hbm, ⟨3, _⟩ => ⟨S16x4096x2048, .f32⟩
  | .hbm, ⟨4, _⟩ => ⟨S1024x1024, .f32⟩
  | .hbm, ⟨5, _⟩ => ⟨S2048x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S16x4096x1024, .bf16⟩
  | .hbm, ⟨10, _⟩ => ⟨S16x4096x2048, .bf16⟩
  | .hbm, ⟨11, _⟩ => ⟨S16x4096x2048, .bf16⟩
  | .hbm, ⟨12, _⟩ => ⟨S1024x1024, .bf16⟩
  | .hbm, ⟨13, _⟩ => ⟨S2048x1024, .bf16⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x512x2048, .bf16⟩
  | .local _ .vmem, ⟨7, _⟩ => ⟨S1x512x2048, .bf16⟩
  | .local _ .vmem, ⟨8, _⟩ => ⟨S1024x1024, .bf16⟩
  | .local _ .vmem, ⟨9, _⟩ => ⟨S2048x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1x512x1024, .f32⟩
  | .local _ .vmem, ⟨14, _⟩ => ⟨S1x512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeReferenceIdeal.lean ====
abbrev S16x4096x1024 : Shape := ⟨3, ![16, 4096, 1024]⟩
abbrev S16x4096x2048 : Shape := ⟨3, ![16, 4096, 2048]⟩
abbrev S1024x1024 : Shape := ⟨2, ![1024, 1024]⟩
abbrev S2048x1024 : Shape := ⟨2, ![2048, 1024]⟩
abbrev S1024 : Shape := ⟨1, ![1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x1024, .f32⟩
  | .hbm, ⟨2, _⟩ => ⟨S16x4096x2048, .f32⟩
  | .hbm, ⟨3, _⟩ => ⟨S16x4096x2048, .f32⟩
  | .hbm, ⟨4, _⟩ => ⟨S1024x1024, .f32⟩
  | .hbm, ⟨5, _⟩ => ⟨S2048x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S16x4096x1024, .f32⟩
  | .hbm, ⟨10, _⟩ => ⟨S16x4096x1024, .f32⟩
  | .hbm, ⟨11, _⟩ => ⟨S16x4096x1024, .f32⟩
  | .hbm, ⟨12, _⟩ => ⟨S16x4096x1024, .f32⟩
  | .hbm, ⟨13, _⟩ => ⟨S16x4096x1024, .f32⟩
  | .hbm, ⟨14, _⟩ => ⟨S16x4096x1024, .f32⟩
  | .hbm, ⟨15, _⟩ => ⟨S16x4096x1024, .f32⟩
  | .hbm, ⟨16, _⟩ => ⟨S16x4096x1024, .f32⟩
  | .hbm, ⟨17, _⟩ => ⟨S_, .f32⟩
  | .hbm, ⟨18, _⟩ => ⟨S16x4096x1024, .f32⟩
  | .hbm, ⟨19, _⟩ => ⟨S16x4096x1024, .f32⟩
  | .hbm, ⟨20, _⟩ => ⟨S16x4096x1024, .f32⟩
  | .hbm, ⟨21, _⟩ => ⟨S_, .f32⟩
  | .hbm, ⟨22, _⟩ => ⟨S16x4096, .f32⟩
  | .hbm, ⟨23, _⟩ => ⟨S16x4096x1, .f32⟩
  | .hbm, ⟨24, _⟩ => ⟨S_, .f32⟩
  | .hbm, ⟨25, _⟩ => ⟨S16x4096x1, .f32⟩
  | .hbm, ⟨26, _⟩ => ⟨S16x4096x1, .f32⟩
  | .hbm, ⟨27, _⟩ => ⟨S16x4096x1024, .f32⟩
  | .hbm, ⟨28, _⟩ => ⟨S16x4096x1024, .f32⟩
  | .hbm, ⟨29, _⟩ => ⟨S16x4096x1024, .f32⟩
  | .hbm, ⟨30, _⟩ => ⟨S_, .f32⟩
  | .hbm, ⟨31, _⟩ => ⟨S16x4096, .f32⟩
  | .hbm, ⟨32, _⟩ => ⟨S16x4096x1, .f32⟩
  | .hbm, ⟨33, _⟩ => ⟨S_, .f32⟩
  | .hbm, ⟨34, _⟩ => ⟨S16x4096x1, .f32⟩
  | .hbm, ⟨35, _⟩ => ⟨S16x4096x1, .f32⟩
  | .hbm, ⟨36, _⟩ => ⟨S16x4096x1024, .f32⟩
  | .hbm, ⟨37, _⟩ => ⟨S16x4096x1024, .f32⟩
  | .hbm, ⟨38, _⟩ => ⟨S_, .f32⟩
  | .hbm, ⟨39, _⟩ => ⟨S16x4096x1, .f32⟩
  | .hbm, ⟨40, _⟩ => ⟨S16x4096x1, .f32⟩
  | .hbm, ⟨41, _⟩ => ⟨S16x4096x1, .f32⟩
  | .hbm, ⟨42, _⟩ => ⟨S16x4096x1024, .f32⟩
  | .hbm, ⟨43, _⟩ => ⟨S16x4096x1024, .f32⟩
  | .hbm, ⟨44, _⟩ => ⟨S1x1x1024, .f32⟩
  | .hbm, ⟨45, _⟩ => ⟨S16x4096x1024, .f32⟩
  | .hbm, ⟨46, _⟩ => ⟨S16x4096x1024, .f32⟩
  | .hbm, ⟨47, _⟩ => ⟨S1x1x1024, .f32⟩
  | .hbm, ⟨48, _⟩ => ⟨S16x4096x1024, .f32⟩
  | .hbm, ⟨49, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]
-- ==== MergePrompt.lean ====
abbrev S16x2048x1024 : Shape := ⟨3, ![16, 2048, 1024]⟩
abbrev S16x2048x2048 : Shape := ⟨3, ![16, 2048, 2048]⟩
abbrev S1024x1024 : Shape := ⟨2, ![1024, 1024]⟩
abbrev S2048x1024 : Shape := ⟨2, ![2048, 1024]⟩
abbrev S1024 : Shape := ⟨1, ![1024]⟩
abbrev S1x1024 : Shape := ⟨2, ![1, 1024]⟩
abbrev S1x512x1024 : Shape := ⟨3, ![1, 512, 1024]⟩
abbrev S1x512x2048 : Shape := ⟨3, ![1, 512, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 18
  | .vmem => 15
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x2048, .f32⟩
  | .hbm, ⟨3, _⟩ => ⟨S16x2048x2048, .f32⟩
  | .hbm, ⟨4, _⟩ => ⟨S1024x1024, .f32⟩
  | .hbm, ⟨5, _⟩ => ⟨S2048x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S16x2048x1024, .bf16⟩
  | .hbm, ⟨10, _⟩ => ⟨S16x2048x2048, .bf16⟩
  | .hbm, ⟨11, _⟩ => ⟨S16x2048x2048, .bf16⟩
  | .hbm, ⟨12, _⟩ => ⟨S1024x1024, .bf16⟩
  | .hbm, ⟨13, _⟩ => ⟨S2048x1024, .bf16⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x512x2048, .bf16⟩
  | .local _ .vmem, ⟨7, _⟩ => ⟨S1x512x2048, .bf16⟩
  | .local _ .vmem, ⟨8, _⟩ => ⟨S1024x1024, .bf16⟩
  | .local _ .vmem, ⟨9, _⟩ => ⟨S2048x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1x512x1024, .f32⟩
  | .local _ .vmem, ⟨14, _⟩ => ⟨S1x512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergePromptReferenceIdeal.lean ====
abbrev S16x2048x1024 : Shape := ⟨3, ![16, 2048, 1024]⟩
abbrev S16x2048x2048 : Shape := ⟨3, ![16, 2048, 2048]⟩
abbrev S1024x1024 : Shape := ⟨2, ![1024, 1024]⟩
abbrev S2048x1024 : Shape := ⟨2, ![2048, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x2048, .f32⟩
  | .hbm, ⟨3, _⟩ => ⟨S16x2048x2048, .f32⟩
  | .hbm, ⟨4, _⟩ => ⟨S1024x1024, .f32⟩
  | .hbm, ⟨5, _⟩ => ⟨S2048x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S16x2048x1024, .f32⟩
  | .hbm, ⟨10, _⟩ => ⟨S16x2048x1024, .f32⟩
  | .hbm, ⟨11, _⟩ => ⟨S16x2048x1024, .f32⟩
  | .hbm, ⟨12, _⟩ => ⟨S16x2048x1024, .f32⟩
  | .hbm, ⟨13, _⟩ => ⟨S16x2048x1024, .f32⟩
  | .hbm, ⟨14, _⟩ => ⟨S16x2048x1024, .f32⟩
  | .hbm, ⟨15, _⟩ => ⟨S16x2048x1024, .f32⟩
  | .hbm, ⟨16, _⟩ => ⟨S16x2048x1024, .f32⟩
  | .hbm, ⟨17, _⟩ => ⟨S_, .f32⟩
  | .hbm, ⟨18, _⟩ => ⟨S16x2048x1024, .f32⟩
  | .hbm, ⟨19, _⟩ => ⟨S16x2048x1024, .f32⟩
  | .hbm, ⟨20, _⟩ => ⟨S16x2048x1024, .f32⟩
  | .hbm, ⟨21, _⟩ => ⟨S_, .f32⟩
  | .hbm, ⟨22, _⟩ => ⟨S16x2048, .f32⟩
  | .hbm, ⟨23, _⟩ => ⟨S16x2048x1, .f32⟩
  | .hbm, ⟨24, _⟩ => ⟨S_, .f32⟩
  | .hbm, ⟨25, _⟩ => ⟨S16x2048x1, .f32⟩
  | .hbm, ⟨26, _⟩ => ⟨S16x2048x1, .f32⟩
  | .hbm, ⟨27, _⟩ => ⟨S16x2048x1024, .f32⟩
  | .hbm, ⟨28, _⟩ => ⟨S16x2048x1024, .f32⟩
  | .hbm, ⟨29, _⟩ => ⟨S16x2048x1024, .f32⟩
  | .hbm, ⟨30, _⟩ => ⟨S_, .f32⟩
  | .hbm, ⟨31, _⟩ => ⟨S16x2048, .f32⟩
  | .hbm, ⟨32, _⟩ => ⟨S16x2048x1, .f32⟩
  | .hbm, ⟨33, _⟩ => ⟨S_, .f32⟩
  | .hbm, ⟨34, _⟩ => ⟨S16x2048x1, .f32⟩
  | .hbm, ⟨35, _⟩ => ⟨S16x2048x1, .f32⟩
  | .hbm, ⟨36, _⟩ => ⟨S16x2048x1024, .f32⟩
  | .hbm, ⟨37, _⟩ => ⟨S16x2048x1024, .f32⟩
  | .hbm, ⟨38, _⟩ => ⟨S_, .f32⟩
  | .hbm, ⟨39, _⟩ => ⟨S16x2048x1, .f32⟩
  | .hbm, ⟨40, _⟩ => ⟨S16x2048x1, .f32⟩
  | .hbm, ⟨41, _⟩ => ⟨S16x2048x1, .f32⟩
  | .hbm, ⟨42, _⟩ => ⟨S16x2048x1024, .f32⟩
  | .hbm, ⟨43, _⟩ => ⟨S16x2048x1024, .f32⟩
  | .hbm, ⟨44, _⟩ => ⟨S1x1x1024, .f32⟩
  | .hbm, ⟨45, _⟩ => ⟨S16x2048x1024, .f32⟩
  | .hbm, ⟨46, _⟩ => ⟨S16x2048x1024, .f32⟩
  | .hbm, ⟨47, _⟩ => ⟨S1x1x1024, .f32⟩
  | .hbm, ⟨48, _⟩ => ⟨S16x2048x1024, .f32⟩
  | .hbm, ⟨49, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]
-- ==== Proof.Attn.Math.lean ====
/- The arithmetic of an online softmax over the extended reals: a sum weighted by powers of two relative to a running
   maximum may be rescaled when the maximum grows, and the finished quotient is the plain softmax average. -/
module

public import Idealize.ShloMosaic.Lib.Pointwise

@[expose] public section

noncomputable section

namespace Cert.Attn

open Idealize.ShloMosaic

/-- A finite sum of extended reals times a nonnegative real: the factor goes under the sum. -/
theorem sum_mul_coe {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

/-- A finite sum of reals, taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- `Σ_{k < n} w k · 2 ^ (t k − a)`: the weighted sum a block of keys leaves, relative to the maximum `a`. -/
def acc (w : ℕ → EReal) (t : ℕ → ℝ) (n : ℕ) (a : ℝ) : EReal :=
  ∑ k ∈ Finset.range n, w k * (((2 : ℝ) ^ (t k - a) : ℝ) : EReal)

/-- One block of 256 keys more: the sum so far rescaled to the new maximum, plus the block's own sum. -/
theorem acc_step (w : ℕ → EReal) (t : ℕ → ℝ) (n : ℕ) (a b : ℝ) :
    acc w t n a * (((2 : ℝ) ^ (a - b) : ℝ) : EReal)
        + ∑ x : Fin 256, w (n + x) * (((2 : ℝ) ^ (t (n + x) - b) : ℝ) : EReal)
      = acc w t (n + 256) b := by
  unfold acc
  rw [sum_mul_coe _ _ _ (by positivity), Finset.sum_range_add]
  congr 1
  · refine Finset.sum_congr rfl fun k _ => ?_
    rw [mul_assoc, ← EReal.coe_mul, ← Real.rpow_add (by norm_num), sub_add_sub_cancel]

/-- The first block. -/
theorem acc_zero (w : ℕ → EReal) (t : ℕ → ℝ) (b : ℝ) :
    ∑ x : Fin 256, w x * (((2 : ℝ) ^ (t x - b) : ℝ) : EReal) = acc w t 256 b :=
  (Finset.sum_range (fun x => w x * (((2 : ℝ) ^ (t x - b) : ℝ) : EReal))).symm

/-- `a` is the largest of `t k` over `k < n`. -/
def IsMax (t : ℕ → ℝ) (n : ℕ) (a : ℝ) : Prop := (∀ k < n, t k ≤ a) ∧ ∃ k < n, t k = a

/-- The largest of a nonempty initial stretch is unique. -/
theorem IsMax.unique {t : ℕ → ℝ} {n : ℕ} {a b : ℝ} (ha : IsMax t n a) (hb : IsMax t n b) : a = b := by
  obtain ⟨k, hk, rfl⟩ := ha.2
  obtain ⟨l, hl, rfl⟩ := hb.2
  exact le_antisymm (hb.1 k hk) (ha.1 l hl)

/-- The largest over a stretch and over the 256 after it. -/
theorem IsMax.step {t : ℕ → ℝ} {n : ℕ} {a b : ℝ} (ha : IsMax t n a) (hb : IsMax (fun k => t (n + k)) 256 b) :
    IsMax t (n + 256) (max a b) := by
  refine ⟨fun k hk => ?_, ?_⟩
  · by_cases h : k < n
    · exact le_max_of_le_left (ha.1 k h)
    · have : t (n + (k - n)) ≤ b := hb.1 (k - n) (by omega)
      rw [show n + (k - n) = k by omega] at this
      exact le_max_of_le_right this
  · rcases le_total a b with h | h
    · obtain ⟨k, hk, e⟩ := hb.2
      exact ⟨n + k, by omega, by rw [max_eq_right h]; exact e⟩
    · obtain ⟨k, hk, e⟩ := ha.2
      exact ⟨k, by omega, by rw [max_eq_left h]; exact e⟩

/-- Over a nonempty stretch there is a largest. -/
theorem exists_isMax (t : ℕ → ℝ) (n : ℕ) (hn : 0 < n) : ∃ a, IsMax t n a := by
  obtain ⟨k, hk, h⟩ := Finset.exists_max_image (Finset.range n) t ⟨0, by simpa using hn⟩
  exact ⟨t k, fun l hl => h l (by simpa using hl), k, by simpa using hk, rfl⟩

/-- A running maximum started at `⊥` over reals is their largest. -/
theorem fold_max_coe {n : ℕ} (t : ℕ → ℝ) (a : ℝ) (ha : IsMax t n a) (f : Fin n → EReal) (hf : ∀ k : Fin n, f k = (t k : EReal)) :
    Finset.univ.fold max ⊥ f = (a : EReal) := by
  refine le_antisymm ?_ ?_
  · rw [Finset.fold_max_le]
    exact ⟨bot_le, fun k _ => by rw [hf]; exact_mod_cast ha.1 k k.isLt⟩
  · obtain ⟨k, hk, e⟩ := ha.2
    rw [Finset.le_fold_max]
    exact .inr ⟨⟨k, hk⟩, Finset.mem_univ _, by rw [hf, ← e]⟩

/-- The same for any commutative and associative operation that is the maximum. -/
theorem fold_op_coe {n : ℕ} (op : EReal → EReal → EReal) [Std.Commutative op] [Std.Associative op] (hop : op = max)
    (t : ℕ → ℝ) (a : ℝ) (ha : IsMax t n a) (e : EReal) (he : e = ⊥)
    (f : Fin n → EReal) (hf : ∀ k : Fin n, f k = (t k : EReal)) : Finset.univ.fold op e f = (a : EReal) := by
  subst hop he
  exact fold_max_coe t a ha f hf

/-- The pattern of minus infinity is `⊥`. -/
theorem ofBits_neg_inf : Ideal.ofBits FTy.f32 0xFF800000#32 = ⊥ := by
  simp [Ideal.ofBits, Ideal.ieee]

/-- The pattern of one eighth. -/
theorem ofBits_eighth : Ideal.ofBits FTy.f32 0x3E000000#32 = ((8⁻¹ : ℝ) : EReal) := by
  simp [Ideal.ofBits, Ideal.ieee]
  rw [← EReal.coe_mul]
  congr 1
  norm_num

/-- A power of two of `x / log 2` is `exp x`. -/
theorem two_rpow (x : ℝ) : (2 : ℝ) ^ (x * (Real.log 2)⁻¹) = Real.exp x := by
  have h : Real.log 2 ≠ 0 := (Real.log_pos (by norm_num)).ne'
  rw [Real.rpow_def_of_pos (by norm_num)]
  congr 1
  field_simp

/-- The sum of the powers is a positive real. -/
theorem sum_exp_pos (s : ℕ → ℝ) (n : ℕ) (hn : 0 < n) (b : ℝ) : 0 < ∑ k ∈ Finset.range n, Real.exp (s k - b) :=
  Finset.sum_pos (fun k _ => Real.exp_pos _) ⟨0, by simpa using hn⟩

/-- The quotient of an extended real by a positive real is the product by its inverse. -/
theorem div_coe (x : EReal) {c : ℝ} (hc : 0 < c) : Ideal.div x (c : EReal) = x * ((c⁻¹ : ℝ) : EReal) := by
  unfold Ideal.div
  rw [if_neg (by exact_mod_cast hc.ne'), EReal.coe_inv]

/-- THE LAW: the weighted sum over all the keys divided by the sum of the weights, the scores in units of `log 2` and
    relative to their largest, is the average of `w` under the softmax of the scores. -/
theorem softmax (w : ℕ → EReal) (s : ℕ → ℝ) (n : ℕ) (hn : 0 < n) (a b : ℝ)
    (ha : IsMax (fun k => s k * (Real.log 2)⁻¹) n a) (hb : IsMax s n b) :
    Ideal.div (acc w (fun k => s k * (Real.log 2)⁻¹) n a) (acc (fun _ => 1) (fun k => s k * (Real.log 2)⁻¹) n a)
      = ∑ k ∈ Finset.range n, w k * Ideal.div ((Real.exp (s k - b) : ℝ) : EReal)
          (∑ l ∈ Finset.range n, ((Real.exp (s l - b) : ℝ) : EReal)) := by
  have hl : 0 < (Real.log 2)⁻¹ := inv_pos.mpr (Real.log_pos (by norm_num))
  have hab : a = b * (Real.log 2)⁻¹ := by
    refine ha.unique ⟨fun k hk => mul_le_mul_of_nonneg_right (hb.1 k hk) hl.le, ?_⟩
    obtain ⟨k, hk, e⟩ := hb.2
    exact ⟨k, hk, by rw [← e]⟩
  have e1 : ∀ k, (2 : ℝ) ^ (s k * (Real.log 2)⁻¹ - a) = Real.exp (s k - b) := fun k => by
    rw [hab, ← sub_mul, two_rpow]
  unfold acc
  simp only [e1, one_mul]
  rw [← coe_sum]
  have hp := sum_exp_pos s n hn b
  rw [div_coe _ hp, sum_mul_coe _ _ _ (inv_pos.mpr hp).le]
  refine Finset.sum_congr rfl fun k _ => ?_
  rw [div_coe _ hp, mul_assoc]

end Cert.Attn

end
-- ==== Proof.Attn.Chain.lean ====
/- The attention body's block of results as one recursion over the sixteen blocks of keys: block `n`'s scores, the
   running maximum after it and the running sum after it. The printed payloads are these, block by block. -/
module

public import proofs.«01_k».proof.Proof.Gen.KernelIdeal.Skeleton
public import proofs.«01_k».proof.Proof.Gen.KernelIdeal.Frame
public import Idealize.ShloMosaic.Lib.Pointwise

@[expose] public section

set_option maxRecDepth 16384

noncomputable section

namespace Cert.KernelIdeal.Attn

open Cert.KernelIdeal Cert.KernelIdeal.Gen Idealize.ShloMosaic

/-- 256 rows of the 4096 keys from row `256 n` lie inside them. -/
theorem slK (n : ℕ) : S4096x64.Slices ![256 * (n % 16), 0] S256x64 :=
  ⟨rfl, fun a => by
    have h : n % 16 < 16 := Nat.mod_lt _ (by decide)
    match a with
    | ⟨0, _⟩ => show 256 * (n % 16) + 256 ≤ 4096; omega
    | ⟨1, _⟩ => show 0 + 64 ≤ 64; omega⟩

/-- 256 columns of the 4096 from column `256 n` lie inside them. -/
theorem slV (n : ℕ) : S80x4096.Slices ![0, 256 * (n % 16)] S80x256 :=
  ⟨rfl, fun a => by
    have h : n % 16 < 16 := Nat.mod_lt _ (by decide)
    match a with
    | ⟨0, _⟩ => show 0 + 80 ≤ 80; omega
    | ⟨1, _⟩ => show 256 * (n % 16) + 256 ≤ 4096; omega⟩

variable (k : FVec Ideal S4096x64 .bf16) (va : FVec Ideal S80x4096 .bf16) (q : FVec Ideal S64x4096 .bf16)

/-- The scores of block `n`'s 256 keys against the 4096 query columns. -/
def sc (n : ℕ) : FVec Ideal S256x4096 .f32 :=
  matmul dot_S256x64_S64x4096_S256x4096_1_0_0_1_n_n none (extractStridedSlice S256x64 ![256 * (n % 16), 0] k (slK n)) q
    (constant S256x4096 .f32 0x00000000#32)

/-- A block's largest score, column by column. -/
def bmax (s : FVec Ideal S256x4096 .f32) : FVec Ideal S1x4096 .f32 :=
  shapeCast S1x4096 (multiReduction .maximumf [0] S4096 s 0xFF800000#32 reduces_S256x4096_S4096 (.inl rfl) rfl)
    shapeCasts_S4096_S1x4096

/-- The running maximum after block `n`. -/
def mx : ℕ → FVec Ideal S1x4096 .f32
  | 0 => bmax (sc k q 0)
  | n + 1 => maximumf (mx n) (bmax (sc k q (n + 1)))

/-- A block's weights relative to the maximum `m`. -/
def wt (s : FVec Ideal S256x4096 .f32) (m : FVec Ideal S1x4096 .f32) : FVec Ideal S256x4096 .bf16 :=
  truncf .bf16 (exp2 (subf s (broadcastTo S256x4096 m broadcasts_S1x4096_S256x4096))) bitsLt_bf16_f32

/-- Block `n`'s own weighted sums. -/
def part (n : ℕ) (p : FVec Ideal S256x4096 .bf16) : FVec Ideal S80x4096 .f32 :=
  matmul dot_S80x256_S256x4096_S80x4096_1_0_0_1_n_n none (extractStridedSlice S80x256 ![0, 256 * (n % 16)] va (slV n)) p
    (constant S80x4096 .f32 0x00000000#32)

/-- The sums `a` relative to the maximum `m`, taken relative to `m'`, and a block's own sums added. -/
def resc (a : FVec Ideal S80x4096 .f32) (m m' : FVec Ideal S1x4096 .f32) (b : FVec Ideal S80x4096 .f32) : FVec Ideal S80x4096 .f32 :=
  addf (mulf a (broadcastTo S80x4096 (exp2 (subf m m')) broadcasts_S1x4096_S80x4096)) b

/-- The running sums after block `n`. -/
def ac : ℕ → FVec Ideal S80x4096 .f32
  | 0 => part va 0 (wt (sc k q 0) (mx k q 0))
  | n + 1 => resc (ac n) (mx k q n) (mx k q (n + 1)) (part va (n + 1) (wt (sc k q (n + 1)) (mx k q (n + 1))))

/-- The finished sums: each of the 64 rows divided by row 64. -/
def quo (a : FVec Ideal S80x4096 .f32) : FVec Ideal S64x4096 .f32 :=
  divf (extractStridedSlice S64x4096 ![0, 0] a slices_S80x4096_o0_0_S64x4096)
    (broadcastTo S64x4096 (extractStridedSlice S1x4096 ![64, 0] a slices_S80x4096_o64_0_S1x4096) broadcasts_S1x4096_S64x4096)

/-- The four heads' columns, each turned to rows of queries, side by side. -/
def outT (x : FVec Ideal S64x4096 .f32) : FVec Ideal S1024x256 .f32 :=
  concatenate S1024x256 1
    [⟨S1024x64, transpose S1024x64 [1, 0] (extractStridedSlice S64x1024 ![0, 0] x slices_S64x4096_o0_0_S64x1024) transposes_S64x1024_p1_0_S1024x64⟩,
     ⟨S1024x64, transpose S1024x64 [1, 0] (extractStridedSlice S64x1024 ![0, 1024] x slices_S64x4096_o0_1024_S64x1024) transposes_S64x1024_p1_0_S1024x64⟩,
     ⟨S1024x64, transpose S1024x64 [1, 0] (extractStridedSlice S64x1024 ![0, 2048] x slices_S64x4096_o0_2048_S64x1024) transposes_S64x1024_p1_0_S1024x64⟩,
     ⟨S1024x64, transpose S1024x64 [1, 0] (extractStridedSlice S64x1024 ![0, 3072] x slices_S64x4096_o0_3072_S64x1024) transposes_S64x1024_p1_0_S1024x64⟩]
    concatenates_S1024x64_S1024x64_S1024x64_S1024x64_S1024x256_d1

/-! The scores' payloads. -/
theorem s10 : k0_pay10 q (extractStridedSlice S256x64 ![512, 0] k slices_S4096x64_o512_0_S256x64) = sc k q 2 := rfl
theorem s12 : k0_pay12 k q = sc k q 3 := rfl
theorem s14 : k0_pay14 k q = sc k q 4 := rfl
theorem s17 : k0_pay17 k q = sc k q 5 := rfl
theorem s19 : k0_pay19 k q = sc k q 6 := rfl
theorem s21 : k0_pay21 k q = sc k q 7 := rfl
theorem s24 : k0_pay24 k q = sc k q 8 := rfl
theorem s26 : k0_pay26 k q = sc k q 9 := rfl
theorem s28 : k0_pay28 k q = sc k q 10 := rfl
theorem s31 : k0_pay31 k q = sc k q 11 := rfl
theorem s34 : k0_pay34 k q = sc k q 12 := rfl
theorem s36 : k0_pay36 k q = sc k q 13 := rfl
theorem s39 : k0_pay39 k q = sc k q 14 := rfl

/-! The running maxima's payloads. -/
theorem m11 : k0_pay11 (sc k q 1) (mx k q 0) = mx k q 1 := rfl
theorem m13 : k0_pay13 q (sc k q 1) (mx k q 0) (extractStridedSlice S256x64 ![512, 0] k slices_S4096x64_o512_0_S256x64) = mx k q 2 := by
  unfold k0_pay13; rw [s10, m11]; rfl
theorem m15 : k0_pay15 k q (sc k q 1) (mx k q 0) (extractStridedSlice S256x64 ![512, 0] k slices_S4096x64_o512_0_S256x64) = mx k q 3 := by
  unfold k0_pay15; rw [s12, m13]; rfl
theorem m18 : k0_pay18 (sc k q 4) (mx k q 3) = mx k q 4 := rfl
theorem m20 : k0_pay20 (sc k q 4) (mx k q 3) (sc k q 5) = mx k q 5 := by unfold k0_pay20; rw [m18]; rfl
theorem m22 : k0_pay22 k q (sc k q 4) (mx k q 3) (sc k q 5) = mx k q 6 := by unfold k0_pay22; rw [m20, s19]; rfl
theorem m25 : k0_pay25 k q (sc k q 4) (mx k q 3) (sc k q 5) = mx k q 7 := by unfold k0_pay25; rw [m22, s21]; rfl
theorem m27 : k0_pay27 (sc k q 8) (mx k q 7) = mx k q 8 := rfl
theorem m29 : k0_pay29 k q (sc k q 8) (mx k q 7) = mx k q 9 := by unfold k0_pay29; rw [m27, s26]; rfl
theorem m32 : k0_pay32 k q (sc k q 8) (mx k q 7) = mx k q 10 := by unfold k0_pay32; rw [m29, s28]; rfl
theorem m35 : k0_pay35 (sc k q 11) (mx k q 10) = mx k q 11 := rfl
theorem m37 : k0_pay37 k q (sc k q 11) (mx k q 10) = mx k q 12 := by unfold k0_pay37; rw [m35, s34]; rfl
theorem m40 : k0_pay40 k q (sc k q 11) (mx k q 10) = mx k q 13 := by unfold k0_pay40; rw [m37, s36]; rfl

/-! The running sums' payloads. -/
theorem a16 : k0_pay16 k va q (sc k q 1) (mx k q 0) (ac k va q 0) (extractStridedSlice S256x64 ![512, 0] k slices_S4096x64_o512_0_S256x64) = ac k va q 3 := by
  unfold k0_pay16; rw [m11, m13, m15, s10, s12]; rfl
theorem a23 : k0_pay23 k va q (sc k q 4) (mx k q 3) (ac k va q 3) (sc k q 5) = ac k va q 6 := by
  unfold k0_pay23; rw [m18, m20, m22, s19]; rfl
theorem a30 : k0_pay30 k va q (sc k q 7) (mx k q 6) (ac k va q 6) (sc k q 8) (mx k q 7) = ac k va q 9 := by
  unfold k0_pay30; rw [m27, m29, s26]; rfl
theorem a38 : k0_pay38 k va q (mx k q 9) (ac k va q 9) (sc k q 11) (mx k q 10) (k0_pay33 k q (sc k q 8) (mx k q 7)) = ac k va q 12 := by
  unfold k0_pay38 k0_pay33; rw [m32, m35, m37, s34, s28]; rfl
theorem a43 : k0_pay43 k va q (mx k q 12) (ac k va q 12) (sc k q 14) (mx k q 13) (k0_pay41 k q (sc k q 11) (mx k q 10))
    (k0_pay42 va) (constant S80x4096 .f32 0x00000000#32) = outT (quo (ac k va q 15)) := by
  unfold k0_pay43 k0_pay41; rw [m40, s36]; rfl

/-- What the body stores, from the blocks it loads. -/
theorem out_eq (x0 : Vec Ideal S1x256x1024 .bf16) (x1 : Vec Ideal S1x1x4096x64 .bf16) (x2 : Vec Ideal S1x64x4096 .bf16) (x3 : Vec Ideal S1x1024x256 .bf16) :
    out0_4 x0 x1 x2 x3
      = View.canon [⟨r0_6, k0_pay1 (outT (quo (ac (k0_pay2 (View.ld x1 r0_0)) (k0_pay3 (View.ld x2 r0_1))
          (k0_pay4 (View.ld x0 r0_2) (View.ld x0 r0_3) (View.ld x0 r0_4) (View.ld x0 r0_5)) 15))) (k0_pay44 (View.ld x3 r0_6))⟩] := by
  unfold_out out0_4
  generalize k0_pay44 (View.ld x3 r0_6) = g
  have e7 : k0_pay7 (View.ld x1 r0_0) (View.ld x0 r0_2) (View.ld x0 r0_3) (View.ld x0 r0_4) (View.ld x0 r0_5)
      = mx (k0_pay2 (View.ld x1 r0_0)) (k0_pay4 (View.ld x0 r0_2) (View.ld x0 r0_3) (View.ld x0 r0_4) (View.ld x0 r0_5)) 0 := rfl
  have e6 : k0_pay6 (View.ld x1 r0_0) (View.ld x0 r0_2) (View.ld x0 r0_3) (View.ld x0 r0_4) (View.ld x0 r0_5)
      = sc (k0_pay2 (View.ld x1 r0_0)) (k0_pay4 (View.ld x0 r0_2) (View.ld x0 r0_3) (View.ld x0 r0_4) (View.ld x0 r0_5)) 1 := rfl
  have e8 : k0_pay8 (View.ld x1 r0_0) (View.ld x2 r0_1) (View.ld x0 r0_2) (View.ld x0 r0_3) (View.ld x0 r0_4) (View.ld x0 r0_5)
      = ac (k0_pay2 (View.ld x1 r0_0)) (k0_pay3 (View.ld x2 r0_1)) (k0_pay4 (View.ld x0 r0_2) (View.ld x0 r0_3) (View.ld x0 r0_4) (View.ld x0 r0_5)) 0 := rfl
  have e9 : k0_pay9 (View.ld x1 r0_0)
      = extractStridedSlice S256x64 ![512, 0] (k0_pay2 (View.ld x1 r0_0)) slices_S4096x64_o512_0_S256x64 := rfl
  rw [e6, e7, e8, e9]
  generalize k0_pay2 (View.ld x1 r0_0) = k
  generalize k0_pay3 (View.ld x2 r0_1) = va
  generalize k0_pay4 (View.ld x0 r0_2) (View.ld x0 r0_3) (View.ld x0 r0_4) (View.ld x0 r0_5) = q
  rw [m15, a16, s14, s17, m22, m25, a23, s21, s24, m29, m32, s31, a30, m37, m40, s39, a38, a43]

end Cert.KernelIdeal.Attn

end
-- ==== Proof.Attn.Block.lean ====
/- The attention body's block of results at one index: the softmax average of the values, times the gate. -/
module

public import proofs.«01_k».proof.Proof.Attn.Math
public import proofs.«01_k».proof.Proof.Attn.Chain

@[expose] public section

set_option maxRecDepth 16384

noncomputable section

namespace Cert.KernelIdeal.Attn

open Cert.KernelIdeal Cert.KernelIdeal.Gen Cert.Attn Idealize.ShloMosaic

variable (k : FVec Ideal S4096x64 .bf16) (va : FVec Ideal S80x4096 .bf16) (q : FVec Ideal S64x4096 .bf16)

/-- A block's score is a dot product of a key with a query column. -/
theorem sc_apply (n : ℕ) (hn : n < 16) (x : Fin 256) (c : Fin 4096) :
    sc k q n (ix2 x c) = ∑ d : Fin 64, k (ix2 ⟨256 * n + x, by omega⟩ d) * q (ix2 d c) := by
  pointwise [sc]
  simp only [Nat.mod_eq_of_lt hn]

/-- A row of maxima laid out as a one-row array. -/
theorem row_apply (z : FVec Ideal S4096 .f32) (c : Fin 4096) :
    (shapeCast S1x4096 z shapeCasts_S4096_S1x4096 : FVec Ideal S1x4096 .f32) (ix2 0 c) = z (ix1 c) := by
  pointwise

/-- A block's maxima, read at a column. -/
theorem bmax_eq (s : FVec Ideal S256x4096 .f32) (c : Fin 4096) :
    bmax s (ix2 0 c)
      = multiReduction .maximumf [0] S4096 s 0xFF800000#32 reduces_S256x4096_S4096 (.inl rfl) rfl (ix1 c) :=
  row_apply _ c

/-- A block's maximum over its 256 rows, where a column's scores are the reals `t`. -/
theorem bmax_apply (s : FVec Ideal S256x4096 .f32) (c : Fin 4096) (t : ℕ → ℝ) (a : ℝ) (ha : IsMax t 256 a)
    (hs : ∀ x : Fin 256, s (ix2 x c) = (t x : EReal)) : bmax s (ix2 0 c) = (a : EReal) := by
  exact (bmax_eq s c).trans ((multiReduction_maximumf_eq_fold s _ _ _ _ _).trans
    ((Shape.Reduces.fold_fiber_r2_a0 _ _ _ _ _).trans (fold_op_coe _ rfl t a ha _ ofBits_neg_inf _ fun x => hs x)))

/-- A weight: two to the power of the score less the maximum. -/
theorem wt_apply (s : FVec Ideal S256x4096 .f32) (m : FVec Ideal S1x4096 .f32) (x : Fin 256) (c : Fin 4096) :
    wt s m (ix2 x c) = Ideal.exp2 (s (ix2 x c) - m (ix2 0 c)) := by
  pointwise [wt]
  rfl

/-- A block's own sums. -/
theorem part_apply (n : ℕ) (hn : n < 16) (p : FVec Ideal S256x4096 .bf16) (e : Fin 80) (c : Fin 4096) :
    part va n p (ix2 e c) = ∑ x : Fin 256, va (ix2 e ⟨256 * n + x, by omega⟩) * p (ix2 x c) := by
  pointwise [part]
  simp only [Nat.mod_eq_of_lt hn]

/-- The sums rescaled and a block's own added. -/
theorem resc_apply (a : FVec Ideal S80x4096 .f32) (m m' : FVec Ideal S1x4096 .f32) (b : FVec Ideal S80x4096 .f32) (e : Fin 80)
    (c : Fin 4096) :
    resc a m m' b (ix2 e c) = a (ix2 e c) * Ideal.exp2 (m (ix2 0 c) - m' (ix2 0 c)) + b (ix2 e c) := by
  pointwise [resc]
  rfl

/-- Two to the power of a difference of reals. -/
theorem exp2_sub (a b : ℝ) : Ideal.exp2 ((a : EReal) - (b : EReal)) = (((2 : ℝ) ^ (a - b) : ℝ) : EReal) := by
  rw [← EReal.coe_sub, Ideal.exp2_coe]; rfl

variable {k va q}

/-- THE INVARIANT: after block `n`, in a column whose scores are the reals `t`, the running maximum is the largest score
    so far and each running sum is the weighted sum of its row's values so far, relative to that maximum. -/
theorem inv (c : Fin 4096) (t : ℕ → ℝ) (w : Fin 80 → ℕ → EReal)
    (ht : ∀ x : Fin 4096, ∑ d : Fin 64, k (ix2 x d) * q (ix2 d c) = (t x : EReal))
    (hw : ∀ e (x : Fin 4096), va (ix2 e x) = w e x) :
    ∀ n < 16, ∃ μ : ℝ, mx k q n (ix2 0 c) = (μ : EReal) ∧ IsMax t (256 * n + 256) μ
      ∧ ∀ e, ac k va q n (ix2 e c) = acc (w e) t (256 * n + 256) μ := by
  have hs : ∀ n < 16, ∀ x : Fin 256, sc k q n (ix2 x c) = (t (256 * n + x) : EReal) := fun n hn x => by
    rw [sc_apply k q n hn]; exact ht ⟨256 * n + x, by omega⟩
  have hb : ∀ n < 16, ∀ β, IsMax (fun x => t (256 * n + x)) 256 β → bmax (sc k q n) (ix2 0 c) = (β : EReal) :=
    fun n hn β hβ => bmax_apply _ c _ β hβ fun x => hs n hn x
  have hp : ∀ n < 16, ∀ (m : FVec Ideal S1x4096 .f32) (μ : ℝ), m (ix2 0 c) = (μ : EReal) → ∀ e,
      part va n (wt (sc k q n) m) (ix2 e c)
        = ∑ x : Fin 256, w e (256 * n + x) * (((2 : ℝ) ^ (t (256 * n + x) - μ) : ℝ) : EReal) := fun n hn m μ hm e => by
    rw [part_apply va n hn]
    refine Finset.sum_congr rfl fun x _ => ?_
    rw [wt_apply, hs n hn, hm, exp2_sub, hw]
  intro n
  induction n with
  | zero =>
    intro hn
    obtain ⟨β, hβ⟩ := exists_isMax t 256 (by omega)
    have h0 : mx k q 0 (ix2 0 c) = (β : EReal) := hb 0 hn β (by simpa using hβ)
    refine ⟨β, h0, by simpa using hβ, fun e => ?_⟩
    refine (hp 0 hn _ β h0 e).trans ?_
    simpa using acc_zero (w e) t β
  | succ n ih =>
    intro hn
    obtain ⟨μ, hm, hμ, ha⟩ := ih (by omega)
    obtain ⟨β, hβ⟩ := exists_isMax (fun x => t (256 * (n + 1) + x)) 256 (by omega)
    have hm' : mx k q (n + 1) (ix2 0 c) = ((max μ β : ℝ) : EReal) := by
      show max (mx k q n (ix2 0 c)) (bmax (sc k q (n + 1)) (ix2 0 c)) = _
      rw [hm, hb _ hn β hβ]
      exact (EReal.coe_strictMono.monotone.map_max).symm
    refine ⟨max μ β, hm', hμ.step hβ, fun e => ?_⟩
    show resc _ _ _ _ (ix2 e c) = _
    rw [resc_apply, ha, hm, hm', exp2_sub, hp _ hn _ _ hm']
    exact acc_step (w e) t (256 * n + 256) μ (max μ β)

/-- The quotient at one row and column: the average of the row's values under the softmax of the scores `s`, where row 64
    of the values is all ones and the column's dot products are the scores in units of `log 2`. -/
theorem quo_apply (c : Fin 4096) (s : ℕ → ℝ) (b : ℝ) (hb : IsMax s 4096 b) (w : Fin 80 → ℕ → EReal)
    (hs : ∀ x : Fin 4096, ∑ d : Fin 64, k (ix2 x d) * q (ix2 d c) = ((s x * (Real.log 2)⁻¹ : ℝ) : EReal))
    (hw : ∀ e (x : Fin 4096), va (ix2 e x) = w e x) (h1 : w 64 = fun _ => 1) (e : Fin 64) :
    quo (ac k va q 15) (ix2 e c)
      = ∑ x : Fin 4096, w ⟨e, by omega⟩ x * Ideal.div ((Real.exp (s x - b) : ℝ) : EReal)
          (∑ l : Fin 4096, ((Real.exp (s l - b) : ℝ) : EReal)) := by
  obtain ⟨μ, -, hμ, ha⟩ := inv (k := k) (va := va) (q := q) c (fun x => s x * (Real.log 2)⁻¹) w hs hw 15 (by omega)
  have e0 : quo (ac k va q 15) (ix2 e c)
      = Ideal.div (ac k va q 15 (ix2 ⟨e, by omega⟩ c)) (ac k va q 15 (ix2 64 c)) := by pointwise [quo]
  rw [e0, ha, ha, h1]
  have := softmax (w ⟨e, by omega⟩) s 4096 (by omega) μ b hμ hb
  rw [Finset.sum_range, Finset.sum_range] at this
  exact this

theorem hz3 : (![0, 0, 0] : Fin 3 → Nat) = fun _ => 0 := funext fun a => by fin_cases a <;> rfl

/-- The block stored by the body at query `i` and column `f` of its 256: head `f / 64`, feature `f % 64`. -/
theorem out_apply (x0 : Vec Ideal S1x256x1024 .bf16) (x1 : Vec Ideal S1x1x4096x64 .bf16) (x2 : Vec Ideal S1x64x4096 .bf16)
    (x3 : Vec Ideal S1x1024x256 .bf16) (i : Fin 1024) (f : Fin 256) (s : ℕ → ℝ) (b : ℝ) (hb : IsMax s 4096 b)
    (hs : ∀ x : Fin 4096, ∑ d : Fin 64, x1 (ix4 0 0 x d) * (x0 (ix3 0 ⟨f / 64 * 64 + d, by omega⟩ i) * (((Real.log 2)⁻¹ * 8⁻¹ : ℝ) : EReal))
      = ((s x * (Real.log 2)⁻¹ : ℝ) : EReal)) :
    out0_4 x0 x1 x2 x3 (ix3 0 i f)
      = (∑ x : Fin 4096, x2 (ix3 0 ⟨f % 64, by omega⟩ x) * Ideal.div ((Real.exp (s x - b) : ℝ) : EReal)
          (∑ l : Fin 4096, ((Real.exp (s l - b) : ℝ) : EReal))) * x3 (ix3 0 i f) := by
  rw [out_eq, View.canon_unit_zero hz3]
  have e0 : ∀ X : FVec Ideal S1024x256 .f32, k0_pay1 X (k0_pay44 (View.ld x3 r0_6)) (ix3 0 i f) = X (ix2 i f) * x3 (ix3 0 i f) := by
    intro X
    pointwise [k0_pay1, k0_pay44]
  rw [e0]
  congr 1
  have e1 : ∀ X : FVec Ideal S64x4096 .f32, outT X (ix2 i f) = X (ix2 ⟨f % 64, by omega⟩ ⟨f / 64 * 1024 + i, by omega⟩) := by
    intro X
    pointwise [outT]
    have h0 : f.val < 256 := f.isLt
    split_ifs with h1 h2 h3 <;>
      exact congrArg X (congrArg₂ ix2 (Fin.ext (by simp only; omega)) (Fin.ext (by simp only; omega)))
  rw [e1]
  refine (quo_apply (w := fun e x => if h : e.val < 64 then if h' : x < 4096 then x2 (ix3 0 ⟨e, h⟩ ⟨x, h'⟩) else 1 else 1)
    _ s b hb ?_ ?_ ?_ _).trans ?_
  · intro x
    rw [← hs x]
    refine Finset.sum_congr rfl fun d _ => ?_
    have e2 : k0_pay2 (View.ld x1 r0_0) (ix2 x d) = x1 (ix4 0 0 x d) := by pointwise [k0_pay2]
    rw [e2]
    congr 1
    pointwise [k0_pay4]
    have hd : d.val < 64 := d.isLt
    have hi : i.val < 1024 := i.isLt
    have hf : f.val < 256 := f.isLt
    congr 1
    split_ifs with h1 h2 h3 <;>
      exact congrArg x0 (congrArg₂ (ix3 0) (Fin.ext (by simp only; omega)) (Fin.ext (by simp only; omega)))
  · intro e x
    pointwise [k0_pay3]
  · funext x
    rfl
  · refine Finset.sum_congr rfl fun x _ => ?_
    congr 1
    have h : f.val % 64 < 64 := Nat.mod_lt _ (by decide)
    simp only [x.isLt, h, dite_true]

end Cert.KernelIdeal.Attn

end
-- ==== Proof.Attn.Ref.lean ====
/- The reference's attention at one index: the softmax average of the values, times the gate. -/
module

public import proofs.«01_k».proof.Proof.Attn.Math
public import proofs.«01_k».proof.Proof.Gen.ReferenceIdeal.Run
public import Idealize.ShloMosaic.Lib.Pointwise

@[expose] public section

set_option maxRecDepth 16384

noncomputable section

namespace Cert.ReferenceIdeal.Attn

open Cert.ReferenceIdeal Cert.ReferenceIdeal.Gen Cert.Attn Idealize.ShloMosaic Idealize.ShloMosaic.TcCoe Idealize.SL.Sem

variable (q : FVec Ideal S16x4096x16x64 .f32) (k v : FVec Ideal S16x4096x4x64 .f32) (g : FVec Ideal S16x4096x1024 .f32)

/-- The scores. -/
def rsc : FVec Ideal S16x4x4x4096x4096 .f32 :=
  transpose S16x4x4x4096x4096 [0, 1, 4, 3, 2] (Host.dotGeneral dot_S16x4096x4x64_S16x4096x4x4x64_S16x4x4096x4096x4_3_4_1_13_02_02 none k (shapeCast S16x4096x4x4x64 (mulf q (broadcastInDim S16x4096x16x64 ![] bcast_S_S16x4096x16x64 (constant S_ .f32 0x3E000000#32))) shapeCasts_S16x4096x16x64_S16x4096x4x4x64)) transposes_S16x4x4096x4096x4_S16x4x4x4096x4096_0_1_4_3_2

/-- The greater of minus infinity and each of an array's elements. -/
def rtop (x : FVec Ideal S16x4x4x4096 .f32) : FVec Ideal S16x4x4x4096 .f32 :=
  maximumf (broadcastInDim S16x4x4x4096 ![] bcast_S_S16x4x4x4096 (constant S_ .f32 0xFF800000#32)) x

/-- The largest score of each row. -/
def rred (s : FVec Ideal S16x4x4x4096x4096 .f32) : FVec Ideal S16x4x4x4096 .f32 :=
  Host.reduce FloatOps.maximumf s (constant S_ .f32 0xFF800000#32) reducesTo_S16x4x4x4096x4096_S16x4x4x4096_d4 h_S_

/-- The row maxima. -/
def rmx (s : FVec Ideal S16x4x4x4096x4096 .f32) : FVec Ideal S16x4x4x4096 .f32 := rtop (rred s)

/-- A row value at each of the row's elements. -/
def rrow (x : FVec Ideal S16x4x4x4096 .f32) : FVec Ideal S16x4x4x4096x4096 .f32 :=
  broadcastInDim S16x4x4x4096x4096 ![0, 1, 2, 3, 4] bcast_S16x4x4x4096x1_S16x4x4x4096x4096_0_1_2_3_4 (broadcastInDim S16x4x4x4096x1 ![0, 1, 2, 3] bcast_S16x4x4x4096_S16x4x4x4096x1_0_1_2_3 x)

/-- The exponentials. -/
def rex (s : FVec Ideal S16x4x4x4096x4096 .f32) : FVec Ideal S16x4x4x4096x4096 .f32 := Host.exp (subf s (rrow (rmx s)))

/-- The row sums. -/
def rsum (e : FVec Ideal S16x4x4x4096x4096 .f32) : FVec Ideal S16x4x4x4096 .f32 :=
  Host.reduceAdd e (constant S_ .f32 0x00000000#32) reducesTo_S16x4x4x4096x4096_S16x4x4x4096_d4 h_S_

/-- The softmax. -/
def rsm (e : FVec Ideal S16x4x4x4096x4096 .f32) : FVec Ideal S16x4x4x4096x4096 .f32 :=
  Host.divf e (rrow (rsum e))

/-- The averages, gated. -/
def rout (p : FVec Ideal S16x4x4x4096x4096 .f32) : FVec Ideal S16x4096x1024 .bf16 :=
  truncf .bf16 (mulf (shapeCast S16x4096x1024 (transpose S16x4096x4x4x64 [0, 4, 1, 3, 2] (Host.dotGeneral dot_S16x4096x4x64_S16x4x4x4096x4096_S16x4x64x4x4096_1_4_3_23_02_01 none v p) transposes_S16x4x64x4x4096_S16x4096x4x4x64_0_4_1_3_2) shapeCasts_S16x4096x4x4x64_S16x4096x1024) g) bitsLt_bf16_f32

/-- The reference's result, of its four arguments. -/
def result : FVec Ideal S16x4096x1024 .bf16 := rout v g (rsm (rex (rsc q k)))

/-- A score: the dot product of the key with the scaled query. -/
theorem rsc_apply (b : Fin 16) (h r : Fin 4) (i x : Fin 4096) :
    rsc q k (ix5 b h r i x)
      = ∑ d : Fin 64, k (ix4 b x h d) * (q (ix4 b i ⟨h * 4 + r, by omega⟩ d) * ((8⁻¹ : ℝ) : EReal)) := by
  pointwise [rsc]
  simp only [ofBits_eighth]

/-- A row value at an element of the row. -/
theorem rrow_apply (s : FVec Ideal S16x4x4x4096 .f32) (b : Fin 16) (h r : Fin 4) (i x : Fin 4096) :
    rrow s (ix5 b h r i x) = s (ix4 b h r i) := by
  pointwise [rrow]

/-- The greater of minus infinity and an element is the element. -/
theorem rtop_apply (x : FVec Ideal S16x4x4x4096 .f32) (b : Fin 16) (h r : Fin 4) (i : Fin 4096) :
    rtop x (ix4 b h r i) = x (ix4 b h r i) := by
  pointwise [rtop]
  simp only [ofBits_neg_inf]
  exact bot_sup_eq _

/-- A row's maximum, where its scores are the reals `t`. -/
theorem rmx_apply (s : FVec Ideal S16x4x4x4096x4096 .f32) (b : Fin 16) (h r : Fin 4) (i : Fin 4096) (t : ℕ → ℝ) (a : ℝ)
    (ha : IsMax t 4096 a) (hs : ∀ x : Fin 4096, s (ix5 b h r i x) = (t x : EReal)) : rmx s (ix4 b h r i) = (a : EReal) :=
  (rtop_apply (rred s) b h r i).trans ((Host.reduce_eq_fold _ s _ _ _ _).trans
    ((Shape.ReducesTo.fold_fiber_r5_a4 _ _ _ _ _).trans (fold_op_coe _ rfl t a ha _ ofBits_neg_inf _ fun x => hs x)))

/-- The exponential of a difference. -/
theorem rexp_apply (s z : FVec Ideal S16x4x4x4096x4096 .f32) (b : Fin 16) (h r : Fin 4) (i x : Fin 4096) :
    (Host.exp (subf s z) : FVec Ideal S16x4x4x4096x4096 .f32) (ix5 b h r i x) = Ideal.exp (s (ix5 b h r i x) - z (ix5 b h r i x)) := by
  pointwise

/-- An exponential. -/
theorem rex_apply (s : FVec Ideal S16x4x4x4096x4096 .f32) (b : Fin 16) (h r : Fin 4) (i x : Fin 4096) (t : ℕ → ℝ) (a : ℝ)
    (ha : IsMax t 4096 a) (hs : ∀ x : Fin 4096, s (ix5 b h r i x) = (t x : EReal)) :
    rex s (ix5 b h r i x) = ((Real.exp (t x - a) : ℝ) : EReal) := by
  refine (rexp_apply s (rrow (rmx s)) b h r i x).trans ?_
  rw [rrow_apply, rmx_apply s b h r i t a ha hs, hs, ← EReal.coe_sub, Ideal.exp_coe]

/-- A quotient. -/
theorem rdiv_apply (s z : FVec Ideal S16x4x4x4096x4096 .f32) (b : Fin 16) (h r : Fin 4) (i x : Fin 4096) :
    (Host.divf s z : FVec Ideal S16x4x4x4096x4096 .f32) (ix5 b h r i x) = Ideal.div (s (ix5 b h r i x)) (z (ix5 b h r i x)) := by
  pointwise

/-- A row's sum. -/
theorem rsum_apply (e : FVec Ideal S16x4x4x4096x4096 .f32) (b : Fin 16) (h r : Fin 4) (i : Fin 4096) :
    rsum e (ix4 b h r i) = ∑ l : Fin 4096, e (ix5 b h r i l) := by
  pointwise [rsum]

/-- A softmax weight: an element over the sum of its row. -/
theorem rsm_apply (e : FVec Ideal S16x4x4x4096x4096 .f32) (b : Fin 16) (h r : Fin 4) (i x : Fin 4096) :
    rsm e (ix5 b h r i x) = Ideal.div (e (ix5 b h r i x)) (∑ l : Fin 4096, e (ix5 b h r i l)) := by
  refine (rdiv_apply e (rrow (rsum e)) b h r i x).trans ?_
  rw [rrow_apply, rsum_apply]

/-- A gated average. -/
theorem rout_apply (p : FVec Ideal S16x4x4x4096x4096 .f32) (b : Fin 16) (i : Fin 4096) (f : Fin 1024) :
    rout v g p (ix3 b i f)
      = (∑ x : Fin 4096, v (ix4 b x ⟨f / 256, by omega⟩ ⟨f % 64, by omega⟩)
          * p (ix5 b ⟨f / 256, by omega⟩ ⟨f / 64 % 4, by omega⟩ i x)) * g (ix3 b i f) := by
  pointwise [rout]

/-- THE REFERENCE at batch `b`, query `i`, column `f` — group `f / 256`, head `f / 64 % 4` of it, feature `f % 64` —,
    where the row's scores are the reals `s`. -/
theorem result_apply (b : Fin 16) (i : Fin 4096) (f : Fin 1024) (s : ℕ → ℝ) (a : ℝ) (ha : IsMax s 4096 a)
    (hs : ∀ x : Fin 4096, ∑ d : Fin 64, k (ix4 b x ⟨f / 256, by omega⟩ d)
        * (q (ix4 b i ⟨f / 64, by omega⟩ d) * ((8⁻¹ : ℝ) : EReal)) = (s x : EReal)) :
    result q k v g (ix3 b i f)
      = (∑ x : Fin 4096, v (ix4 b x ⟨f / 256, by omega⟩ ⟨f % 64, by omega⟩) * Ideal.div ((Real.exp (s x - a) : ℝ) : EReal)
          (∑ l : Fin 4096, ((Real.exp (s l - a) : ℝ) : EReal))) * g (ix3 b i f) := by
  have hs' : ∀ x : Fin 4096, rsc q k (ix5 b ⟨f / 256, by omega⟩ ⟨f / 64 % 4, by omega⟩ i x) = (s x : EReal) := fun x => by
    rw [rsc_apply, ← hs x]
    have e : (⟨f / 256 * 4 + f / 64 % 4, by omega⟩ : Fin 16) = ⟨f / 64, by omega⟩ := Fin.ext (by simp only; omega)
    refine Finset.sum_congr rfl fun d _ => ?_
    rw [e]
  refine (rout_apply v g _ b i f).trans (congrArg (· * g (ix3 b i f)) (Finset.sum_congr rfl fun x _ => ?_))
  refine congrArg (v (ix4 b x ⟨f / 256, by omega⟩ ⟨f % 64, by omega⟩) * ·) ((rsm_apply _ _ _ _ _ _).trans ?_)
  exact congrArg₂ Ideal.div (rex_apply _ _ _ _ _ _ s a ha hs')
    (Finset.sum_congr rfl fun l _ => rex_apply _ _ _ _ _ _ s a ha hs')

/-- The reference's run: its result array ends at `result` of its arguments, which end unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) = result (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Value.run m ρ

end Cert.ReferenceIdeal.Attn

end
-- ==== Proof.Attn.Launch.lean ====
/- The attention's launch: the arrays its host operations prepare, each window's block read at an index of the arguments,
   and the result array assembled from the blocks the grid's points write back. -/
module

public import proofs.«01_k».proof.Proof.Attn.Block
public import proofs.«01_k».proof.Proof.Attn.Ref
public import proofs.«01_k».proof.Proof.Gen.KernelIdeal.Value
public import Idealize.ShloMosaic.Lib.Pipeline.Value

@[expose] public section

set_option maxRecDepth 16384

noncomputable section

namespace Cert.KernelIdeal.Attn

open Cert.KernelIdeal Cert.KernelIdeal.Gen Cert.Attn Idealize.ShloMosaic Idealize.ShloMosaic.TcCoe Idealize.SL.Sem
open Idealize.ShloMosaic.Pipeline (Dat)

variable (m : (ℓ : Loc nD τ sig) → Buf (Elt Ideal) ℓ)

/-- The argument arrays: queries, keys, values, gate. -/
abbrev aq (c : Dev nD) : FVec Ideal S16x4096x16x64 .f32 := m ((c : Thread nD τ).loc main_arg0)
abbrev ak (c : Dev nD) : FVec Ideal S16x4096x4x64 .f32 := m ((c : Thread nD τ).loc main_arg1)
abbrev av (c : Dev nD) : FVec Ideal S16x4096x4x64 .f32 := m ((c : Thread nD τ).loc main_arg2)
abbrev ag (c : Dev nD) : FVec Ideal S16x4096x1024 .f32 := m ((c : Thread nD τ).loc main_arg3)

/-! ## The prepared arrays -/

/-- The queries, tokens last. -/
theorem V_q (c : Dev nD) : @Eq (FVec Ideal S16x1024x4096 .bf16) (V m c main_v2)
    (truncf .bf16 (transpose S16x1024x4096 [0, 2, 1] (shapeCast S16x4096x1024 (aq m c) shapeCasts_S16x4096x16x64_S16x4096x1024) transposes_S16x4096x1024_S16x1024x4096_0_2_1) bitsLt_bf16_f32) := by
  refine (show V m c main_v2 = StableHlo.after hostOps0 (fun b => m (c, b)) main_v2 from rfl).trans ?_
  unfold hostOps0
  after_results <;> rfl

/-- The keys, head by head. -/
theorem V_k (c : Dev nD) : @Eq (FVec Ideal S16x4x4096x64 .bf16) (V m c main_v4)
    (truncf .bf16 (transpose S16x4x4096x64 [0, 2, 1, 3] (ak m c) transposes_S16x4096x4x64_S16x4x4096x64_0_2_1_3) bitsLt_bf16_f32) := by
  refine (show V m c main_v4 = StableHlo.after hostOps0 (fun b => m (c, b)) main_v4 from rfl).trans ?_
  unfold hostOps0
  after_results <;> rfl

/-- The values, tokens last. -/
theorem V_v (c : Dev nD) : @Eq (FVec Ideal S16x256x4096 .bf16) (V m c main_v7)
    (truncf .bf16 (transpose S16x256x4096 [0, 2, 1] (shapeCast S16x4096x256 (av m c) shapeCasts_S16x4096x4x64_S16x4096x256) transposes_S16x4096x256_S16x256x4096_0_2_1) bitsLt_bf16_f32) := by
  refine (show V m c main_v7 = StableHlo.after hostOps0 (fun b => m (c, b)) main_v7 from rfl).trans ?_
  unfold hostOps0
  after_results <;> rfl

/-- The gate. -/
theorem V_g (c : Dev nD) : @Eq (FVec Ideal S16x4096x1024 .bf16) (V m c main_v8)
    (truncf .bf16 (ag m c) bitsLt_bf16_f32) := by
  refine (show V m c main_v8 = StableHlo.after hostOps0 (fun b => m (c, b)) main_v8 from rfl).trans ?_
  unfold hostOps0
  after_results <;> rfl

/-- A query entry: feature row `e` of the 1024 is head `e / 64`, feature `e % 64`. -/
theorem V_q_apply (c : Dev nD) (b : Fin 16) (e : Fin 1024) (i : Fin 4096) :
    (V m c main_v2 : FVec Ideal S16x1024x4096 .bf16) (ix3 b e i)
      = aq m c (ix4 b i ⟨e / 64, by omega⟩ ⟨e % 64, by omega⟩) := by
  rw [V_q]; pointwise

/-- A key entry. -/
theorem V_k_apply (c : Dev nD) (b : Fin 16) (h : Fin 4) (x : Fin 4096) (d : Fin 64) :
    (V m c main_v4 : FVec Ideal S16x4x4096x64 .bf16) (ix4 b h x d)
      = ak m c (ix4 b x h d) := by
  rw [V_k]; pointwise

/-- A value entry. -/
theorem V_v_apply (c : Dev nD) (b : Fin 16) (e : Fin 256) (x : Fin 4096) :
    (V m c main_v7 : FVec Ideal S16x256x4096 .bf16) (ix3 b e x)
      = av m c (ix4 b x ⟨e / 64, by omega⟩ ⟨e % 64, by omega⟩) := by
  rw [V_v]; pointwise

/-- A gate entry. -/
theorem V_g_apply (c : Dev nD) (b : Fin 16) (i : Fin 4096) (f : Fin 1024) :
    (V m c main_v8 : FVec Ideal S16x4096x1024 .bf16) (ix3 b i f)
      = ag m c (ix3 b i f) := by
  rw [V_g]; pointwise

/-! ## The blocks: point `t` is batch `t / 16`, group `t / 4 % 4`, query tile `t % 4` -/

theorem ix_0 : ∀ t : Fin grid0.N, win0_0.index t 0 = t.val / 16 ∧ win0_0.index t 1 = t.val / 4 % 4 ∧ win0_0.index t 2 = t.val % 4 := by decide +kernel
theorem ix_1 : ∀ t : Fin grid0.N, win0_1.index t 0 = t.val / 16 ∧ win0_1.index t 1 = t.val / 4 % 4 ∧ win0_1.index t 2 = 0 ∧ win0_1.index t 3 = 0 := by decide +kernel
theorem ix_2 : ∀ t : Fin grid0.N, win0_2.index t 0 = t.val / 16 ∧ win0_2.index t 1 = t.val / 4 % 4 ∧ win0_2.index t 2 = 0 := by decide +kernel
theorem ix_3 : ∀ t : Fin grid0.N, win0_3.index t 0 = t.val / 16 ∧ win0_3.index t 1 = t.val % 4 ∧ win0_3.index t 2 = t.val / 4 % 4 := by decide +kernel
theorem ix_4 : ∀ t : Fin grid0.N, win0_4.index t 0 = t.val / 16 ∧ win0_4.index t 1 = t.val % 4 ∧ win0_4.index t 2 = t.val / 4 % 4 := by decide +kernel

theorem t_lt (t : Fin cfg0.N) : t.val < 256 := by have := t.isLt; have : cfg0.N = 256 := N_0; omega

/-- The query block at an index. -/
theorem blk_0 (c : Dev nD) (t : Fin cfg0.N) (e : Fin 256) (i : Fin 1024) :
    (iblk m c 0 t : Vec Ideal S1x256x1024 .bf16) (ix3 0 e i)
      = (V m c main_v2 : FVec Ideal S16x1024x4096 .bf16) (ix3 ⟨t.val / 16, by have := t_lt t; omega⟩ ⟨t.val / 4 % 4 * 256 + e, by omega⟩ ⟨t.val % 4 * 1024 + i, by omega⟩) := by
  have h := ix_0 t
  show V m c main_v2 _ = _
  refine congrArg _ (funext fun a => Fin.ext ?_)
  match a with
  | ⟨0, _⟩ => show win0_0.index t 0 * 1 + 1 * 0 = t.val / 16; omega
  | ⟨1, _⟩ => show win0_0.index t 1 * 256 + 1 * e.val = t.val / 4 % 4 * 256 + e.val; omega
  | ⟨2, _⟩ => show win0_0.index t 2 * 1024 + 1 * i.val = t.val % 4 * 1024 + i.val; omega

/-- The key block at an index. -/
theorem blk_1 (c : Dev nD) (t : Fin cfg0.N) (x : Fin 4096) (d : Fin 64) :
    (iblk m c 1 t : Vec Ideal S1x1x4096x64 .bf16) (ix4 0 0 x d)
      = (V m c main_v4 : FVec Ideal S16x4x4096x64 .bf16) (ix4 ⟨t.val / 16, by have := t_lt t; omega⟩ ⟨t.val / 4 % 4, by omega⟩ x d) := by
  have h := ix_1 t
  show V m c main_v4 _ = _
  refine congrArg _ (funext fun a => Fin.ext ?_)
  match a with
  | ⟨0, _⟩ => show win0_1.index t 0 * 1 + 1 * 0 = t.val / 16; omega
  | ⟨1, _⟩ => show win0_1.index t 1 * 1 + 1 * 0 = t.val / 4 % 4; omega
  | ⟨2, _⟩ => show win0_1.index t 2 * 4096 + 1 * x.val = x.val; omega
  | ⟨3, _⟩ => show win0_1.index t 3 * 64 + 1 * d.val = d.val; omega

/-- The value block at an index. -/
theorem blk_2 (c : Dev nD) (t : Fin cfg0.N) (e : Fin 64) (x : Fin 4096) :
    (iblk m c 2 t : Vec Ideal S1x64x4096 .bf16) (ix3 0 e x)
      = (V m c main_v7 : FVec Ideal S16x256x4096 .bf16) (ix3 ⟨t.val / 16, by have := t_lt t; omega⟩ ⟨t.val / 4 % 4 * 64 + e, by omega⟩ x) := by
  have h := ix_2 t
  show V m c main_v7 _ = _
  refine congrArg _ (funext fun a => Fin.ext ?_)
  match a with
  | ⟨0, _⟩ => show win0_2.index t 0 * 1 + 1 * 0 = t.val / 16; omega
  | ⟨1, _⟩ => show win0_2.index t 1 * 64 + 1 * e.val = t.val / 4 % 4 * 64 + e.val; omega
  | ⟨2, _⟩ => show win0_2.index t 2 * 4096 + 1 * x.val = x.val; omega

/-- The gate block at an index. -/
theorem blk_3 (c : Dev nD) (t : Fin cfg0.N) (i : Fin 1024) (f : Fin 256) :
    (iblk m c 3 t : Vec Ideal S1x1024x256 .bf16) (ix3 0 i f)
      = (V m c main_v8 : FVec Ideal S16x4096x1024 .bf16) (ix3 ⟨t.val / 16, by have := t_lt t; omega⟩ ⟨t.val % 4 * 1024 + i, by omega⟩ ⟨t.val / 4 % 4 * 256 + f, by omega⟩) := by
  have h := ix_3 t
  show V m c main_v8 _ = _
  refine congrArg _ (funext fun a => Fin.ext ?_)
  match a with
  | ⟨0, _⟩ => show win0_3.index t 0 * 1 + 1 * 0 = t.val / 16; omega
  | ⟨1, _⟩ => show win0_3.index t 1 * 1024 + 1 * i.val = t.val % 4 * 1024 + i.val; omega
  | ⟨2, _⟩ => show win0_3.index t 2 * 256 + 1 * f.val = t.val / 4 % 4 * 256 + f.val; omega

/-- The result block at an index of the result array. -/
theorem blk_4 (G : FVec Ideal S16x4096x1024 .bf16) (t : Fin cfg0.N) (i : Fin 1024) (f : Fin 256) :
    (((cfg0.win 4).blk t).view.read (Elt Ideal) G : Vec Ideal S1x1024x256 .bf16) (ix3 0 i f)
      = G (ix3 ⟨t.val / 16, by have := t_lt t; omega⟩ ⟨t.val % 4 * 1024 + i, by omega⟩ ⟨t.val / 4 % 4 * 256 + f, by omega⟩) := by
  have h := ix_4 t
  show G _ = _
  refine congrArg _ (funext fun a => Fin.ext ?_)
  match a with
  | ⟨0, _⟩ => show win0_4.index t 0 * 1 + 1 * 0 = t.val / 16; omega
  | ⟨1, _⟩ => show win0_4.index t 1 * 1024 + 1 * i.val = t.val % 4 * 1024 + i.val; omega
  | ⟨2, _⟩ => show win0_4.index t 2 * 256 + 1 * f.val = t.val / 4 % 4 * 256 + f.val; omega

/-- An index of the result array is in point `t`'s block when each coordinate is in the block's range. -/
theorem mem_blk (t : Fin cfg0.N) (i : S16x4096x1024.Idx) :
    i ∈ ((cfg0.win 4).blk t).view.set ↔ ((i 0 : Nat) = t.val / 16 ∧ (i 1 : Nat) / 1024 = t.val % 4 ∧ (i 2 : Nat) / 256 = t.val / 4 % 4) := by
  show i ∈ ((View.whole main_v9).slice (win0_4.rect t)).set ↔ _
  rw [View.set_slice_whole, Rect.mem_set_unit]
  have e := ix_4 t
  refine ⟨fun h => ?_, fun h a => ?_⟩
  · have h0 : win0_4.index t 0 * 1 ≤ (i 0 : Nat) ∧ (i 0 : Nat) < win0_4.index t 0 * 1 + 1 := h 0
    have h1 : win0_4.index t 1 * 1024 ≤ (i 1 : Nat) ∧ (i 1 : Nat) < win0_4.index t 1 * 1024 + 1024 := h 1
    have h2 : win0_4.index t 2 * 256 ≤ (i 2 : Nat) ∧ (i 2 : Nat) < win0_4.index t 2 * 256 + 256 := h 2
    omega
  · match a with
    | ⟨0, _⟩ => show win0_4.index t 0 * 1 ≤ (i 0 : Nat) ∧ (i 0 : Nat) < win0_4.index t 0 * 1 + 1; omega
    | ⟨1, _⟩ => show win0_4.index t 1 * 1024 ≤ (i 1 : Nat) ∧ (i 1 : Nat) < win0_4.index t 1 * 1024 + 1024; omega
    | ⟨2, _⟩ => show win0_4.index t 2 * 256 ≤ (i 2 : Nat) ∧ (i 2 : Nat) < win0_4.index t 2 * 256 + 256; omega

/-- The result's blocks tile its array. -/
theorem cover (i : S16x4096x1024.Idx) : ∃ t : Fin cfg0.N, (cfg0.win 4).flush t = true ∧ i ∈ ((cfg0.win 4).blk t).view.set := by
  have h0 : (i 0 : Nat) < 16 := (i 0).isLt
  have h1 : (i 1 : Nat) < 4096 := (i 1).isLt
  have h2 : (i 2 : Nat) < 1024 := (i 2).isLt
  have hN : cfg0.N = 256 := N_0
  refine ⟨⟨(i 0 : Nat) * 16 + (i 2 : Nat) / 256 * 4 + (i 1 : Nat) / 1024, by omega⟩, flush0_4 _, ?_⟩
  rw [mem_blk]
  dsimp only
  omega

/-! ## The result -/

/-- Every entry of the queries and of the keys is a real. -/
def Finite (c : Dev nD) : Prop :=
  (∃ Q : S16x4096x16x64.Idx → ℝ, ∀ i, aq m c i = (Q i : EReal))
  ∧ ∃ K : S16x4096x4x64.Idx → ℝ, ∀ i, ak m c i = (K i : EReal)

/-- The reference's function of the kernel's arguments. -/
abbrev goal (c : Dev nD) : FVec Ideal S16x4096x1024 .bf16 :=
  Cert.ReferenceIdeal.Attn.result (aq m c) (ak m c)
    (av m c) (ag m c)

/-- What point `t` writes back is block `t` of the reference's function. -/
theorem flushed_eq (c : Dev nD) (hF : Finite m c) (t : Fin cfg0.N) :
    (dats m 0 c).flushed 4 t = ((cfg0.win 4).blk t).view.read (Elt Ideal) (goal m c) := by
  obtain ⟨⟨Q, hQ⟩, K, hK⟩ := hF
  have ht := t_lt t
  rw [Value.flushed4]
  funext y
  obtain ⟨z, i, f, rfl⟩ : ∃ (z : Fin 1) (i : Fin 1024) (f : Fin 256), y = ix3 z i f :=
    ⟨y 0, y 1, y 2, funext fun a => by match a with | ⟨0, _⟩ => rfl | ⟨1, _⟩ => rfl | ⟨2, _⟩ => rfl⟩
  obtain rfl : z = 0 := Subsingleton.elim _ _
  refine Eq.trans ?_ (blk_4 (goal m c) t i f).symm
  -- the row's scores, as reals
  let s : ℕ → ℝ := fun x => if h : x < 4096 then ∑ d : Fin 64,
    K (ix4 ⟨t.val / 16, by omega⟩ ⟨x, h⟩ ⟨t.val / 4 % 4, by omega⟩ d)
      * (Q (ix4 ⟨t.val / 16, by omega⟩ ⟨t.val % 4 * 1024 + i, by omega⟩ ⟨t.val / 4 % 4 * 4 + f / 64, by omega⟩ d) * 8⁻¹) else 0
  obtain ⟨b, hb⟩ := exists_isMax s 4096 (by omega)
  have hk := out_apply (iblk m c 0 t) (iblk m c 1 t) (iblk m c 2 t) (iblk m c 3 t) i f s b hb (fun x => by
    simp only [s, x.isLt, dite_true]
    rw [Finset.sum_mul, coe_sum]
    refine Finset.sum_congr rfl fun d _ => ?_
    rw [blk_0, blk_1, V_q_apply, V_k_apply, hQ, hK, ← EReal.coe_mul, ← EReal.coe_mul]
    have e1 : (t.val / 4 % 4 * 256 + (f.val / 64 * 64 + d.val)) / 64 = t.val / 4 % 4 * 4 + f.val / 64 := by omega
    have e2 : (t.val / 4 % 4 * 256 + (f.val / 64 * 64 + d.val)) % 64 = d.val := by omega
    simp only [e1, e2]
    congr 1
    ring)
  have hr := Cert.ReferenceIdeal.Attn.result_apply (aq m c) (ak m c)
    (av m c) (ag m c) ⟨t.val / 16, by omega⟩ ⟨t.val % 4 * 1024 + i, by omega⟩
    ⟨t.val / 4 % 4 * 256 + f, by omega⟩ s b hb (fun x => by
    simp only [s, x.isLt, dite_true]
    rw [coe_sum]
    refine Finset.sum_congr rfl fun d _ => ?_
    have e1 : (t.val / 4 % 4 * 256 + f.val) / 64 = t.val / 4 % 4 * 4 + f.val / 64 := by omega
    have e2 : (t.val / 4 % 4 * 256 + f.val) / 256 = t.val / 4 % 4 := by omega
    simp only [e1, e2]
    refine (congrArg₂ (fun a b => a * (b * ((8⁻¹ : ℝ) : EReal))) (hK _) (hQ _)).trans ?_
    rw [EReal.coe_mul, EReal.coe_mul])
  refine Eq.trans ?_ (hk.trans (Eq.trans ?_ hr.symm))
  · rfl
  · rw [blk_3, V_g_apply]
    refine congrArg₂ (· * ·) (Finset.sum_congr rfl fun x _ => congrArg₂ (· * ·) ?_ rfl) rfl
    rw [blk_2, V_v_apply]
    have e1 : (t.val / 4 % 4 * 64 + f.val % 64) / 64 = (t.val / 4 % 4 * 256 + f.val) / 256 := by omega
    have e2 : (t.val / 4 % 4 * 64 + f.val % 64) % 64 = (t.val / 4 % 4 * 256 + f.val) % 64 := by omega
    simp only [e1, e2]

/-- So the result array ends holding the reference's function of the arguments. -/
theorem final (c : Dev nD) (hF : Finite m c) : (dats m 0 c).arrAt 4 cfg0.N = goal m c :=
  (dats m 0 c).arrAt_eq_of_cover 4 (goal m c) (fun t _ => flushed_eq m c hF t) cover

end Cert.KernelIdeal.Attn

end
-- ==== Proof.Attn.Pre.lean ====
/- The precondition read: where it holds, every entry of the queries and of the keys is a real. -/
module

public import proofs.«01_k».proof.Defs
public import proofs.«01_k».proof.Proof.Attn.Launch
public import Idealize.ShloMosaic.Lib.ReduceAll

@[expose] public section

set_option maxRecDepth 16384

noncomputable section

namespace Cert.Pre_finite_scores

open Idealize.ShloMosaic

/-- The side conditions the precondition's operations state. -/
instance facts : Facts where
  bcast_S_S16x4096x16x64 := by decide
  reducesTo_S16x4096x16x64_S_d0_1_2_3 := by decide
  h_S_ := by decide
  bcast_S_S16x4096x4x64 := by decide
  reducesTo_S16x4096x4x64_S_d0_1_2_3 := by decide

/-- The pattern of plus infinity is `⊤`. -/
theorem ofBits_inf : Ideal.ofBits FTy.f32 0x7F800000#32 = ⊤ := by
  simp [Ideal.ofBits, Ideal.ieee]

/-- An extended real whose absolute value compares below plus infinity is a real. -/
theorem real_of_lt (x : EReal) (h : Ideal.cmp .olt (max x (-x)) (Ideal.ofBits FTy.f32 0x7F800000#32) = 1#1) :
    x = ((x.toReal : ℝ) : EReal) := by
  rw [ofBits_inf] at h
  induction x with
  | bot => simp [Ideal.cmp] at h
  | top => simp [Ideal.cmp] at h
  | coe r => rfl

instance : Subsingleton S_.Idx := ⟨fun a b => funext fun i => i.elim0⟩

/-- Where the precondition is one, the queries and the keys are reals. -/
theorem real_of_fn (q : FVec Ideal S16x4096x16x64 .f32) (k v : FVec Ideal S16x4096x4x64 .f32) (g : FVec Ideal S16x4096x1024 .f32)
    (h : fn (F := Ideal) q k v g = fun _ => 1#1) : (∀ i, q i = ((q i).toReal : EReal)) ∧ ∀ i, k i = ((k i).toReal : EReal) := by
  have h0 := IntOp.andi_eq_one.1 (congrFun h fun i => i.elim0)
  exact ⟨fun i => real_of_lt _ (Host.reduce_andi_all _ _ _ _ _ h0.1 i), fun i => real_of_lt _ (Host.reduce_andi_all _ _ _ _ _ h0.2 i)⟩

end Cert.Pre_finite_scores

namespace Cert.KernelIdeal.Attn

open Cert.KernelIdeal Cert.KernelIdeal.Gen Idealize.ShloMosaic

/-- So under the precondition the launch's queries and keys are reals. -/
theorem finite_of_pre (m : (ℓ : Loc nD τ sig) → Buf (Elt Ideal) ℓ) (h : Cert.Pre_KernelIdeal_finite_scores m) (c : Dev nD) :
    Finite m c :=
  have e := Cert.Pre_finite_scores.real_of_fn _ _ _ _ (h c)
  ⟨⟨_, e.1⟩, _, e.2⟩

end Cert.KernelIdeal.Attn

end
-- ==== Proof.Attn.Claims.lean ====
/- The attention's claims: its frames, its idealization, and its agreement with the reference. -/
module

public import proofs.«01_k».proof.Defs
public import proofs.«01_k».proof.Proof.Attn.Pre
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import Idealize.ShloMosaic.Adequacy
public import Idealize.ShloMosaic.Init

@[expose] public section

noncomputable section

namespace Cert.Proof.Attn

open Idealize.ShloMosaic Idealize.ShloMosaic.TcCoe Idealize.SL.Sem

/-- The kernel runs, its arguments end unchanged, and its counters end at zero. -/
theorem frame_p : Cert.quiescent_Kernel (hKernel := Cert.Kernel.Gen.facts) := fun m ρ _ => Cert.Kernel.Gen.frame m ρ

/-- So does the idealized kernel. -/
theorem frame_pi : Cert.quiescent_KernelIdeal (hKernelIdeal := Cert.KernelIdeal.Gen.facts) := fun m ρ _ => Cert.KernelIdeal.Gen.frame m ρ

/-- And under the precondition. -/
theorem frame_pi_pre : Cert.quiescent_KernelIdeal_pre_finite_scores (hKernelIdeal := Cert.KernelIdeal.Gen.facts) :=
  fun m ρ _ => frame_pi m ρ trivial

/-- So does the reference. -/
theorem frame_ri : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Attn.run m ρ)

/-- And under the precondition. -/
theorem frame_ri_pre : Cert.quiescent_ReferenceIdeal_pre_finite_scores (hReferenceIdeal := Cert.ReferenceIdeal.Gen.facts) :=
  fun m ρ _ => frame_ri m ρ trivial

/-- The one named constant, `(log 2)⁻¹ · 8⁻¹`, denotes its value. -/
theorem preserves : Cert.preserves_Kernel_KernelIdeal :=
  IdealRules.named_const.statement Cert.KernelIdeal.κ "q_scale" .f32 0x3E38AA3B#32 _ rfl

/-- At `Ideal`, from arguments that agree and whose queries and keys are finite, the kernel's result array and the
    reference's both end at the gated softmax average of the values. -/
theorem algebraic : Cert.algebraic_KernelIdeal_ReferenceIdeal_pre_finite_scores (hKernelIdeal := Cert.KernelIdeal.Gen.facts)
    (hReferenceIdeal := Cert.ReferenceIdeal.Gen.facts) := fun m ρ m' ρ' hpre hag =>
  ⟨fun c => Cert.KernelIdeal.Attn.goal m c,
    (θ_run Cert.KernelIdeal.defs _ _).mono (fun _ h c => ⟨(h c).1.trans
        (Cert.KernelIdeal.Attn.final m c (Cert.KernelIdeal.Attn.finite_of_pre m hpre c)), (h c).2⟩)
      (Cert.KernelIdeal.Value.run_blocks m ρ),
    (θ_run Cert.ReferenceIdeal.defs _ _).mono (fun _ h c => ⟨(h c).1.trans
        (by rw [(hag c).1, (hag c).2.1, (hag c).2.2.1, (hag c).2.2.2]), (h c).2⟩)
      (Cert.ReferenceIdeal.Attn.run m' ρ')⟩

end Cert.Proof.Attn

end
-- ==== Proof.Qkv.Math.lean ====
/- The per-head norm and the rotation of one pair of features, over the extended reals. -/
module

public import Idealize.ShloMosaic.Lib.Pointwise
public import Idealize.ShloMosaic.PureOps.Ideal.Laws

@[expose] public section

set_option maxRecDepth 16384

noncomputable section

namespace Cert.QkvMath

open Idealize.ShloMosaic

/-- The norm's small constant, as the printed bits. -/
abbrev eps : EReal := Ideal.ofBits .f32 0x358637BD#32

/-- The reciprocal root mean square of a head whose even features are `u` and odd ones `v`. -/
def nrm (u v : Fin 32 → EReal) : EReal :=
  Ideal.rsqrt (((∑ i, u i * u i) + ∑ i, v i * v i) * Ideal.ofBits .f32 0x3C800000#32 + eps)

/-- The first of a rotated pair `u`, `v`, each normed by `n` and weighted. -/
def rotE (n u v wu wv c s : EReal) : EReal := u * n * wu * c - v * n * wv * s

/-- The second of the rotated pair. -/
def rotO (n u v wu wv c s : EReal) : EReal := u * n * wu * s + v * n * wv * c

/-- A sum over a head's 64 features, by its even and its odd ones. -/
theorem sum_pairs (g : Fin 64 → EReal) :
    ∑ f, g f = (∑ i : Fin 32, g ⟨2 * i, by omega⟩) + ∑ i : Fin 32, g ⟨2 * i + 1, by omega⟩ := by
  rw [← Finset.sum_add_distrib, ← Equiv.sum_comp (finProdFinEquiv (m := 32) (n := 2)) g, Fintype.sum_prod_type]
  refine Finset.sum_congr rfl fun i _ => ?_
  rw [Fin.sum_univ_two]
  refine congrArg₂ (· + ·) (congrArg g (Fin.ext ?_)) (congrArg g (Fin.ext ?_))
  · show 0 + 2 * i.val = 2 * i.val; omega
  · show 1 + 2 * i.val = 2 * i.val + 1; omega

theorem ofBits_64 : Ideal.ofBits .f32 0x42800000#32 = ((64 : ℝ) : EReal) := by
  simp [Ideal.ofBits, Ideal.ieee]
  rw [← EReal.coe_mul]
  norm_num

theorem ofBits_inv64 : Ideal.ofBits .f32 0x3C800000#32 = ((64⁻¹ : ℝ) : EReal) := by
  simp [Ideal.ofBits, Ideal.ieee]
  rw [← EReal.coe_mul]
  norm_num

/-- Division by 64 is the product with its inverse. -/
theorem div_64 (a : EReal) : Ideal.div a (Ideal.ofBits .f32 0x42800000#32) = a * Ideal.ofBits .f32 0x3C800000#32 := by
  rw [ofBits_64, ofBits_inv64, Ideal.div, if_neg (by exact_mod_cast (by norm_num : (64 : ℝ) ≠ 0)), EReal.coe_inv]

/-- The norm as the mean of all 64 squares. -/
theorem nrm_ref (g : Fin 64 → EReal) :
    Ideal.rsqrt (Ideal.div (∑ f, g f * g f) (Ideal.ofBits .f32 0x42800000#32) + eps)
      = nrm (fun i => g ⟨2 * i, by omega⟩) (fun i => g ⟨2 * i + 1, by omega⟩) := by
  rw [div_64, sum_pairs (fun f => g f * g f), nrm]

/-- A rotated head of the plain features `q`, which begins at `B`: its even features, then its odd ones. -/
def evR (q : ℕ → EReal) (g : Fin 64 → EReal) (c s : Fin 32 → EReal) (B : ℕ) (i : Fin 32) : EReal :=
  rotE (nrm (fun i => q (B + 2 * i)) (fun i => q (B + (2 * i + 1)))) (q (B + 2 * i)) (q (B + (2 * i + 1))) (g ⟨2 * i, by omega⟩) (g ⟨2 * i + 1, by omega⟩) (c i) (s i)
def odR (q : ℕ → EReal) (g : Fin 64 → EReal) (c s : Fin 32 → EReal) (B : ℕ) (i : Fin 32) : EReal :=
  rotO (nrm (fun i => q (B + 2 * i)) (fun i => q (B + (2 * i + 1)))) (q (B + 2 * i)) (q (B + (2 * i + 1))) (g ⟨2 * i, by omega⟩) (g ⟨2 * i + 1, by omega⟩) (c i) (s i)

/-- Feature `f` of the head. -/
def keyR (q : ℕ → EReal) (g : Fin 64 → EReal) (c s : Fin 32 → EReal) (B : ℕ) (f : Fin 64) : EReal :=
  if h : f.val < 32 then evR q g c s B ⟨f, h⟩ else odR q g c s B ⟨f - 32, by omega⟩

end Cert.QkvMath

end
-- ==== Proof.Qkv.Block.lean ====
/- The projections' three blocks of results at one index. -/
module

public import proofs.«01_k».proof.Proof.Qkv.Math
public import proofs.«01_k».proof.Proof.Gen.QkvIdeal.Frame
public import Idealize.ShloMosaic.Lib.Pipeline.ValueKit.Tiles
public import Idealize.ShloMosaic.Lib.Pointwise

@[expose] public section

set_option maxRecDepth 16384

noncomputable section

namespace Cert.QkvIdeal.Qkv

open Cert.QkvIdeal Cert.QkvIdeal.Gen Cert.QkvMath Idealize.ShloMosaic

theorem hz2 : (![0, 0] : Fin 2 → Nat) = fun _ => 0 := funext fun a => by fin_cases a <;> rfl
theorem hz3 : (![0, 0, 0] : Fin 3 → Nat) = fun _ => 0 := funext fun a => by fin_cases a <;> rfl

/-- 256 rows of the weights times the tokens. -/
def prod (w : Vec Ideal S256x1024 .bf16) (t : FVec Ideal S512x1024 .bf16) : FVec Ideal S256x512 .f32 :=
  matmul dot_S256x1024_S512x1024_S256x512_1_1_0_0_n_n none (shapeCast S256x1024 w shapeCasts_S256x1024_S256x1024 : FVec Ideal S256x1024 .bf16) t (constant S256x512 .f32 0x00000000#32)

/-- A head's even features and its odd ones. -/
def evens (H : FVec Ideal S64x512 .f32) : FVec Ideal S32x512 .f32 := extractStridedSlice S32x512 ![0, 0] H slices_S64x512_o0_0_S32x512
def odds (H : FVec Ideal S64x512 .f32) : FVec Ideal S32x512 .f32 := extractStridedSlice S32x512 ![32, 0] H slices_S64x512_o32_0_S32x512

/-- The sum of the squares down a half. -/
def sq (u : FVec Ideal S32x512 .f32) : FVec Ideal S1x512 .f32 :=
  shapeCast S1x512 (multiReduction .add [0] S512 (mulf u u) 0x00000000#32 reduces_S32x512_S512 (.inl rfl) rfl) shapeCasts_S512_S1x512

/-- The head's norm. -/
def inv (H : FVec Ideal S64x512 .f32) : FVec Ideal S1x512 .f32 :=
  rsqrt (addf (mulf (addf (sq (evens H)) (sq (odds H))) (broadcast S1x512 (Scalar.ofBits .f32 0x3C800000#32))) (broadcast S1x512 (Scalar.ofBits .f32 0x358637BD#32)))

/-- A half, normed and weighted. -/
def half (u : FVec Ideal S32x512 .f32) (n : FVec Ideal S1x512 .f32) (w : Vec Ideal S32x512 .f32) : FVec Ideal S32x512 .f32 :=
  mulf (mulf u (broadcastTo S32x512 n broadcasts_S1x512_S32x512)) (shapeCast S32x512 w shapeCasts_S32x512_S32x512)

/-- The rotated halves. -/
def rotLo (H : FVec Ideal S64x512 .f32) (w0 w1 c s : Vec Ideal S32x512 .f32) : FVec Ideal S32x512 .f32 :=
  subf (mulf (half (evens H) (inv H) w0) (shapeCast S32x512 c shapeCasts_S32x512_S32x512)) (mulf (half (odds H) (inv H) w1) (shapeCast S32x512 s shapeCasts_S32x512_S32x512))
def rotHi (H : FVec Ideal S64x512 .f32) (w0 w1 c s : Vec Ideal S32x512 .f32) : FVec Ideal S32x512 .f32 :=
  addf (mulf (half (evens H) (inv H) w0) (shapeCast S32x512 s shapeCasts_S32x512_S32x512)) (mulf (half (odds H) (inv H) w1) (shapeCast S32x512 c shapeCasts_S32x512_S32x512))

/-- A rotated half of the queries as it is stored. -/
def stQ (u : FVec Ideal S32x512 .f32) : FVec Ideal S1x32x512 .bf16 := shapeCast S1x32x512 (truncf .bf16 u bitsLt_bf16_f32) shapeCasts_S32x512_S1x32x512

/-- A rotated head of the keys as it is stored. -/
def stK (u v : FVec Ideal S32x512 .f32) : FVec Ideal S1x1x512x64 .bf16 :=
  shapeCast S1x1x512x64 (truncf .bf16 (transpose S512x64 [1, 0] (concatenate S64x512 0 [⟨S32x512, u⟩, ⟨S32x512, v⟩] concatenates_S32x512_S32x512_S64x512_d0) transposes_S64x512_p1_0_S512x64) bitsLt_bf16_f32) shapeCasts_S512x64_S1x1x512x64

theorem prod_apply (w : Vec Ideal S256x1024 .bf16) (t : FVec Ideal S512x1024 .bf16) (e : Fin 256) (j : Fin 512) :
    prod w t (ix2 e j) = ∑ k : Fin 1024, w (ix2 e k) * t (ix2 j k) := by
  pointwise [prod]

theorem evens_apply (H : FVec Ideal S64x512 .f32) (i : Fin 32) (j : Fin 512) : evens H (ix2 i j) = H (ix2 ⟨i, by omega⟩ j) := by
  pointwise [evens]

theorem odds_apply (H : FVec Ideal S64x512 .f32) (i : Fin 32) (j : Fin 512) : odds H (ix2 i j) = H (ix2 ⟨32 + i, by omega⟩ j) := by
  pointwise [odds]

theorem sq_apply (u : FVec Ideal S32x512 .f32) (j : Fin 512) : sq u (ix2 0 j) = ∑ i : Fin 32, u (ix2 i j) * u (ix2 i j) := by
  pointwise [sq]

theorem inv_apply (H : FVec Ideal S64x512 .f32) (j : Fin 512) :
    inv H (ix2 0 j) = nrm (fun i => H (ix2 ⟨i, by omega⟩ j)) (fun i => H (ix2 ⟨32 + i, by omega⟩ j)) := by
  have h : inv H (ix2 0 j) = Ideal.rsqrt ((sq (evens H) (ix2 0 j) + sq (odds H) (ix2 0 j)) * Ideal.ofBits .f32 0x3C800000#32 + eps) := rfl
  rw [h, sq_apply, sq_apply, nrm]
  simp only [evens_apply, odds_apply]

theorem half_apply (u : FVec Ideal S32x512 .f32) (n : FVec Ideal S1x512 .f32) (w : Vec Ideal S32x512 .f32) (i : Fin 32) (j : Fin 512) :
    half u n w (ix2 i j) = u (ix2 i j) * n (ix2 0 j) * w (ix2 i j) := by
  pointwise [half]

theorem rotLo_apply (H : FVec Ideal S64x512 .f32) (w0 w1 c s : Vec Ideal S32x512 .f32) (i : Fin 32) (j : Fin 512) :
    rotLo H w0 w1 c s (ix2 i j) = rotE (nrm (fun i => H (ix2 ⟨i, by omega⟩ j)) (fun i => H (ix2 ⟨32 + i, by omega⟩ j))) (H (ix2 ⟨i, by omega⟩ j)) (H (ix2 ⟨32 + i, by omega⟩ j)) (w0 (ix2 i j)) (w1 (ix2 i j)) (c (ix2 i j)) (s (ix2 i j)) := by
  have h : rotLo H w0 w1 c s (ix2 i j) = half (evens H) (inv H) w0 (ix2 i j) * shapeCast S32x512 c shapeCasts_S32x512_S32x512 (ix2 i j) - half (odds H) (inv H) w1 (ix2 i j) * shapeCast S32x512 s shapeCasts_S32x512_S32x512 (ix2 i j) := rfl
  rw [h, half_apply, half_apply, inv_apply, evens_apply, odds_apply, shapeCast_id, shapeCast_id, rotE]

theorem rotHi_apply (H : FVec Ideal S64x512 .f32) (w0 w1 c s : Vec Ideal S32x512 .f32) (i : Fin 32) (j : Fin 512) :
    rotHi H w0 w1 c s (ix2 i j) = rotO (nrm (fun i => H (ix2 ⟨i, by omega⟩ j)) (fun i => H (ix2 ⟨32 + i, by omega⟩ j))) (H (ix2 ⟨i, by omega⟩ j)) (H (ix2 ⟨32 + i, by omega⟩ j)) (w0 (ix2 i j)) (w1 (ix2 i j)) (c (ix2 i j)) (s (ix2 i j)) := by
  have h : rotHi H w0 w1 c s (ix2 i j) = half (evens H) (inv H) w0 (ix2 i j) * shapeCast S32x512 s shapeCasts_S32x512_S32x512 (ix2 i j) + half (odds H) (inv H) w1 (ix2 i j) * shapeCast S32x512 c shapeCasts_S32x512_S32x512 (ix2 i j) := rfl
  rw [h, half_apply, half_apply, inv_apply, evens_apply, odds_apply, shapeCast_id, shapeCast_id, rotO]

theorem stQ_apply (u : FVec Ideal S32x512 .f32) (i : Fin 32) (j : Fin 512) : stQ u (ix3 0 i j) = u (ix2 i j) := by
  pointwise [stQ]

theorem stK_apply (u v : FVec Ideal S32x512 .f32) (j : Fin 512) (f : Fin 64) :
    stK u v (ix4 0 0 j f) = if h : f.val < 32 then u (ix2 ⟨f, h⟩ j) else v (ix2 ⟨f - 32, by omega⟩ j) := by
  pointwise [stK]
  all_goals rfl

/-- The tokens, as rows. -/
theorem tok_apply (x0 : Vec Ideal S1x512x1024 .f32) (j : Fin 512) (k : Fin 1024) :
    k0_pay1 (View.ld x0 r0_0) (ix2 j k) = x0 (ix3 0 j k) := by
  pointwise [k0_pay1]

/-- 256 rows of the weights from `o` on, read at an entry. -/
theorem ld_w (x1 : Vec Ideal S1536x1024 .bf16) (o : ℕ) (ho : o + 256 ≤ 1536) (inb : ∀ a, (![o, 0] : Fin 2 → ℕ) a + S256x1024.size a ≤ S1536x1024.size a) (e : Fin 256) (k : Fin 1024) :
    (View.ld x1 (Rect.unit (s := S1536x1024) ![o, 0] S256x1024.size inb) : Vec Ideal S256x1024 .bf16) (ix2 e k) = x1 (ix2 ⟨o + e, by omega⟩ k) := by
  refine congrArg x1 (funext fun a => Fin.ext ?_)
  match a with
  | ⟨0, _⟩ => show o + 1 * e.val = o + e.val; omega
  | ⟨1, _⟩ => show 0 + 1 * k.val = k.val; omega

variable (x0 : Vec Ideal S1x512x1024 .f32) (x1 : Vec Ideal S1536x1024 .bf16) (x2 x3 : Vec Ideal S32x512 .f32) (x4 x5 w : Vec Ideal S64x512 .f32)

/-- Row `e` of the weights times token `j`; zero past the last row. -/
def dotv (j : Fin 512) (e : ℕ) : EReal := if h : e < 1536 then ∑ k : Fin 1024, x1 (ix2 ⟨e, h⟩ k) * x0 (ix3 0 j k) else 0

/-- The norm of the head whose rows begin at `b`. -/
def hn (b : ℕ) (j : Fin 512) : EReal := nrm (fun i => dotv x0 x1 j (b + i)) (fun i => dotv x0 x1 j (b + 32 + i))

/-- Its rotated features. -/
def ev (b : ℕ) (i : Fin 32) (j : Fin 512) : EReal :=
  rotE (hn x0 x1 b j) (dotv x0 x1 j (b + i)) (dotv x0 x1 j (b + 32 + i)) (w (ix2 ⟨i, by omega⟩ j)) (w (ix2 ⟨32 + i, by omega⟩ j)) (x2 (ix2 i j)) (x3 (ix2 i j))
def od (b : ℕ) (i : Fin 32) (j : Fin 512) : EReal :=
  rotO (hn x0 x1 b j) (dotv x0 x1 j (b + i)) (dotv x0 x1 j (b + 32 + i)) (w (ix2 ⟨i, by omega⟩ j)) (w (ix2 ⟨32 + i, by omega⟩ j)) (x2 (ix2 i j)) (x3 (ix2 i j))

/-- The head at rows `o` of the product with the weights' rows from `c` on. -/
abbrev head (c o : ℕ) (inb : ∀ a, (![c, 0] : Fin 2 → ℕ) a + S256x1024.size a ≤ S1536x1024.size a) (hs : S256x512.Slices ![o, 0] S64x512) : FVec Ideal S64x512 .f32 :=
  extractStridedSlice S64x512 ![o, 0] (prod (View.ld x1 (Rect.unit (s := S1536x1024) ![c, 0] S256x1024.size inb)) (k0_pay1 (View.ld x0 r0_0))) hs

theorem head_apply (c o : ℕ) (hc : c + 256 ≤ 1536) (ho : o + 64 ≤ 256) (inb : ∀ a, (![c, 0] : Fin 2 → ℕ) a + S256x1024.size a ≤ S1536x1024.size a) (hs : S256x512.Slices ![o, 0] S64x512) (i : Fin 64) (j : Fin 512) :
    head x0 x1 c o inb hs (ix2 i j) = dotv x0 x1 j (c + o + i) := by
  have h : head x0 x1 c o inb hs (ix2 i j) = prod (View.ld x1 (Rect.unit (s := S1536x1024) ![c, 0] S256x1024.size inb)) (k0_pay1 (View.ld x0 r0_0)) (ix2 ⟨o + i, by omega⟩ j) := by
    refine congrArg (prod _ _) (funext fun a => Fin.ext ?_)
    match a with
    | ⟨0, _⟩ => rfl
    | ⟨1, _⟩ => show 0 + j.val = j.val; omega
  rw [h, prod_apply, dotv, dif_pos (show c + o + i.val < 1536 by omega)]
  refine Finset.sum_congr rfl fun k _ => congrArg₂ (· * ·) ((ld_w x1 c hc inb _ k).trans (congrArg (fun e => x1 (ix2 e k)) (Fin.ext ?_))) (tok_apply x0 j k)
  show c + (o + i.val) = c + o + i.val
  omega

theorem ld_lo (i : Fin 32) (j : Fin 512) : (View.ld w r0_3 : Vec Ideal S32x512 .f32) (ix2 i j) = w (ix2 ⟨i, by omega⟩ j) := by
  refine congrArg w (funext fun a => Fin.ext ?_)
  match a with
  | ⟨0, _⟩ => show 0 + 1 * i.val = i.val; omega
  | ⟨1, _⟩ => show 0 + 1 * j.val = j.val; omega

theorem ld_hi (i : Fin 32) (j : Fin 512) : (View.ld w r0_4 : Vec Ideal S32x512 .f32) (ix2 i j) = w (ix2 ⟨32 + i, by omega⟩ j) := by
  refine congrArg w (funext fun a => Fin.ext ?_)
  match a with
  | ⟨0, _⟩ => show 32 + 1 * i.val = 32 + i.val; omega
  | ⟨1, _⟩ => show 0 + 1 * j.val = j.val; omega

theorem ld_t (t : Vec Ideal S32x512 .f32) : (View.ld t r0_1 : Vec Ideal S32x512 .f32) = t := View.ld_unit_zero hz2 _ t

/-- The even half of a head at one entry. -/
theorem lo_head (c o b : ℕ) (hb : c + o = b) (hc : c + 256 ≤ 1536) (ho : o + 64 ≤ 256) (inb : ∀ a, (![c, 0] : Fin 2 → ℕ) a + S256x1024.size a ≤ S1536x1024.size a) (hs : S256x512.Slices ![o, 0] S64x512) (i : Fin 32) (j : Fin 512) :
    rotLo (head x0 x1 c o inb hs) (View.ld w r0_3) (View.ld w r0_4) (View.ld x2 r0_1) (View.ld x3 r0_1) (ix2 i j) = ev x0 x1 x2 x3 w b i j := by
  subst hb
  rw [rotLo_apply]
  simp only [head_apply x0 x1 c o hc ho inb hs, ev, hn, ← Nat.add_assoc]
  exact congr (congr (congr (congrArg _ (ld_lo w i j)) (ld_hi w i j)) (congrFun (ld_t x2) _)) (congrFun (ld_t x3) _)

/-- The odd half of a head at one entry. -/
theorem hi_head (c o b : ℕ) (hb : c + o = b) (hc : c + 256 ≤ 1536) (ho : o + 64 ≤ 256) (inb : ∀ a, (![c, 0] : Fin 2 → ℕ) a + S256x1024.size a ≤ S1536x1024.size a) (hs : S256x512.Slices ![o, 0] S64x512) (i : Fin 32) (j : Fin 512) :
    rotHi (head x0 x1 c o inb hs) (View.ld w r0_3) (View.ld w r0_4) (View.ld x2 r0_1) (View.ld x3 r0_1) (ix2 i j) = od x0 x1 x2 x3 w b i j := by
  subst hb
  rw [rotHi_apply]
  simp only [head_apply x0 x1 c o hc ho inb hs, od, hn, ← Nat.add_assoc]
  exact congr (congr (congr (congrArg _ (ld_lo w i j)) (ld_hi w i j)) (congrFun (ld_t x2) _)) (congrFun (ld_t x3) _)

/-- Row `y` of a head-by-head array: the even features' rows first in each head. -/
def row (j : Fin 512) (y : ℕ) : EReal :=
  if y % 64 < 32 then ev x0 x1 x2 x3 w (64 * (y / 64)) ⟨y % 32, by omega⟩ j else od x0 x1 x2 x3 w (64 * (y / 64)) ⟨y % 32, by omega⟩ j

theorem row_lo (j : Fin 512) (p : ℕ) (hp : p % 64 = 0) (i : Fin 32) : row x0 x1 x2 x3 w j (p + i) = ev x0 x1 x2 x3 w p i j := by
  have h1 : (p + i.val) % 64 < 32 := by omega
  have h2 : 64 * ((p + i.val) / 64) = p := by omega
  have h3 : (p + i.val) % 32 = i.val := by omega
  simp only [row, if_pos h1, h2, h3]

theorem row_hi (j : Fin 512) (p : ℕ) (hp : p % 64 = 0) (i : Fin 32) : row x0 x1 x2 x3 w j (p + 32 + i) = od x0 x1 x2 x3 w p i j := by
  have h1 : ¬(p + 32 + i.val) % 64 < 32 := by omega
  have h2 : 64 * ((p + 32 + i.val) / 64) = p := by omega
  have h3 : (p + 32 + i.val) % 32 = i.val := by omega
  simp only [row, if_neg h1, h2, h3]

/-- 32 rows stored at row `p`, placed. -/
theorem place (p : ℕ) (v : FVec Ideal S1x32x512 .bf16) (G : ℕ → EReal) (r : Fin 1024) (j : Fin 512)
    (h : ∀ i : Fin 32, v (ix3 0 i j) = G (p + i)) :
    View.TileAt (S := S1x1024x512) (Val := Elt Ideal) (e := .bf16) (ix3 0 r j) ![0, p, 0] ![1, 32, 512] v (G r) := by
  intro x hx
  have h1 : r.val = p + (x 1).val := hx 1
  have h2 : j.val = 0 + (x 2).val := hx 2
  have e : x = ix3 0 (x 1) j := funext fun a => by
    match a with
    | ⟨0, _⟩ => exact Subsingleton.elim (α := Fin 1) _ _
    | ⟨1, _⟩ => rfl
    | ⟨2, _⟩ => exact Fin.ext (by show (x 2).val = j.val; omega)
  have h' : v x = G (p + (x 1).val) := (congrArg v e).trans (h (x 1))
  rw [h', h1]

/-- One head of the keys stored at `g`, placed. -/
theorem place_k (p : ℕ) (v : FVec Ideal S1x1x512x64 .bf16) (G : ℕ → EReal) (g : Fin 4) (j : Fin 512) (f : Fin 64)
    (h : v (ix4 0 0 j f) = G p) :
    View.TileAt (S := S1x4x512x64) (Val := Elt Ideal) (e := .bf16) (ix4 0 g j f) ![0, p, 0, 0] ![1, 1, 512, 64] v (G g) := by
  intro x hx
  have h1 : g.val = p + (x 1).val := hx 1
  have h2 : j.val = 0 + (x 2).val := hx 2
  have h3 : f.val = 0 + (x 3).val := hx 3
  have h4 : (x 1).val < 1 := (x 1).isLt
  have e : x = ix4 0 0 j f := funext fun a => by
    match a with
    | ⟨0, _⟩ => exact Subsingleton.elim (α := Fin 1) _ _
    | ⟨1, _⟩ => exact Subsingleton.elim (α := Fin 1) _ _
    | ⟨2, _⟩ => exact Fin.ext (by show (x 2).val = j.val; omega)
    | ⟨3, _⟩ => exact Fin.ext (by show (x 3).val = f.val; omega)
  rw [e, h, show g.val = p by omega]

set_option maxHeartbeats 4000000 in
/-- The queries' block at one entry. -/
theorem out_6 (r : Fin 1024) (j : Fin 512) : out0_6 x0 x1 x2 x3 x4 x5 (ix3 0 r j) = row x0 x1 x2 x3 x4 j r := by
  unfold out0_6
  refine View.canon_eq_of_allAt _ _ _ (cover0_6 _ _ _ _ _ _ _ _ _ _ _ _ _ _ _ _ _ _ _ _ _ _ _ _ _ _ _ _ _ _ _ _ _) ?_
  refine View.allAt_cons_unit _ _ _ _ _ (place 992 _ (row x0 x1 x2 x3 x4 j) r j fun i => ?_) ?_
  · exact ((stQ_apply (rotHi (head x0 x1 768 192 inb_S1536x1024_S256x1024_768_0 slices_S256x512_o192_0_S64x512) (View.ld x4 r0_3) (View.ld x4 r0_4) (View.ld x2 r0_1) (View.ld x3 r0_1)) i j).trans (hi_head x0 x1 x2 x3 x4 768 192 960 rfl (by decide) (by decide) _ _ i j)).trans (row_hi x0 x1 x2 x3 x4 j 960 rfl i).symm
  refine View.allAt_cons_unit _ _ _ _ _ (place 960 _ (row x0 x1 x2 x3 x4 j) r j fun i => ?_) ?_
  · exact ((stQ_apply (rotLo (head x0 x1 768 192 inb_S1536x1024_S256x1024_768_0 slices_S256x512_o192_0_S64x512) (View.ld x4 r0_3) (View.ld x4 r0_4) (View.ld x2 r0_1) (View.ld x3 r0_1)) i j).trans (lo_head x0 x1 x2 x3 x4 768 192 960 rfl (by decide) (by decide) _ _ i j)).trans (row_lo x0 x1 x2 x3 x4 j 960 rfl i).symm
  refine View.allAt_cons_unit _ _ _ _ _ (place 928 _ (row x0 x1 x2 x3 x4 j) r j fun i => ?_) ?_
  · exact ((stQ_apply (rotHi (head x0 x1 768 128 inb_S1536x1024_S256x1024_768_0 slices_S256x512_o128_0_S64x512) (View.ld x4 r0_3) (View.ld x4 r0_4) (View.ld x2 r0_1) (View.ld x3 r0_1)) i j).trans (hi_head x0 x1 x2 x3 x4 768 128 896 rfl (by decide) (by decide) _ _ i j)).trans (row_hi x0 x1 x2 x3 x4 j 896 rfl i).symm
  refine View.allAt_cons_unit _ _ _ _ _ (place 896 _ (row x0 x1 x2 x3 x4 j) r j fun i => ?_) ?_
  · exact ((stQ_apply (rotLo (head x0 x1 768 128 inb_S1536x1024_S256x1024_768_0 slices_S256x512_o128_0_S64x512) (View.ld x4 r0_3) (View.ld x4 r0_4) (View.ld x2 r0_1) (View.ld x3 r0_1)) i j).trans (lo_head x0 x1 x2 x3 x4 768 128 896 rfl (by decide) (by decide) _ _ i j)).trans (row_lo x0 x1 x2 x3 x4 j 896 rfl i).symm
  refine View.allAt_cons_unit _ _ _ _ _ (place 864 _ (row x0 x1 x2 x3 x4 j) r j fun i => ?_) ?_
  · exact ((stQ_apply (rotHi (head x0 x1 768 64 inb_S1536x1024_S256x1024_768_0 slices_S256x512_o64_0_S64x512) (View.ld x4 r0_3) (View.ld x4 r0_4) (View.ld x2 r0_1) (View.ld x3 r0_1)) i j).trans (hi_head x0 x1 x2 x3 x4 768 64 832 rfl (by decide) (by decide) _ _ i j)).trans (row_hi x0 x1 x2 x3 x4 j 832 rfl i).symm
  refine View.allAt_cons_unit _ _ _ _ _ (place 832 _ (row x0 x1 x2 x3 x4 j) r j fun i => ?_) ?_
  · exact ((stQ_apply (rotLo (head x0 x1 768 64 inb_S1536x1024_S256x1024_768_0 slices_S256x512_o64_0_S64x512) (View.ld x4 r0_3) (View.ld x4 r0_4) (View.ld x2 r0_1) (View.ld x3 r0_1)) i j).trans (lo_head x0 x1 x2 x3 x4 768 64 832 rfl (by decide) (by decide) _ _ i j)).trans (row_lo x0 x1 x2 x3 x4 j 832 rfl i).symm
  refine View.allAt_cons_unit _ _ _ _ _ (place 800 _ (row x0 x1 x2 x3 x4 j) r j fun i => ?_) ?_
  · exact ((stQ_apply (rotHi (head x0 x1 768 0 inb_S1536x1024_S256x1024_768_0 slices_S256x512_o0_0_S64x512) (View.ld x4 r0_3) (View.ld x4 r0_4) (View.ld x2 r0_1) (View.ld x3 r0_1)) i j).trans (hi_head x0 x1 x2 x3 x4 768 0 768 rfl (by decide) (by decide) _ _ i j)).trans (row_hi x0 x1 x2 x3 x4 j 768 rfl i).symm
  refine View.allAt_cons_unit _ _ _ _ _ (place 768 _ (row x0 x1 x2 x3 x4 j) r j fun i => ?_) ?_
  · exact ((stQ_apply (rotLo (head x0 x1 768 0 inb_S1536x1024_S256x1024_768_0 slices_S256x512_o0_0_S64x512) (View.ld x4 r0_3) (View.ld x4 r0_4) (View.ld x2 r0_1) (View.ld x3 r0_1)) i j).trans (lo_head x0 x1 x2 x3 x4 768 0 768 rfl (by decide) (by decide) _ _ i j)).trans (row_lo x0 x1 x2 x3 x4 j 768 rfl i).symm
  refine View.allAt_cons_unit _ _ _ _ _ (place 736 _ (row x0 x1 x2 x3 x4 j) r j fun i => ?_) ?_
  · exact ((stQ_apply (rotHi (head x0 x1 512 192 inb_S1536x1024_S256x1024_512_0 slices_S256x512_o192_0_S64x512) (View.ld x4 r0_3) (View.ld x4 r0_4) (View.ld x2 r0_1) (View.ld x3 r0_1)) i j).trans (hi_head x0 x1 x2 x3 x4 512 192 704 rfl (by decide) (by decide) _ _ i j)).trans (row_hi x0 x1 x2 x3 x4 j 704 rfl i).symm
  refine View.allAt_cons_unit _ _ _ _ _ (place 704 _ (row x0 x1 x2 x3 x4 j) r j fun i => ?_) ?_
  · exact ((stQ_apply (rotLo (head x0 x1 512 192 inb_S1536x1024_S256x1024_512_0 slices_S256x512_o192_0_S64x512) (View.ld x4 r0_3) (View.ld x4 r0_4) (View.ld x2 r0_1) (View.ld x3 r0_1)) i j).trans (lo_head x0 x1 x2 x3 x4 512 192 704 rfl (by decide) (by decide) _ _ i j)).trans (row_lo x0 x1 x2 x3 x4 j 704 rfl i).symm
  refine View.allAt_cons_unit _ _ _ _ _ (place 672 _ (row x0 x1 x2 x3 x4 j) r j fun i => ?_) ?_
  · exact ((stQ_apply (rotHi (head x0 x1 512 128 inb_S1536x1024_S256x1024_512_0 slices_S256x512_o128_0_S64x512) (View.ld x4 r0_3) (View.ld x4 r0_4) (View.ld x2 r0_1) (View.ld x3 r0_1)) i j).trans (hi_head x0 x1 x2 x3 x4 512 128 640 rfl (by decide) (by decide) _ _ i j)).trans (row_hi x0 x1 x2 x3 x4 j 640 rfl i).symm
  refine View.allAt_cons_unit _ _ _ _ _ (place 640 _ (row x0 x1 x2 x3 x4 j) r j fun i => ?_) ?_
  · exact ((stQ_apply (rotLo (head x0 x1 512 128 inb_S1536x1024_S256x1024_512_0 slices_S256x512_o128_0_S64x512) (View.ld x4 r0_3) (View.ld x4 r0_4) (View.ld x2 r0_1) (View.ld x3 r0_1)) i j).trans (lo_head x0 x1 x2 x3 x4 512 128 640 rfl (by decide) (by decide) _ _ i j)).trans (row_lo x0 x1 x2 x3 x4 j 640 rfl i).symm
  refine View.allAt_cons_unit _ _ _ _ _ (place 608 _ (row x0 x1 x2 x3 x4 j) r j fun i => ?_) ?_
  · exact ((stQ_apply (rotHi (head x0 x1 512 64 inb_S1536x1024_S256x1024_512_0 slices_S256x512_o64_0_S64x512) (View.ld x4 r0_3) (View.ld x4 r0_4) (View.ld x2 r0_1) (View.ld x3 r0_1)) i j).trans (hi_head x0 x1 x2 x3 x4 512 64 576 rfl (by decide) (by decide) _ _ i j)).trans (row_hi x0 x1 x2 x3 x4 j 576 rfl i).symm
  refine View.allAt_cons_unit _ _ _ _ _ (place 576 _ (row x0 x1 x2 x3 x4 j) r j fun i => ?_) ?_
  · exact ((stQ_apply (rotLo (head x0 x1 512 64 inb_S1536x1024_S256x1024_512_0 slices_S256x512_o64_0_S64x512) (View.ld x4 r0_3) (View.ld x4 r0_4) (View.ld x2 r0_1) (View.ld x3 r0_1)) i j).trans (lo_head x0 x1 x2 x3 x4 512 64 576 rfl (by decide) (by decide) _ _ i j)).trans (row_lo x0 x1 x2 x3 x4 j 576 rfl i).symm
  refine View.allAt_cons_unit _ _ _ _ _ (place 544 _ (row x0 x1 x2 x3 x4 j) r j fun i => ?_) ?_
  · exact ((stQ_apply (rotHi (head x0 x1 512 0 inb_S1536x1024_S256x1024_512_0 slices_S256x512_o0_0_S64x512) (View.ld x4 r0_3) (View.ld x4 r0_4) (View.ld x2 r0_1) (View.ld x3 r0_1)) i j).trans (hi_head x0 x1 x2 x3 x4 512 0 512 rfl (by decide) (by decide) _ _ i j)).trans (row_hi x0 x1 x2 x3 x4 j 512 rfl i).symm
  refine View.allAt_cons_unit _ _ _ _ _ (place 512 _ (row x0 x1 x2 x3 x4 j) r j fun i => ?_) ?_
  · exact ((stQ_apply (rotLo (head x0 x1 512 0 inb_S1536x1024_S256x1024_512_0 slices_S256x512_o0_0_S64x512) (View.ld x4 r0_3) (View.ld x4 r0_4) (View.ld x2 r0_1) (View.ld x3 r0_1)) i j).trans (lo_head x0 x1 x2 x3 x4 512 0 512 rfl (by decide) (by decide) _ _ i j)).trans (row_lo x0 x1 x2 x3 x4 j 512 rfl i).symm
  refine View.allAt_cons_unit _ _ _ _ _ (place 480 _ (row x0 x1 x2 x3 x4 j) r j fun i => ?_) ?_
  · exact ((stQ_apply (rotHi (head x0 x1 256 192 inb_S1536x1024_S256x1024_256_0 slices_S256x512_o192_0_S64x512) (View.ld x4 r0_3) (View.ld x4 r0_4) (View.ld x2 r0_1) (View.ld x3 r0_1)) i j).trans (hi_head x0 x1 x2 x3 x4 256 192 448 rfl (by decide) (by decide) _ _ i j)).trans (row_hi x0 x1 x2 x3 x4 j 448 rfl i).symm
  refine View.allAt_cons_unit _ _ _ _ _ (place 448 _ (row x0 x1 x2 x3 x4 j) r j fun i => ?_) ?_
  · exact ((stQ_apply (rotLo (head x0 x1 256 192 inb_S1536x1024_S256x1024_256_0 slices_S256x512_o192_0_S64x512) (View.ld x4 r0_3) (View.ld x4 r0_4) (View.ld x2 r0_1) (View.ld x3 r0_1)) i j).trans (lo_head x0 x1 x2 x3 x4 256 192 448 rfl (by decide) (by decide) _ _ i j)).trans (row_lo x0 x1 x2 x3 x4 j 448 rfl i).symm
  refine View.allAt_cons_unit _ _ _ _ _ (place 416 _ (row x0 x1 x2 x3 x4 j) r j fun i => ?_) ?_
  · exact ((stQ_apply (rotHi (head x0 x1 256 128 inb_S1536x1024_S256x1024_256_0 slices_S256x512_o128_0_S64x512) (View.ld x4 r0_3) (View.ld x4 r0_4) (View.ld x2 r0_1) (View.ld x3 r0_1)) i j).trans (hi_head x0 x1 x2 x3 x4 256 128 384 rfl (by decide) (by decide) _ _ i j)).trans (row_hi x0 x1 x2 x3 x4 j 384 rfl i).symm
  refine View.allAt_cons_unit _ _ _ _ _ (place 384 _ (row x0 x1 x2 x3 x4 j) r j fun i => ?_) ?_
  · exact ((stQ_apply (rotLo (head x0 x1 256 128 inb_S1536x1024_S256x1024_256_0 slices_S256x512_o128_0_S64x512) (View.ld x4 r0_3) (View.ld x4 r0_4) (View.ld x2 r0_1) (View.ld x3 r0_1)) i j).trans (lo_head x0 x1 x2 x3 x4 256 128 384 rfl (by decide) (by decide) _ _ i j)).trans (row_lo x0 x1 x2 x3 x4 j 384 rfl i).symm
  refine View.allAt_cons_unit _ _ _ _ _ (place 352 _ (row x0 x1 x2 x3 x4 j) r j fun i => ?_) ?_
  · exact ((stQ_apply (rotHi (head x0 x1 256 64 inb_S1536x1024_S256x1024_256_0 slices_S256x512_o64_0_S64x512) (View.ld x4 r0_3) (View.ld x4 r0_4) (View.ld x2 r0_1) (View.ld x3 r0_1)) i j).trans (hi_head x0 x1 x2 x3 x4 256 64 320 rfl (by decide) (by decide) _ _ i j)).trans (row_hi x0 x1 x2 x3 x4 j 320 rfl i).symm
  refine View.allAt_cons_unit _ _ _ _ _ (place 320 _ (row x0 x1 x2 x3 x4 j) r j fun i => ?_) ?_
  · exact ((stQ_apply (rotLo (head x0 x1 256 64 inb_S1536x1024_S256x1024_256_0 slices_S256x512_o64_0_S64x512) (View.ld x4 r0_3) (View.ld x4 r0_4) (View.ld x2 r0_1) (View.ld x3 r0_1)) i j).trans (lo_head x0 x1 x2 x3 x4 256 64 320 rfl (by decide) (by decide) _ _ i j)).trans (row_lo x0 x1 x2 x3 x4 j 320 rfl i).symm
  refine View.allAt_cons_unit _ _ _ _ _ (place 288 _ (row x0 x1 x2 x3 x4 j) r j fun i => ?_) ?_
  · exact ((stQ_apply (rotHi (head x0 x1 256 0 inb_S1536x1024_S256x1024_256_0 slices_S256x512_o0_0_S64x512) (View.ld x4 r0_3) (View.ld x4 r0_4) (View.ld x2 r0_1) (View.ld x3 r0_1)) i j).trans (hi_head x0 x1 x2 x3 x4 256 0 256 rfl (by decide) (by decide) _ _ i j)).trans (row_hi x0 x1 x2 x3 x4 j 256 rfl i).symm
  refine View.allAt_cons_unit _ _ _ _ _ (place 256 _ (row x0 x1 x2 x3 x4 j) r j fun i => ?_) ?_
  · exact ((stQ_apply (rotLo (head x0 x1 256 0 inb_S1536x1024_S256x1024_256_0 slices_S256x512_o0_0_S64x512) (View.ld x4 r0_3) (View.ld x4 r0_4) (View.ld x2 r0_1) (View.ld x3 r0_1)) i j).trans (lo_head x0 x1 x2 x3 x4 256 0 256 rfl (by decide) (by decide) _ _ i j)).trans (row_lo x0 x1 x2 x3 x4 j 256 rfl i).symm
  refine View.allAt_cons_unit _ _ _ _ _ (place 224 _ (row x0 x1 x2 x3 x4 j) r j fun i => ?_) ?_
  · exact ((stQ_apply (rotHi (head x0 x1 0 192 inb_S1536x1024_S256x1024_0_0 slices_S256x512_o192_0_S64x512) (View.ld x4 r0_3) (View.ld x4 r0_4) (View.ld x2 r0_1) (View.ld x3 r0_1)) i j).trans (hi_head x0 x1 x2 x3 x4 0 192 192 rfl (by decide) (by decide) _ _ i j)).trans (row_hi x0 x1 x2 x3 x4 j 192 rfl i).symm
  refine View.allAt_cons_unit _ _ _ _ _ (place 192 _ (row x0 x1 x2 x3 x4 j) r j fun i => ?_) ?_
  · exact ((stQ_apply (rotLo (head x0 x1 0 192 inb_S1536x1024_S256x1024_0_0 slices_S256x512_o192_0_S64x512) (View.ld x4 r0_3) (View.ld x4 r0_4) (View.ld x2 r0_1) (View.ld x3 r0_1)) i j).trans (lo_head x0 x1 x2 x3 x4 0 192 192 rfl (by decide) (by decide) _ _ i j)).trans (row_lo x0 x1 x2 x3 x4 j 192 rfl i).symm
  refine View.allAt_cons_unit _ _ _ _ _ (place 160 _ (row x0 x1 x2 x3 x4 j) r j fun i => ?_) ?_
  · exact ((stQ_apply (rotHi (head x0 x1 0 128 inb_S1536x1024_S256x1024_0_0 slices_S256x512_o128_0_S64x512) (View.ld x4 r0_3) (View.ld x4 r0_4) (View.ld x2 r0_1) (View.ld x3 r0_1)) i j).trans (hi_head x0 x1 x2 x3 x4 0 128 128 rfl (by decide) (by decide) _ _ i j)).trans (row_hi x0 x1 x2 x3 x4 j 128 rfl i).symm
  refine View.allAt_cons_unit _ _ _ _ _ (place 128 _ (row x0 x1 x2 x3 x4 j) r j fun i => ?_) ?_
  · exact ((stQ_apply (rotLo (head x0 x1 0 128 inb_S1536x1024_S256x1024_0_0 slices_S256x512_o128_0_S64x512) (View.ld x4 r0_3) (View.ld x4 r0_4) (View.ld x2 r0_1) (View.ld x3 r0_1)) i j).trans (lo_head x0 x1 x2 x3 x4 0 128 128 rfl (by decide) (by decide) _ _ i j)).trans (row_lo x0 x1 x2 x3 x4 j 128 rfl i).symm
  refine View.allAt_cons_unit _ _ _ _ _ (place 96 _ (row x0 x1 x2 x3 x4 j) r j fun i => ?_) ?_
  · exact ((stQ_apply (rotHi (head x0 x1 0 64 inb_S1536x1024_S256x1024_0_0 slices_S256x512_o64_0_S64x512) (View.ld x4 r0_3) (View.ld x4 r0_4) (View.ld x2 r0_1) (View.ld x3 r0_1)) i j).trans (hi_head x0 x1 x2 x3 x4 0 64 64 rfl (by decide) (by decide) _ _ i j)).trans (row_hi x0 x1 x2 x3 x4 j 64 rfl i).symm
  refine View.allAt_cons_unit _ _ _ _ _ (place 64 _ (row x0 x1 x2 x3 x4 j) r j fun i => ?_) ?_
  · exact ((stQ_apply (rotLo (head x0 x1 0 64 inb_S1536x1024_S256x1024_0_0 slices_S256x512_o64_0_S64x512) (View.ld x4 r0_3) (View.ld x4 r0_4) (View.ld x2 r0_1) (View.ld x3 r0_1)) i j).trans (lo_head x0 x1 x2 x3 x4 0 64 64 rfl (by decide) (by decide) _ _ i j)).trans (row_lo x0 x1 x2 x3 x4 j 64 rfl i).symm
  refine View.allAt_cons_unit _ _ _ _ _ (place 32 _ (row x0 x1 x2 x3 x4 j) r j fun i => ?_) ?_
  · exact ((stQ_apply (rotHi (head x0 x1 0 0 inb_S1536x1024_S256x1024_0_0 slices_S256x512_o0_0_S64x512) (View.ld x4 r0_3) (View.ld x4 r0_4) (View.ld x2 r0_1) (View.ld x3 r0_1)) i j).trans (hi_head x0 x1 x2 x3 x4 0 0 0 rfl (by decide) (by decide) _ _ i j)).trans (row_hi x0 x1 x2 x3 x4 j 0 rfl i).symm
  refine View.allAt_cons_unit _ _ _ _ _ (place 0 _ (row x0 x1 x2 x3 x4 j) r j fun i => ?_) ?_
  · exact ((stQ_apply (rotLo (head x0 x1 0 0 inb_S1536x1024_S256x1024_0_0 slices_S256x512_o0_0_S64x512) (View.ld x4 r0_3) (View.ld x4 r0_4) (View.ld x2 r0_1) (View.ld x3 r0_1)) i j).trans (lo_head x0 x1 x2 x3 x4 0 0 0 rfl (by decide) (by decide) _ _ i j)).trans (row_lo x0 x1 x2 x3 x4 j 0 rfl i).symm
  exact View.allAt_nil _ _

/-- Feature `f` of the keys' head whose rows begin at `b`. -/
def key (b : ℕ) (j : Fin 512) (f : Fin 64) : EReal :=
  if h : f.val < 32 then ev x0 x1 x2 x3 w b ⟨f, h⟩ j else od x0 x1 x2 x3 w b ⟨f - 32, by omega⟩ j

theorem key_head (c o b : ℕ) (hb : c + o = b) (hc : c + 256 ≤ 1536) (ho : o + 64 ≤ 256) (inb : ∀ a, (![c, 0] : Fin 2 → ℕ) a + S256x1024.size a ≤ S1536x1024.size a) (hs : S256x512.Slices ![o, 0] S64x512) (j : Fin 512) (f : Fin 64) :
    stK (rotLo (head x0 x1 c o inb hs) (View.ld w r0_3) (View.ld w r0_4) (View.ld x2 r0_1) (View.ld x3 r0_1)) (rotHi (head x0 x1 c o inb hs) (View.ld w r0_3) (View.ld w r0_4) (View.ld x2 r0_1) (View.ld x3 r0_1)) (ix4 0 0 j f)
      = key x0 x1 x2 x3 w b j f := by
  rw [stK_apply]
  simp only [lo_head x0 x1 x2 x3 w c o b hb hc ho inb hs, hi_head x0 x1 x2 x3 w c o b hb hc ho inb hs, key]

set_option maxHeartbeats 4000000 in
/-- The keys' block at one entry. -/
theorem out_7 (g : Fin 4) (j : Fin 512) (f : Fin 64) : out0_7 x0 x1 x2 x3 x4 x5 (ix4 0 g j f) = key x0 x1 x2 x3 x5 (1024 + 64 * g) j f := by
  unfold out0_7
  show _ = (fun y => key x0 x1 x2 x3 x5 (1024 + 64 * y) j f) g.val
  refine View.canon_eq_of_allAt _ _ _ (cover0_7 _ _ _ _ _) ?_
  refine View.allAt_cons_unit _ _ _ _ _ (place_k 3 _ (fun y => key x0 x1 x2 x3 x5 (1024 + 64 * y) j f) g j f ?_) ?_
  · exact key_head x0 x1 x2 x3 x5 1024 192 (1024 + 64 * 3) rfl (by decide) (by decide) inb_S1536x1024_S256x1024_1024_0 slices_S256x512_o192_0_S64x512 j f
  refine View.allAt_cons_unit _ _ _ _ _ (place_k 2 _ (fun y => key x0 x1 x2 x3 x5 (1024 + 64 * y) j f) g j f ?_) ?_
  · exact key_head x0 x1 x2 x3 x5 1024 128 (1024 + 64 * 2) rfl (by decide) (by decide) inb_S1536x1024_S256x1024_1024_0 slices_S256x512_o128_0_S64x512 j f
  refine View.allAt_cons_unit _ _ _ _ _ (place_k 1 _ (fun y => key x0 x1 x2 x3 x5 (1024 + 64 * y) j f) g j f ?_) ?_
  · exact key_head x0 x1 x2 x3 x5 1024 64 (1024 + 64 * 1) rfl (by decide) (by decide) inb_S1536x1024_S256x1024_1024_0 slices_S256x512_o64_0_S64x512 j f
  refine View.allAt_cons_unit _ _ _ _ _ (place_k 0 _ (fun y => key x0 x1 x2 x3 x5 (1024 + 64 * y) j f) g j f ?_) ?_
  · exact key_head x0 x1 x2 x3 x5 1024 0 (1024 + 64 * 0) rfl (by decide) (by decide) inb_S1536x1024_S256x1024_1024_0 slices_S256x512_o0_0_S64x512 j f
  exact View.allAt_nil _ _

/-- The values' block at one entry. -/
theorem out_8 (r : Fin 256) (j : Fin 512) : out0_8 x0 x1 x2 x3 x4 x5 (ix3 0 r j) = dotv x0 x1 j (1280 + r) := by
  unfold out0_8
  rw [View.canon_unit_zero hz3]
  have h : k0_pay173 (k0_pay174 x0 x1 x2 x3 x4 x5) (View.ld x1 r0_45) (ix3 0 r j) = prod (View.ld x1 r0_45) (k0_pay1 (View.ld x0 r0_0)) (ix2 r j) := by
    pointwise [k0_pay173, prod]
    all_goals rfl
  rw [h, prod_apply, dotv, dif_pos (show 1280 + r.val < 1536 by omega)]
  exact Finset.sum_congr rfl fun k _ => congrArg₂ (· * ·) (ld_w x1 1280 (by decide) inb_S1536x1024_S256x1024_1280_0 r k) (tok_apply x0 j k)

end Cert.QkvIdeal.Qkv

end
-- ==== Proof.Qkv.Host.lean ====
/- The projections' prepared weights at one index: columns gathered by the order of the features. -/
module

public import proofs.«01_k».proof.Proof.Qkv.Math
public import proofs.«01_k».proof.Proof.Gen.QkvIdeal
public import Idealize.ShloMosaic.Lib.Pointwise

@[expose] public section

set_option maxRecDepth 16384

noncomputable section

namespace Cert.QkvIdeal.Qkv

open Cert.QkvIdeal Cert.QkvIdeal.Gen Cert.QkvMath Idealize.ShloMosaic

/-! ## A gather of whole columns, and one of single entries, read at an index -/

/-- The dimension numbers of `x[:, idx]`. -/
abbrev colDims (K N M : ℕ) (wf : GatherDims.WF ⟨2, ![K, N]⟩ ⟨2, ![M, 1]⟩ ⟨2, ![K, M]⟩ [0] [1] [] [1] [] 1 ![K, 1]) :
    GatherDims ⟨2, ![K, N]⟩ ⟨2, ![M, 1]⟩ ⟨2, ![K, M]⟩ where
  offsetDims := [0]
  collapsedSliceDims := [1]
  operandBatchingDims := []
  startIndicesBatchingDims := []
  startIndexMap := [1]
  indexVectorDim := 1
  sliceSizes := ![K, 1]
  wf := wf

/-- The gather of columns reads, at column `e`, the column its start index names. -/
theorem gather_col {α : Type} {K N M w : ℕ} (hN : 0 < N) (wf : GatherDims.WF ⟨2, ![K, N]⟩ ⟨2, ![M, 1]⟩ ⟨2, ![K, M]⟩ [0] [1] [] [1] [] 1 ![K, 1])
    (x : (⟨2, ![K, N]⟩ : Shape).Idx → α) (idx : IVec ⟨2, ![M, 1]⟩ w) (k : Fin K) (e : Fin M) :
    Host.gather (colDims K N M wf) x idx (ix2 k e) = x (ix2 k ⟨min (idx (ix2 e 0)).toInt.toNat (N - 1), by omega⟩) := by
  unfold Host.gather
  refine congrArg x (funext fun a => Fin.ext ?_)
  show (colDims K N M wf).start (ix2 k e) idx a + (colDims K N M wf).batchCoord (ix2 k e) a + (colDims K N M wf).offCoord (ix2 k e) a = _
  rw [GatherDims.batchCoord_eq_zero _ _ _ List.not_mem_nil, Nat.add_zero]
  match a with
  | ⟨0, _⟩ =>
    have h0 : (colDims K N M wf).start (ix2 k e) idx (0 : Fin 2) = 0 := by
      unfold GatherDims.start
      rw [dif_neg (fun h => absurd (List.mem_singleton.mp h) (show ¬(0 : Fin 2) = 1 from by decide))]
    exact (congrArg (· + _) h0).trans (Nat.zero_add _)
  | ⟨1, _⟩ =>
    have h0 : (colDims K N M wf).offCoord (ix2 k e) (1 : Fin 2) = 0 :=
      GatherDims.offCoord_eq_zero _ _ _ (fun h => ((GatherDims.mem_sKept _ _).mp h).1 (List.mem_singleton.mpr rfl))
    have h1 : (colDims K N M wf).start (ix2 k e) idx (1 : Fin 2) = min (idx (ix2 e 0)).toInt.toNat (N - 1) := by
      unfold GatherDims.start
      rw [dif_pos (show (1 : Fin 2) ∈ (colDims K N M wf).startIndexMap from List.mem_singleton.mpr rfl)]
      have hsi : (colDims K N M wf).siIdx (ix2 k e) ⟨List.idxOf (1 : Fin 2) (colDims K N M wf).startIndexMap,
          List.idxOf_lt_length_iff.2 (List.mem_singleton.mpr rfl)⟩ = ix2 e 0 := by
        funext b; refine Fin.ext ?_
        match b with
        | ⟨0, _⟩ => rfl
        | ⟨1, _⟩ => rfl
      rw [hsi]
      rfl
    exact (congrArg₂ (· + ·) h1 h0).trans (Nat.add_zero _)

/-- The dimension numbers of `x[idx]`. -/
abbrev entDims (N M : ℕ) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- The gather of entries reads, at `e`, the entry its start index names. -/
theorem gather_ent {α : Type} {N M w : ℕ} (hN : 0 < N) (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (entDims N M wf) x idx (ix1 e) = x (ix1 ⟨min (idx (ix2 e 0)).toInt.toNat (N - 1), by omega⟩) := by
  unfold Host.gather
  refine congrArg x (funext fun a => Fin.ext ?_)
  obtain rfl : a = 0 := Subsingleton.elim _ _
  show (entDims N M wf).start (ix1 e) idx 0 + (entDims N M wf).batchCoord (ix1 e) 0 + (entDims N M wf).offCoord (ix1 e) 0 = _
  rw [GatherDims.batchCoord_eq_zero _ _ _ List.not_mem_nil, Nat.add_zero,
    GatherDims.offCoord_eq_zero _ _ _ (fun h => ((GatherDims.mem_sKept _ _).mp h).1 (List.mem_singleton.mpr rfl)), Nat.add_zero]
  unfold GatherDims.start
  rw [dif_pos (show (0 : Fin 1) ∈ (entDims N M wf).startIndexMap from List.mem_singleton.mpr rfl)]
  have hsi : (entDims N M wf).siIdx (ix1 e) ⟨List.idxOf (0 : Fin 1) (entDims N M wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## The order of the features: even ones first in each head -/

/-- The plain feature that stands at `e`. -/
def qp (e : ℕ) : ℕ := 64 * (e / 64) + 2 * (e % 32) + e % 64 / 32

/-- The positions of the 1024 columns, even ones first in each head, as the start indices. -/
def sel0 : IVec S1024x1 32 :=
  broadcastInDim S1024x1 ![0] bcast_S1024_S1024x1_0 (select (constantI S1024 1 0#1) (addi (fun i => lit0 (S1024.rowMajor i)) (broadcastInDim S1024 ![] bcast_S_S1024 (constantI S_ 32 1024#32))) (fun i => lit0 (S1024.rowMajor i)))

theorem sel0_apply (e : Fin 1024) : sel0 (ix2 e 0) = lit0 e := by
  have h : sel0 (ix2 e 0) = lit0 (S1024.rowMajor (ix1 e)) := by
    pointwise [sel0]
    all_goals rfl
  rw [h]
  exact congrArg lit0 (Fin.ext (Shape.rowMajor_val_one (d := ![1024]) (ix1 e)))

theorem lit0_val : ∀ e : Fin 1024, min (lit0 e).toInt.toNat (1024 - 1) = qp e.val := by decide +kernel

/-- The positions of the 256 columns, even ones first in each head, as the start indices. -/
def sel1 : IVec S256x1 32 :=
  broadcastInDim S256x1 ![0] bcast_S256_S256x1_0 (select (constantI S256 1 0#1) (addi (fun i => lit1 (S256.rowMajor i)) (broadcastInDim S256 ![] bcast_S_S256 (constantI S_ 32 256#32))) (fun i => lit1 (S256.rowMajor i)))

theorem sel1_apply (e : Fin 256) : sel1 (ix2 e 0) = lit1 e := by
  have h : sel1 (ix2 e 0) = lit1 (S256.rowMajor (ix1 e)) := by
    pointwise [sel1]
    all_goals rfl
  rw [h]
  exact congrArg lit1 (Fin.ext (Shape.rowMajor_val_one (d := ![256]) (ix1 e)))

theorem lit1_val : ∀ e : Fin 256, min (lit1 e).toInt.toNat (256 - 1) = qp e.val := by decide +kernel

/-- The positions of the 64 columns, even ones first in each head, as the start indices. -/
def sel2 : IVec S64x1 32 :=
  broadcastInDim S64x1 ![0] bcast_S64_S64x1_0 (select (constantI S64 1 0#1) (addi (fun i => lit2 (S64.rowMajor i)) (broadcastInDim S64 ![] bcast_S_S64 (constantI S_ 32 64#32))) (fun i => lit2 (S64.rowMajor i)))

theorem sel2_apply (e : Fin 64) : sel2 (ix2 e 0) = lit2 e := by
  have h : sel2 (ix2 e 0) = lit2 (S64.rowMajor (ix1 e)) := by
    pointwise [sel2]
    all_goals rfl
  rw [h]
  exact congrArg lit2 (Fin.ext (Shape.rowMajor_val_one (d := ![64]) (ix1 e)))

theorem lit2_val : ∀ e : Fin 64, min (lit2 e).toInt.toNat (64 - 1) = qp e.val := by decide +kernel

/-! ## The prepared weights -/

/-- The projections' weights as the launch takes them: a feature per row, in the new order, the values' plain. -/
def wcat (w : FVec Ideal S1024x9792 .f32) : FVec Ideal S1536x1024 .bf16 :=
  truncf .bf16 (transpose S1536x1024 [1, 0] (concatenate S1024x1536 1 [⟨S1024x1024, Host.gather gather_S1024x1024_S1024x1_S1024x1024_0_1_n_n_1_1_10241 (extractStridedSlice S1024x1024 ![0, 0] w slices_S1024x9792_S1024x1024_0_0) sel0⟩, ⟨S1024x256, Host.gather gather_S1024x256_S256x1_S1024x256_0_1_n_n_1_1_10241 (extractStridedSlice S1024x256 ![0, 1024] w slices_S1024x9792_S1024x256_0_1024) sel1⟩, ⟨S1024x256, extractStridedSlice S1024x256 ![0, 1280] w slices_S1024x9792_S1024x256_0_1280⟩] concatenates_S1024x1024_S1024x256_S1024x256_S1024x1536_d1) transposes_S1024x1536_S1536x1024_1_0) bitsLt_bf16_f32

theorem cols0 (x : FVec Ideal S1024x1024 .f32) (k : Fin 1024) (e : Fin 1024) :
    Host.gather gather_S1024x1024_S1024x1_S1024x1024_0_1_n_n_1_1_10241 x sel0 (ix2 k e) = x (ix2 k ⟨qp e, by unfold qp; omega⟩) := by
  refine (gather_col (N := 1024) (by decide) gather_S1024x1024_S1024x1_S1024x1024_0_1_n_n_1_1_10241.wf x sel0 k e).trans ?_
  exact congrArg x (congrArg (ix2 k) (Fin.ext ((congrArg (fun z : BitVec 32 => min z.toInt.toNat (1024 - 1)) (sel0_apply e)).trans (lit0_val e))))

theorem cols1 (x : FVec Ideal S1024x256 .f32) (k : Fin 1024) (e : Fin 256) :
    Host.gather gather_S1024x256_S256x1_S1024x256_0_1_n_n_1_1_10241 x sel1 (ix2 k e) = x (ix2 k ⟨qp e, by unfold qp; omega⟩) := by
  refine (gather_col (N := 256) (by decide) gather_S1024x256_S256x1_S1024x256_0_1_n_n_1_1_10241.wf x sel1 k e).trans ?_
  exact congrArg x (congrArg (ix2 k) (Fin.ext ((congrArg (fun z : BitVec 32 => min z.toInt.toNat (256 - 1)) (sel1_apply e)).trans (lit1_val e))))

theorem ents (x : FVec Ideal S64 .f32) (e : Fin 64) :
    Host.gather gather_S64_S64x1_S64_n_0_n_n_0_1_1 x sel2 (ix1 e) = x (ix1 ⟨qp e, by unfold qp; omega⟩) := by
  refine (gather_ent (N := 64) (by decide) gather_S64_S64x1_S64_n_0_n_n_0_1_1.wf x sel2 e).trans ?_
  exact congrArg x (congrArg ix1 (Fin.ext ((congrArg (fun z : BitVec 32 => min z.toInt.toNat (64 - 1)) (sel2_apply e)).trans (lit2_val e))))

/-- A row of the queries' or the keys' prepared weights. -/
theorem wcat_qk (w : FVec Ideal S1024x9792 .f32) (e : Fin 1536) (k : Fin 1024) (h : e.val < 1280) :
    wcat w (ix2 e k) = w (ix2 k ⟨qp e, by unfold qp; omega⟩) := by
  by_cases h' : e.val < 1024
  · pointwise [wcat]
    rw [dif_pos h', cols0]
    pointwise
  · pointwise [wcat]
    rw [dif_neg h', dif_pos (show e.val - 1024 < 256 by omega), cols1]
    pointwise
    exact congrArg w (congrArg (ix2 k) (Fin.ext (by show 1024 + qp (e.val - 1024) = qp e.val; unfold qp; omega)))

/-- A row of the values'. -/
theorem wcat_v (w : FVec Ideal S1024x9792 .f32) (e : Fin 1536) (k : Fin 1024) (h : ¬e.val < 1280) :
    wcat w (ix2 e k) = w (ix2 k ⟨e, by omega⟩) := by
  pointwise [wcat]
  rw [dif_neg (show ¬e.val < 1024 by omega), dif_neg (show ¬e.val - 1024 < 256 by omega)]
  exact congrArg w (congrArg (ix2 k) (Fin.ext (by show 1280 + (e.val - 1024 - 256) = e.val; omega)))

/-- A norm's weights as the launch takes them. -/
def wrep (g : FVec Ideal S64 .f32) : FVec Ideal S64x512 .f32 :=
  broadcastInDim S64x512 ![0, 1] bcast_S64x1_S64x512_0_1 (broadcastInDim S64x1 ![0] bcast_S64_S64x1_0 (Host.gather gather_S64_S64x1_S64_n_0_n_n_0_1_1 g sel2))

theorem wrep_apply (g : FVec Ideal S64 .f32) (e : Fin 64) (j : Fin 512) : wrep g (ix2 e j) = g (ix1 ⟨qp e, by unfold qp; omega⟩) := by
  pointwise [wrep]
  rw [ents]

theorem wrep_lo (g : FVec Ideal S64 .f32) (i : Fin 32) (j : Fin 512) : wrep g (ix2 ⟨i, by omega⟩ j) = g (ix1 ⟨2 * i, by omega⟩) := by
  rw [wrep_apply]
  exact congrArg g (congrArg ix1 (Fin.ext (by show qp i.val = 2 * i.val; unfold qp; omega)))

theorem wrep_hi (g : FVec Ideal S64 .f32) (i : Fin 32) (j : Fin 512) : wrep g (ix2 ⟨32 + i, by omega⟩ j) = g (ix1 ⟨2 * i + 1, by omega⟩) := by
  rw [wrep_apply]
  exact congrArg g (congrArg ix1 (Fin.ext (by show qp (32 + i.val) = 2 * i.val + 1; unfold qp; omega)))

end Cert.QkvIdeal.Qkv

end
-- ==== Proof.Qkv.Heads.lean ====
/- The reference's heads, step by step, at one index. -/
module

public import proofs.«01_k».proof.Proof.Qkv.Math
public import proofs.«01_k».proof.Proof.Gen.QkvReferenceIdeal
public import Idealize.ShloMosaic.Lib.Pointwise

@[expose] public section

set_option maxRecDepth 16384

noncomputable section

namespace Cert.QkvReferenceIdeal.Qkv

open Cert.QkvReferenceIdeal Cert.QkvReferenceIdeal.Gen Cert.QkvMath Idealize.ShloMosaic Idealize.ShloMosaic.TcCoe Idealize.SL.Sem

/-- The input projection. -/
def proj (x : FVec Ideal S16x4096x1024 .f32) (w : FVec Ideal S1024x9792 .f32) : FVec Ideal S16x4096x9792 .f32 :=
  Host.dotGeneral dot_S16x4096x1024_S1024x9792_S16x4096x9792_2_0_01_1_n_n none x w

theorem proj_apply (x : FVec Ideal S16x4096x1024 .f32) (w : FVec Ideal S1024x9792 .f32) (b : Fin 16) (s : Fin 4096) (e : Fin 9792) :
    proj x w (ix3 b s e) = ∑ k : Fin 1024, x (ix3 b s k) * w (ix2 k e) := by
  pointwise [proj]

/-- Column `e` of a projection, zero past the last. -/
def colN (p : FVec Ideal S16x4096x9792 .f32) (b : Fin 16) (s : Fin 4096) (e : ℕ) : EReal := if h : e < 9792 then p (ix3 b s ⟨e, h⟩) else 0

/-! ### The queries -/

/-- The heads' rows. -/
def rows16 (p : FVec Ideal S16x4096x9792 .f32) : FVec Ideal S16x4096x16x64 .f32 :=
  shapeCast _ (extractStridedSlice S16x4096x1024 ![0, 0, 0] p slices_S16x4096x9792_S16x4096x1024_0_0_0) shapeCasts_S16x4096x1024_S16x4096x16x64

/-- The mean square of each head, and its reciprocal root. -/
def inv16 (p : FVec Ideal S16x4096x16x64 .f32) : FVec Ideal S16x4096x16x1 .f32 :=
  Host.rsqrt (addf (Host.divf (broadcastInDim S16x4096x16x1 ![0, 1, 2] bcast_S16x4096x16_S16x4096x16x1_0_1_2 (Host.reduceAdd (mulf p p) (constant S_ .f32 0x00000000#32) reducesTo_S16x4096x16x64_S16x4096x16_d3 h_S_)) (broadcastInDim S16x4096x16x1 ![] bcast_S_S16x4096x16x1 (constant S_ .f32 0x42800000#32))) (broadcastInDim S16x4096x16x1 ![] bcast_S_S16x4096x16x1 (constant S_ .f32 0x358637BD#32)))

/-- The normed heads, weighted. -/
def normed16 (p : FVec Ideal S16x4096x16x64 .f32) (g : FVec Ideal S64 .f32) : FVec Ideal S16x4096x16x64 .f32 :=
  mulf (mulf p (broadcastInDim S16x4096x16x64 ![0, 1, 2, 3] bcast_S16x4096x16x1_S16x4096x16x64_0_1_2_3 (inv16 p))) (broadcastInDim S16x4096x16x64 ![0, 1, 2, 3] bcast_S1x1x1x64_S16x4096x16x64_0_1_2_3 (broadcastInDim S1x1x1x64 ![3] bcast_S64_S1x1x1x64_3 g))

/-- The first and the second of each pair of features. -/
def fst16 (y : FVec Ideal S16x4096x16x64 .f32) : FVec Ideal S16x4096x16x32 .f32 :=
  shapeCast _ (extractStridedSlice S16x4096x16x32x1 ![0, 0, 0, 0, 0] (shapeCast _ y shapeCasts_S16x4096x16x64_S16x4096x16x32x2) slices_S16x4096x16x32x2_S16x4096x16x32x1_0_0_0_0_0) shapeCasts_S16x4096x16x32x1_S16x4096x16x32
def snd16 (y : FVec Ideal S16x4096x16x64 .f32) : FVec Ideal S16x4096x16x32 .f32 :=
  shapeCast _ (extractStridedSlice S16x4096x16x32x1 ![0, 0, 0, 0, 1] (shapeCast _ y shapeCasts_S16x4096x16x64_S16x4096x16x32x2) slices_S16x4096x16x32x2_S16x4096x16x32x1_0_0_0_0_1) shapeCasts_S16x4096x16x32x1_S16x4096x16x32

/-- A table of the positions, for every sequence and head. -/
def tab16 (t : FVec Ideal S4096x32 .f32) : FVec Ideal S16x4096x16x32 .f32 :=
  broadcastInDim S16x4096x16x32 ![0, 1, 2, 3] bcast_S1x4096x1x32_S16x4096x16x32_0_1_2_3 (broadcastInDim S1x4096x1x32 ![1, 2, 3] bcast_S4096x1x32_S1x4096x1x32_1_2_3 (broadcastInDim S4096x1x32 ![0, 2] bcast_S4096x32_S4096x1x32_0_2 t))

/-- The rotated pairs. -/
def lo16 (y : FVec Ideal S16x4096x16x64 .f32) (t u : FVec Ideal S4096x32 .f32) : FVec Ideal S16x4096x16x32 .f32 := subf (mulf (fst16 y) (tab16 t)) (mulf (snd16 y) (tab16 u))
def hi16 (y : FVec Ideal S16x4096x16x64 .f32) (t u : FVec Ideal S4096x32 .f32) : FVec Ideal S16x4096x16x32 .f32 := addf (mulf (fst16 y) (tab16 u)) (mulf (snd16 y) (tab16 t))

/-- The pairs put back among a head's 64 features. -/
def inter16 (u v : FVec Ideal S16x4096x16x32 .f32) : FVec Ideal S16x4096x16x64 .f32 :=
  shapeCast _ (concatenate S16x4096x16x32x2 4 [⟨S16x4096x16x32x1, broadcastInDim S16x4096x16x32x1 ![0, 1, 2, 3] bcast_S16x4096x16x32_S16x4096x16x32x1_0_1_2_3 u⟩, ⟨S16x4096x16x32x1, broadcastInDim S16x4096x16x32x1 ![0, 1, 2, 3] bcast_S16x4096x16x32_S16x4096x16x32x1_0_1_2_3 v⟩] concatenates_S16x4096x16x32x1_S16x4096x16x32x1_S16x4096x16x32x2_d4) shapeCasts_S16x4096x16x32x2_S16x4096x16x64

/-- The even features before the odd ones. -/
def sorted16 (z : FVec Ideal S16x4096x16x64 .f32) : FVec Ideal S16x4096x16x64 .f32 :=
  concatenate S16x4096x16x64 3 [⟨S16x4096x16x32, Host.slice S16x4096x16x32 ![0, 0, 0, 0] ![1, 1, 1, 2] z slicesBy_S16x4096x16x64_S16x4096x16x32_0s1_0s1_0s1_0s2⟩, ⟨S16x4096x16x32, Host.slice S16x4096x16x32 ![0, 0, 0, 1] ![1, 1, 1, 2] z slicesBy_S16x4096x16x64_S16x4096x16x32_0s1_0s1_0s1_1s2⟩] concatenates_S16x4096x16x32_S16x4096x16x32_S16x4096x16x64_d3

/-- All of it. -/
def out16 (p : FVec Ideal S16x4096x9792 .f32) (g : FVec Ideal S64 .f32) (t u : FVec Ideal S4096x32 .f32) : FVec Ideal S16x4096x16x64 .f32 :=
  sorted16 (inter16 (lo16 (normed16 (rows16 p) g) t u) (hi16 (normed16 (rows16 p) g) t u))

theorem rows16_apply (p : FVec Ideal S16x4096x9792 .f32) (b : Fin 16) (s : Fin 4096) (h : Fin 16) (f : Fin 64) :
    rows16 p (ix4 b s h f) = p (ix3 b s ⟨0 + (64 * h + f), by omega⟩) := by
  pointwise [rows16]
  exact congrArg p (congrArg (ix3 b s) (Fin.ext (by simp only [Nat.mul_comm])))

theorem inv16_apply (p : FVec Ideal S16x4096x16x64 .f32) (b : Fin 16) (s : Fin 4096) (h : Fin 16) :
    inv16 p (ix4 b s h 0) = nrm (fun i => p (ix4 b s h ⟨2 * i, by omega⟩)) (fun i => p (ix4 b s h ⟨2 * i + 1, by omega⟩)) := by
  refine Eq.trans ?_ (nrm_ref (fun f => p (ix4 b s h f)))
  pointwise [inv16]
  all_goals rfl

theorem normed16_apply (p : FVec Ideal S16x4096x16x64 .f32) (g : FVec Ideal S64 .f32) (b : Fin 16) (s : Fin 4096) (h : Fin 16) (f : Fin 64) :
    normed16 p g (ix4 b s h f) = p (ix4 b s h f) * inv16 p (ix4 b s h 0) * g (ix1 f) := by
  pointwise [normed16]

theorem fst16_apply (y : FVec Ideal S16x4096x16x64 .f32) (b : Fin 16) (s : Fin 4096) (h : Fin 16) (i : Fin 32) :
    fst16 y (ix4 b s h i) = y (ix4 b s h ⟨2 * i, by omega⟩) := by
  pointwise [fst16]
  exact congrArg y (congrArg (ix4 b s h) (Fin.ext (Nat.mul_comm _ _)))

theorem snd16_apply (y : FVec Ideal S16x4096x16x64 .f32) (b : Fin 16) (s : Fin 4096) (h : Fin 16) (i : Fin 32) :
    snd16 y (ix4 b s h i) = y (ix4 b s h ⟨2 * i + 1, by omega⟩) := by
  pointwise [snd16]
  exact congrArg y (congrArg (ix4 b s h) (Fin.ext (congrArg (· + 1) (Nat.mul_comm _ _))))

theorem tab16_apply (t : FVec Ideal S4096x32 .f32) (b : Fin 16) (s : Fin 4096) (h : Fin 16) (i : Fin 32) :
    tab16 t (ix4 b s h i) = t (ix2 s i) := by
  pointwise [tab16]

theorem inter16_even (u v : FVec Ideal S16x4096x16x32 .f32) (b : Fin 16) (s : Fin 4096) (h : Fin 16) (i : Fin 32) :
    inter16 u v (ix4 b s h ⟨2 * i, by omega⟩) = u (ix4 b s h i) := by
  pointwise [inter16]
  rw [dif_pos (by omega)]

theorem inter16_odd (u v : FVec Ideal S16x4096x16x32 .f32) (b : Fin 16) (s : Fin 4096) (h : Fin 16) (i : Fin 32) :
    inter16 u v (ix4 b s h ⟨2 * i + 1, by omega⟩) = v (ix4 b s h i) := by
  pointwise [inter16]
  rw [dif_neg (by omega)]

theorem sorted16_lo (z : FVec Ideal S16x4096x16x64 .f32) (b : Fin 16) (s : Fin 4096) (h : Fin 16) (f : Fin 64) (hf : f.val < 32) :
    sorted16 z (ix4 b s h f) = z (ix4 b s h ⟨2 * f, by omega⟩) := by
  pointwise [sorted16]
  rw [dif_pos hf]

theorem sorted16_hi (z : FVec Ideal S16x4096x16x64 .f32) (b : Fin 16) (s : Fin 4096) (h : Fin 16) (f : Fin 64) (hf : ¬f.val < 32) :
    sorted16 z (ix4 b s h f) = z (ix4 b s h ⟨2 * (f - 32) + 1, by omega⟩) := by
  pointwise [sorted16]
  rw [dif_neg hf]
  exact congrArg z (congrArg (ix4 b s h) (Fin.ext (Nat.add_comm _ _)))

theorem rows16_col (p : FVec Ideal S16x4096x9792 .f32) (b : Fin 16) (s : Fin 4096) (h : Fin 16) (f : Fin 64) :
    rows16 p (ix4 b s h f) = colN p b s (0 + 64 * h + f) := by
  rw [rows16_apply, colN, dif_pos (show 0 + 64 * h.val + f.val < 9792 by omega)]
  exact congrArg p (congrArg (ix3 b s) (Fin.ext (Nat.add_assoc _ _ _).symm))

/-- The reference's heads at one entry. -/
theorem out16_apply (p : FVec Ideal S16x4096x9792 .f32) (g : FVec Ideal S64 .f32) (t u : FVec Ideal S4096x32 .f32) (b : Fin 16) (s : Fin 4096) (h : Fin 16) (f : Fin 64) :
    out16 p g t u (ix4 b s h f) = keyR (colN p b s) (fun f => g (ix1 f)) (fun i => t (ix2 s i)) (fun i => u (ix2 s i)) (0 + 64 * h) f := by
  unfold out16
  by_cases hf : f.val < 32
  · rw [sorted16_lo _ _ _ _ _ hf, keyR, dif_pos hf]
    refine (inter16_even _ _ b s h ⟨f, hf⟩).trans ?_
    show fst16 _ _ * tab16 t _ - snd16 _ _ * tab16 u _ = _
    simp only [fst16_apply, snd16_apply, tab16_apply, normed16_apply, inv16_apply, rows16_col, evR, rotE]
  · rw [sorted16_hi _ _ _ _ _ hf, keyR, dif_neg hf]
    refine (inter16_odd _ _ b s h ⟨f - 32, by omega⟩).trans ?_
    show fst16 _ _ * tab16 u _ + snd16 _ _ * tab16 t _ = _
    simp only [fst16_apply, snd16_apply, tab16_apply, normed16_apply, inv16_apply, rows16_col, odR, rotO]

/-! ### The keys -/

/-- The heads' rows. -/
def rows4 (p : FVec Ideal S16x4096x9792 .f32) : FVec Ideal S16x4096x4x64 .f32 :=
  shapeCast _ (extractStridedSlice S16x4096x256 ![0, 0, 1024] p slices_S16x4096x9792_S16x4096x256_0_0_1024) shapeCasts_S16x4096x256_S16x4096x4x64

/-- The mean square of each head, and its reciprocal root. -/
def inv4 (p : FVec Ideal S16x4096x4x64 .f32) : FVec Ideal S16x4096x4x1 .f32 :=
  Host.rsqrt (addf (Host.divf (broadcastInDim S16x4096x4x1 ![0, 1, 2] bcast_S16x4096x4_S16x4096x4x1_0_1_2 (Host.reduceAdd (mulf p p) (constant S_ .f32 0x00000000#32) reducesTo_S16x4096x4x64_S16x4096x4_d3 h_S_)) (broadcastInDim S16x4096x4x1 ![] bcast_S_S16x4096x4x1 (constant S_ .f32 0x42800000#32))) (broadcastInDim S16x4096x4x1 ![] bcast_S_S16x4096x4x1 (constant S_ .f32 0x358637BD#32)))

/-- The normed heads, weighted. -/
def normed4 (p : FVec Ideal S16x4096x4x64 .f32) (g : FVec Ideal S64 .f32) : FVec Ideal S16x4096x4x64 .f32 :=
  mulf (mulf p (broadcastInDim S16x4096x4x64 ![0, 1, 2, 3] bcast_S16x4096x4x1_S16x4096x4x64_0_1_2_3 (inv4 p))) (broadcastInDim S16x4096x4x64 ![0, 1, 2, 3] bcast_S1x1x1x64_S16x4096x4x64_0_1_2_3 (broadcastInDim S1x1x1x64 ![3] bcast_S64_S1x1x1x64_3 g))

/-- The first and the second of each pair of features. -/
def fst4 (y : FVec Ideal S16x4096x4x64 .f32) : FVec Ideal S16x4096x4x32 .f32 :=
  shapeCast _ (extractStridedSlice S16x4096x4x32x1 ![0, 0, 0, 0, 0] (shapeCast _ y shapeCasts_S16x4096x4x64_S16x4096x4x32x2) slices_S16x4096x4x32x2_S16x4096x4x32x1_0_0_0_0_0) shapeCasts_S16x4096x4x32x1_S16x4096x4x32
def snd4 (y : FVec Ideal S16x4096x4x64 .f32) : FVec Ideal S16x4096x4x32 .f32 :=
  shapeCast _ (extractStridedSlice S16x4096x4x32x1 ![0, 0, 0, 0, 1] (shapeCast _ y shapeCasts_S16x4096x4x64_S16x4096x4x32x2) slices_S16x4096x4x32x2_S16x4096x4x32x1_0_0_0_0_1) shapeCasts_S16x4096x4x32x1_S16x4096x4x32

/-- A table of the positions, for every sequence and head. -/
def tab4 (t : FVec Ideal S4096x32 .f32) : FVec Ideal S16x4096x4x32 .f32 :=
  broadcastInDim S16x4096x4x32 ![0, 1, 2, 3] bcast_S1x4096x1x32_S16x4096x4x32_0_1_2_3 (broadcastInDim S1x4096x1x32 ![1, 2, 3] bcast_S4096x1x32_S1x4096x1x32_1_2_3 (broadcastInDim S4096x1x32 ![0, 2] bcast_S4096x32_S4096x1x32_0_2 t))

/-- The rotated pairs. -/
def lo4 (y : FVec Ideal S16x4096x4x64 .f32) (t u : FVec Ideal S4096x32 .f32) : FVec Ideal S16x4096x4x32 .f32 := subf (mulf (fst4 y) (tab4 t)) (mulf (snd4 y) (tab4 u))
def hi4 (y : FVec Ideal S16x4096x4x64 .f32) (t u : FVec Ideal S4096x32 .f32) : FVec Ideal S16x4096x4x32 .f32 := addf (mulf (fst4 y) (tab4 u)) (mulf (snd4 y) (tab4 t))

/-- The pairs put back among a head's 64 features. -/
def inter4 (u v : FVec Ideal S16x4096x4x32 .f32) : FVec Ideal S16x4096x4x64 .f32 :=
  shapeCast _ (concatenate S16x4096x4x32x2 4 [⟨S16x4096x4x32x1, broadcastInDim S16x4096x4x32x1 ![0, 1, 2, 3] bcast_S16x4096x4x32_S16x4096x4x32x1_0_1_2_3 u⟩, ⟨S16x4096x4x32x1, broadcastInDim S16x4096x4x32x1 ![0, 1, 2, 3] bcast_S16x4096x4x32_S16x4096x4x32x1_0_1_2_3 v⟩] concatenates_S16x4096x4x32x1_S16x4096x4x32x1_S16x4096x4x32x2_d4) shapeCasts_S16x4096x4x32x2_S16x4096x4x64

/-- The even features before the odd ones. -/
def sorted4 (z : FVec Ideal S16x4096x4x64 .f32) : FVec Ideal S16x4096x4x64 .f32 :=
  concatenate S16x4096x4x64 3 [⟨S16x4096x4x32, Host.slice S16x4096x4x32 ![0, 0, 0, 0] ![1, 1, 1, 2] z slicesBy_S16x4096x4x64_S16x4096x4x32_0s1_0s1_0s1_0s2⟩, ⟨S16x4096x4x32, Host.slice S16x4096x4x32 ![0, 0, 0, 1] ![1, 1, 1, 2] z slicesBy_S16x4096x4x64_S16x4096x4x32_0s1_0s1_0s1_1s2⟩] concatenates_S16x4096x4x32_S16x4096x4x32_S16x4096x4x64_d3

/-- All of it. -/
def out4 (p : FVec Ideal S16x4096x9792 .f32) (g : FVec Ideal S64 .f32) (t u : FVec Ideal S4096x32 .f32) : FVec Ideal S16x4096x4x64 .f32 :=
  sorted4 (inter4 (lo4 (normed4 (rows4 p) g) t u) (hi4 (normed4 (rows4 p) g) t u))

theorem rows4_apply (p : FVec Ideal S16x4096x9792 .f32) (b : Fin 16) (s : Fin 4096) (h : Fin 4) (f : Fin 64) :
    rows4 p (ix4 b s h f) = p (ix3 b s ⟨1024 + (64 * h + f), by omega⟩) := by
  pointwise [rows4]
  exact congrArg p (congrArg (ix3 b s) (Fin.ext (by simp only [Nat.mul_comm])))

theorem inv4_apply (p : FVec Ideal S16x4096x4x64 .f32) (b : Fin 16) (s : Fin 4096) (h : Fin 4) :
    inv4 p (ix4 b s h 0) = nrm (fun i => p (ix4 b s h ⟨2 * i, by omega⟩)) (fun i => p (ix4 b s h ⟨2 * i + 1, by omega⟩)) := by
  refine Eq.trans ?_ (nrm_ref (fun f => p (ix4 b s h f)))
  pointwise [inv4]
  all_goals rfl

theorem normed4_apply (p : FVec Ideal S16x4096x4x64 .f32) (g : FVec Ideal S64 .f32) (b : Fin 16) (s : Fin 4096) (h : Fin 4) (f : Fin 64) :
    normed4 p g (ix4 b s h f) = p (ix4 b s h f) * inv4 p (ix4 b s h 0) * g (ix1 f) := by
  pointwise [normed4]

theorem fst4_apply (y : FVec Ideal S16x4096x4x64 .f32) (b : Fin 16) (s : Fin 4096) (h : Fin 4) (i : Fin 32) :
    fst4 y (ix4 b s h i) = y (ix4 b s h ⟨2 * i, by omega⟩) := by
  pointwise [fst4]
  exact congrArg y (congrArg (ix4 b s h) (Fin.ext (Nat.mul_comm _ _)))

theorem snd4_apply (y : FVec Ideal S16x4096x4x64 .f32) (b : Fin 16) (s : Fin 4096) (h : Fin 4) (i : Fin 32) :
    snd4 y (ix4 b s h i) = y (ix4 b s h ⟨2 * i + 1, by omega⟩) := by
  pointwise [snd4]
  exact congrArg y (congrArg (ix4 b s h) (Fin.ext (congrArg (· + 1) (Nat.mul_comm _ _))))

theorem tab4_apply (t : FVec Ideal S4096x32 .f32) (b : Fin 16) (s : Fin 4096) (h : Fin 4) (i : Fin 32) :
    tab4 t (ix4 b s h i) = t (ix2 s i) := by
  pointwise [tab4]

theorem inter4_even (u v : FVec Ideal S16x4096x4x32 .f32) (b : Fin 16) (s : Fin 4096) (h : Fin 4) (i : Fin 32) :
    inter4 u v (ix4 b s h ⟨2 * i, by omega⟩) = u (ix4 b s h i) := by
  pointwise [inter4]
  rw [dif_pos (by omega)]

theorem inter4_odd (u v : FVec Ideal S16x4096x4x32 .f32) (b : Fin 16) (s : Fin 4096) (h : Fin 4) (i : Fin 32) :
    inter4 u v (ix4 b s h ⟨2 * i + 1, by omega⟩) = v (ix4 b s h i) := by
  pointwise [inter4]
  rw [dif_neg (by omega)]

theorem sorted4_lo (z : FVec Ideal S16x4096x4x64 .f32) (b : Fin 16) (s : Fin 4096) (h : Fin 4) (f : Fin 64) (hf : f.val < 32) :
    sorted4 z (ix4 b s h f) = z (ix4 b s h ⟨2 * f, by omega⟩) := by
  pointwise [sorted4]
  rw [dif_pos hf]

theorem sorted4_hi (z : FVec Ideal S16x4096x4x64 .f32) (b : Fin 16) (s : Fin 4096) (h : Fin 4) (f : Fin 64) (hf : ¬f.val < 32) :
    sorted4 z (ix4 b s h f) = z (ix4 b s h ⟨2 * (f - 32) + 1, by omega⟩) := by
  pointwise [sorted4]
  rw [dif_neg hf]
  exact congrArg z (congrArg (ix4 b s h) (Fin.ext (Nat.add_comm _ _)))

theorem rows4_col (p : FVec Ideal S16x4096x9792 .f32) (b : Fin 16) (s : Fin 4096) (h : Fin 4) (f : Fin 64) :
    rows4 p (ix4 b s h f) = colN p b s (1024 + 64 * h + f) := by
  rw [rows4_apply, colN, dif_pos (show 1024 + 64 * h.val + f.val < 9792 by omega)]
  exact congrArg p (congrArg (ix3 b s) (Fin.ext (Nat.add_assoc _ _ _).symm))

/-- The reference's heads at one entry. -/
theorem out4_apply (p : FVec Ideal S16x4096x9792 .f32) (g : FVec Ideal S64 .f32) (t u : FVec Ideal S4096x32 .f32) (b : Fin 16) (s : Fin 4096) (h : Fin 4) (f : Fin 64) :
    out4 p g t u (ix4 b s h f) = keyR (colN p b s) (fun f => g (ix1 f)) (fun i => t (ix2 s i)) (fun i => u (ix2 s i)) (1024 + 64 * h) f := by
  unfold out4
  by_cases hf : f.val < 32
  · rw [sorted4_lo _ _ _ _ _ hf, keyR, dif_pos hf]
    refine (inter4_even _ _ b s h ⟨f, hf⟩).trans ?_
    show fst4 _ _ * tab4 t _ - snd4 _ _ * tab4 u _ = _
    simp only [fst4_apply, snd4_apply, tab4_apply, normed4_apply, inv4_apply, rows4_col, evR, rotE]
  · rw [sorted4_hi _ _ _ _ _ hf, keyR, dif_neg hf]
    refine (inter4_odd _ _ b s h ⟨f - 32, by omega⟩).trans ?_
    show fst4 _ _ * tab4 u _ + snd4 _ _ * tab4 t _ = _
    simp only [fst4_apply, snd4_apply, tab4_apply, normed4_apply, inv4_apply, rows4_col, odR, rotO]

end Cert.QkvReferenceIdeal.Qkv

end
-- ==== Proof.Qkv.Ref.lean ====
/- The reference's queries, keys and values at one index. -/
module

public import proofs.«01_k».proof.Proof.Qkv.Heads
public import proofs.«01_k».proof.Proof.Gen.QkvReferenceIdeal.Run
public import Idealize.ShloMosaic.Lib.Pointwise

@[expose] public section

set_option maxRecDepth 16384

noncomputable section

namespace Cert.QkvReferenceIdeal.Qkv

open Cert.QkvReferenceIdeal Cert.QkvReferenceIdeal.Gen Cert.QkvMath Idealize.ShloMosaic Idealize.ShloMosaic.TcCoe Idealize.SL.Sem

/-- The rotation's frequencies. -/
def freqs : FVec Ideal S16 .f32 :=
  Host.powf (broadcastInDim S16 ![] bcast_S_S16 (constant S_ .f32 0x461C4000#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32)))

/-- A position's row and its column on the grid, as numbers. -/
def posRow : FVec Ideal S4096 .f32 := shapeCast _ (broadcastInDim S64x64 ![0] bcast_S64_S64x64_0 (sitofp .f32 (iotaInDim S64 32 0) : FVec Ideal S64 .f32)) shapeCasts_S64x64_S4096
def posCol : FVec Ideal S4096 .f32 := shapeCast _ (broadcastInDim S64x64 ![0, 1] bcast_S1x64_S64x64_0_1 (shapeCast _ (sitofp .f32 (iotaInDim S64 32 0) : FVec Ideal S64 .f32) shapeCasts_S64_S1x64)) shapeCasts_S64x64_S4096

/-- The angles. -/
def ang : FVec Ideal S4096x32 .f32 :=
  concatenate S4096x32 1 [⟨S4096x16, mulf (broadcastInDim S4096x16 ![0, 1] bcast_S4096x1_S4096x16_0_1 (broadcastInDim S4096x1 ![0] bcast_S4096_S4096x1_0 (posRow))) (broadcastInDim S4096x16 ![0, 1] bcast_S1x16_S4096x16_0_1 (broadcastInDim S1x16 ![1] bcast_S16_S1x16_1 freqs))⟩, ⟨S4096x16, mulf (broadcastInDim S4096x16 ![0, 1] bcast_S4096x1_S4096x16_0_1 (broadcastInDim S4096x1 ![0] bcast_S4096_S4096x1_0 (posCol))) (broadcastInDim S4096x16 ![0, 1] bcast_S1x16_S4096x16_0_1 (broadcastInDim S1x16 ![1] bcast_S16_S1x16_1 freqs))⟩] concatenates_S4096x16_S4096x16_S4096x32_d1

/-- Their cosines and sines. -/
def cosT : FVec Ideal S4096x32 .f32 := Host.cos ang
def sinT : FVec Ideal S4096x32 .f32 := Host.sin ang

variable (x : FVec Ideal S16x4096x1024 .f32) (w : FVec Ideal S1024x9792 .f32) (gq gk : FVec Ideal S64 .f32)

/-- The heads' features laid out as they are returned. -/
def layQ (z : FVec Ideal S16x4096x16x64 .f32) : FVec Ideal S16x1024x4096 .bf16 :=
  truncf .bf16 (transpose S16x1024x4096 [0, 2, 1] (shapeCast S16x4096x1024 z shapeCasts_S16x4096x16x64_S16x4096x1024) transposes_S16x4096x1024_S16x1024x4096_0_2_1) bitsLt_bf16_f32
def layK (z : FVec Ideal S16x4096x4x64 .f32) : FVec Ideal S16x4x4096x64 .bf16 :=
  truncf .bf16 (transpose S16x4x4096x64 [0, 2, 1, 3] z transposes_S16x4096x4x64_S16x4x4096x64_0_2_1_3) bitsLt_bf16_f32

theorem layQ_at (z : FVec Ideal S16x4096x16x64 .f32) (b : Fin 16) (y : Fin 1024) (s : Fin 4096) :
    layQ z (ix3 b y s) = z (ix4 b s ⟨y / 64, by omega⟩ ⟨y % 64, by omega⟩) := by
  pointwise [layQ]

theorem layK_at (z : FVec Ideal S16x4096x4x64 .f32) (b : Fin 16) (h : Fin 4) (s : Fin 4096) (f : Fin 64) :
    layK z (ix4 b h s f) = z (ix4 b s h f) := by
  pointwise [layK]

/-- The queries and the keys of a projection. -/
def outQ (p : FVec Ideal S16x4096x9792 .f32) (g : FVec Ideal S64 .f32) (t u : FVec Ideal S4096x32 .f32) : FVec Ideal S16x1024x4096 .bf16 := layQ (out16 p g t u)
def outK (p : FVec Ideal S16x4096x9792 .f32) (g : FVec Ideal S64 .f32) (t u : FVec Ideal S4096x32 .f32) : FVec Ideal S16x4x4096x64 .bf16 := layK (out4 p g t u)

theorem outQ_apply (p : FVec Ideal S16x4096x9792 .f32) (g : FVec Ideal S64 .f32) (t u : FVec Ideal S4096x32 .f32) (b : Fin 16) (y : Fin 1024) (s : Fin 4096) :
    outQ p g t u (ix3 b y s) = keyR (colN p b s) (fun f => g (ix1 f)) (fun i => t (ix2 s i)) (fun i => u (ix2 s i)) (64 * (y.val / 64)) ⟨y % 64, by omega⟩ := by
  rw [outQ, layQ_at, out16_apply]
  exact congrArg (fun B => keyR _ _ _ _ B _) (Nat.zero_add (64 * (y.val / 64)))

theorem outK_apply (p : FVec Ideal S16x4096x9792 .f32) (g : FVec Ideal S64 .f32) (t u : FVec Ideal S4096x32 .f32) (b : Fin 16) (h : Fin 4) (s : Fin 4096) (f : Fin 64) :
    outK p g t u (ix4 b h s f) = keyR (colN p b s) (fun f => g (ix1 f)) (fun i => t (ix2 s i)) (fun i => u (ix2 s i)) (1024 + 64 * h) f := by
  rw [outK, layK_at, out4_apply]

/-- The three results. -/
def res0 : FVec Ideal S16x1024x4096 .bf16 := outQ (proj x w) gq cosT sinT
def res1 : FVec Ideal S16x4x4096x64 .bf16 := outK (proj x w) gk cosT sinT
def res2 : FVec Ideal S16x256x4096 .bf16 :=
  truncf .bf16 (transpose S16x256x4096 [0, 2, 1] (extractStridedSlice S16x4096x256 ![0, 0, 1280] (proj x w) slices_S16x4096x9792_S16x4096x256_0_0_1280) transposes_S16x4096x256_S16x256x4096_0_2_1) bitsLt_bf16_f32

/-- The values at one entry. -/
theorem res2_apply (b : Fin 16) (r : Fin 256) (s : Fin 4096) : res2 x w (ix3 b r s) = colN (proj x w) b s (1280 + r) := by
  rw [colN, dif_pos (show 1280 + r.val < 9792 by omega)]
  pointwise [res2]

variable (m : (ℓ : Loc nD τ sig) → Buf (Elt Ideal) ℓ) (c : Dev nD)

abbrev a0 : FVec Ideal S16x4096x1024 .f32 := m ((c.tc : Thread nD τ).loc main_arg0)
abbrev a1 : FVec Ideal S1024x9792 .f32 := m ((c.tc : Thread nD τ).loc main_arg1)
abbrev a2 : FVec Ideal S64 .f32 := m ((c.tc : Thread nD τ).loc main_arg2)
abbrev a3 : FVec Ideal S64 .f32 := m ((c.tc : Thread nD τ).loc main_arg3)

/-- The run's terms are these three functions of the arguments. -/
theorem run0_eq : Value.res_main_v126 m c = res0 (a0 m c) (a1 m c) (a2 m c) := rfl
theorem run1_eq : Value.res_main_v127 m c = res1 (a0 m c) (a1 m c) (a3 m c) := rfl
theorem run2_eq : truncf .bf16 (transpose S16x256x4096 [0, 2, 1] (extractStridedSlice S16x4096x256 ![0, 0, 1280] (Host.dotGeneral dot_S16x4096x1024_S1024x9792_S16x4096x9792_2_0_01_1_n_n none (a0 m c) (a1 m c)) slices_S16x4096x9792_S16x4096x256_0_0_1280) transposes_S16x4096x256_S16x256x4096_0_2_1) bitsLt_bf16_f32 = res2 (a0 m c) (a1 m c) := rfl

end Cert.QkvReferenceIdeal.Qkv

end
-- ==== Proof.Qkv.Launch.lean ====
/- The launch of the projections: its prepared arrays, its blocks, and the three result arrays they assemble. -/
module

public import proofs.«01_k».proof.Proof.Qkv.Block
public import proofs.«01_k».proof.Proof.Qkv.Host
public import proofs.«01_k».proof.Proof.Qkv.Ref
public import proofs.«01_k».proof.Proof.Gen.QkvIdeal.Value
public import Idealize.ShloMosaic.Lib.Pipeline.Value

@[expose] public section

set_option maxRecDepth 16384

noncomputable section

namespace Cert.QkvIdeal.Qkv

open Cert.QkvIdeal Cert.QkvIdeal.Gen Cert.QkvMath Idealize.ShloMosaic Idealize.ShloMosaic.TcCoe Idealize.SL.Sem
open Idealize.ShloMosaic.Pipeline (Dat)
open Cert.QkvReferenceIdeal.Qkv (proj proj_apply colN cosT sinT res0 res1 res2 outQ_apply outK_apply res2_apply)

variable (m : (ℓ : Loc nD τ sig) → Buf (Elt Ideal) ℓ)

/-- The argument: the tokens. -/
abbrev ax (c : Dev nD) : FVec Ideal S16x4096x1024 .f32 := m ((c : Thread nD τ).loc main_arg0)
/-- The argument: the input projection's weights. -/
abbrev aw (c : Dev nD) : FVec Ideal S1024x9792 .f32 := m ((c : Thread nD τ).loc main_arg1)
/-- The argument: the queries' norm's weights. -/
abbrev gq (c : Dev nD) : FVec Ideal S64 .f32 := m ((c : Thread nD τ).loc main_arg2)
/-- The argument: the keys' norm's weights. -/
abbrev gk (c : Dev nD) : FVec Ideal S64 .f32 := m ((c : Thread nD τ).loc main_arg3)

/-! ## The arrays the windows read -/

theorem V_x (c : Dev nD) : @Eq (FVec Ideal S16x4096x1024 .f32) (V m c main_arg0) (ax m c) := by
  refine (show V m c main_arg0 = StableHlo.after hostOps0 (fun b => m (c, b)) main_arg0 from rfl).trans ?_
  unfold hostOps0
  after_results <;> rfl

theorem V_w (c : Dev nD) : @Eq (FVec Ideal S1536x1024 .bf16) (V m c main_v20) (wcat (aw m c)) := by
  refine (show V m c main_v20 = StableHlo.after hostOps0 (fun b => m (c, b)) main_v20 from rfl).trans ?_
  unfold hostOps0
  after_results <;> rfl

theorem V_q (c : Dev nD) : @Eq (FVec Ideal S64x512 .f32) (V m c main_v27) (wrep (gq m c)) := by
  refine (show V m c main_v27 = StableHlo.after hostOps0 (fun b => m (c, b)) main_v27 from rfl).trans ?_
  unfold hostOps0
  after_results <;> rfl

theorem V_k (c : Dev nD) : @Eq (FVec Ideal S64x512 .f32) (V m c main_v34) (wrep (gk m c)) := by
  refine (show V m c main_v34 = StableHlo.after hostOps0 (fun b => m (c, b)) main_v34 from rfl).trans ?_
  unfold hostOps0
  after_results <;> rfl

/-- The tables of cosines and sines are the reference's, a position per column. -/
theorem V_c (c : Dev nD) : @Eq (FVec Ideal S32x4096 .f32) (V m c main_v64) (transpose S32x4096 [1, 0] (cosT : FVec Ideal S4096x32 .f32) transposes_S4096x32_S32x4096_1_0) := by
  refine (show V m c main_v64 = StableHlo.after hostOps0 (fun b => m (c, b)) main_v64 from rfl).trans ?_
  unfold hostOps0
  after_results <;> rfl

theorem V_s (c : Dev nD) : @Eq (FVec Ideal S32x4096 .f32) (V m c main_v66) (transpose S32x4096 [1, 0] (sinT : FVec Ideal S4096x32 .f32) transposes_S4096x32_S32x4096_1_0) := by
  refine (show V m c main_v66 = StableHlo.after hostOps0 (fun b => m (c, b)) main_v66 from rfl).trans ?_
  unfold hostOps0
  after_results <;> rfl

theorem flip_apply (t : FVec Ideal S4096x32 .f32) (i : Fin 32) (s : Fin 4096) :
    transpose S32x4096 [1, 0] t transposes_S4096x32_S32x4096_1_0 (ix2 i s) = t (ix2 s i) := by
  pointwise

/-! ## The blocks: point `t` is sequence `t / 8`, token tile `t % 8` -/

theorem ix_0 : ∀ t : Fin grid0.N, win0_0.index t 0 = t.val / 8 ∧ win0_0.index t 1 = t.val % 8 ∧ win0_0.index t 2 = 0 := by decide +kernel
theorem ix_1 : ∀ t : Fin grid0.N, win0_1.index t 0 = 0 ∧ win0_1.index t 1 = 0 := by decide +kernel
theorem ix_2 : ∀ t : Fin grid0.N, win0_2.index t 0 = 0 ∧ win0_2.index t 1 = t.val % 8 := by decide +kernel
theorem ix_3 : ∀ t : Fin grid0.N, win0_3.index t 0 = 0 ∧ win0_3.index t 1 = t.val % 8 := by decide +kernel
theorem ix_4 : ∀ t : Fin grid0.N, win0_4.index t 0 = 0 ∧ win0_4.index t 1 = 0 := by decide +kernel
theorem ix_5 : ∀ t : Fin grid0.N, win0_5.index t 0 = 0 ∧ win0_5.index t 1 = 0 := by decide +kernel
theorem ix_6 : ∀ t : Fin grid0.N, win0_6.index t 0 = t.val / 8 ∧ win0_6.index t 1 = 0 ∧ win0_6.index t 2 = t.val % 8 := by decide +kernel
theorem ix_7 : ∀ t : Fin grid0.N, win0_7.index t 0 = t.val / 8 ∧ win0_7.index t 1 = 0 ∧ win0_7.index t 2 = t.val % 8 ∧ win0_7.index t 3 = 0 := by decide +kernel
theorem ix_8 : ∀ t : Fin grid0.N, win0_8.index t 0 = t.val / 8 ∧ win0_8.index t 1 = 0 ∧ win0_8.index t 2 = t.val % 8 := by decide +kernel

theorem t_lt (t : Fin cfg0.N) : t.val < 128 := by have := t.isLt; have : cfg0.N = 128 := N_0; omega

/-- Window 0's block at an index. -/
theorem blk_0 (c : Dev nD) (t : Fin cfg0.N) (y1 : Fin 512) (y2 : Fin 1024) :
    (iblk m c 0 t : Vec Ideal S1x512x1024 .f32) (ix3 0 y1 y2)
      = (V m c main_arg0 : FVec Ideal S16x4096x1024 .f32) (ix3 ⟨t.val / 8, by have := t_lt t; omega⟩ ⟨t.val % 8 * 512 + y1, by omega⟩ y2) := by
  have h := ix_0 t
  show V m c main_arg0 _ = _
  refine congrArg _ (funext fun a => Fin.ext ?_)
  match a with
  | ⟨0, _⟩ => show win0_0.index t 0 * 1 + 1 * 0 = t.val / 8; omega
  | ⟨1, _⟩ => show win0_0.index t 1 * 512 + 1 * y1.val = t.val % 8 * 512 + y1.val; omega
  | ⟨2, _⟩ => show win0_0.index t 2 * 1024 + 1 * y2.val = y2.val; omega

/-- Window 1's block at an index. -/
theorem blk_1 (c : Dev nD) (t : Fin cfg0.N) (y0 : Fin 1536) (y1 : Fin 1024) :
    (iblk m c 1 t : Vec Ideal S1536x1024 .bf16) (ix2 y0 y1)
      = (V m c main_v20 : FVec Ideal S1536x1024 .bf16) (ix2 y0 y1) := by
  have h := ix_1 t
  show V m c main_v20 _ = _
  refine congrArg _ (funext fun a => Fin.ext ?_)
  match a with
  | ⟨0, _⟩ => show win0_1.index t 0 * 1536 + 1 * y0.val = y0.val; omega
  | ⟨1, _⟩ => show win0_1.index t 1 * 1024 + 1 * y1.val = y1.val; omega

/-- Window 2's block at an index. -/
theorem blk_2 (c : Dev nD) (t : Fin cfg0.N) (y0 : Fin 32) (y1 : Fin 512) :
    (iblk m c 2 t : Vec Ideal S32x512 .f32) (ix2 y0 y1)
      = (V m c main_v64 : FVec Ideal S32x4096 .f32) (ix2 y0 ⟨t.val % 8 * 512 + y1, by omega⟩) := by
  have h := ix_2 t
  show V m c main_v64 _ = _
  refine congrArg _ (funext fun a => Fin.ext ?_)
  match a with
  | ⟨0, _⟩ => show win0_2.index t 0 * 32 + 1 * y0.val = y0.val; omega
  | ⟨1, _⟩ => show win0_2.index t 1 * 512 + 1 * y1.val = t.val % 8 * 512 + y1.val; omega

/-- Window 3's block at an index. -/
theorem blk_3 (c : Dev nD) (t : Fin cfg0.N) (y0 : Fin 32) (y1 : Fin 512) :
    (iblk m c 3 t : Vec Ideal S32x512 .f32) (ix2 y0 y1)
      = (V m c main_v66 : FVec Ideal S32x4096 .f32) (ix2 y0 ⟨t.val % 8 * 512 + y1, by omega⟩) := by
  have h := ix_3 t
  show V m c main_v66 _ = _
  refine congrArg _ (funext fun a => Fin.ext ?_)
  match a with
  | ⟨0, _⟩ => show win0_3.index t 0 * 32 + 1 * y0.val = y0.val; omega
  | ⟨1, _⟩ => show win0_3.index t 1 * 512 + 1 * y1.val = t.val % 8 * 512 + y1.val; omega

/-- Window 4's block at an index. -/
theorem blk_4 (c : Dev nD) (t : Fin cfg0.N) (y0 : Fin 64) (y1 : Fin 512) :
    (iblk m c 4 t : Vec Ideal S64x512 .f32) (ix2 y0 y1)
      = (V m c main_v27 : FVec Ideal S64x512 .f32) (ix2 y0 y1) := by
  have h := ix_4 t
  show V m c main_v27 _ = _
  refine congrArg _ (funext fun a => Fin.ext ?_)
  match a with
  | ⟨0, _⟩ => show win0_4.index t 0 * 64 + 1 * y0.val = y0.val; omega
  | ⟨1, _⟩ => show win0_4.index t 1 * 512 + 1 * y1.val = y1.val; omega

/-- Window 5's block at an index. -/
theorem blk_5 (c : Dev nD) (t : Fin cfg0.N) (y0 : Fin 64) (y1 : Fin 512) :
    (iblk m c 5 t : Vec Ideal S64x512 .f32) (ix2 y0 y1)
      = (V m c main_v34 : FVec Ideal S64x512 .f32) (ix2 y0 y1) := by
  have h := ix_5 t
  show V m c main_v34 _ = _
  refine congrArg _ (funext fun a => Fin.ext ?_)
  match a with
  | ⟨0, _⟩ => show win0_5.index t 0 * 64 + 1 * y0.val = y0.val; omega
  | ⟨1, _⟩ => show win0_5.index t 1 * 512 + 1 * y1.val = y1.val; omega

/-- Result block 6 at an index of its array. -/
theorem blk_6 (G : FVec Ideal S16x1024x4096 .bf16) (t : Fin cfg0.N) (y1 : Fin 1024) (y2 : Fin 512) :
    (((cfg0.win 6).blk t).view.read (Elt Ideal) G : Vec Ideal S1x1024x512 .bf16) (ix3 0 y1 y2)
      = G (ix3 ⟨t.val / 8, by have := t_lt t; omega⟩ y1 ⟨t.val % 8 * 512 + y2, by omega⟩) := by
  have h := ix_6 t
  show G _ = _
  refine congrArg _ (funext fun a => Fin.ext ?_)
  match a with
  | ⟨0, _⟩ => show win0_6.index t 0 * 1 + 1 * 0 = t.val / 8; omega
  | ⟨1, _⟩ => show win0_6.index t 1 * 1024 + 1 * y1.val = y1.val; omega
  | ⟨2, _⟩ => show win0_6.index t 2 * 512 + 1 * y2.val = t.val % 8 * 512 + y2.val; omega

/-- An index of result array 6 is in point `t`'s block when its sequence is the point's and its position is in the point's tile. -/
theorem mem_blk_6 (t : Fin cfg0.N) (i : S16x1024x4096.Idx) :
    i ∈ ((cfg0.win 6).blk t).view.set ↔ ((i 0 : Nat) = t.val / 8 ∧ (i 2 : Nat) / 512 = t.val % 8) := by
  show i ∈ ((View.whole main_v67_0).slice (win0_6.rect t)).set ↔ _
  rw [View.set_slice_whole, Rect.mem_set_unit]
  have e := ix_6 t
  have l1 : (i 1 : Nat) < 1024 := (i 1).isLt
  refine ⟨fun h => ?_, fun h a => ?_⟩
  · have h0 : win0_6.index t 0 * 1 ≤ (i 0 : Nat) ∧ (i 0 : Nat) < win0_6.index t 0 * 1 + 1 := h 0
    have h2 : win0_6.index t 2 * 512 ≤ (i 2 : Nat) ∧ (i 2 : Nat) < win0_6.index t 2 * 512 + 512 := h 2
    omega
  · match a with
    | ⟨0, _⟩ => show win0_6.index t 0 * 1 ≤ (i 0 : Nat) ∧ (i 0 : Nat) < win0_6.index t 0 * 1 + 1; omega
    | ⟨1, _⟩ => show win0_6.index t 1 * 1024 ≤ (i 1 : Nat) ∧ (i 1 : Nat) < win0_6.index t 1 * 1024 + 1024; omega
    | ⟨2, _⟩ => show win0_6.index t 2 * 512 ≤ (i 2 : Nat) ∧ (i 2 : Nat) < win0_6.index t 2 * 512 + 512; omega

/-- Result 6's blocks tile its array. -/
theorem cover_6 (i : S16x1024x4096.Idx) : ∃ t : Fin cfg0.N, (cfg0.win 6).flush t = true ∧ i ∈ ((cfg0.win 6).blk t).view.set := by
  have h0 : (i 0 : Nat) < 16 := (i 0).isLt
  have h2 : (i 2 : Nat) < 4096 := (i 2).isLt
  have hN : cfg0.N = 128 := N_0
  refine ⟨⟨(i 0 : Nat) * 8 + (i 2 : Nat) / 512, by omega⟩, flush0_6 _, ?_⟩
  rw [mem_blk_6]
  dsimp only
  omega

/-- Result block 7 at an index of its array. -/
theorem blk_7 (G : FVec Ideal S16x4x4096x64 .bf16) (t : Fin cfg0.N) (y1 : Fin 4) (y2 : Fin 512) (y3 : Fin 64) :
    (((cfg0.win 7).blk t).view.read (Elt Ideal) G : Vec Ideal S1x4x512x64 .bf16) (ix4 0 y1 y2 y3)
      = G (ix4 ⟨t.val / 8, by have := t_lt t; omega⟩ y1 ⟨t.val % 8 * 512 + y2, by omega⟩ y3) := by
  have h := ix_7 t
  show G _ = _
  refine congrArg _ (funext fun a => Fin.ext ?_)
  match a with
  | ⟨0, _⟩ => show win0_7.index t 0 * 1 + 1 * 0 = t.val / 8; omega
  | ⟨1, _⟩ => show win0_7.index t 1 * 4 + 1 * y1.val = y1.val; omega
  | ⟨2, _⟩ => show win0_7.index t 2 * 512 + 1 * y2.val = t.val % 8 * 512 + y2.val; omega
  | ⟨3, _⟩ => show win0_7.index t 3 * 64 + 1 * y3.val = y3.val; omega

/-- An index of result array 7 is in point `t`'s block when its sequence is the point's and its position is in the point's tile. -/
theorem mem_blk_7 (t : Fin cfg0.N) (i : S16x4x4096x64.Idx) :
    i ∈ ((cfg0.win 7).blk t).view.set ↔ ((i 0 : Nat) = t.val / 8 ∧ (i 2 : Nat) / 512 = t.val % 8) := by
  show i ∈ ((View.whole main_v67_1).slice (win0_7.rect t)).set ↔ _
  rw [View.set_slice_whole, Rect.mem_set_unit]
  have e := ix_7 t
  have l1 : (i 1 : Nat) < 4 := (i 1).isLt
  have l3 : (i 3 : Nat) < 64 := (i 3).isLt
  refine ⟨fun h => ?_, fun h a => ?_⟩
  · have h0 : win0_7.index t 0 * 1 ≤ (i 0 : Nat) ∧ (i 0 : Nat) < win0_7.index t 0 * 1 + 1 := h 0
    have h2 : win0_7.index t 2 * 512 ≤ (i 2 : Nat) ∧ (i 2 : Nat) < win0_7.index t 2 * 512 + 512 := h 2
    omega
  · match a with
    | ⟨0, _⟩ => show win0_7.index t 0 * 1 ≤ (i 0 : Nat) ∧ (i 0 : Nat) < win0_7.index t 0 * 1 + 1; omega
    | ⟨1, _⟩ => show win0_7.index t 1 * 4 ≤ (i 1 : Nat) ∧ (i 1 : Nat) < win0_7.index t 1 * 4 + 4; omega
    | ⟨2, _⟩ => show win0_7.index t 2 * 512 ≤ (i 2 : Nat) ∧ (i 2 : Nat) < win0_7.index t 2 * 512 + 512; omega
    | ⟨3, _⟩ => show win0_7.index t 3 * 64 ≤ (i 3 : Nat) ∧ (i 3 : Nat) < win0_7.index t 3 * 64 + 64; omega

/-- Result 7's blocks tile its array. -/
theorem cover_7 (i : S16x4x4096x64.Idx) : ∃ t : Fin cfg0.N, (cfg0.win 7).flush t = true ∧ i ∈ ((cfg0.win 7).blk t).view.set := by
  have h0 : (i 0 : Nat) < 16 := (i 0).isLt
  have h2 : (i 2 : Nat) < 4096 := (i 2).isLt
  have hN : cfg0.N = 128 := N_0
  refine ⟨⟨(i 0 : Nat) * 8 + (i 2 : Nat) / 512, by omega⟩, flush0_7 _, ?_⟩
  rw [mem_blk_7]
  dsimp only
  omega

/-- Result block 8 at an index of its array. -/
theorem blk_8 (G : FVec Ideal S16x256x4096 .bf16) (t : Fin cfg0.N) (y1 : Fin 256) (y2 : Fin 512) :
    (((cfg0.win 8).blk t).view.read (Elt Ideal) G : Vec Ideal S1x256x512 .bf16) (ix3 0 y1 y2)
      = G (ix3 ⟨t.val / 8, by have := t_lt t; omega⟩ y1 ⟨t.val % 8 * 512 + y2, by omega⟩) := by
  have h := ix_8 t
  show G _ = _
  refine congrArg _ (funext fun a => Fin.ext ?_)
  match a with
  | ⟨0, _⟩ => show win0_8.index t 0 * 1 + 1 * 0 = t.val / 8; omega
  | ⟨1, _⟩ => show win0_8.index t 1 * 256 + 1 * y1.val = y1.val; omega
  | ⟨2, _⟩ => show win0_8.index t 2 * 512 + 1 * y2.val = t.val % 8 * 512 + y2.val; omega

/-- An index of result array 8 is in point `t`'s block when its sequence is the point's and its position is in the point's tile. -/
theorem mem_blk_8 (t : Fin cfg0.N) (i : S16x256x4096.Idx) :
    i ∈ ((cfg0.win 8).blk t).view.set ↔ ((i 0 : Nat) = t.val / 8 ∧ (i 2 : Nat) / 512 = t.val % 8) := by
  show i ∈ ((View.whole main_v67_2).slice (win0_8.rect t)).set ↔ _
  rw [View.set_slice_whole, Rect.mem_set_unit]
  have e := ix_8 t
  have l1 : (i 1 : Nat) < 256 := (i 1).isLt
  refine ⟨fun h => ?_, fun h a => ?_⟩
  · have h0 : win0_8.index t 0 * 1 ≤ (i 0 : Nat) ∧ (i 0 : Nat) < win0_8.index t 0 * 1 + 1 := h 0
    have h2 : win0_8.index t 2 * 512 ≤ (i 2 : Nat) ∧ (i 2 : Nat) < win0_8.index t 2 * 512 + 512 := h 2
    omega
  · match a with
    | ⟨0, _⟩ => show win0_8.index t 0 * 1 ≤ (i 0 : Nat) ∧ (i 0 : Nat) < win0_8.index t 0 * 1 + 1; omega
    | ⟨1, _⟩ => show win0_8.index t 1 * 256 ≤ (i 1 : Nat) ∧ (i 1 : Nat) < win0_8.index t 1 * 256 + 256; omega
    | ⟨2, _⟩ => show win0_8.index t 2 * 512 ≤ (i 2 : Nat) ∧ (i 2 : Nat) < win0_8.index t 2 * 512 + 512; omega

/-- Result 8's blocks tile its array. -/
theorem cover_8 (i : S16x256x4096.Idx) : ∃ t : Fin cfg0.N, (cfg0.win 8).flush t = true ∧ i ∈ ((cfg0.win 8).blk t).view.set := by
  have h0 : (i 0 : Nat) < 16 := (i 0).isLt
  have h2 : (i 2 : Nat) < 4096 := (i 2).isLt
  have hN : cfg0.N = 128 := N_0
  refine ⟨⟨(i 0 : Nat) * 8 + (i 2 : Nat) / 512, by omega⟩, flush0_8 _, ?_⟩
  rw [mem_blk_8]
  dsimp only
  omega

/-! ## A head's features, from the prepared weights and from the plain ones -/

theorem qp_lo (p : ℕ) (hp : p % 64 = 0) (i : Fin 32) : qp (p + i) = p + 2 * i := by unfold qp; omega
theorem qp_hi (p : ℕ) (hp : p % 64 = 0) (i : Fin 32) : qp (p + 32 + i) = p + (2 * i + 1) := by unfold qp; omega

/-- A block's head, when its dot products, its norm's weights and its tables are those given. -/
theorem key_gen (x0 : Vec Ideal S1x512x1024 .f32) (x1 : Vec Ideal S1536x1024 .bf16) (x2 x3 : Vec Ideal S32x512 .f32) (w : Vec Ideal S64x512 .f32)
    (q : ℕ → EReal) (g : Fin 64 → EReal) (c s : Fin 32 → EReal) (B : ℕ) (j : Fin 512)
    (hu : ∀ i : Fin 32, dotv x0 x1 j (B + i) = q (B + 2 * i)) (hv : ∀ i : Fin 32, dotv x0 x1 j (B + 32 + i) = q (B + (2 * i + 1)))
    (h1 : ∀ i : Fin 32, w (ix2 ⟨i, by omega⟩ j) = g ⟨2 * i, by omega⟩) (h2 : ∀ i : Fin 32, w (ix2 ⟨32 + i, by omega⟩ j) = g ⟨2 * i + 1, by omega⟩)
    (hc : ∀ i, x2 (ix2 i j) = c i) (hs : ∀ i, x3 (ix2 i j) = s i) (f : Fin 64) :
    key x0 x1 x2 x3 w B j f = keyR q g c s B f := by
  have he : ∀ i, ev x0 x1 x2 x3 w B i j = evR q g c s B i := fun i => by
    unfold ev evR hn
    simp only [hu, hv, h1, h2, hc, hs]
  have ho : ∀ i, od x0 x1 x2 x3 w B i j = odR q g c s B i := fun i => by
    unfold od odR hn
    simp only [hu, hv, h1, h2, hc, hs]
  unfold key keyR
  by_cases h : f.val < 32
  · rw [dif_pos h, dif_pos h, he]
  · rw [dif_neg h, dif_neg h, ho]

theorem row_key (x0 : Vec Ideal S1x512x1024 .f32) (x1 : Vec Ideal S1536x1024 .bf16) (x2 x3 : Vec Ideal S32x512 .f32) (w : Vec Ideal S64x512 .f32) (j : Fin 512) (y : ℕ) :
    row x0 x1 x2 x3 w j y = key x0 x1 x2 x3 w (64 * (y / 64)) j ⟨y % 64, by omega⟩ := by
  unfold row key
  by_cases h : y % 64 < 32
  · rw [if_pos h, dif_pos h]
    exact congrArg (fun i => ev x0 x1 x2 x3 w (64 * (y / 64)) i j) (Fin.ext (by show y % 32 = y % 64; omega))
  · rw [if_neg h, dif_neg h]
    exact congrArg (fun i => od x0 x1 x2 x3 w (64 * (y / 64)) i j) (Fin.ext (by show y % 32 = y % 64 - 32; omega))

/-- The point's sequence and the token's position in it. -/
abbrev seqOf (t : Fin cfg0.N) : Fin 16 := ⟨t.val / 8, by have := t_lt t; omega⟩
abbrev ps (t : Fin cfg0.N) (j : Fin 512) : Fin 4096 := ⟨t.val % 8 * 512 + j, by omega⟩

/-- A tile's dot product with a prepared row is the token's with the column it was taken from. -/
theorem dotv_qk (c : Dev nD) (t : Fin cfg0.N) (j : Fin 512) (e : ℕ) (he : e < 1280) :
    dotv (iblk m c 0 t) (iblk m c 1 t) j e = colN (proj (ax m c) (aw m c)) (seqOf t) (ps t j) (qp e) := by
  unfold dotv colN
  rw [dif_pos (show e < 1536 by omega), dif_pos (show qp e < 9792 by unfold qp; omega), proj_apply]
  refine Finset.sum_congr rfl fun k _ => ?_
  have h1 : (iblk m c 1 t : Vec Ideal S1536x1024 .bf16) (ix2 ⟨e, by omega⟩ k) = aw m c (ix2 k ⟨qp e, by unfold qp; omega⟩) :=
    (blk_1 m c t ⟨e, by omega⟩ k).trans ((congrFun (V_w m c) _).trans (wcat_qk (aw m c) ⟨e, by omega⟩ k he))
  have h0 : (iblk m c 0 t : Vec Ideal S1x512x1024 .f32) (ix3 0 j k) = ax m c (ix3 (seqOf t) (ps t j) k) :=
    (blk_0 m c t j k).trans (congrFun (V_x m c) _)
  exact (congrArg₂ (fun a b : EReal => a * b) h1 h0).trans (mul_comm _ _)

theorem dotv_v (c : Dev nD) (t : Fin cfg0.N) (j : Fin 512) (e : ℕ) (he : ¬e < 1280) (he' : e < 1536) :
    dotv (iblk m c 0 t) (iblk m c 1 t) j e = colN (proj (ax m c) (aw m c)) (seqOf t) (ps t j) e := by
  unfold dotv colN
  rw [dif_pos he', dif_pos (show e < 9792 by omega), proj_apply]
  refine Finset.sum_congr rfl fun k _ => ?_
  have h1 : (iblk m c 1 t : Vec Ideal S1536x1024 .bf16) (ix2 ⟨e, he'⟩ k) = aw m c (ix2 k ⟨e, by omega⟩) :=
    (blk_1 m c t ⟨e, he'⟩ k).trans ((congrFun (V_w m c) _).trans (wcat_v (aw m c) ⟨e, he'⟩ k he))
  have h0 : (iblk m c 0 t : Vec Ideal S1x512x1024 .f32) (ix3 0 j k) = ax m c (ix3 (seqOf t) (ps t j) k) :=
    (blk_0 m c t j k).trans (congrFun (V_x m c) _)
  exact (congrArg₂ (fun a b : EReal => a * b) h1 h0).trans (mul_comm _ _)

/-- So a head of a tile is the reference's head of its tokens. -/
theorem key_eq (c : Dev nD) (t : Fin cfg0.N) (w : Vec Ideal S64x512 .f32) (g : FVec Ideal S64 .f32)
    (hw : ∀ (e : Fin 64) (j : Fin 512), w (ix2 e j) = wrep g (ix2 e j)) (B : ℕ) (hB : B % 64 = 0) (hB' : B + 64 ≤ 1280) (j : Fin 512) (f : Fin 64) :
    key (iblk m c 0 t) (iblk m c 1 t) (iblk m c 2 t) (iblk m c 3 t) w B j f
      = keyR (colN (proj (ax m c) (aw m c)) (seqOf t) (ps t j)) (fun f => g (ix1 f)) (fun i => cosT (ix2 (ps t j) i)) (fun i => sinT (ix2 (ps t j) i)) B f :=
  key_gen (iblk m c 0 t) (iblk m c 1 t) (iblk m c 2 t) (iblk m c 3 t) w _ _ _ _ B j
    (fun i => (dotv_qk m c t j (B + i) (by omega)).trans (congrArg _ (qp_lo B hB i)))
    (fun i => (dotv_qk m c t j (B + 32 + i) (by omega)).trans (congrArg _ (qp_hi B hB i)))
    (fun i => (hw _ j).trans (wrep_lo g i j)) (fun i => (hw _ j).trans (wrep_hi g i j))
    (fun i => (blk_2 m c t i j).trans ((congrFun (V_c m c) _).trans (flip_apply cosT i (ps t j))))
    (fun i => (blk_3 m c t i j).trans ((congrFun (V_s m c) _).trans (flip_apply sinT i (ps t j)))) f

/-! ## The results -/

abbrev goal0 (c : Dev nD) : FVec Ideal S16x1024x4096 .bf16 := res0 (ax m c) (aw m c) (gq m c)
abbrev goal1 (c : Dev nD) : FVec Ideal S16x4x4096x64 .bf16 := res1 (ax m c) (aw m c) (gk m c)
abbrev goal2 (c : Dev nD) : FVec Ideal S16x256x4096 .bf16 := res2 (ax m c) (aw m c)

/-- An index of a block. -/
theorem exists_ix3 {a b : ℕ} (y : (⟨3, ![1, a, b]⟩ : Shape).Idx) : ∃ (i : Fin a) (f : Fin b), y = ix3 0 i f :=
  ⟨y 1, y 2, funext fun a => by match a with | ⟨0, _⟩ => exact Subsingleton.elim (α := Fin 1) _ _ | ⟨1, _⟩ => rfl | ⟨2, _⟩ => rfl⟩
theorem exists_ix4 {a b d : ℕ} (y : (⟨4, ![1, a, b, d]⟩ : Shape).Idx) : ∃ (i : Fin a) (f : Fin b) (g : Fin d), y = ix4 0 i f g :=
  ⟨y 1, y 2, y 3, funext fun a => by match a with | ⟨0, _⟩ => exact Subsingleton.elim (α := Fin 1) _ _ | ⟨1, _⟩ => rfl | ⟨2, _⟩ => rfl | ⟨3, _⟩ => rfl⟩

theorem w4_eq (c : Dev nD) (t : Fin cfg0.N) (e : Fin 64) (j : Fin 512) : (iblk m c 4 t : Vec Ideal S64x512 .f32) (ix2 e j) = wrep (gq m c) (ix2 e j) :=
  (blk_4 m c t e j).trans (congrFun (V_q m c) _)
theorem w5_eq (c : Dev nD) (t : Fin cfg0.N) (e : Fin 64) (j : Fin 512) : (iblk m c 5 t : Vec Ideal S64x512 .f32) (ix2 e j) = wrep (gk m c) (ix2 e j) :=
  (blk_5 m c t e j).trans (congrFun (V_k m c) _)

/-- What point `t` writes back to result 0 is block `t` of the reference's function. -/
theorem flushed_0_eq (c : Dev nD) (t : Fin cfg0.N) :
    (dats m 0 c).flushed 6 t = ((cfg0.win 6).blk t).view.read (Elt Ideal) (goal0 m c) := by
  rw [Value.flushed6]
  funext y
  obtain ⟨r, j, rfl⟩ := exists_ix3 y
  refine Eq.trans ?_ (blk_6 (goal0 m c) t r j).symm
  refine (out_6 (iblk m c 0 t) (iblk m c 1 t) (iblk m c 2 t) (iblk m c 3 t) (iblk m c 4 t) (iblk m c 5 t) r j).trans ?_
  refine (row_key (iblk m c 0 t) (iblk m c 1 t) (iblk m c 2 t) (iblk m c 3 t) (iblk m c 4 t) j r).trans ?_
  refine (key_eq m c t (iblk m c 4 t) (gq m c) (w4_eq m c t) (64 * (r.val / 64)) (by omega) (by omega) j ⟨r.val % 64, by omega⟩).trans ?_
  exact (outQ_apply (proj (ax m c) (aw m c)) (gq m c) cosT sinT (seqOf t) r (ps t j)).symm

/-- What point `t` writes back to result 1 is block `t` of the reference's function. -/
theorem flushed_1_eq (c : Dev nD) (t : Fin cfg0.N) :
    (dats m 0 c).flushed 7 t = ((cfg0.win 7).blk t).view.read (Elt Ideal) (goal1 m c) := by
  rw [Value.flushed7]
  funext y
  obtain ⟨h, j, f, rfl⟩ := exists_ix4 y
  refine Eq.trans ?_ (blk_7 (goal1 m c) t h j f).symm
  refine (out_7 (iblk m c 0 t) (iblk m c 1 t) (iblk m c 2 t) (iblk m c 3 t) (iblk m c 4 t) (iblk m c 5 t) h j f).trans ?_
  refine (key_eq m c t (iblk m c 5 t) (gk m c) (w5_eq m c t) (1024 + 64 * h.val) (by omega) (by omega) j f).trans ?_
  exact (outK_apply (proj (ax m c) (aw m c)) (gk m c) cosT sinT (seqOf t) h (ps t j) f).symm

/-- What point `t` writes back to result 2 is block `t` of the reference's function. -/
theorem flushed_2_eq (c : Dev nD) (t : Fin cfg0.N) :
    (dats m 0 c).flushed 8 t = ((cfg0.win 8).blk t).view.read (Elt Ideal) (goal2 m c) := by
  rw [Value.flushed8]
  funext y
  obtain ⟨r, j, rfl⟩ := exists_ix3 y
  refine Eq.trans ?_ (blk_8 (goal2 m c) t r j).symm
  refine (out_8 (iblk m c 0 t) (iblk m c 1 t) (iblk m c 2 t) (iblk m c 3 t) (iblk m c 4 t) (iblk m c 5 t) r j).trans ?_
  refine (dotv_v m c t j (1280 + r) (by omega) (by omega)).trans ?_
  exact (res2_apply (ax m c) (aw m c) (seqOf t) r (ps t j)).symm

/-- So result 0 ends holding the reference's function of the arguments. -/
theorem final_0 (c : Dev nD) : (dats m 0 c).arrAt 6 cfg0.N = goal0 m c :=
  (dats m 0 c).arrAt_eq_of_cover 6 (goal0 m c) (fun t _ => flushed_0_eq m c t) cover_6

/-- So result 1 ends holding the reference's function of the arguments. -/
theorem final_1 (c : Dev nD) : (dats m 0 c).arrAt 7 cfg0.N = goal1 m c :=
  (dats m 0 c).arrAt_eq_of_cover 7 (goal1 m c) (fun t _ => flushed_1_eq m c t) cover_7

/-- So result 2 ends holding the reference's function of the arguments. -/
theorem final_2 (c : Dev nD) : (dats m 0 c).arrAt 8 cfg0.N = goal2 m c :=
  (dats m 0 c).arrAt_eq_of_cover 8 (goal2 m c) (fun t _ => flushed_2_eq m c t) cover_8

end Cert.QkvIdeal.Qkv

end
-- ==== Proof.Qkv.Claims.lean ====
/- The claims on the queries, keys and values: their frames, and their agreement with the reference. -/
module

public import proofs.«01_k».proof.Defs
public import proofs.«01_k».proof.Proof.Qkv.Launch
public import proofs.«01_k».proof.Proof.Gen.Qkv.Frame
public import proofs.«01_k».proof.Proof.Gen.QkvIdeal.Frame
public import Idealize.ShloMosaic.Adequacy
public import Idealize.ShloMosaic.Init

@[expose] public section

set_option maxRecDepth 16384

noncomputable section

namespace Cert.Proof.Qkv

open Idealize.ShloMosaic Idealize.ShloMosaic.TcCoe Idealize.SL.Sem

/-- The kernel runs, its arguments end unchanged, and its counters end at zero. -/
theorem frame_p : Cert.quiescent_Qkv (hQkv := Cert.Qkv.Gen.facts) := fun m ρ _ => Cert.Qkv.Gen.frame m ρ

/-- So does the idealized kernel. -/
theorem frame_pi : Cert.quiescent_QkvIdeal (hQkvIdeal := Cert.QkvIdeal.Gen.facts) := fun m ρ _ => Cert.QkvIdeal.Gen.frame m ρ

/-- So does the reference. -/
theorem frame_ri : Cert.quiescent_QkvReferenceIdeal (hQkvReferenceIdeal := Cert.QkvReferenceIdeal.Gen.facts) := fun m ρ _ =>
  (θ_run Cert.QkvReferenceIdeal.defs _ _).mono (fun r h => ⟨fun c => (h c).2.2.2, sem_eq_zero_of_no_sems (by decide) r.2⟩)
    (Cert.QkvReferenceIdeal.Value.run m ρ)

/-- No operation is idealized. -/
theorem preserves : Cert.preserves_Qkv_QkvIdeal := trivial

/-- At `Ideal`, from arguments that agree, the kernel's queries, keys and values and the reference's end equal. -/
theorem algebraic : Cert.algebraic_QkvIdeal_QkvReferenceIdeal (hQkvIdeal := Cert.QkvIdeal.Gen.facts)
    (hQkvReferenceIdeal := Cert.QkvReferenceIdeal.Gen.facts) := fun m ρ m' ρ' _ hag =>
  ⟨fun c => Cert.QkvIdeal.Qkv.goal0 m c, fun c => Cert.QkvIdeal.Qkv.goal1 m c, fun c => Cert.QkvIdeal.Qkv.goal2 m c,
    (θ_run Cert.QkvIdeal.defs _ _).mono (fun _ h c => ⟨(h c).1.trans (Cert.QkvIdeal.Qkv.final_0 m c), (h c).2.1.trans (Cert.QkvIdeal.Qkv.final_1 m c),
        (h c).2.2.1.trans (Cert.QkvIdeal.Qkv.final_2 m c), (h c).2.2.2⟩)
      (Cert.QkvIdeal.Value.run_blocks m ρ),
    (θ_run Cert.QkvReferenceIdeal.defs _ _).mono (fun _ h c =>
        ⟨((h c).1.trans (Cert.QkvReferenceIdeal.Qkv.run0_eq m' c)).trans (by simp only [Cert.QkvReferenceIdeal.Qkv.a0, Cert.QkvReferenceIdeal.Qkv.a1, Cert.QkvReferenceIdeal.Qkv.a2]; rw [(hag c).1, (hag c).2.1, (hag c).2.2.1]),
        ((h c).2.1.trans (Cert.QkvReferenceIdeal.Qkv.run1_eq m' c)).trans (by simp only [Cert.QkvReferenceIdeal.Qkv.a0, Cert.QkvReferenceIdeal.Qkv.a1, Cert.QkvReferenceIdeal.Qkv.a3]; rw [(hag c).1, (hag c).2.1, (hag c).2.2.2]),
        ((h c).2.2.1.trans (Cert.QkvReferenceIdeal.Qkv.run2_eq m' c)).trans (by simp only [Cert.QkvReferenceIdeal.Qkv.a0, Cert.QkvReferenceIdeal.Qkv.a1]; rw [(hag c).1, (hag c).2.1]),
        (h c).2.2.2⟩)
      (Cert.QkvReferenceIdeal.Value.run m' ρ')⟩

end Cert.Proof.Qkv

end
-- ==== Proof.Gates.Math.lean ====
/- The activations, over the extended reals: silu, logistic and softplus as the kernel writes them and as the reference does. -/
module

public import Idealize.ShloMosaic.Lib.Pointwise
public import Idealize.ShloMosaic.PureOps.Ideal.Laws

@[expose] public section

set_option maxRecDepth 16384

noncomputable section

namespace Cert.GatesMath

open Idealize.ShloMosaic

/-- Zero as the printed bits. -/
abbrev zero : EReal := Ideal.ofBits .f32 0x00000000#32

theorem zero_eq : zero = 0 := by simp [Ideal.ofBits, Ideal.ieee]

/-- The logistic function of `a`. -/
def sigm (a : EReal) : EReal := Ideal.div 1 (1 + Ideal.exp (0 - a))

/-- `a` over one plus the exponential of its negation. -/
def silu (a : EReal) : EReal := Ideal.div a (1 + Ideal.exp (0 - a))

/-- The softplus of `a`. -/
def softp (a : EReal) : EReal := max a 0 + Ideal.log1p (Ideal.exp (0 - max a (-a)))

theorem exp_nonneg (a : EReal) : 0 ≤ Ideal.exp a := by
  induction a with
  | bot => exact le_rfl
  | top => exact le_top
  | coe r => rw [Ideal.exp_coe]; exact EReal.coe_nonneg.2 (Real.exp_pos r).le

theorem den_ne (a : EReal) : 1 + Ideal.exp a ≠ 0 :=
  (lt_of_lt_of_le zero_lt_one (le_add_of_nonneg_right (exp_nonneg a))).ne'

/-- The logistic with the negation written as one. -/
theorem sigm_neg (a : EReal) : Ideal.div 1 (1 + Ideal.exp (-a)) = sigm a := by rw [sigm, zero_sub]

/-- `a` times its logistic is its silu: the denominator is at least one. -/
theorem silu_mul (a : EReal) : a * Ideal.div 1 (1 + Ideal.exp (-a)) = silu a := by
  have h := den_ne (-a)
  rw [silu, zero_sub, Ideal.div, Ideal.div, if_neg h, if_neg h, one_mul]

/-- The reference's softplus: a difference with zero is the number itself, and no number differs from itself. -/
theorem softp_ref (a : EReal) :
    Scalar.select (Ideal.cmp .une (a - zero) (a - zero)) (a + zero) (max a zero + Ideal.log1p (Ideal.exp (-max (a - zero) (-(a - zero))))) = softp a := by
  have h : Ideal.cmp .une (a - zero) (a - zero) = 0#1 := by simp [Ideal.cmp]
  rw [h, softp, zero_sub, zero_eq, sub_zero]
  rfl

end Cert.GatesMath

end
-- ==== Proof.Gates.Block.lean ====
/- The gates body's four blocks of results at one index. -/
module

public import proofs.«01_k».proof.Proof.Gates.Math
public import proofs.«01_k».proof.Proof.Gen.GatesIdeal.Frame
public import Idealize.ShloMosaic.Lib.Pipeline.ValueKit.Tiles
public import Idealize.ShloMosaic.Lib.Pointwise

@[expose] public section

set_option maxRecDepth 16384

noncomputable section

namespace Cert.GatesIdeal.Gates

open Cert.GatesIdeal Cert.GatesIdeal.Gen Cert.GatesMath Idealize.ShloMosaic

theorem hz2 : (![0, 0] : Fin 2 → Nat) = fun _ => 0 := funext fun a => by fin_cases a <;> rfl
theorem hz3 : (![0, 0, 0] : Fin 3 → Nat) = fun _ => 0 := funext fun a => by fin_cases a <;> rfl

/-- A run of the weights' columns from `o` on, read at an entry. -/
theorem ld_w (x1 : Vec Ideal S1024x5248 .bf16) (o : ℕ) (ho : o + 512 ≤ 5248) (inb : ∀ a, (![0, o] : Fin 2 → ℕ) a + S1024x512.size a ≤ S1024x5248.size a) (k : Fin 1024) (f : Fin 512) :
    (View.ld x1 (Rect.unit (s := S1024x5248) ![0, o] S1024x512.size inb) : Vec Ideal S1024x512 .bf16) (ix2 k f) = x1 (ix2 k ⟨o + f, by omega⟩) := by
  refine congrArg x1 (funext fun a => Fin.ext ?_)
  match a with
  | ⟨0, _⟩ => show 0 + 1 * k.val = k.val; omega
  | ⟨1, _⟩ => show o + 1 * f.val = o + f.val; omega

/-- A run of the gates' bias, read at an entry. -/
theorem ld_b (x2 : Vec Ideal S1x2048 .f32) (o : ℕ) (ho : o + 512 ≤ 2048) (inb : ∀ a, (![0, o] : Fin 2 → ℕ) a + S1x512.size a ≤ S1x2048.size a) (f : Fin 512) :
    (View.ld x2 (Rect.unit (s := S1x2048) ![0, o] S1x512.size inb) : Vec Ideal S1x512 .f32) (ix2 0 f) = x2 (ix2 0 ⟨o + f, by omega⟩) := by
  refine congrArg x2 (funext fun a => Fin.ext ?_)
  match a with
  | ⟨0, _⟩ => show 0 + 1 * 0 = 0; omega
  | ⟨1, _⟩ => show o + 1 * f.val = o + f.val; omega

/-- The tokens, as rows. -/
theorem tok_apply (x0 : Vec Ideal S1x256x1024 .f32) (i : Fin 256) (k : Fin 1024) :
    k0_pay3 (View.ld x0 r0_0) (ix2 i k) = x0 (ix3 0 i k) := by
  pointwise [k0_pay3]

/-- One chunk of a silu: of rows `v` and weight columns `w`. -/
theorem silu_chunk (v : FVec Ideal S256x1024 .bf16) (w : Vec Ideal S1024x512 .bf16) (i : Fin 256) (f : Fin 512) :
    k0_pay9 v w (ix3 0 i f) = silu (∑ k : Fin 1024, v (ix2 i k) * w (ix2 k f)) := by
  pointwise [k0_pay9]
  rfl

/-- One chunk of the gates. -/
theorem sigm_chunk (v : FVec Ideal S256x1024 .bf16) (w : Vec Ideal S1024x512 .bf16) (b : Vec Ideal S1x512 .f32) (i : Fin 256) (f : Fin 512) :
    k0_pay12 v w b (ix3 0 i f) = sigm ((∑ k : Fin 1024, v (ix2 i k) * w (ix2 k f)) + b (ix2 0 f)) := by
  pointwise [k0_pay12]
  rfl

/-- The step sizes. -/
theorem softp_chunk (v : FVec Ideal S256x1024 .bf16) (w : Vec Ideal S1024x128 .bf16) (b : Vec Ideal S1x128 .f32) (i : Fin 256) (f : Fin 128) :
    k0_pay2 v w b (ix3 0 i f) = softp ((∑ k : Fin 1024, v (ix2 i k) * w (ix2 k f)) + b (ix2 0 f)) := by
  pointwise [k0_pay2]
  rfl

variable (x0 : Vec Ideal S1x256x1024 .f32) (x1 : Vec Ideal S1024x5248 .bf16) (x2 : Vec Ideal S1x2048 .f32) (x3 : Vec Ideal S1x128 .f32)

/-- The product of token `i` with weight column `e`. -/
def acc (i : Fin 256) (e : Fin 5248) : EReal := ∑ k : Fin 1024, x0 (ix3 0 i k) * x1 (ix2 k e)

theorem acc_chunk (o : ℕ) (ho : o + 512 ≤ 5248) (inb : ∀ a, (![0, o] : Fin 2 → ℕ) a + S1024x512.size a ≤ S1024x5248.size a) (i : Fin 256) (f : Fin 512) :
    ∑ k : Fin 1024, k0_pay3 (View.ld x0 r0_0) (ix2 i k) * (View.ld x1 (Rect.unit (s := S1024x5248) ![0, o] S1024x512.size inb) : Vec Ideal S1024x512 .bf16) (ix2 k f)
      = acc x0 x1 i ⟨o + f, by omega⟩ :=
  Finset.sum_congr rfl fun k _ => congrArg₂ (· * ·) (tok_apply x0 i k) (ld_w x1 o ho inb k f)

/-- A chunk stored at column `p` of a result of width `n`, placed. -/
theorem place {n : ℕ} (hn : n = 1024 ∨ n = 2048) (p : ℕ) (w : FVec Ideal S1x256x512 .bf16) (G : ℕ → EReal) (i : Fin 256) (f : Fin n)
    (h : ∀ f' : Fin 512, w (ix3 0 i f') = G (p + f')) :
    View.TileAt (S := ⟨3, ![1, 256, n]⟩) (Val := Elt Ideal) (e := .bf16) (ix3 0 i f) ![0, 0, p] ![1, 256, 512] w (G f) := by
  intro x hx
  have h1 : i.val = 0 + (x 1).val := hx 1
  have h2 : f.val = p + (x 2).val := hx 2
  have e : x = ix3 0 i (x 2) := funext fun a => by
    match a with
    | ⟨0, _⟩ => exact Subsingleton.elim (α := Fin 1) _ _
    | ⟨1, _⟩ => exact Fin.ext (by show (x 1).val = i.val; omega)
    | ⟨2, _⟩ => rfl
  have h' : w x = G (p + (x 2).val) := (congrArg w e).trans (h (x 2))
  rw [h', h2]

/-- The attention's gate block. -/
theorem out_4 (i : Fin 256) (f : Fin 1024) :
    out0_4 x0 x1 x2 x3 (ix3 0 i f) = silu (acc x0 x1 i ⟨0 + f, by omega⟩) := by
  let G : ℕ → EReal := fun y => if h : y < 1024 then silu (acc x0 x1 i ⟨0 + y, by omega⟩) else 0
  have hG : silu (acc x0 x1 i ⟨0 + f, by omega⟩) = G f := by simp only [G, f.isLt, dite_true]
  rw [hG]
  unfold out0_4
  refine View.canon_eq_of_allAt _ _ _ (cover0_4 _ _ _) ?_
  refine View.allAt_cons_unit _ _ _ _ _ (place (by decide) 512 _ G i f fun f' => ?_) ?_
  · refine (silu_chunk (k0_pay3 (View.ld x0 r0_0)) (View.ld x1 (Rect.unit (s := S1024x5248) ![0, 512] S1024x512.size inb_S1024x5248_S1024x512_0_512)) i f').trans ?_
    rw [acc_chunk x0 x1 512 (by decide)]
    have hl : 512 + f'.val < 1024 := by omega
    simp only [G, hl, dite_true, ← Nat.add_assoc]
  refine View.allAt_cons_unit _ _ _ _ _ (place (by decide) 0 _ G i f fun f' => ?_) ?_
  · refine (silu_chunk (k0_pay3 (View.ld x0 r0_0)) (View.ld x1 (Rect.unit (s := S1024x5248) ![0, 0] S1024x512.size inb_S1024x5248_S1024x512_0_0)) i f').trans ?_
    rw [acc_chunk x0 x1 0 (by decide)]
    have hl : 0 + f'.val < 1024 := by omega
    simp only [G, hl, dite_true, ← Nat.add_assoc]
  exact View.allAt_nil _ _

/-- The recurrence's gate block. -/
theorem out_5 (i : Fin 256) (f : Fin 2048) :
    out0_5 x0 x1 x2 x3 (ix3 0 i f) = silu (acc x0 x1 i ⟨1024 + f, by omega⟩) := by
  let G : ℕ → EReal := fun y => if h : y < 2048 then silu (acc x0 x1 i ⟨1024 + y, by omega⟩) else 0
  have hG : silu (acc x0 x1 i ⟨1024 + f, by omega⟩) = G f := by simp only [G, f.isLt, dite_true]
  rw [hG]
  unfold out0_5
  refine View.canon_eq_of_allAt _ _ _ (cover0_5 _ _ _ _ _) ?_
  refine View.allAt_cons_unit _ _ _ _ _ (place (by decide) 1536 _ G i f fun f' => ?_) ?_
  · refine (silu_chunk (k0_pay3 (View.ld x0 r0_0)) (View.ld x1 (Rect.unit (s := S1024x5248) ![0, 2560] S1024x512.size inb_S1024x5248_S1024x512_0_2560)) i f').trans ?_
    rw [acc_chunk x0 x1 2560 (by decide)]
    have hl : 1536 + f'.val < 2048 := by omega
    simp only [G, hl, dite_true, ← Nat.add_assoc]
  refine View.allAt_cons_unit _ _ _ _ _ (place (by decide) 1024 _ G i f fun f' => ?_) ?_
  · refine (silu_chunk (k0_pay3 (View.ld x0 r0_0)) (View.ld x1 (Rect.unit (s := S1024x5248) ![0, 2048] S1024x512.size inb_S1024x5248_S1024x512_0_2048)) i f').trans ?_
    rw [acc_chunk x0 x1 2048 (by decide)]
    have hl : 1024 + f'.val < 2048 := by omega
    simp only [G, hl, dite_true, ← Nat.add_assoc]
  refine View.allAt_cons_unit _ _ _ _ _ (place (by decide) 512 _ G i f fun f' => ?_) ?_
  · refine (silu_chunk (k0_pay3 (View.ld x0 r0_0)) (View.ld x1 (Rect.unit (s := S1024x5248) ![0, 1536] S1024x512.size inb_S1024x5248_S1024x512_0_1536)) i f').trans ?_
    rw [acc_chunk x0 x1 1536 (by decide)]
    have hl : 512 + f'.val < 2048 := by omega
    simp only [G, hl, dite_true, ← Nat.add_assoc]
  refine View.allAt_cons_unit _ _ _ _ _ (place (by decide) 0 _ G i f fun f' => ?_) ?_
  · refine (silu_chunk (k0_pay3 (View.ld x0 r0_0)) (View.ld x1 (Rect.unit (s := S1024x5248) ![0, 1024] S1024x512.size inb_S1024x5248_S1024x512_0_1024)) i f').trans ?_
    rw [acc_chunk x0 x1 1024 (by decide)]
    have hl : 0 + f'.val < 2048 := by omega
    simp only [G, hl, dite_true, ← Nat.add_assoc]
  exact View.allAt_nil _ _

/-- The merge's gate block. -/
theorem out_6 (i : Fin 256) (f : Fin 2048) :
    out0_6 x0 x1 x2 x3 (ix3 0 i f) = sigm (acc x0 x1 i ⟨3072 + f, by omega⟩ + x2 (ix2 0 f)) := by
  let G : ℕ → EReal := fun y => if h : y < 2048 then sigm (acc x0 x1 i ⟨3072 + y, by omega⟩ + x2 (ix2 0 ⟨y, h⟩)) else 0
  have hG : sigm (acc x0 x1 i ⟨3072 + f, by omega⟩ + x2 (ix2 0 f)) = G f := by simp only [G, f.isLt, dite_true]
  rw [hG]
  unfold out0_6
  refine View.canon_eq_of_allAt _ _ _ (cover0_6 _ _ _ _ _) ?_
  refine View.allAt_cons_unit _ _ _ _ _ (place (by decide) 1536 _ G i f fun f' => ?_) ?_
  · refine (sigm_chunk (k0_pay3 (View.ld x0 r0_0)) (View.ld x1 (Rect.unit (s := S1024x5248) ![0, 4608] S1024x512.size inb_S1024x5248_S1024x512_0_4608)) (View.ld x2 (Rect.unit (s := S1x2048) ![0, 1536] S1x512.size inb_S1x2048_S1x512_0_1536)) i f').trans ?_
    rw [acc_chunk x0 x1 4608 (by decide), ld_b x2 1536 (by decide)]
    have hl : 1536 + f'.val < 2048 := by omega
    simp only [G, hl, dite_true, ← Nat.add_assoc]
  refine View.allAt_cons_unit _ _ _ _ _ (place (by decide) 1024 _ G i f fun f' => ?_) ?_
  · refine (sigm_chunk (k0_pay3 (View.ld x0 r0_0)) (View.ld x1 (Rect.unit (s := S1024x5248) ![0, 4096] S1024x512.size inb_S1024x5248_S1024x512_0_4096)) (View.ld x2 (Rect.unit (s := S1x2048) ![0, 1024] S1x512.size inb_S1x2048_S1x512_0_1024)) i f').trans ?_
    rw [acc_chunk x0 x1 4096 (by decide), ld_b x2 1024 (by decide)]
    have hl : 1024 + f'.val < 2048 := by omega
    simp only [G, hl, dite_true, ← Nat.add_assoc]
  refine View.allAt_cons_unit _ _ _ _ _ (place (by decide) 512 _ G i f fun f' => ?_) ?_
  · refine (sigm_chunk (k0_pay3 (View.ld x0 r0_0)) (View.ld x1 (Rect.unit (s := S1024x5248) ![0, 3584] S1024x512.size inb_S1024x5248_S1024x512_0_3584)) (View.ld x2 (Rect.unit (s := S1x2048) ![0, 512] S1x512.size inb_S1x2048_S1x512_0_512)) i f').trans ?_
    rw [acc_chunk x0 x1 3584 (by decide), ld_b x2 512 (by decide)]
    have hl : 512 + f'.val < 2048 := by omega
    simp only [G, hl, dite_true, ← Nat.add_assoc]
  refine View.allAt_cons_unit _ _ _ _ _ (place (by decide) 0 _ G i f fun f' => ?_) ?_
  · refine (sigm_chunk (k0_pay3 (View.ld x0 r0_0)) (View.ld x1 (Rect.unit (s := S1024x5248) ![0, 3072] S1024x512.size inb_S1024x5248_S1024x512_0_3072)) (View.ld x2 (Rect.unit (s := S1x2048) ![0, 0] S1x512.size inb_S1x2048_S1x512_0_0)) i f').trans ?_
    rw [acc_chunk x0 x1 3072 (by decide), ld_b x2 0 (by decide)]
    have hl : 0 + f'.val < 2048 := by omega
    simp only [G, hl, dite_true, ← Nat.add_assoc]
  exact View.allAt_nil _ _

/-- The step sizes' block. -/
theorem out_7 (i : Fin 256) (f : Fin 128) :
    out0_7 x0 x1 x2 x3 (ix3 0 i f) = softp (acc x0 x1 i ⟨5120 + f, by omega⟩ + x3 (ix2 0 f)) := by
  unfold out0_7
  rw [View.canon_unit_zero hz3]
  refine (softp_chunk (k0_pay3 (View.ld x0 r0_0)) _ _ i f).trans (congrArg softp (congrArg₂ (· + ·) (Finset.sum_congr rfl fun k _ => congrArg₂ (· * ·) (tok_apply x0 i k) ?_) ?_))
  · refine congrArg x1 (funext fun a => Fin.ext ?_)
    match a with
    | ⟨0, _⟩ => show 0 + 1 * k.val = k.val; omega
    | ⟨1, _⟩ => show 5120 + 1 * f.val = 5120 + f.val; omega
  · exact congrFun (View.ld_unit_zero hz2 _ x3) _

end Cert.GatesIdeal.Gates

end
-- ==== Proof.Gates.Ref.lean ====
/- The reference's gates at one index. -/
module

public import proofs.«01_k».proof.Proof.Gates.Math
public import proofs.«01_k».proof.Proof.Gen.GatesReferenceIdeal.Run
public import Idealize.ShloMosaic.Lib.Pointwise

@[expose] public section

set_option maxRecDepth 16384

noncomputable section

namespace Cert.GatesReferenceIdeal.Gates

open Cert.GatesReferenceIdeal Cert.GatesReferenceIdeal.Gen Cert.GatesMath Idealize.ShloMosaic Idealize.ShloMosaic.TcCoe Idealize.SL.Sem

variable (x : FVec Ideal S16x4096x1024 .f32) (w : FVec Ideal S1024x9792 .f32) (bg : FVec Ideal S2048 .f32) (bf bb : FVec Ideal S32 .f32)

/-- The input projection. -/
def proj : FVec Ideal S16x4096x9792 .f32 := Host.dotGeneral dot_S16x4096x1024_S1024x9792_S16x4096x9792_2_0_01_1_n_n none x w

/-- The logistic of an array. -/
def rsig (p : FVec Ideal S16x4096x2048 .f32) : FVec Ideal S16x4096x2048 .f32 :=
  Host.divf (broadcastInDim S16x4096x2048 ![] bcast_S_S16x4096x2048 (constant S_ .f32 0x3F800000#32)) (addf (broadcastInDim S16x4096x2048 ![] bcast_S_S16x4096x2048 (constant S_ .f32 0x3F800000#32)) (Host.exp (Host.negf p)))

/-- The attention's gate, of the projection. -/
def rg (p : FVec Ideal S16x4096x1024 .f32) : FVec Ideal S16x4096x1024 .bf16 :=
  truncf .bf16 (mulf p (Host.divf (broadcastInDim S16x4096x1024 ![] bcast_S_S16x4096x1024 (constant S_ .f32 0x3F800000#32)) (addf (broadcastInDim S16x4096x1024 ![] bcast_S_S16x4096x1024 (constant S_ .f32 0x3F800000#32)) (Host.exp (Host.negf p))))) bitsLt_bf16_f32

/-- The recurrence's gate. -/
def rz (p : FVec Ideal S16x4096x2048 .f32) : FVec Ideal S16x4096x2048 .bf16 := truncf .bf16 (mulf p (rsig p)) bitsLt_bf16_f32

/-- The merge's gates before their logistic. -/
def rpre (p : FVec Ideal S16x4096x9792 .f32) : FVec Ideal S16x4096x2048 .f32 :=
  addf (extractStridedSlice S16x4096x2048 ![0, 0, 7744] p slices_S16x4096x9792_S16x4096x2048_0_0_7744) (broadcastInDim S16x4096x2048 ![0, 1, 2] bcast_S1x1x2048_S16x4096x2048_0_1_2 (broadcastInDim S1x1x2048 ![2] bcast_S2048_S1x1x2048_2 bg))

/-- The step sizes before their softplus, with zeros after the last head. -/
def rdt (p : FVec Ideal S16x4096x9792 .f32) : FVec Ideal S16x4096x128 .f32 :=
  pad S16x4096x128 ![0, 0, 0] ![0, 0, 64] ![0, 0, 0] (addf (extractStridedSlice S16x4096x64 ![0, 0, 7680] p slices_S16x4096x9792_S16x4096x64_0_0_7680) (broadcastInDim S16x4096x64 ![0, 1, 2] bcast_S1x1x64_S16x4096x64_0_1_2 (broadcastInDim S1x1x64 ![2] bcast_S64_S1x1x64_2 (concatenate S64 0 [⟨S32, bf⟩, ⟨S32, bb⟩] concatenates_S32_S32_S64_d0)))) (sitofp .f32 (constantI S_ 32 0#32)) pads_S16x4096x64_S16x4096x128_000_000_0640 h_S_

/-- The softplus of an array. -/
def rsp (p : FVec Ideal S16x4096x128 .f32) : FVec Ideal S16x4096x128 .f32 :=
  select (cmpf .une (subf p (broadcastInDim S16x4096x128 ![] bcast_S_S16x4096x128 (constant S_ .f32 0x00000000#32))) (subf p (broadcastInDim S16x4096x128 ![] bcast_S_S16x4096x128 (constant S_ .f32 0x00000000#32)))) (addf p (broadcastInDim S16x4096x128 ![] bcast_S_S16x4096x128 (constant S_ .f32 0x00000000#32))) (addf (maximumf p (broadcastInDim S16x4096x128 ![] bcast_S_S16x4096x128 (constant S_ .f32 0x00000000#32))) (Host.log1p (Host.exp (Host.negf (Host.absf (subf p (broadcastInDim S16x4096x128 ![] bcast_S_S16x4096x128 (constant S_ .f32 0x00000000#32))))))))

/-- The four results. -/
def res0 : FVec Ideal S16x4096x1024 .bf16 := rg (extractStridedSlice S16x4096x1024 ![0, 0, 1536] (proj x w) slices_S16x4096x9792_S16x4096x1024_0_0_1536)
def res1 : FVec Ideal S16x4096x2048 .bf16 := rz (extractStridedSlice S16x4096x2048 ![0, 0, 2560] (proj x w) slices_S16x4096x9792_S16x4096x2048_0_0_2560)
def res2 : FVec Ideal S16x4096x2048 .bf16 := truncf .bf16 (rsig (rpre bg (proj x w))) bitsLt_bf16_f32
def res3 : FVec Ideal S16x4096x128 .f32 := rsp (rdt bf bb (proj x w))

/-- The product of a token with a column of the projection's weights. -/
def col (b : Fin 16) (i : Fin 4096) (e : Fin 9792) : EReal := ∑ k : Fin 1024, x (ix3 b i k) * w (ix2 k e)

theorem proj_apply (b : Fin 16) (i : Fin 4096) (e : Fin 9792) : proj x w (ix3 b i e) = col x w b i e := by
  pointwise [proj]
  rfl

theorem rsig_apply (p : FVec Ideal S16x4096x2048 .f32) (b : Fin 16) (i : Fin 4096) (f : Fin 2048) : rsig p (ix3 b i f) = sigm (p (ix3 b i f)) := by
  refine Eq.trans ?_ (sigm_neg _)
  pointwise [rsig]

theorem rg_apply (p : FVec Ideal S16x4096x1024 .f32) (b : Fin 16) (i : Fin 4096) (f : Fin 1024) : rg p (ix3 b i f) = silu (p (ix3 b i f)) := by
  refine Eq.trans ?_ (silu_mul _)
  pointwise [rg]

theorem rz_apply (p : FVec Ideal S16x4096x2048 .f32) (b : Fin 16) (i : Fin 4096) (f : Fin 2048) : rz p (ix3 b i f) = silu (p (ix3 b i f)) := by
  refine Eq.trans ?_ (silu_mul _)
  pointwise [rz, rsig]

theorem rsp_apply (p : FVec Ideal S16x4096x128 .f32) (b : Fin 16) (i : Fin 4096) (f : Fin 128) : rsp p (ix3 b i f) = softp (p (ix3 b i f)) :=
  softp_ref _

theorem rpre_apply (p : FVec Ideal S16x4096x9792 .f32) (b : Fin 16) (i : Fin 4096) (f : Fin 2048) :
    rpre bg p (ix3 b i f) = p (ix3 b i ⟨7744 + f, by omega⟩) + bg (ix1 f) := by
  pointwise [rpre]

theorem rdt_lo (p : FVec Ideal S16x4096x9792 .f32) (b : Fin 16) (i : Fin 4096) (f : Fin 128) (h : f.val < 32) :
    rdt bf bb p (ix3 b i f) = p (ix3 b i ⟨7680 + f, by omega⟩) + bf (ix1 ⟨f, h⟩) := by
  have h' : f.val < 64 := by omega
  pointwise [rdt]
  simp [h, h']

theorem rdt_mid (p : FVec Ideal S16x4096x9792 .f32) (b : Fin 16) (i : Fin 4096) (f : Fin 128) (h : ¬ f.val < 32) (h' : f.val < 64) :
    rdt bf bb p (ix3 b i f) = p (ix3 b i ⟨7680 + f, by omega⟩) + bb (ix1 ⟨f - 32, by omega⟩) := by
  pointwise [rdt]
  simp [h, h']

theorem rdt_hi (p : FVec Ideal S16x4096x9792 .f32) (b : Fin 16) (i : Fin 4096) (f : Fin 128) (h : ¬ f.val < 64) :
    rdt bf bb p (ix3 b i f) = 0 := by
  pointwise [rdt]
  simp only [h, dite_false]
  show (((0#32 : BitVec 32).toInt : ℝ) : EReal) = 0
  simp

theorem res0_apply (b : Fin 16) (i : Fin 4096) (f : Fin 1024) : res0 x w (ix3 b i f) = silu (col x w b i ⟨1536 + f, by omega⟩) := by
  unfold res0
  rw [rg_apply, ← proj_apply]
  refine congrArg silu ?_
  generalize proj x w = p
  pointwise

theorem res1_apply (b : Fin 16) (i : Fin 4096) (f : Fin 2048) : res1 x w (ix3 b i f) = silu (col x w b i ⟨2560 + f, by omega⟩) := by
  unfold res1
  rw [rz_apply, ← proj_apply]
  refine congrArg silu ?_
  generalize proj x w = p
  pointwise

theorem res2_apply (b : Fin 16) (i : Fin 4096) (f : Fin 2048) :
    res2 x w bg (ix3 b i f) = sigm (col x w b i ⟨7744 + f, by omega⟩ + bg (ix1 f)) := by
  refine (rsig_apply (rpre bg (proj x w)) b i f).trans ?_
  rw [rpre_apply, proj_apply]

variable (m : (ℓ : Loc nD τ sig) → Buf (Elt Ideal) ℓ)

abbrev a0 (c : Dev nD) : FVec Ideal S16x4096x1024 .f32 := m ((c : Thread nD τ).loc main_arg0)
abbrev a1 (c : Dev nD) : FVec Ideal S1024x9792 .f32 := m ((c : Thread nD τ).loc main_arg1)
abbrev a2 (c : Dev nD) : FVec Ideal S2048 .f32 := m ((c : Thread nD τ).loc main_arg2)
abbrev a3 (c : Dev nD) : FVec Ideal S32 .f32 := m ((c : Thread nD τ).loc main_arg3)
abbrev a4 (c : Dev nD) : FVec Ideal S32 .f32 := m ((c : Thread nD τ).loc main_arg4)

/-- The reference runs and ends with the four functions of its arguments, and its arguments unchanged. -/
theorem run (ρ : Dev nD → PrngReg) : θ_run defs (onTc (τ := τ) (main (F := Ideal))) ⟨m, fun _ => 0, ρ⟩ fun r => ∀ c : Dev nD,
    r.2.mem ((c.tc : Thread nD τ).loc main_v15) = res0 (a0 m c) (a1 m c)
    ∧ r.2.mem ((c.tc : Thread nD τ).loc main_v17) = res1 (a0 m c) (a1 m c)
    ∧ r.2.mem ((c.tc : Thread nD τ).loc main_v27) = res2 (a0 m c) (a1 m c) (a2 m c)
    ∧ r.2.mem ((c.tc : Thread nD τ).loc main_v28) = res3 (a0 m c) (a1 m c) (a3 m c) (a4 m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  Value.run m ρ

end Cert.GatesReferenceIdeal.Gates

end
-- ==== Proof.Gates.Launch.lean ====
/- The gates' launch: its prepared arrays, its blocks, and the four result arrays they assemble. -/
module

public import proofs.«01_k».proof.Proof.Gates.Block
public import proofs.«01_k».proof.Proof.Gates.Ref
public import proofs.«01_k».proof.Proof.Gen.GatesIdeal.Value
public import Idealize.ShloMosaic.Lib.Pipeline.Value

@[expose] public section

set_option maxRecDepth 16384

noncomputable section

namespace Cert.GatesIdeal.Gates

open Cert.GatesIdeal Cert.GatesIdeal.Gen Cert.GatesMath Idealize.ShloMosaic Idealize.ShloMosaic.TcCoe Idealize.SL.Sem
open Idealize.ShloMosaic.Pipeline (Dat)

variable (m : (ℓ : Loc nD τ sig) → Buf (Elt Ideal) ℓ)

/-- The argument: the tokens. -/
abbrev ax (c : Dev nD) : FVec Ideal S16x4096x1024 .f32 := m ((c : Thread nD τ).loc main_arg0)
/-- The argument: the input projection's weights. -/
abbrev aw (c : Dev nD) : FVec Ideal S1024x9792 .f32 := m ((c : Thread nD τ).loc main_arg1)
/-- The argument: the gates' bias. -/
abbrev bg (c : Dev nD) : FVec Ideal S2048 .f32 := m ((c : Thread nD τ).loc main_arg2)
/-- The argument: the forward step sizes' bias. -/
abbrev bf (c : Dev nD) : FVec Ideal S32 .f32 := m ((c : Thread nD τ).loc main_arg3)
/-- The argument: the backward step sizes' bias. -/
abbrev bb (c : Dev nD) : FVec Ideal S32 .f32 := m ((c : Thread nD τ).loc main_arg4)

/-! ## The arrays the windows read -/

/-- The weights' columns the call uses, side by side, and zeros after them. -/
def wcat (w : FVec Ideal S1024x9792 .f32) : FVec Ideal S1024x5248 .bf16 :=
  truncf .bf16 (concatenate S1024x5248 1 [⟨S1024x1024, extractStridedSlice S1024x1024 ![0, 1536] w slices_S1024x9792_S1024x1024_0_1536⟩, ⟨S1024x2048, extractStridedSlice S1024x2048 ![0, 2560] w slices_S1024x9792_S1024x2048_0_2560⟩, ⟨S1024x2048, extractStridedSlice S1024x2048 ![0, 7744] w slices_S1024x9792_S1024x2048_0_7744⟩, ⟨S1024x64, extractStridedSlice S1024x64 ![0, 7680] w slices_S1024x9792_S1024x64_0_7680⟩, ⟨S1024x64, broadcastInDim S1024x64 ![] bcast_S_S1024x64 (constant S_ .f32 0x00000000#32)⟩] concatenates_S1024x1024_S1024x2048_S1024x2048_S1024x64_S1024x64_S1024x5248_d1) bitsLt_bf16_f32

/-- The step sizes' biases side by side, and zeros after them. -/
def bcat (f b : FVec Ideal S32 .f32) : FVec Ideal S1x128 .f32 :=
  broadcastInDim S1x128 ![1] bcast_S128_S1x128_1 (concatenate S128 0 [⟨S32, f⟩, ⟨S32, b⟩, ⟨S64, broadcastInDim S64 ![] bcast_S_S64 (constant S_ .f32 0x00000000#32)⟩] concatenates_S32_S32_S64_S128_d0)

theorem V_w (c : Dev nD) : @Eq (FVec Ideal S1024x5248 .bf16) (V m c main_v10) (wcat (aw m c)) := by
  refine (show V m c main_v10 = StableHlo.after hostOps0 (fun b => m (c, b)) main_v10 from rfl).trans ?_
  unfold hostOps0
  after_results <;> rfl

theorem V_b (c : Dev nD) : @Eq (FVec Ideal S1x128 .f32) (V m c main_v13) (bcat (bf m c) (bb m c)) := by
  refine (show V m c main_v13 = StableHlo.after hostOps0 (fun b => m (c, b)) main_v13 from rfl).trans ?_
  unfold hostOps0
  after_results <;> rfl

theorem V_g (c : Dev nD) : @Eq (FVec Ideal S1x2048 .f32) (V m c main_v14) (broadcastInDim S1x2048 ![1] bcast_S2048_S1x2048_1 (bg m c)) := by
  refine (show V m c main_v14 = StableHlo.after hostOps0 (fun b => m (c, b)) main_v14 from rfl).trans ?_
  unfold hostOps0
  after_results <;> rfl

theorem V_g_apply (c : Dev nD) (f : Fin 2048) : (V m c main_v14 : FVec Ideal S1x2048 .f32) (ix2 0 f) = bg m c (ix1 f) := by
  rw [V_g]; pointwise

theorem V_x (c : Dev nD) : @Eq (FVec Ideal S16x4096x1024 .f32) (V m c main_arg0) (ax m c) := by
  refine (show V m c main_arg0 = StableHlo.after hostOps0 (fun b => m (c, b)) main_arg0 from rfl).trans ?_
  unfold hostOps0
  after_results <;> rfl

theorem wcat_g (w : FVec Ideal S1024x9792 .f32) (k : Fin 1024) (f : Fin 1024) : wcat w (ix2 k ⟨0 + f, by omega⟩) = w (ix2 k ⟨1536 + f, by omega⟩) := by
  pointwise [wcat]
  try simp

theorem wcat_z (w : FVec Ideal S1024x9792 .f32) (k : Fin 1024) (f : Fin 2048) : wcat w (ix2 k ⟨1024 + f, by omega⟩) = w (ix2 k ⟨2560 + f, by omega⟩) := by
  pointwise [wcat]
  try simp

theorem wcat_m (w : FVec Ideal S1024x9792 .f32) (k : Fin 1024) (f : Fin 2048) : wcat w (ix2 k ⟨3072 + f, by omega⟩) = w (ix2 k ⟨7744 + f, by omega⟩) := by
  pointwise [wcat]
  rw [dif_neg (by omega), dif_neg (by omega), dif_pos (by omega)]
  exact congrArg w (congrArg (ix2 k) (Fin.ext (by show 7744 + (3072 + f.val - 1024 - 2048) = 7744 + f.val; omega)))

theorem wcat_d (w : FVec Ideal S1024x9792 .f32) (k : Fin 1024) (f : Fin 64) : wcat w (ix2 k ⟨5120 + f, by omega⟩) = w (ix2 k ⟨7680 + f, by omega⟩) := by
  pointwise [wcat]
  rw [dif_neg (by omega), dif_neg (by omega), dif_neg (by omega), dif_pos (by omega)]
  exact congrArg w (congrArg (ix2 k) (Fin.ext (by show 7680 + (5120 + f.val - 1024 - 2048 - 2048) = 7680 + f.val; omega)))

theorem wcat_hi (w : FVec Ideal S1024x9792 .f32) (k : Fin 1024) (e : Fin 5248) (h : ¬ e.val < 5184) : wcat w (ix2 k e) = 0 := by
  have h1 : ¬ e.val < 1024 := by omega
  have h2 : ¬ e.val - 1024 < 2048 := by omega
  have h3 : ¬ e.val - 1024 - 2048 < 2048 := by omega
  have h4 : ¬ e.val - 1024 - 2048 - 2048 < 64 := by omega
  pointwise [wcat]
  simp [h1, h2, h3, h4]

theorem bcat_lo (f b : FVec Ideal S32 .f32) (e : Fin 128) (h : e.val < 32) : bcat f b (ix2 0 e) = f (ix1 ⟨e, h⟩) := by
  pointwise [bcat]
  simp [h]

theorem bcat_mid (f b : FVec Ideal S32 .f32) (e : Fin 128) (h : ¬ e.val < 32) (h' : e.val < 64) : bcat f b (ix2 0 e) = b (ix1 ⟨e - 32, by omega⟩) := by
  have h2 : e.val - 32 < 32 := by omega
  pointwise [bcat]
  simp [h, h2]

theorem bcat_hi (f b : FVec Ideal S32 .f32) (e : Fin 128) (h' : ¬ e.val < 64) : bcat f b (ix2 0 e) = 0 := by
  have h : ¬ e.val < 32 := by omega
  have h2 : ¬ e.val - 32 < 32 := by omega
  pointwise [bcat]
  simp [h, h2]

/-! ## The blocks: point `t` is sequence `t / 16`, token tile `t % 16` -/

theorem ix_0 : ∀ t : Fin grid0.N, win0_0.index t 0 = t.val / 16 ∧ win0_0.index t 1 = t.val % 16 ∧ win0_0.index t 2 = 0 := by decide +kernel
theorem ix_1 : ∀ t : Fin grid0.N, win0_1.index t 0 = 0 ∧ win0_1.index t 1 = 0 := by decide +kernel
theorem ix_2 : ∀ t : Fin grid0.N, win0_2.index t 0 = 0 ∧ win0_2.index t 1 = 0 := by decide +kernel
theorem ix_3 : ∀ t : Fin grid0.N, win0_3.index t 0 = 0 ∧ win0_3.index t 1 = 0 := by decide +kernel
theorem ix_4 : ∀ t : Fin grid0.N, win0_4.index t 0 = t.val / 16 ∧ win0_4.index t 1 = t.val % 16 ∧ win0_4.index t 2 = 0 := by decide +kernel
theorem ix_5 : ∀ t : Fin grid0.N, win0_5.index t 0 = t.val / 16 ∧ win0_5.index t 1 = t.val % 16 ∧ win0_5.index t 2 = 0 := by decide +kernel
theorem ix_6 : ∀ t : Fin grid0.N, win0_6.index t 0 = t.val / 16 ∧ win0_6.index t 1 = t.val % 16 ∧ win0_6.index t 2 = 0 := by decide +kernel
theorem ix_7 : ∀ t : Fin grid0.N, win0_7.index t 0 = t.val / 16 ∧ win0_7.index t 1 = t.val % 16 ∧ win0_7.index t 2 = 0 := by decide +kernel

theorem t_lt (t : Fin cfg0.N) : t.val < 256 := by have := t.isLt; have : cfg0.N = 256 := N_0; omega

/-- Window 0's block at an index. -/
theorem blk_0 (c : Dev nD) (t : Fin cfg0.N) (y1 : Fin 256) (y2 : Fin 1024) :
    (iblk m c 0 t : Vec Ideal S1x256x1024 .f32) (ix3 0 y1 y2)
      = (V m c main_arg0 : FVec Ideal S16x4096x1024 .f32) (ix3 ⟨t.val / 16, by have := t_lt t; omega⟩ ⟨t.val % 16 * 256 + y1, by omega⟩ y2) := by
  have h := ix_0 t
  show V m c main_arg0 _ = _
  refine congrArg _ (funext fun a => Fin.ext ?_)
  match a with
  | ⟨0, _⟩ => show win0_0.index t 0 * 1 + 1 * 0 = t.val / 16; omega
  | ⟨1, _⟩ => show win0_0.index t 1 * 256 + 1 * y1.val = t.val % 16 * 256 + y1.val; omega
  | ⟨2, _⟩ => show win0_0.index t 2 * 1024 + 1 * y2.val = y2.val; omega

/-- Window 1's block at an index. -/
theorem blk_1 (c : Dev nD) (t : Fin cfg0.N) (y0 : Fin 1024) (y1 : Fin 5248) :
    (iblk m c 1 t : Vec Ideal S1024x5248 .bf16) (ix2 y0 y1)
      = (V m c main_v10 : FVec Ideal S1024x5248 .bf16) (ix2 y0 y1) := by
  have h := ix_1 t
  show V m c main_v10 _ = _
  refine congrArg _ (funext fun a => Fin.ext ?_)
  match a with
  | ⟨0, _⟩ => show win0_1.index t 0 * 1024 + 1 * y0.val = y0.val; omega
  | ⟨1, _⟩ => show win0_1.index t 1 * 5248 + 1 * y1.val = y1.val; omega

/-- Window 2's block at an index. -/
theorem blk_2 (c : Dev nD) (t : Fin cfg0.N) (y1 : Fin 2048) :
    (iblk m c 2 t : Vec Ideal S1x2048 .f32) (ix2 0 y1)
      = (V m c main_v14 : FVec Ideal S1x2048 .f32) (ix2 0 y1) := by
  have h := ix_2 t
  show V m c main_v14 _ = _
  refine congrArg _ (funext fun a => Fin.ext ?_)
  match a with
  | ⟨0, _⟩ => show win0_2.index t 0 * 1 + 1 * 0 = 0; omega
  | ⟨1, _⟩ => show win0_2.index t 1 * 2048 + 1 * y1.val = y1.val; omega

/-- Window 3's block at an index. -/
theorem blk_3 (c : Dev nD) (t : Fin cfg0.N) (y1 : Fin 128) :
    (iblk m c 3 t : Vec Ideal S1x128 .f32) (ix2 0 y1)
      = (V m c main_v13 : FVec Ideal S1x128 .f32) (ix2 0 y1) := by
  have h := ix_3 t
  show V m c main_v13 _ = _
  refine congrArg _ (funext fun a => Fin.ext ?_)
  match a with
  | ⟨0, _⟩ => show win0_3.index t 0 * 1 + 1 * 0 = 0; omega
  | ⟨1, _⟩ => show win0_3.index t 1 * 128 + 1 * y1.val = y1.val; omega

/-- Result block 4 at an index of its array. -/
theorem blk_4 (G : FVec Ideal S16x4096x1024 .bf16) (t : Fin cfg0.N) (y1 : Fin 256) (y2 : Fin 1024) :
    (((cfg0.win 4).blk t).view.read (Elt Ideal) G : Vec Ideal S1x256x1024 .bf16) (ix3 0 y1 y2)
      = G (ix3 ⟨t.val / 16, by have := t_lt t; omega⟩ ⟨t.val % 16 * 256 + y1, by omega⟩ y2) := by
  have h := ix_4 t
  show G _ = _
  refine congrArg _ (funext fun a => Fin.ext ?_)
  match a with
  | ⟨0, _⟩ => show win0_4.index t 0 * 1 + 1 * 0 = t.val / 16; omega
  | ⟨1, _⟩ => show win0_4.index t 1 * 256 + 1 * y1.val = t.val % 16 * 256 + y1.val; omega
  | ⟨2, _⟩ => show win0_4.index t 2 * 1024 + 1 * y2.val = y2.val; omega

/-- An index of result array 4 is in point `t`'s block when each coordinate is in the block's range. -/
theorem mem_blk_4 (t : Fin cfg0.N) (i : S16x4096x1024.Idx) :
    i ∈ ((cfg0.win 4).blk t).view.set ↔ ((i 0 : Nat) = t.val / 16 ∧ (i 1 : Nat) / 256 = t.val % 16) := by
  show i ∈ ((View.whole main_v15_0).slice (win0_4.rect t)).set ↔ _
  rw [View.set_slice_whole, Rect.mem_set_unit]
  have e := ix_4 t
  have l2 : (i 2 : Nat) < 1024 := (i 2).isLt
  refine ⟨fun h => ?_, fun h a => ?_⟩
  · have h0 : win0_4.index t 0 * 1 ≤ (i 0 : Nat) ∧ (i 0 : Nat) < win0_4.index t 0 * 1 + 1 := h 0
    have h1 : win0_4.index t 1 * 256 ≤ (i 1 : Nat) ∧ (i 1 : Nat) < win0_4.index t 1 * 256 + 256 := h 1
    omega
  · match a with
    | ⟨0, _⟩ => show win0_4.index t 0 * 1 ≤ (i 0 : Nat) ∧ (i 0 : Nat) < win0_4.index t 0 * 1 + 1; omega
    | ⟨1, _⟩ => show win0_4.index t 1 * 256 ≤ (i 1 : Nat) ∧ (i 1 : Nat) < win0_4.index t 1 * 256 + 256; omega
    | ⟨2, _⟩ => show win0_4.index t 2 * 1024 ≤ (i 2 : Nat) ∧ (i 2 : Nat) < win0_4.index t 2 * 1024 + 1024; omega

/-- Result 4's blocks tile its array. -/
theorem cover_4 (i : S16x4096x1024.Idx) : ∃ t : Fin cfg0.N, (cfg0.win 4).flush t = true ∧ i ∈ ((cfg0.win 4).blk t).view.set := by
  have h0 : (i 0 : Nat) < 16 := (i 0).isLt
  have h1 : (i 1 : Nat) < 4096 := (i 1).isLt
  have hN : cfg0.N = 256 := N_0
  refine ⟨⟨(i 0 : Nat) * 16 + (i 1 : Nat) / 256, by omega⟩, flush0_4 _, ?_⟩
  rw [mem_blk_4]
  dsimp only
  omega

/-- Result block 5 at an index of its array. -/
theorem blk_5 (G : FVec Ideal S16x4096x2048 .bf16) (t : Fin cfg0.N) (y1 : Fin 256) (y2 : Fin 2048) :
    (((cfg0.win 5).blk t).view.read (Elt Ideal) G : Vec Ideal S1x256x2048 .bf16) (ix3 0 y1 y2)
      = G (ix3 ⟨t.val / 16, by have := t_lt t; omega⟩ ⟨t.val % 16 * 256 + y1, by omega⟩ y2) := by
  have h := ix_5 t
  show G _ = _
  refine congrArg _ (funext fun a => Fin.ext ?_)
  match a with
  | ⟨0, _⟩ => show win0_5.index t 0 * 1 + 1 * 0 = t.val / 16; omega
  | ⟨1, _⟩ => show win0_5.index t 1 * 256 + 1 * y1.val = t.val % 16 * 256 + y1.val; omega
  | ⟨2, _⟩ => show win0_5.index t 2 * 2048 + 1 * y2.val = y2.val; omega

/-- An index of result array 5 is in point `t`'s block when each coordinate is in the block's range. -/
theorem mem_blk_5 (t : Fin cfg0.N) (i : S16x4096x2048.Idx) :
    i ∈ ((cfg0.win 5).blk t).view.set ↔ ((i 0 : Nat) = t.val / 16 ∧ (i 1 : Nat) / 256 = t.val % 16) := by
  show i ∈ ((View.whole main_v15_1).slice (win0_5.rect t)).set ↔ _
  rw [View.set_slice_whole, Rect.mem_set_unit]
  have e := ix_5 t
  have l2 : (i 2 : Nat) < 2048 := (i 2).isLt
  refine ⟨fun h => ?_, fun h a => ?_⟩
  · have h0 : win0_5.index t 0 * 1 ≤ (i 0 : Nat) ∧ (i 0 : Nat) < win0_5.index t 0 * 1 + 1 := h 0
    have h1 : win0_5.index t 1 * 256 ≤ (i 1 : Nat) ∧ (i 1 : Nat) < win0_5.index t 1 * 256 + 256 := h 1
    omega
  · match a with
    | ⟨0, _⟩ => show win0_5.index t 0 * 1 ≤ (i 0 : Nat) ∧ (i 0 : Nat) < win0_5.index t 0 * 1 + 1; omega
    | ⟨1, _⟩ => show win0_5.index t 1 * 256 ≤ (i 1 : Nat) ∧ (i 1 : Nat) < win0_5.index t 1 * 256 + 256; omega
    | ⟨2, _⟩ => show win0_5.index t 2 * 2048 ≤ (i 2 : Nat) ∧ (i 2 : Nat) < win0_5.index t 2 * 2048 + 2048; omega

/-- Result 5's blocks tile its array. -/
theorem cover_5 (i : S16x4096x2048.Idx) : ∃ t : Fin cfg0.N, (cfg0.win 5).flush t = true ∧ i ∈ ((cfg0.win 5).blk t).view.set := by
  have h0 : (i 0 : Nat) < 16 := (i 0).isLt
  have h1 : (i 1 : Nat) < 4096 := (i 1).isLt
  have hN : cfg0.N = 256 := N_0
  refine ⟨⟨(i 0 : Nat) * 16 + (i 1 : Nat) / 256, by omega⟩, flush0_5 _, ?_⟩
  rw [mem_blk_5]
  dsimp only
  omega

/-- Result block 6 at an index of its array. -/
theorem blk_6 (G : FVec Ideal S16x4096x2048 .bf16) (t : Fin cfg0.N) (y1 : Fin 256) (y2 : Fin 2048) :
    (((cfg0.win 6).blk t).view.read (Elt Ideal) G : Vec Ideal S1x256x2048 .bf16) (ix3 0 y1 y2)
      = G (ix3 ⟨t.val / 16, by have := t_lt t; omega⟩ ⟨t.val % 16 * 256 + y1, by omega⟩ y2) := by
  have h := ix_6 t
  show G _ = _
  refine congrArg _ (funext fun a => Fin.ext ?_)
  match a with
  | ⟨0, _⟩ => show win0_6.index t 0 * 1 + 1 * 0 = t.val / 16; omega
  | ⟨1, _⟩ => show win0_6.index t 1 * 256 + 1 * y1.val = t.val % 16 * 256 + y1.val; omega
  | ⟨2, _⟩ => show win0_6.index t 2 * 2048 + 1 * y2.val = y2.val; omega

/-- An index of result array 6 is in point `t`'s block when each coordinate is in the block's range. -/
theorem mem_blk_6 (t : Fin cfg0.N) (i : S16x4096x2048.Idx) :
    i ∈ ((cfg0.win 6).blk t).view.set ↔ ((i 0 : Nat) = t.val / 16 ∧ (i 1 : Nat) / 256 = t.val % 16) := by
  show i ∈ ((View.whole main_v15_2).slice (win0_6.rect t)).set ↔ _
  rw [View.set_slice_whole, Rect.mem_set_unit]
  have e := ix_6 t
  have l2 : (i 2 : Nat) < 2048 := (i 2).isLt
  refine ⟨fun h => ?_, fun h a => ?_⟩
  · have h0 : win0_6.index t 0 * 1 ≤ (i 0 : Nat) ∧ (i 0 : Nat) < win0_6.index t 0 * 1 + 1 := h 0
    have h1 : win0_6.index t 1 * 256 ≤ (i 1 : Nat) ∧ (i 1 : Nat) < win0_6.index t 1 * 256 + 256 := h 1
    omega
  · match a with
    | ⟨0, _⟩ => show win0_6.index t 0 * 1 ≤ (i 0 : Nat) ∧ (i 0 : Nat) < win0_6.index t 0 * 1 + 1; omega
    | ⟨1, _⟩ => show win0_6.index t 1 * 256 ≤ (i 1 : Nat) ∧ (i 1 : Nat) < win0_6.index t 1 * 256 + 256; omega
    | ⟨2, _⟩ => show win0_6.index t 2 * 2048 ≤ (i 2 : Nat) ∧ (i 2 : Nat) < win0_6.index t 2 * 2048 + 2048; omega

/-- Result 6's blocks tile its array. -/
theorem cover_6 (i : S16x4096x2048.Idx) : ∃ t : Fin cfg0.N, (cfg0.win 6).flush t = true ∧ i ∈ ((cfg0.win 6).blk t).view.set := by
  have h0 : (i 0 : Nat) < 16 := (i 0).isLt
  have h1 : (i 1 : Nat) < 4096 := (i 1).isLt
  have hN : cfg0.N = 256 := N_0
  refine ⟨⟨(i 0 : Nat) * 16 + (i 1 : Nat) / 256, by omega⟩, flush0_6 _, ?_⟩
  rw [mem_blk_6]
  dsimp only
  omega

/-- Result block 7 at an index of its array. -/
theorem blk_7 (G : FVec Ideal S16x4096x128 .f32) (t : Fin cfg0.N) (y1 : Fin 256) (y2 : Fin 128) :
    (((cfg0.win 7).blk t).view.read (Elt Ideal) G : Vec Ideal S1x256x128 .f32) (ix3 0 y1 y2)
      = G (ix3 ⟨t.val / 16, by have := t_lt t; omega⟩ ⟨t.val % 16 * 256 + y1, by omega⟩ y2) := by
  have h := ix_7 t
  show G _ = _
  refine congrArg _ (funext fun a => Fin.ext ?_)
  match a with
  | ⟨0, _⟩ => show win0_7.index t 0 * 1 + 1 * 0 = t.val / 16; omega
  | ⟨1, _⟩ => show win0_7.index t 1 * 256 + 1 * y1.val = t.val % 16 * 256 + y1.val; omega
  | ⟨2, _⟩ => show win0_7.index t 2 * 128 + 1 * y2.val = y2.val; omega

/-- An index of result array 7 is in point `t`'s block when each coordinate is in the block's range. -/
theorem mem_blk_7 (t : Fin cfg0.N) (i : S16x4096x128.Idx) :
    i ∈ ((cfg0.win 7).blk t).view.set ↔ ((i 0 : Nat) = t.val / 16 ∧ (i 1 : Nat) / 256 = t.val % 16) := by
  show i ∈ ((View.whole main_v15_3).slice (win0_7.rect t)).set ↔ _
  rw [View.set_slice_whole, Rect.mem_set_unit]
  have e := ix_7 t
  have l2 : (i 2 : Nat) < 128 := (i 2).isLt
  refine ⟨fun h => ?_, fun h a => ?_⟩
  · have h0 : win0_7.index t 0 * 1 ≤ (i 0 : Nat) ∧ (i 0 : Nat) < win0_7.index t 0 * 1 + 1 := h 0
    have h1 : win0_7.index t 1 * 256 ≤ (i 1 : Nat) ∧ (i 1 : Nat) < win0_7.index t 1 * 256 + 256 := h 1
    omega
  · match a with
    | ⟨0, _⟩ => show win0_7.index t 0 * 1 ≤ (i 0 : Nat) ∧ (i 0 : Nat) < win0_7.index t 0 * 1 + 1; omega
    | ⟨1, _⟩ => show win0_7.index t 1 * 256 ≤ (i 1 : Nat) ∧ (i 1 : Nat) < win0_7.index t 1 * 256 + 256; omega
    | ⟨2, _⟩ => show win0_7.index t 2 * 128 ≤ (i 2 : Nat) ∧ (i 2 : Nat) < win0_7.index t 2 * 128 + 128; omega

/-- Result 7's blocks tile its array. -/
theorem cover_7 (i : S16x4096x128.Idx) : ∃ t : Fin cfg0.N, (cfg0.win 7).flush t = true ∧ i ∈ ((cfg0.win 7).blk t).view.set := by
  have h0 : (i 0 : Nat) < 16 := (i 0).isLt
  have h1 : (i 1 : Nat) < 4096 := (i 1).isLt
  have hN : cfg0.N = 256 := N_0
  refine ⟨⟨(i 0 : Nat) * 16 + (i 1 : Nat) / 256, by omega⟩, flush0_7 _, ?_⟩
  rw [mem_blk_7]
  dsimp only
  omega

/-! ## The results -/

open Cert.GatesReferenceIdeal.Gates (col res0 res1 res2 res3 res0_apply res1_apply res2_apply)

/-- A tile's product with a prepared weight column is the token's product with the column it was taken from. -/
theorem acc_eq (c : Dev nD) (t : Fin cfg0.N) (i : Fin 256) (e : Fin 5248) (e' : Fin 9792)
    (h : ∀ k, wcat (aw m c) (ix2 k e) = aw m c (ix2 k e')) :
    acc (iblk m c 0 t) (iblk m c 1 t) i e
      = col (ax m c) (aw m c) ⟨t.val / 16, by have := t_lt t; omega⟩ ⟨t.val % 16 * 256 + i, by omega⟩ e' := by
  unfold acc
  refine Finset.sum_congr rfl fun k _ => ?_
  rw [blk_0, blk_1, V_x, V_w, h]

/-- An index of a block. -/
theorem exists_ix {n : ℕ} (y : (⟨3, ![1, 256, n]⟩ : Shape).Idx) : ∃ (i : Fin 256) (f : Fin n), y = ix3 0 i f :=
  ⟨y 1, y 2, funext fun a => by match a with | ⟨0, _⟩ => exact Subsingleton.elim (α := Fin 1) _ _ | ⟨1, _⟩ => rfl | ⟨2, _⟩ => rfl⟩

abbrev goal0 (c : Dev nD) : FVec Ideal S16x4096x1024 .bf16 := res0 (ax m c) (aw m c)
abbrev goal1 (c : Dev nD) : FVec Ideal S16x4096x2048 .bf16 := res1 (ax m c) (aw m c)
abbrev goal2 (c : Dev nD) : FVec Ideal S16x4096x2048 .bf16 := res2 (ax m c) (aw m c) (bg m c)
abbrev goal3 (c : Dev nD) : FVec Ideal S16x4096x128 .f32 := res3 (ax m c) (aw m c) (bf m c) (bb m c)

/-- What point `t` writes back to result 0 is block `t` of the reference's function. -/
theorem flushed_0_eq (c : Dev nD) (t : Fin cfg0.N) :
    (dats m 0 c).flushed 4 t = ((cfg0.win 4).blk t).view.read (Elt Ideal) (goal0 m c) := by
  have ht := t_lt t
  rw [Value.flushed4]
  funext y
  obtain ⟨i, f, rfl⟩ := exists_ix y
  refine Eq.trans ?_ (blk_4 (goal0 m c) t i f).symm
  refine (out_4 (iblk m c 0 t) (iblk m c 1 t) (iblk m c 2 t) (iblk m c 3 t) i f).trans ?_
  refine Eq.trans ?_ (res0_apply (ax m c) (aw m c) ⟨t.val / 16, by omega⟩ ⟨t.val % 16 * 256 + i, by omega⟩ f).symm
  exact congrArg silu (acc_eq m c t i _ _ fun k => wcat_g _ k f)

/-- What point `t` writes back to result 1 is block `t` of the reference's function. -/
theorem flushed_1_eq (c : Dev nD) (t : Fin cfg0.N) :
    (dats m 0 c).flushed 5 t = ((cfg0.win 5).blk t).view.read (Elt Ideal) (goal1 m c) := by
  have ht := t_lt t
  rw [Value.flushed5]
  funext y
  obtain ⟨i, f, rfl⟩ := exists_ix y
  refine Eq.trans ?_ (blk_5 (goal1 m c) t i f).symm
  refine (out_5 (iblk m c 0 t) (iblk m c 1 t) (iblk m c 2 t) (iblk m c 3 t) i f).trans ?_
  refine Eq.trans ?_ (res1_apply (ax m c) (aw m c) ⟨t.val / 16, by omega⟩ ⟨t.val % 16 * 256 + i, by omega⟩ f).symm
  exact congrArg silu (acc_eq m c t i _ _ fun k => wcat_z _ k f)

/-- What point `t` writes back to result 2 is block `t` of the reference's function. -/
theorem flushed_2_eq (c : Dev nD) (t : Fin cfg0.N) :
    (dats m 0 c).flushed 6 t = ((cfg0.win 6).blk t).view.read (Elt Ideal) (goal2 m c) := by
  have ht := t_lt t
  rw [Value.flushed6]
  funext y
  obtain ⟨i, f, rfl⟩ := exists_ix y
  refine Eq.trans ?_ (blk_6 (goal2 m c) t i f).symm
  refine (out_6 (iblk m c 0 t) (iblk m c 1 t) (iblk m c 2 t) (iblk m c 3 t) i f).trans ?_
  refine Eq.trans ?_ (res2_apply (ax m c) (aw m c) (bg m c) ⟨t.val / 16, by omega⟩ ⟨t.val % 16 * 256 + i, by omega⟩ f).symm
  exact congrArg sigm (congrArg₂ (· + ·) (acc_eq m c t i _ _ fun k => wcat_m _ k f) (by rw [blk_2, V_g_apply]))

/-- What point `t` writes back to result 3 is block `t` of the reference's function. -/
theorem flushed_3_eq (c : Dev nD) (t : Fin cfg0.N) :
    (dats m 0 c).flushed 7 t = ((cfg0.win 7).blk t).view.read (Elt Ideal) (goal3 m c) := by
  have ht := t_lt t
  rw [Value.flushed7]
  funext y
  obtain ⟨i, f, rfl⟩ := exists_ix y
  refine Eq.trans ?_ (blk_7 (goal3 m c) t i f).symm
  refine (out_7 (iblk m c 0 t) (iblk m c 1 t) (iblk m c 2 t) (iblk m c 3 t) i f).trans ?_
  refine Eq.trans ?_ (Cert.GatesReferenceIdeal.Gates.rsp_apply _ ⟨t.val / 16, by omega⟩ ⟨t.val % 16 * 256 + i, by omega⟩ f).symm
  refine congrArg softp ?_
  rw [blk_3, V_b]
  by_cases h : f.val < 64
  · refine (congrArg (· + _) (acc_eq m c t i _ ⟨7680 + f, by omega⟩ fun k => wcat_d _ k ⟨f, h⟩)).trans ?_
    by_cases h' : f.val < 32
    · rw [Cert.GatesReferenceIdeal.Gates.rdt_lo _ _ _ _ _ _ h', Cert.GatesReferenceIdeal.Gates.proj_apply, bcat_lo _ _ _ h']
    · rw [Cert.GatesReferenceIdeal.Gates.rdt_mid _ _ _ _ _ _ h' h, Cert.GatesReferenceIdeal.Gates.proj_apply, bcat_mid _ _ _ h' h]
  · rw [Cert.GatesReferenceIdeal.Gates.rdt_hi _ _ _ _ _ _ h, bcat_hi _ _ _ h, add_zero]
    unfold acc
    refine Finset.sum_eq_zero fun k _ => ?_
    rw [blk_1, V_w, wcat_hi _ _ _ (by show ¬ 5120 + f.val < 5184; omega), mul_zero]

/-- So result 0 ends holding the reference's function of the arguments. -/
theorem final_0 (c : Dev nD) : (dats m 0 c).arrAt 4 cfg0.N = goal0 m c :=
  (dats m 0 c).arrAt_eq_of_cover 4 (goal0 m c) (fun t _ => flushed_0_eq m c t) cover_4

/-- So result 1 ends holding the reference's function of the arguments. -/
theorem final_1 (c : Dev nD) : (dats m 0 c).arrAt 5 cfg0.N = goal1 m c :=
  (dats m 0 c).arrAt_eq_of_cover 5 (goal1 m c) (fun t _ => flushed_1_eq m c t) cover_5

/-- So result 2 ends holding the reference's function of the arguments. -/
theorem final_2 (c : Dev nD) : (dats m 0 c).arrAt 6 cfg0.N = goal2 m c :=
  (dats m 0 c).arrAt_eq_of_cover 6 (goal2 m c) (fun t _ => flushed_2_eq m c t) cover_6

/-- So result 3 ends holding the reference's function of the arguments. -/
theorem final_3 (c : Dev nD) : (dats m 0 c).arrAt 7 cfg0.N = goal3 m c :=
  (dats m 0 c).arrAt_eq_of_cover 7 (goal3 m c) (fun t _ => flushed_3_eq m c t) cover_7

end Cert.GatesIdeal.Gates

end
-- ==== Proof.Gates.Claims.lean ====
/- The gates' claims: their frames, and their agreement with the reference. -/
module

public import proofs.«01_k».proof.Defs
public import proofs.«01_k».proof.Proof.Gates.Launch
public import proofs.«01_k».proof.Proof.Gen.Gates.Frame
public import proofs.«01_k».proof.Proof.Gen.GatesIdeal.Frame
public import Idealize.ShloMosaic.Adequacy
public import Idealize.ShloMosaic.Init

@[expose] public section

set_option maxRecDepth 16384

noncomputable section

namespace Cert.Proof.Gates

open Idealize.ShloMosaic Idealize.ShloMosaic.TcCoe Idealize.SL.Sem

/-- The kernel runs, its arguments end unchanged, and its counters end at zero. -/
theorem frame_p : Cert.quiescent_Gates (hGates := Cert.Gates.Gen.facts) := fun m ρ _ => Cert.Gates.Gen.frame m ρ

/-- So does the idealized kernel. -/
theorem frame_pi : Cert.quiescent_GatesIdeal (hGatesIdeal := Cert.GatesIdeal.Gen.facts) := fun m ρ _ => Cert.GatesIdeal.Gen.frame m ρ

/-- So does the reference. -/
theorem frame_ri : Cert.quiescent_GatesReferenceIdeal (hGatesReferenceIdeal := Cert.GatesReferenceIdeal.Gen.facts) := fun m ρ _ =>
  (θ_run Cert.GatesReferenceIdeal.defs _ _).mono (fun r h => ⟨fun c => (h c).2.2.2.2, sem_eq_zero_of_no_sems (by decide) r.2⟩)
    (Cert.GatesReferenceIdeal.Gates.run m ρ)

/-- No operation is idealized. -/
theorem preserves : Cert.preserves_Gates_GatesIdeal := trivial

/-- At `Ideal`, from arguments that agree, the kernel's four result arrays and the reference's end equal. -/
theorem algebraic : Cert.algebraic_GatesIdeal_GatesReferenceIdeal (hGatesIdeal := Cert.GatesIdeal.Gen.facts)
    (hGatesReferenceIdeal := Cert.GatesReferenceIdeal.Gen.facts) := fun m ρ m' ρ' _ hag =>
  ⟨fun c => Cert.GatesIdeal.Gates.goal0 m c, fun c => Cert.GatesIdeal.Gates.goal1 m c, fun c => Cert.GatesIdeal.Gates.goal2 m c, fun c => Cert.GatesIdeal.Gates.goal3 m c,
    (θ_run Cert.GatesIdeal.defs _ _).mono (fun _ h c => ⟨(h c).1.trans (Cert.GatesIdeal.Gates.final_0 m c), (h c).2.1.trans (Cert.GatesIdeal.Gates.final_1 m c),
        (h c).2.2.1.trans (Cert.GatesIdeal.Gates.final_2 m c), (h c).2.2.2.1.trans (Cert.GatesIdeal.Gates.final_3 m c), (h c).2.2.2.2⟩)
      (Cert.GatesIdeal.Value.run_blocks m ρ),
    (θ_run Cert.GatesReferenceIdeal.defs _ _).mono (fun _ h c =>
        ⟨(h c).1.trans (by simp only [Cert.GatesReferenceIdeal.Gates.a0, Cert.GatesReferenceIdeal.Gates.a1]; rw [(hag c).1, (hag c).2.1]),
        (h c).2.1.trans (by simp only [Cert.GatesReferenceIdeal.Gates.a0, Cert.GatesReferenceIdeal.Gates.a1]; rw [(hag c).1, (hag c).2.1]),
        (h c).2.2.1.trans (by simp only [Cert.GatesReferenceIdeal.Gates.a0, Cert.GatesReferenceIdeal.Gates.a1, Cert.GatesReferenceIdeal.Gates.a2]; rw [(hag c).1, (hag c).2.1, (hag c).2.2.1]),
        (h c).2.2.2.1.trans (by simp only [Cert.GatesReferenceIdeal.Gates.a0, Cert.GatesReferenceIdeal.Gates.a1, Cert.GatesReferenceIdeal.Gates.a3, Cert.GatesReferenceIdeal.Gates.a4]; rw [(hag c).1, (hag c).2.1, (hag c).2.2.2.1, (hag c).2.2.2.2]),
        (h c).2.2.2.2⟩)
      (Cert.GatesReferenceIdeal.Gates.run m' ρ')⟩

end Cert.Proof.Gates

end
-- ==== Proof.Conv.Phase.lean ====
/- What the convolution body's slabs of products and its rows of sums hold, piece by piece. -/
module

public import proofs.«01_k».proof.Proof.Gates.Math
public import proofs.«01_k».proof.Proof.Gen.ConvIdeal.Frame
public import Idealize.ShloMosaic.Lib.Pipeline.ValueKit.Tiles
public import Idealize.ShloMosaic.Lib.Pointwise
public import Idealize.ShloMosaic.Lib.WholeRead

@[expose] public section

set_option maxRecDepth 16384

noncomputable section

namespace Cert.ConvIdeal.Conv

open Cert.ConvIdeal Cert.ConvIdeal.Gen Cert.GatesMath Idealize.ShloMosaic

theorem hz2 : (![0, 0] : Fin 2 → Nat) = fun _ => 0 := funext fun a => by fin_cases a <;> rfl
theorem hz3 : (![0, 0, 0] : Fin 3 → Nat) = fun _ => 0 := funext fun a => by fin_cases a <;> rfl

/-- The row of tokens the products are taken of: the eight rows before the tile, the tile, the eight rows after it. -/
def rows (i : grid0.Coords) (x0 : Vec Ideal S1x512x1024 .f32) (x1 x2 : Vec Ideal S1x8x1024 .f32) : FVec Ideal S528x1024 .bf16 := k0_pay2 i x1 x2 x0

/-- The product of row `R` with weight column `e`. -/
def acc (i : grid0.Coords) (x0 : Vec Ideal S1x512x1024 .f32) (x1 x2 : Vec Ideal S1x8x1024 .f32) (x3 : Vec Ideal S1024x3072 .bf16) (R e : ℕ) : EReal :=
  if h : R < 528 ∧ e < 3072 then ∑ k : Fin 1024, rows i x0 x1 x2 (ix2 ⟨R, h.1⟩ k) * x3 (ix2 k ⟨e, h.2⟩) else 0

/-- The convolution's weight `k` of channel `e`. -/
def wt (x4 : Vec Ideal S5x3072 .f32) (k e : ℕ) : EReal := if h : k < 5 ∧ e < 3072 then x4 (ix2 ⟨k, h.1⟩ ⟨e, h.2⟩) else 0

/-- The convolution's bias of channel `e`. -/
def bi (x5 : Vec Ideal S1x3072 .f32) (e : ℕ) : EReal := if h : e < 3072 then x5 (ix2 0 ⟨e, h⟩) else 0

/-- A token's result: the silu of the bias and the five weighted products around it. -/
def yv (G : ℕ → ℕ → EReal) (W : ℕ → ℕ → EReal) (B : ℕ → EReal) (R e : ℕ) : EReal :=
  silu (B e + G (6 + R) e * W 0 e + G (7 + R) e * W 1 e + G (8 + R) e * W 2 e + G (9 + R) e * W 3 e + G (10 + R) e * W 4 e)

/-! ## Reads of what was loaded -/

theorem rd3 {n0 n1 n2 : ℕ} {e : EltTy} (m : Memref sig .tc .vmem (⟨3, ![n0, n1, n2]⟩ : Shape) e) (h : m.IsWhole) (X : (⟨3, ![n0, n1, n2]⟩ : Shape).Idx → Elt Ideal e)
    (inb : ∀ a, (![0, 0, 0] : Fin 3 → ℕ) a + (⟨3, ![n0, n1, n2]⟩ : Shape).size a ≤ (⟨3, ![n0, n1, n2]⟩ : Shape).size a) :
    View.readAt (Elt Ideal) m.view (Rect.unit (s := (⟨3, ![n0, n1, n2]⟩ : Shape)) ![0, 0, 0] (⟨3, ![n0, n1, n2]⟩ : Shape).size inb).toLoadRect (h.unread X) = X := by
  funext x
  refine (Memref.IsWhole.readAt_unread h X _ x).trans (congrArg X (funext fun a => Fin.ext ?_))
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega

/-- A block of a loaded matrix, read at an entry. -/
theorem rd2 {n0 n1 k0 k1 : ℕ} {e : EltTy} (m : Memref sig .tc .vmem (⟨2, ![n0, n1]⟩ : Shape) e) (h : m.IsWhole) (X : (⟨2, ![n0, n1]⟩ : Shape).Idx → Elt Ideal e) (o0 o1 : ℕ)
    (inb : ∀ a, (![o0, o1] : Fin 2 → ℕ) a + (⟨2, ![k0, k1]⟩ : Shape).size a ≤ (⟨2, ![n0, n1]⟩ : Shape).size a) (a : Fin k0) (b : Fin k1) (ha : o0 + a < n0) (hb : o1 + b < n1) :
    (View.readAt (Elt Ideal) m.view (Rect.unit (s := (⟨2, ![n0, n1]⟩ : Shape)) ![o0, o1] (⟨2, ![k0, k1]⟩ : Shape).size inb).toLoadRect (h.unread X) : (⟨2, ![k0, k1]⟩ : Shape).Idx → Elt Ideal e) (ix2 a b)
      = X (ix2 ⟨o0 + a, ha⟩ ⟨o1 + b, hb⟩) := by
  refine (Memref.IsWhole.readAt_unread h X _ _).trans (congrArg X (funext fun c => Fin.ext ?_))
  match c with
  | ⟨0, _⟩ => show o0 + 1 * a.val = o0 + a.val; omega
  | ⟨1, _⟩ => show o1 + 1 * b.val = o1 + b.val; omega

/-! ## The slabs of products -/

theorem slab0 (v : FVec Ideal S528x1024 .bf16) (w : Vec Ideal S1024x512 .bf16) (R : Fin 528) (l : Fin 128) :
    k0_pay10 v w (ix3 0 R l) = ∑ k : Fin 1024, v (ix2 R k) * w (ix2 k ⟨0 + l, by omega⟩) := by
  pointwise [k0_pay9, k0_pay10]
theorem slab1 (v : FVec Ideal S528x1024 .bf16) (w : Vec Ideal S1024x512 .bf16) (R : Fin 528) (l : Fin 128) :
    k0_pay11 v w (ix3 0 R l) = ∑ k : Fin 1024, v (ix2 R k) * w (ix2 k ⟨128 + l, by omega⟩) := by
  pointwise [k0_pay9, k0_pay11]
theorem slab2 (v : FVec Ideal S528x1024 .bf16) (w : Vec Ideal S1024x512 .bf16) (R : Fin 528) (l : Fin 128) :
    k0_pay12 v w (ix3 0 R l) = ∑ k : Fin 1024, v (ix2 R k) * w (ix2 k ⟨256 + l, by omega⟩) := by
  pointwise [k0_pay9, k0_pay12]
theorem slab3 (v : FVec Ideal S528x1024 .bf16) (w : Vec Ideal S1024x512 .bf16) (R : Fin 528) (l : Fin 128) :
    k0_pay13 v w (ix3 0 R l) = ∑ k : Fin 1024, v (ix2 R k) * w (ix2 k ⟨384 + l, by omega⟩) := by
  pointwise [k0_pay9, k0_pay13]

section
variable (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1024x3072 .bf16) (harg5 : arg5.IsWhole)
  (x0 : Vec Ideal S1x512x1024 .f32) (x1 : Vec Ideal S1x8x1024 .f32) (x2 : Vec Ideal S1x8x1024 .f32) (x3 : Vec Ideal S1024x3072 .bf16)

/-- The rows as loaded. -/
abbrev lrows := k0_pay2 (F := Ideal) i (View.readAt (Elt Ideal) arg3.view (Rect.unit ![0, 0, 0] S1x8x1024.size inb_S1x8x1024_S1x8x1024_0_0_0).toLoadRect (harg3.unread x1))
  (View.readAt (Elt Ideal) arg4.view (Rect.unit ![0, 0, 0] S1x8x1024.size inb_S1x8x1024_S1x8x1024_0_0_0).toLoadRect (harg4.unread x2))
  (View.readAt (Elt Ideal) arg2.view (Rect.unit ![0, 0, 0] S1x512x1024.size inb_S1x512x1024_S1x512x1024_0_0_0).toLoadRect (harg2.unread x0))

theorem lrows_eq : lrows i arg2 harg2 arg3 harg3 arg4 harg4 x0 x1 x2 = rows i x0 x1 x2 := by
  unfold lrows rows
  exact congr (congrArg₂ (k0_pay2 i) (rd3 arg3 harg3 x1 _) (rd3 arg4 harg4 x2 _)) (rd3 arg2 harg2 x0 _)

/-- The sum a slab holds, as the product it is. -/
theorem slab_acc (o : ℕ) (inb : ∀ a, (![0, o] : Fin 2 → ℕ) a + S1024x512.size a ≤ S1024x3072.size a) (p e : ℕ) (R : Fin 528) (l : Fin 128) (hp : p + l < 512) (he : e = o + (p + l)) :
    ∑ k : Fin 1024, lrows i arg2 harg2 arg3 harg3 arg4 harg4 x0 x1 x2 (ix2 R k)
        * (View.readAt (Elt Ideal) arg5.view (Rect.unit (s := S1024x3072) ![0, o] S1024x512.size inb).toLoadRect (harg5.unread x3) : Vec Ideal S1024x512 .bf16) (ix2 k ⟨p + l, hp⟩)
      = acc i x0 x1 x2 x3 R e := by
  have ho : o + 512 ≤ 3072 := inb 1
  subst he
  rw [acc, dif_pos ⟨R.isLt, by omega⟩, lrows_eq]
  refine Finset.sum_congr rfl fun k _ => congrArg (_ * ·) ((rd2 arg5 harg5 x3 0 o inb k ⟨p + l, hp⟩ (by omega) (show o + (p + l) < 3072 by omega)).trans ?_)
  exact congrArg (fun z => x3 (ix2 z _)) (Fin.ext (Nat.zero_add _))
end

/-! ## The last stores read back -/

/-- A slab stored, read at an entry: the slab's own entry inside it, the earlier stores' outside it. -/
theorem slab_step (s : ℕ) (hs : s < 4) (inb : ∀ a, (![s, 0, 0] : Fin 3 → ℕ) a + S1x528x128.size a ≤ S4x528x128.size a) (w : Vec Ideal S1x528x128 .f32) (L : List (View.Piece (Elt Ideal) S4x528x128 .f32))
    (S : Fin 4) (R : Fin 528) (l : Fin 128) (v : EReal) (hin : S.val = s → w (ix3 0 R l) = v) (hout : S.val ≠ s → View.canon L (ix3 S R l) = v) :
    View.canon (⟨Rect.unit (s := S4x528x128) ![s, 0, 0] S1x528x128.size inb, w⟩ :: L) (ix3 S R l) = v := by
  by_cases h : S.val = s
  · refine Eq.trans (congrArg _ (funext fun a => Fin.ext ?_)) ((View.canon_cons_emb (Val := Elt Ideal) (e := .f32) (Rect.unit (s := S4x528x128) ![s, 0, 0] S1x528x128.size inb) w L (ix3 0 R l)).trans (hin h))
    match a with
    | ⟨0, _⟩ => show S.val = s + 1 * 0; omega
    | ⟨1, _⟩ => show R.val = 0 + 1 * R.val; omega
    | ⟨2, _⟩ => show l.val = 0 + 1 * l.val; omega
  · refine (View.canon_cons_of_not_mem (Val := Elt Ideal) (e := .f32) _ L fun hm => h ?_).trans (hout h)
    obtain ⟨j, hj, e⟩ := (LoadRect.mem_set _).1 hm 0
    have e' : S.val = s + 1 * j := e
    have hj' : j < 1 := hj
    omega

/-- Every fourth row of a slab stored, read at an entry. -/
theorem row_step (s p : ℕ) (hp : p < 4) (inb : ∀ a, S1x128x128.size a = 0 ∨ (![s, p, 0] : Fin 3 → ℕ) a + (![1, 4, 1] : Fin 3 → ℕ) a * (S1x128x128.size a - 1) < S4x512x128.size a) (hpos : ∀ a, 0 < (![1, 4, 1] : Fin 3 → ℕ) a)
    (w : Vec Ideal S1x128x128 .f32) (L : List (View.Piece (Elt Ideal) S4x512x128 .f32))
    (S : Fin 4) (R : Fin 512) (l : Fin 128) (v : EReal) (hin : ∀ q : Fin 128, S.val = s → R.val = p + 4 * q.val → w (ix3 0 q l) = v)
    (hout : ¬(S.val = s ∧ R.val % 4 = p) → View.canon L (ix3 S R l) = v) :
    View.canon (⟨(⟨⟨![s, p, 0], S1x128x128.size, ![1, 4, 1], inb⟩, hpos⟩ : Rect S4x512x128), w⟩ :: L) (ix3 S R l) = v := by
  by_cases h : S.val = s ∧ R.val % 4 = p
  · have hq : R.val / 4 < 128 := by omega
    refine Eq.trans (congrArg _ (funext fun a => Fin.ext ?_)) ((View.canon_cons_emb (Val := Elt Ideal) (e := .f32) (⟨⟨![s, p, 0], S1x128x128.size, ![1, 4, 1], inb⟩, hpos⟩ : Rect S4x512x128) w L (ix3 0 ⟨R.val / 4, hq⟩ l)).trans (hin ⟨R.val / 4, hq⟩ h.1 (by show R.val = p + 4 * (R.val / 4); omega)))
    match a with
    | ⟨0, _⟩ => show S.val = s + 1 * 0; omega
    | ⟨1, _⟩ => show R.val = p + 4 * (R.val / 4); omega
    | ⟨2, _⟩ => show l.val = 0 + 1 * l.val; omega
  · refine (View.canon_cons_of_not_mem (Val := Elt Ideal) (e := .f32) _ L fun hm => h ?_).trans (hout h)
    obtain ⟨j, hj, e⟩ := (LoadRect.mem_set _).1 hm 0
    have e' : S.val = s + 1 * j := e
    have hj' : j < 1 := hj
    obtain ⟨j1, _, e1⟩ := (LoadRect.mem_set _).1 hm 1
    have e1' : R.val = p + 4 * j1 := e1
    omega

/-- Every fourth row of a slab of products, loaded. -/
theorem tap {sp : Space} (v : View sig .tc sp S4x528x128 .f32) (L : List (View.Piece (Elt Ideal) S4x528x128 .f32)) (s r : ℕ)
    (inb : ∀ a, S1x128x128.size a = 0 ∨ (![s, r, 0] : Fin 3 → ℕ) a + (![1, 4, 1] : Fin 3 → ℕ) a * (S1x128x128.size a - 1) < S4x528x128.size a)
    (q l : Fin 128) (hs : s < 4) (hr : r + 4 * q < 528) :
    (v.readCov L (⟨![s, r, 0], S1x128x128.size, ![1, 4, 1], inb⟩ : LoadRect S4x528x128) : Vec Ideal S1x128x128 .f32) (ix3 0 q l) = View.canon L (ix3 ⟨s, hs⟩ ⟨r + 4 * q, hr⟩ l) := by
  refine (congrFun (View.readCov_eq_canon' v L _) _).trans (congrArg _ (funext fun a => Fin.ext ?_))
  match a with
  | ⟨0, _⟩ => show s + 1 * 0 = s; omega
  | ⟨1, _⟩ => rfl
  | ⟨2, _⟩ => show 0 + 1 * l.val = l.val; omega

/-- The chain of one store's payload: bias, five weighted taps, silu. -/
def phase (b : Vec Ideal S1x128 .f32) (t0 : Vec Ideal S1x128x128 .f32) (w0 : Vec Ideal S1x128 .f32) (t1 : Vec Ideal S1x128x128 .f32) (w1 : Vec Ideal S1x128 .f32) (t2 : Vec Ideal S1x128x128 .f32) (w2 : Vec Ideal S1x128 .f32)
    (t3 : Vec Ideal S1x128x128 .f32) (w3 : Vec Ideal S1x128 .f32) (t4 : Vec Ideal S1x128x128 .f32) (w4 : Vec Ideal S1x128 .f32) : FVec Ideal S1x128x128 .f32 :=
  k0_pay18 (k0_pay17 b t0 w0 t1 w1 t2 w2 t3 w3 t4 w4)

theorem phase_apply (b : Vec Ideal S1x128 .f32) (t0 : Vec Ideal S1x128x128 .f32) (w0 : Vec Ideal S1x128 .f32) (t1 : Vec Ideal S1x128x128 .f32) (w1 : Vec Ideal S1x128 .f32) (t2 : Vec Ideal S1x128x128 .f32) (w2 : Vec Ideal S1x128 .f32)
    (t3 : Vec Ideal S1x128x128 .f32) (w3 : Vec Ideal S1x128 .f32) (t4 : Vec Ideal S1x128x128 .f32) (w4 : Vec Ideal S1x128 .f32) (q l : Fin 128) :
    phase b t0 w0 t1 w1 t2 w2 t3 w3 t4 w4 (ix3 0 q l)
      = silu (b (ix2 0 l) + t0 (ix3 0 q l) * w0 (ix2 0 l) + t1 (ix3 0 q l) * w1 (ix2 0 l) + t2 (ix3 0 q l) * w2 (ix2 0 l) + t3 (ix3 0 q l) * w3 (ix2 0 l) + t4 (ix3 0 q l) * w4 (ix2 0 l)) := by
  unfold phase
  pointwise [k0_pay18, k0_pay17]
  rfl

section
variable {sp : Space} (v : View sig .tc sp S4x528x128 .f32) (L : List (View.Piece (Elt Ideal) S4x528x128 .f32))
  (arg6 : Memref sig .tc .vmem S5x3072 .f32) (harg6 : arg6.IsWhole) (arg7 : Memref sig .tc .vmem S1x3072 .f32) (harg7 : arg7.IsWhole) (x4 : Vec Ideal S5x3072 .f32) (x5 : Vec Ideal S1x3072 .f32)

theorem wt_apply (k o : ℕ) (inb : ∀ a, (![k, o] : Fin 2 → ℕ) a + S1x128.size a ≤ S5x3072.size a) (l : Fin 128) :
    (View.readAt (Elt Ideal) arg6.view (Rect.unit (s := S5x3072) ![k, o] S1x128.size inb).toLoadRect (harg6.unread x4) : Vec Ideal S1x128 .f32) (ix2 0 l) = wt x4 k (o + l) := by
  have h0 : k + 1 ≤ 5 := inb 0
  have h1 : o + 128 ≤ 3072 := inb 1
  rw [wt, dif_pos ⟨by omega, by omega⟩]
  exact rd2 arg6 harg6 x4 k o inb 0 l (show k + 0 < 5 by omega) (by omega)

theorem bi_apply (o : ℕ) (inb : ∀ a, (![0, o] : Fin 2 → ℕ) a + S1x128.size a ≤ S1x3072.size a) (l : Fin 128) :
    (View.readAt (Elt Ideal) arg7.view (Rect.unit (s := S1x3072) ![0, o] S1x128.size inb).toLoadRect (harg7.unread x5) : Vec Ideal S1x128 .f32) (ix2 0 l) = bi x5 (o + l) := by
  have h1 : o + 128 ≤ 3072 := inb 1
  rw [bi, dif_pos (by omega)]
  exact rd2 arg7 harg7 x5 0 o inb 0 l (show 0 + 0 < 1 by omega) (by omega)

/-- One store's payload at an entry: the results of every fourth token from `p` on, of slab `s`'s channels from `o` on. -/
theorem phase_val (s p o : ℕ) (hs : s < 4) (hp : p < 4) (G : ℕ → ℕ → EReal) (hG : ∀ (S : Fin 4) (R : Fin 528) (l : Fin 128), S.val = s → View.canon L (ix3 S R l) = G R (o + l))
    (i0 : ∀ a, S1x128x128.size a = 0 ∨ (![s, 6 + p, 0] : Fin 3 → ℕ) a + (![1, 4, 1] : Fin 3 → ℕ) a * (S1x128x128.size a - 1) < S4x528x128.size a)
    (i1 : ∀ a, S1x128x128.size a = 0 ∨ (![s, 7 + p, 0] : Fin 3 → ℕ) a + (![1, 4, 1] : Fin 3 → ℕ) a * (S1x128x128.size a - 1) < S4x528x128.size a)
    (i2 : ∀ a, S1x128x128.size a = 0 ∨ (![s, 8 + p, 0] : Fin 3 → ℕ) a + (![1, 4, 1] : Fin 3 → ℕ) a * (S1x128x128.size a - 1) < S4x528x128.size a)
    (i3 : ∀ a, S1x128x128.size a = 0 ∨ (![s, 9 + p, 0] : Fin 3 → ℕ) a + (![1, 4, 1] : Fin 3 → ℕ) a * (S1x128x128.size a - 1) < S4x528x128.size a)
    (i4 : ∀ a, S1x128x128.size a = 0 ∨ (![s, 10 + p, 0] : Fin 3 → ℕ) a + (![1, 4, 1] : Fin 3 → ℕ) a * (S1x128x128.size a - 1) < S4x528x128.size a)
    (jb : ∀ a, (![0, o] : Fin 2 → ℕ) a + S1x128.size a ≤ S1x3072.size a)
    (j0 : ∀ a, (![0, o] : Fin 2 → ℕ) a + S1x128.size a ≤ S5x3072.size a) (j1 : ∀ a, (![1, o] : Fin 2 → ℕ) a + S1x128.size a ≤ S5x3072.size a)
    (j2 : ∀ a, (![2, o] : Fin 2 → ℕ) a + S1x128.size a ≤ S5x3072.size a) (j3 : ∀ a, (![3, o] : Fin 2 → ℕ) a + S1x128.size a ≤ S5x3072.size a) (j4 : ∀ a, (![4, o] : Fin 2 → ℕ) a + S1x128.size a ≤ S5x3072.size a)
    (q l : Fin 128) (R : ℕ) (hR : R = p + 4 * q) (e : ℕ) (he : e = o + l) :
    phase (View.readAt (Elt Ideal) arg7.view (Rect.unit (s := S1x3072) ![0, o] S1x128.size jb).toLoadRect (harg7.unread x5))
      (v.readCov L (⟨![s, 6 + p, 0], S1x128x128.size, ![1, 4, 1], i0⟩ : LoadRect S4x528x128)) (View.readAt (Elt Ideal) arg6.view (Rect.unit (s := S5x3072) ![0, o] S1x128.size j0).toLoadRect (harg6.unread x4))
      (v.readCov L (⟨![s, 7 + p, 0], S1x128x128.size, ![1, 4, 1], i1⟩ : LoadRect S4x528x128)) (View.readAt (Elt Ideal) arg6.view (Rect.unit (s := S5x3072) ![1, o] S1x128.size j1).toLoadRect (harg6.unread x4))
      (v.readCov L (⟨![s, 8 + p, 0], S1x128x128.size, ![1, 4, 1], i2⟩ : LoadRect S4x528x128)) (View.readAt (Elt Ideal) arg6.view (Rect.unit (s := S5x3072) ![2, o] S1x128.size j2).toLoadRect (harg6.unread x4))
      (v.readCov L (⟨![s, 9 + p, 0], S1x128x128.size, ![1, 4, 1], i3⟩ : LoadRect S4x528x128)) (View.readAt (Elt Ideal) arg6.view (Rect.unit (s := S5x3072) ![3, o] S1x128.size j3).toLoadRect (harg6.unread x4))
      (v.readCov L (⟨![s, 10 + p, 0], S1x128x128.size, ![1, 4, 1], i4⟩ : LoadRect S4x528x128)) (View.readAt (Elt Ideal) arg6.view (Rect.unit (s := S5x3072) ![4, o] S1x128.size j4).toLoadRect (harg6.unread x4)) (ix3 0 q l)
      = yv G (wt x4) (bi x5) R e := by
  subst hR; subst he
  have ht : ∀ (d : ℕ) (hd : d + p + 4 * q < 528) (iv : ∀ a, S1x128x128.size a = 0 ∨ (![s, d + p, 0] : Fin 3 → ℕ) a + (![1, 4, 1] : Fin 3 → ℕ) a * (S1x128x128.size a - 1) < S4x528x128.size a),
      (v.readCov L (⟨![s, d + p, 0], S1x128x128.size, ![1, 4, 1], iv⟩ : LoadRect S4x528x128) : Vec Ideal S1x128x128 .f32) (ix3 0 q l) = G (d + (p + 4 * q)) (o + l) := fun d hd iv =>
    (tap v L s (d + p) iv q l hs hd).trans ((hG ⟨s, hs⟩ ⟨d + p + 4 * q, hd⟩ l rfl).trans (congrArg (fun n => G n (o + l)) (Nat.add_assoc _ _ _)))
  rw [phase_apply, yv, ht 6 (by omega), ht 7 (by omega), ht 8 (by omega), ht 9 (by omega), ht 10 (by omega), bi_apply, wt_apply, wt_apply, wt_apply, wt_apply, wt_apply]
end

end Cert.ConvIdeal.Conv

end
-- ==== Proof.Conv.Acc.lean ====
/- What the six chunks of products hold: slab `S` of chunk `c` is the products with the weight columns from `512 c + 128 S` on. -/
module

public import proofs.«01_k».proof.Proof.Conv.Phase

@[expose] public section

set_option maxRecDepth 16384
set_option maxHeartbeats 4000000

noncomputable section

namespace Cert.ConvIdeal.Conv

open Cert.ConvIdeal Cert.ConvIdeal.Gen Cert.GatesMath Idealize.ShloMosaic

variable (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1024x3072 .bf16) (harg5 : arg5.IsWhole) (arg6 : Memref sig .tc .vmem S5x3072 .f32) (harg6 : arg6.IsWhole) (arg7 : Memref sig .tc .vmem S1x3072 .f32) (harg7 : arg7.IsWhole) (arg8 : Memref sig .tc .vmem S1x512x2048 .bf16) (harg8 : arg8.IsWhole) (arg9 : Memref sig .tc .vmem S1x512x512 .bf16) (harg9 : arg9.IsWhole) (arg10 : Memref sig .tc .vmem S1x512x512 .bf16) (harg10 : arg10.IsWhole) (arg11 : Memref sig .tc .vmem S4x528x128 .f32) (harg11 : arg11.IsWhole) (arg12 : Memref sig .tc .vmem S4x528x128 .f32) (harg12 : arg12.IsWhole) (arg13 : Memref sig .tc .vmem S4x512x128 .f32) (harg13 : arg13.IsWhole) (arg14 : Memref sig .tc .vmem S4x512x128 .f32) (harg14 : arg14.IsWhole)
    (x0 : Vec Ideal S1x512x1024 .f32) (x1 : Vec Ideal S1x8x1024 .f32) (x2 : Vec Ideal S1x8x1024 .f32) (x3 : Vec Ideal S1024x3072 .bf16) (x4 : Vec Ideal S5x3072 .f32) (x5 : Vec Ideal S1x3072 .f32)

/-- Chunk 0 of the products, as its slabs hold it. -/
theorem acc_0 (S : Fin 4) (R : Fin 528) (l : Fin 128) :
    View.canon (Val := Elt Ideal) (e := .f32) (kernelRun0_A.sl.HS0_4 (F := Ideal) c i arg2 harg2 arg3 harg3 arg4 harg4 arg5 harg5 x0 x1 x2 x3) (ix3 S R l) = acc i x0 x1 x2 x3 R (0 + (128 * S.val + l.val)) := by
  unfold kernelRun0_A.sl.HS0_4
  refine slab_step 3 (by omega) _ _ _ S R l _ (fun h3 => ?_) (fun h3 => ?_)
  · exact (slab3 _ _ R l).trans (slab_acc i arg2 harg2 arg3 harg3 arg4 harg4 arg5 harg5 x0 x1 x2 x3 0 inb_S1024x3072_S1024x512_0_0 384 _ R l (by omega) (by omega))
  refine slab_step 2 (by omega) _ _ _ S R l _ (fun h2 => ?_) (fun h2 => ?_)
  · exact (slab2 _ _ R l).trans (slab_acc i arg2 harg2 arg3 harg3 arg4 harg4 arg5 harg5 x0 x1 x2 x3 0 inb_S1024x3072_S1024x512_0_0 256 _ R l (by omega) (by omega))
  refine slab_step 1 (by omega) _ _ _ S R l _ (fun h1 => ?_) (fun h1 => ?_)
  · exact (slab1 _ _ R l).trans (slab_acc i arg2 harg2 arg3 harg3 arg4 harg4 arg5 harg5 x0 x1 x2 x3 0 inb_S1024x3072_S1024x512_0_0 128 _ R l (by omega) (by omega))
  refine slab_step 0 (by omega) _ _ _ S R l _ (fun h0 => ?_) (fun h0 => ?_)
  · exact (slab0 _ _ R l).trans (slab_acc i arg2 harg2 arg3 harg3 arg4 harg4 arg5 harg5 x0 x1 x2 x3 0 inb_S1024x3072_S1024x512_0_0 0 _ R l (by omega) (by omega))
  · exact absurd S.isLt (by omega)

/-- Chunk 1 of the products, as its slabs hold it. -/
theorem acc_1 (S : Fin 4) (R : Fin 528) (l : Fin 128) :
    View.canon (Val := Elt Ideal) (e := .f32) (kernelRun0_A.sl.HS1_4 (F := Ideal) c i arg2 harg2 arg3 harg3 arg4 harg4 arg5 harg5 x0 x1 x2 x3) (ix3 S R l) = acc i x0 x1 x2 x3 R (512 + (128 * S.val + l.val)) := by
  unfold kernelRun0_A.sl.HS1_4
  refine slab_step 3 (by omega) _ _ _ S R l _ (fun h3 => ?_) (fun h3 => ?_)
  · exact (slab3 _ _ R l).trans (slab_acc i arg2 harg2 arg3 harg3 arg4 harg4 arg5 harg5 x0 x1 x2 x3 512 inb_S1024x3072_S1024x512_0_512 384 _ R l (by omega) (by omega))
  refine slab_step 2 (by omega) _ _ _ S R l _ (fun h2 => ?_) (fun h2 => ?_)
  · exact (slab2 _ _ R l).trans (slab_acc i arg2 harg2 arg3 harg3 arg4 harg4 arg5 harg5 x0 x1 x2 x3 512 inb_S1024x3072_S1024x512_0_512 256 _ R l (by omega) (by omega))
  refine slab_step 1 (by omega) _ _ _ S R l _ (fun h1 => ?_) (fun h1 => ?_)
  · exact (slab1 _ _ R l).trans (slab_acc i arg2 harg2 arg3 harg3 arg4 harg4 arg5 harg5 x0 x1 x2 x3 512 inb_S1024x3072_S1024x512_0_512 128 _ R l (by omega) (by omega))
  refine slab_step 0 (by omega) _ _ _ S R l _ (fun h0 => ?_) (fun h0 => ?_)
  · exact (slab0 _ _ R l).trans (slab_acc i arg2 harg2 arg3 harg3 arg4 harg4 arg5 harg5 x0 x1 x2 x3 512 inb_S1024x3072_S1024x512_0_512 0 _ R l (by omega) (by omega))
  · exact absurd S.isLt (by omega)

/-- Chunk 2 of the products, as its slabs hold it. -/
theorem acc_2 (S : Fin 4) (R : Fin 528) (l : Fin 128) :
    View.canon (Val := Elt Ideal) (e := .f32) (kernelRun0_A.sl.HS0_8 (F := Ideal) c i arg2 harg2 arg3 harg3 arg4 harg4 arg5 harg5 x0 x1 x2 x3) (ix3 S R l) = acc i x0 x1 x2 x3 R (1024 + (128 * S.val + l.val)) := by
  unfold kernelRun0_A.sl.HS0_8
  refine slab_step 3 (by omega) _ _ _ S R l _ (fun h3 => ?_) (fun h3 => ?_)
  · exact (slab3 _ _ R l).trans (slab_acc i arg2 harg2 arg3 harg3 arg4 harg4 arg5 harg5 x0 x1 x2 x3 1024 inb_S1024x3072_S1024x512_0_1024 384 _ R l (by omega) (by omega))
  refine slab_step 2 (by omega) _ _ _ S R l _ (fun h2 => ?_) (fun h2 => ?_)
  · exact (slab2 _ _ R l).trans (slab_acc i arg2 harg2 arg3 harg3 arg4 harg4 arg5 harg5 x0 x1 x2 x3 1024 inb_S1024x3072_S1024x512_0_1024 256 _ R l (by omega) (by omega))
  refine slab_step 1 (by omega) _ _ _ S R l _ (fun h1 => ?_) (fun h1 => ?_)
  · exact (slab1 _ _ R l).trans (slab_acc i arg2 harg2 arg3 harg3 arg4 harg4 arg5 harg5 x0 x1 x2 x3 1024 inb_S1024x3072_S1024x512_0_1024 128 _ R l (by omega) (by omega))
  refine slab_step 0 (by omega) _ _ _ S R l _ (fun h0 => ?_) (fun h0 => ?_)
  · exact (slab0 _ _ R l).trans (slab_acc i arg2 harg2 arg3 harg3 arg4 harg4 arg5 harg5 x0 x1 x2 x3 1024 inb_S1024x3072_S1024x512_0_1024 0 _ R l (by omega) (by omega))
  · exact absurd S.isLt (by omega)

/-- Chunk 3 of the products, as its slabs hold it. -/
theorem acc_3 (S : Fin 4) (R : Fin 528) (l : Fin 128) :
    View.canon (Val := Elt Ideal) (e := .f32) (kernelRun0_A.sl.HS1_8 (F := Ideal) c i arg2 harg2 arg3 harg3 arg4 harg4 arg5 harg5 x0 x1 x2 x3) (ix3 S R l) = acc i x0 x1 x2 x3 R (1536 + (128 * S.val + l.val)) := by
  unfold kernelRun0_A.sl.HS1_8
  refine slab_step 3 (by omega) _ _ _ S R l _ (fun h3 => ?_) (fun h3 => ?_)
  · exact (slab3 _ _ R l).trans (slab_acc i arg2 harg2 arg3 harg3 arg4 harg4 arg5 harg5 x0 x1 x2 x3 1536 inb_S1024x3072_S1024x512_0_1536 384 _ R l (by omega) (by omega))
  refine slab_step 2 (by omega) _ _ _ S R l _ (fun h2 => ?_) (fun h2 => ?_)
  · exact (slab2 _ _ R l).trans (slab_acc i arg2 harg2 arg3 harg3 arg4 harg4 arg5 harg5 x0 x1 x2 x3 1536 inb_S1024x3072_S1024x512_0_1536 256 _ R l (by omega) (by omega))
  refine slab_step 1 (by omega) _ _ _ S R l _ (fun h1 => ?_) (fun h1 => ?_)
  · exact (slab1 _ _ R l).trans (slab_acc i arg2 harg2 arg3 harg3 arg4 harg4 arg5 harg5 x0 x1 x2 x3 1536 inb_S1024x3072_S1024x512_0_1536 128 _ R l (by omega) (by omega))
  refine slab_step 0 (by omega) _ _ _ S R l _ (fun h0 => ?_) (fun h0 => ?_)
  · exact (slab0 _ _ R l).trans (slab_acc i arg2 harg2 arg3 harg3 arg4 harg4 arg5 harg5 x0 x1 x2 x3 1536 inb_S1024x3072_S1024x512_0_1536 0 _ R l (by omega) (by omega))
  · exact absurd S.isLt (by omega)

/-- Chunk 4 of the products, as its slabs hold it. -/
theorem acc_4 (S : Fin 4) (R : Fin 528) (l : Fin 128) :
    View.canon (Val := Elt Ideal) (e := .f32) (kernelRun0_A.sl.HS0_12 (F := Ideal) c i arg2 harg2 arg3 harg3 arg4 harg4 arg5 harg5 x0 x1 x2 x3) (ix3 S R l) = acc i x0 x1 x2 x3 R (2048 + (128 * S.val + l.val)) := by
  unfold kernelRun0_A.sl.HS0_12
  refine slab_step 3 (by omega) _ _ _ S R l _ (fun h3 => ?_) (fun h3 => ?_)
  · exact (slab3 _ _ R l).trans (slab_acc i arg2 harg2 arg3 harg3 arg4 harg4 arg5 harg5 x0 x1 x2 x3 2048 inb_S1024x3072_S1024x512_0_2048 384 _ R l (by omega) (by omega))
  refine slab_step 2 (by omega) _ _ _ S R l _ (fun h2 => ?_) (fun h2 => ?_)
  · exact (slab2 _ _ R l).trans (slab_acc i arg2 harg2 arg3 harg3 arg4 harg4 arg5 harg5 x0 x1 x2 x3 2048 inb_S1024x3072_S1024x512_0_2048 256 _ R l (by omega) (by omega))
  refine slab_step 1 (by omega) _ _ _ S R l _ (fun h1 => ?_) (fun h1 => ?_)
  · exact (slab1 _ _ R l).trans (slab_acc i arg2 harg2 arg3 harg3 arg4 harg4 arg5 harg5 x0 x1 x2 x3 2048 inb_S1024x3072_S1024x512_0_2048 128 _ R l (by omega) (by omega))
  refine slab_step 0 (by omega) _ _ _ S R l _ (fun h0 => ?_) (fun h0 => ?_)
  · exact (slab0 _ _ R l).trans (slab_acc i arg2 harg2 arg3 harg3 arg4 harg4 arg5 harg5 x0 x1 x2 x3 2048 inb_S1024x3072_S1024x512_0_2048 0 _ R l (by omega) (by omega))
  · exact absurd S.isLt (by omega)

/-- Chunk 5 of the products, as its slabs hold it. -/
theorem acc_5 (S : Fin 4) (R : Fin 528) (l : Fin 128) :
    View.canon (Val := Elt Ideal) (e := .f32) (kernelRun0_A.sl.HS1_12 (F := Ideal) c i arg2 harg2 arg3 harg3 arg4 harg4 arg5 harg5 x0 x1 x2 x3) (ix3 S R l) = acc i x0 x1 x2 x3 R (2560 + (128 * S.val + l.val)) := by
  unfold kernelRun0_A.sl.HS1_12
  refine slab_step 3 (by omega) _ _ _ S R l _ (fun h3 => ?_) (fun h3 => ?_)
  · exact (slab3 _ _ R l).trans (slab_acc i arg2 harg2 arg3 harg3 arg4 harg4 arg5 harg5 x0 x1 x2 x3 2560 inb_S1024x3072_S1024x512_0_2560 384 _ R l (by omega) (by omega))
  refine slab_step 2 (by omega) _ _ _ S R l _ (fun h2 => ?_) (fun h2 => ?_)
  · exact (slab2 _ _ R l).trans (slab_acc i arg2 harg2 arg3 harg3 arg4 harg4 arg5 harg5 x0 x1 x2 x3 2560 inb_S1024x3072_S1024x512_0_2560 256 _ R l (by omega) (by omega))
  refine slab_step 1 (by omega) _ _ _ S R l _ (fun h1 => ?_) (fun h1 => ?_)
  · exact (slab1 _ _ R l).trans (slab_acc i arg2 harg2 arg3 harg3 arg4 harg4 arg5 harg5 x0 x1 x2 x3 2560 inb_S1024x3072_S1024x512_0_2560 128 _ R l (by omega) (by omega))
  refine slab_step 0 (by omega) _ _ _ S R l _ (fun h0 => ?_) (fun h0 => ?_)
  · exact (slab0 _ _ R l).trans (slab_acc i arg2 harg2 arg3 harg3 arg4 harg4 arg5 harg5 x0 x1 x2 x3 2560 inb_S1024x3072_S1024x512_0_2560 0 _ R l (by omega) (by omega))
  · exact absurd S.isLt (by omega)

end Cert.ConvIdeal.Conv

end
-- ==== Proof.Conv.YsA.lean ====
/- What the rows of results hold, chunks 0 to 2. -/
module

public import proofs.«01_k».proof.Proof.Conv.Acc

@[expose] public section

set_option maxRecDepth 16384
set_option maxHeartbeats 4000000

noncomputable section

namespace Cert.ConvIdeal.Conv

open Cert.ConvIdeal Cert.ConvIdeal.Gen Cert.GatesMath Idealize.ShloMosaic

variable (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1024x3072 .bf16) (harg5 : arg5.IsWhole) (arg6 : Memref sig .tc .vmem S5x3072 .f32) (harg6 : arg6.IsWhole) (arg7 : Memref sig .tc .vmem S1x3072 .f32) (harg7 : arg7.IsWhole) (arg8 : Memref sig .tc .vmem S1x512x2048 .bf16) (harg8 : arg8.IsWhole) (arg9 : Memref sig .tc .vmem S1x512x512 .bf16) (harg9 : arg9.IsWhole) (arg10 : Memref sig .tc .vmem S1x512x512 .bf16) (harg10 : arg10.IsWhole) (arg11 : Memref sig .tc .vmem S4x528x128 .f32) (harg11 : arg11.IsWhole) (arg12 : Memref sig .tc .vmem S4x528x128 .f32) (harg12 : arg12.IsWhole) (arg13 : Memref sig .tc .vmem S4x512x128 .f32) (harg13 : arg13.IsWhole) (arg14 : Memref sig .tc .vmem S4x512x128 .f32) (harg14 : arg14.IsWhole)
    (x0 : Vec Ideal S1x512x1024 .f32) (x1 : Vec Ideal S1x8x1024 .f32) (x2 : Vec Ideal S1x8x1024 .f32) (x3 : Vec Ideal S1024x3072 .bf16) (x4 : Vec Ideal S5x3072 .f32) (x5 : Vec Ideal S1x3072 .f32)

/-- Chunk 0 of the results, as its slabs hold it. -/
theorem ys_0 (S : Fin 4) (R : Fin 512) (l : Fin 128) :
    View.canon (Val := Elt Ideal) (e := .f32) (kernelRun0_A.sl.HS2_16 (F := Ideal) c i arg2 harg2 arg3 harg3 arg4 harg4 arg5 harg5 arg6 harg6 arg7 harg7 arg11 x0 x1 x2 x3 x4 x5) (ix3 S R l) = yv (acc i x0 x1 x2 x3) (wt x4) (bi x5) R (0 + (128 * S.val + l.val)) := by
  have hG := acc_0 c i arg2 harg2 arg3 harg3 arg4 harg4 arg5 harg5 x0 x1 x2 x3
  unfold kernelRun0_A.sl.HS2_16
  refine row_step 3 3 (by omega) _ _ _ _ S R l _ (fun q hS hR => ?_) (fun h33 => ?_)
  · exact phase_val arg11.view (kernelRun0_A.sl.HS0_4 (F := Ideal) c i arg2 harg2 arg3 harg3 arg4 harg4 arg5 harg5 x0 x1 x2 x3) arg6 harg6 arg7 harg7 x4 x5 3 3 384 (by omega) (by omega) (acc i x0 x1 x2 x3) (fun S' R' l' h' => (hG S' R' l').trans (congrArg (acc i x0 x1 x2 x3 R') (by omega)))
      inb_S4x528x128_S1x128x128_3_9_0_s_1_4_1 inb_S4x528x128_S1x128x128_3_10_0_s_1_4_1 inb_S4x528x128_S1x128x128_3_11_0_s_1_4_1 inb_S4x528x128_S1x128x128_3_12_0_s_1_4_1 inb_S4x528x128_S1x128x128_3_13_0_s_1_4_1
      inb_S1x3072_S1x128_0_384 inb_S5x3072_S1x128_0_384 inb_S5x3072_S1x128_1_384 inb_S5x3072_S1x128_2_384 inb_S5x3072_S1x128_3_384 inb_S5x3072_S1x128_4_384 q l R hR _ (by omega)
  refine row_step 3 2 (by omega) _ _ _ _ S R l _ (fun q hS hR => ?_) (fun h32 => ?_)
  · exact phase_val arg11.view (kernelRun0_A.sl.HS0_4 (F := Ideal) c i arg2 harg2 arg3 harg3 arg4 harg4 arg5 harg5 x0 x1 x2 x3) arg6 harg6 arg7 harg7 x4 x5 3 2 384 (by omega) (by omega) (acc i x0 x1 x2 x3) (fun S' R' l' h' => (hG S' R' l').trans (congrArg (acc i x0 x1 x2 x3 R') (by omega)))
      inb_S4x528x128_S1x128x128_3_8_0_s_1_4_1 inb_S4x528x128_S1x128x128_3_9_0_s_1_4_1 inb_S4x528x128_S1x128x128_3_10_0_s_1_4_1 inb_S4x528x128_S1x128x128_3_11_0_s_1_4_1 inb_S4x528x128_S1x128x128_3_12_0_s_1_4_1
      inb_S1x3072_S1x128_0_384 inb_S5x3072_S1x128_0_384 inb_S5x3072_S1x128_1_384 inb_S5x3072_S1x128_2_384 inb_S5x3072_S1x128_3_384 inb_S5x3072_S1x128_4_384 q l R hR _ (by omega)
  refine row_step 3 1 (by omega) _ _ _ _ S R l _ (fun q hS hR => ?_) (fun h31 => ?_)
  · exact phase_val arg11.view (kernelRun0_A.sl.HS0_4 (F := Ideal) c i arg2 harg2 arg3 harg3 arg4 harg4 arg5 harg5 x0 x1 x2 x3) arg6 harg6 arg7 harg7 x4 x5 3 1 384 (by omega) (by omega) (acc i x0 x1 x2 x3) (fun S' R' l' h' => (hG S' R' l').trans (congrArg (acc i x0 x1 x2 x3 R') (by omega)))
      inb_S4x528x128_S1x128x128_3_7_0_s_1_4_1 inb_S4x528x128_S1x128x128_3_8_0_s_1_4_1 inb_S4x528x128_S1x128x128_3_9_0_s_1_4_1 inb_S4x528x128_S1x128x128_3_10_0_s_1_4_1 inb_S4x528x128_S1x128x128_3_11_0_s_1_4_1
      inb_S1x3072_S1x128_0_384 inb_S5x3072_S1x128_0_384 inb_S5x3072_S1x128_1_384 inb_S5x3072_S1x128_2_384 inb_S5x3072_S1x128_3_384 inb_S5x3072_S1x128_4_384 q l R hR _ (by omega)
  refine row_step 3 0 (by omega) _ _ _ _ S R l _ (fun q hS hR => ?_) (fun h30 => ?_)
  · exact phase_val arg11.view (kernelRun0_A.sl.HS0_4 (F := Ideal) c i arg2 harg2 arg3 harg3 arg4 harg4 arg5 harg5 x0 x1 x2 x3) arg6 harg6 arg7 harg7 x4 x5 3 0 384 (by omega) (by omega) (acc i x0 x1 x2 x3) (fun S' R' l' h' => (hG S' R' l').trans (congrArg (acc i x0 x1 x2 x3 R') (by omega)))
      inb_S4x528x128_S1x128x128_3_6_0_s_1_4_1 inb_S4x528x128_S1x128x128_3_7_0_s_1_4_1 inb_S4x528x128_S1x128x128_3_8_0_s_1_4_1 inb_S4x528x128_S1x128x128_3_9_0_s_1_4_1 inb_S4x528x128_S1x128x128_3_10_0_s_1_4_1
      inb_S1x3072_S1x128_0_384 inb_S5x3072_S1x128_0_384 inb_S5x3072_S1x128_1_384 inb_S5x3072_S1x128_2_384 inb_S5x3072_S1x128_3_384 inb_S5x3072_S1x128_4_384 q l R hR _ (by omega)
  refine row_step 2 3 (by omega) _ _ _ _ S R l _ (fun q hS hR => ?_) (fun h23 => ?_)
  · exact phase_val arg11.view (kernelRun0_A.sl.HS0_4 (F := Ideal) c i arg2 harg2 arg3 harg3 arg4 harg4 arg5 harg5 x0 x1 x2 x3) arg6 harg6 arg7 harg7 x4 x5 2 3 256 (by omega) (by omega) (acc i x0 x1 x2 x3) (fun S' R' l' h' => (hG S' R' l').trans (congrArg (acc i x0 x1 x2 x3 R') (by omega)))
      inb_S4x528x128_S1x128x128_2_9_0_s_1_4_1 inb_S4x528x128_S1x128x128_2_10_0_s_1_4_1 inb_S4x528x128_S1x128x128_2_11_0_s_1_4_1 inb_S4x528x128_S1x128x128_2_12_0_s_1_4_1 inb_S4x528x128_S1x128x128_2_13_0_s_1_4_1
      inb_S1x3072_S1x128_0_256 inb_S5x3072_S1x128_0_256 inb_S5x3072_S1x128_1_256 inb_S5x3072_S1x128_2_256 inb_S5x3072_S1x128_3_256 inb_S5x3072_S1x128_4_256 q l R hR _ (by omega)
  refine row_step 2 2 (by omega) _ _ _ _ S R l _ (fun q hS hR => ?_) (fun h22 => ?_)
  · exact phase_val arg11.view (kernelRun0_A.sl.HS0_4 (F := Ideal) c i arg2 harg2 arg3 harg3 arg4 harg4 arg5 harg5 x0 x1 x2 x3) arg6 harg6 arg7 harg7 x4 x5 2 2 256 (by omega) (by omega) (acc i x0 x1 x2 x3) (fun S' R' l' h' => (hG S' R' l').trans (congrArg (acc i x0 x1 x2 x3 R') (by omega)))
      inb_S4x528x128_S1x128x128_2_8_0_s_1_4_1 inb_S4x528x128_S1x128x128_2_9_0_s_1_4_1 inb_S4x528x128_S1x128x128_2_10_0_s_1_4_1 inb_S4x528x128_S1x128x128_2_11_0_s_1_4_1 inb_S4x528x128_S1x128x128_2_12_0_s_1_4_1
      inb_S1x3072_S1x128_0_256 inb_S5x3072_S1x128_0_256 inb_S5x3072_S1x128_1_256 inb_S5x3072_S1x128_2_256 inb_S5x3072_S1x128_3_256 inb_S5x3072_S1x128_4_256 q l R hR _ (by omega)
  refine row_step 2 1 (by omega) _ _ _ _ S R l _ (fun q hS hR => ?_) (fun h21 => ?_)
  · exact phase_val arg11.view (kernelRun0_A.sl.HS0_4 (F := Ideal) c i arg2 harg2 arg3 harg3 arg4 harg4 arg5 harg5 x0 x1 x2 x3) arg6 harg6 arg7 harg7 x4 x5 2 1 256 (by omega) (by omega) (acc i x0 x1 x2 x3) (fun S' R' l' h' => (hG S' R' l').trans (congrArg (acc i x0 x1 x2 x3 R') (by omega)))
      inb_S4x528x128_S1x128x128_2_7_0_s_1_4_1 inb_S4x528x128_S1x128x128_2_8_0_s_1_4_1 inb_S4x528x128_S1x128x128_2_9_0_s_1_4_1 inb_S4x528x128_S1x128x128_2_10_0_s_1_4_1 inb_S4x528x128_S1x128x128_2_11_0_s_1_4_1
      inb_S1x3072_S1x128_0_256 inb_S5x3072_S1x128_0_256 inb_S5x3072_S1x128_1_256 inb_S5x3072_S1x128_2_256 inb_S5x3072_S1x128_3_256 inb_S5x3072_S1x128_4_256 q l R hR _ (by omega)
  refine row_step 2 0 (by omega) _ _ _ _ S R l _ (fun q hS hR => ?_) (fun h20 => ?_)
  · exact phase_val arg11.view (kernelRun0_A.sl.HS0_4 (F := Ideal) c i arg2 harg2 arg3 harg3 arg4 harg4 arg5 harg5 x0 x1 x2 x3) arg6 harg6 arg7 harg7 x4 x5 2 0 256 (by omega) (by omega) (acc i x0 x1 x2 x3) (fun S' R' l' h' => (hG S' R' l').trans (congrArg (acc i x0 x1 x2 x3 R') (by omega)))
      inb_S4x528x128_S1x128x128_2_6_0_s_1_4_1 inb_S4x528x128_S1x128x128_2_7_0_s_1_4_1 inb_S4x528x128_S1x128x128_2_8_0_s_1_4_1 inb_S4x528x128_S1x128x128_2_9_0_s_1_4_1 inb_S4x528x128_S1x128x128_2_10_0_s_1_4_1
      inb_S1x3072_S1x128_0_256 inb_S5x3072_S1x128_0_256 inb_S5x3072_S1x128_1_256 inb_S5x3072_S1x128_2_256 inb_S5x3072_S1x128_3_256 inb_S5x3072_S1x128_4_256 q l R hR _ (by omega)
  refine row_step 1 3 (by omega) _ _ _ _ S R l _ (fun q hS hR => ?_) (fun h13 => ?_)
  · exact phase_val arg11.view (kernelRun0_A.sl.HS0_4 (F := Ideal) c i arg2 harg2 arg3 harg3 arg4 harg4 arg5 harg5 x0 x1 x2 x3) arg6 harg6 arg7 harg7 x4 x5 1 3 128 (by omega) (by omega) (acc i x0 x1 x2 x3) (fun S' R' l' h' => (hG S' R' l').trans (congrArg (acc i x0 x1 x2 x3 R') (by omega)))
      inb_S4x528x128_S1x128x128_1_9_0_s_1_4_1 inb_S4x528x128_S1x128x128_1_10_0_s_1_4_1 inb_S4x528x128_S1x128x128_1_11_0_s_1_4_1 inb_S4x528x128_S1x128x128_1_12_0_s_1_4_1 inb_S4x528x128_S1x128x128_1_13_0_s_1_4_1
      inb_S1x3072_S1x128_0_128 inb_S5x3072_S1x128_0_128 inb_S5x3072_S1x128_1_128 inb_S5x3072_S1x128_2_128 inb_S5x3072_S1x128_3_128 inb_S5x3072_S1x128_4_128 q l R hR _ (by omega)
  refine row_step 1 2 (by omega) _ _ _ _ S R l _ (fun q hS hR => ?_) (fun h12 => ?_)
  · exact phase_val arg11.view (kernelRun0_A.sl.HS0_4 (F := Ideal) c i arg2 harg2 arg3 harg3 arg4 harg4 arg5 harg5 x0 x1 x2 x3) arg6 harg6 arg7 harg7 x4 x5 1 2 128 (by omega) (by omega) (acc i x0 x1 x2 x3) (fun S' R' l' h' => (hG S' R' l').trans (congrArg (acc i x0 x1 x2 x3 R') (by omega)))
      inb_S4x528x128_S1x128x128_1_8_0_s_1_4_1 inb_S4x528x128_S1x128x128_1_9_0_s_1_4_1 inb_S4x528x128_S1x128x128_1_10_0_s_1_4_1 inb_S4x528x128_S1x128x128_1_11_0_s_1_4_1 inb_S4x528x128_S1x128x128_1_12_0_s_1_4_1
      inb_S1x3072_S1x128_0_128 inb_S5x3072_S1x128_0_128 inb_S5x3072_S1x128_1_128 inb_S5x3072_S1x128_2_128 inb_S5x3072_S1x128_3_128 inb_S5x3072_S1x128_4_128 q l R hR _ (by omega)
  refine row_step 1 1 (by omega) _ _ _ _ S R l _ (fun q hS hR => ?_) (fun h11 => ?_)
  · exact phase_val arg11.view (kernelRun0_A.sl.HS0_4 (F := Ideal) c i arg2 harg2 arg3 harg3 arg4 harg4 arg5 harg5 x0 x1 x2 x3) arg6 harg6 arg7 harg7 x4 x5 1 1 128 (by omega) (by omega) (acc i x0 x1 x2 x3) (fun S' R' l' h' => (hG S' R' l').trans (congrArg (acc i x0 x1 x2 x3 R') (by omega)))
      inb_S4x528x128_S1x128x128_1_7_0_s_1_4_1 inb_S4x528x128_S1x128x128_1_8_0_s_1_4_1 inb_S4x528x128_S1x128x128_1_9_0_s_1_4_1 inb_S4x528x128_S1x128x128_1_10_0_s_1_4_1 inb_S4x528x128_S1x128x128_1_11_0_s_1_4_1
      inb_S1x3072_S1x128_0_128 inb_S5x3072_S1x128_0_128 inb_S5x3072_S1x128_1_128 inb_S5x3072_S1x128_2_128 inb_S5x3072_S1x128_3_128 inb_S5x3072_S1x128_4_128 q l R hR _ (by omega)
  refine row_step 1 0 (by omega) _ _ _ _ S R l _ (fun q hS hR => ?_) (fun h10 => ?_)
  · exact phase_val arg11.view (kernelRun0_A.sl.HS0_4 (F := Ideal) c i arg2 harg2 arg3 harg3 arg4 harg4 arg5 harg5 x0 x1 x2 x3) arg6 harg6 arg7 harg7 x4 x5 1 0 128 (by omega) (by omega) (acc i x0 x1 x2 x3) (fun S' R' l' h' => (hG S' R' l').trans (congrArg (acc i x0 x1 x2 x3 R') (by omega)))
      inb_S4x528x128_S1x128x128_1_6_0_s_1_4_1 inb_S4x528x128_S1x128x128_1_7_0_s_1_4_1 inb_S4x528x128_S1x128x128_1_8_0_s_1_4_1 inb_S4x528x128_S1x128x128_1_9_0_s_1_4_1 inb_S4x528x128_S1x128x128_1_10_0_s_1_4_1
      inb_S1x3072_S1x128_0_128 inb_S5x3072_S1x128_0_128 inb_S5x3072_S1x128_1_128 inb_S5x3072_S1x128_2_128 inb_S5x3072_S1x128_3_128 inb_S5x3072_S1x128_4_128 q l R hR _ (by omega)
  refine row_step 0 3 (by omega) _ _ _ _ S R l _ (fun q hS hR => ?_) (fun h03 => ?_)
  · exact phase_val arg11.view (kernelRun0_A.sl.HS0_4 (F := Ideal) c i arg2 harg2 arg3 harg3 arg4 harg4 arg5 harg5 x0 x1 x2 x3) arg6 harg6 arg7 harg7 x4 x5 0 3 0 (by omega) (by omega) (acc i x0 x1 x2 x3) (fun S' R' l' h' => (hG S' R' l').trans (congrArg (acc i x0 x1 x2 x3 R') (by omega)))
      inb_S4x528x128_S1x128x128_0_9_0_s_1_4_1 inb_S4x528x128_S1x128x128_0_10_0_s_1_4_1 inb_S4x528x128_S1x128x128_0_11_0_s_1_4_1 inb_S4x528x128_S1x128x128_0_12_0_s_1_4_1 inb_S4x528x128_S1x128x128_0_13_0_s_1_4_1
      inb_S1x3072_S1x128_0_0 inb_S5x3072_S1x128_0_0 inb_S5x3072_S1x128_1_0 inb_S5x3072_S1x128_2_0 inb_S5x3072_S1x128_3_0 inb_S5x3072_S1x128_4_0 q l R hR _ (by omega)
  refine row_step 0 2 (by omega) _ _ _ _ S R l _ (fun q hS hR => ?_) (fun h02 => ?_)
  · exact phase_val arg11.view (kernelRun0_A.sl.HS0_4 (F := Ideal) c i arg2 harg2 arg3 harg3 arg4 harg4 arg5 harg5 x0 x1 x2 x3) arg6 harg6 arg7 harg7 x4 x5 0 2 0 (by omega) (by omega) (acc i x0 x1 x2 x3) (fun S' R' l' h' => (hG S' R' l').trans (congrArg (acc i x0 x1 x2 x3 R') (by omega)))
      inb_S4x528x128_S1x128x128_0_8_0_s_1_4_1 inb_S4x528x128_S1x128x128_0_9_0_s_1_4_1 inb_S4x528x128_S1x128x128_0_10_0_s_1_4_1 inb_S4x528x128_S1x128x128_0_11_0_s_1_4_1 inb_S4x528x128_S1x128x128_0_12_0_s_1_4_1
      inb_S1x3072_S1x128_0_0 inb_S5x3072_S1x128_0_0 inb_S5x3072_S1x128_1_0 inb_S5x3072_S1x128_2_0 inb_S5x3072_S1x128_3_0 inb_S5x3072_S1x128_4_0 q l R hR _ (by omega)
  refine row_step 0 1 (by omega) _ _ _ _ S R l _ (fun q hS hR => ?_) (fun h01 => ?_)
  · exact phase_val arg11.view (kernelRun0_A.sl.HS0_4 (F := Ideal) c i arg2 harg2 arg3 harg3 arg4 harg4 arg5 harg5 x0 x1 x2 x3) arg6 harg6 arg7 harg7 x4 x5 0 1 0 (by omega) (by omega) (acc i x0 x1 x2 x3) (fun S' R' l' h' => (hG S' R' l').trans (congrArg (acc i x0 x1 x2 x3 R') (by omega)))
      inb_S4x528x128_S1x128x128_0_7_0_s_1_4_1 inb_S4x528x128_S1x128x128_0_8_0_s_1_4_1 inb_S4x528x128_S1x128x128_0_9_0_s_1_4_1 inb_S4x528x128_S1x128x128_0_10_0_s_1_4_1 inb_S4x528x128_S1x128x128_0_11_0_s_1_4_1
      inb_S1x3072_S1x128_0_0 inb_S5x3072_S1x128_0_0 inb_S5x3072_S1x128_1_0 inb_S5x3072_S1x128_2_0 inb_S5x3072_S1x128_3_0 inb_S5x3072_S1x128_4_0 q l R hR _ (by omega)
  refine row_step 0 0 (by omega) _ _ _ _ S R l _ (fun q hS hR => ?_) (fun h00 => ?_)
  · exact phase_val arg11.view (kernelRun0_A.sl.HS0_4 (F := Ideal) c i arg2 harg2 arg3 harg3 arg4 harg4 arg5 harg5 x0 x1 x2 x3) arg6 harg6 arg7 harg7 x4 x5 0 0 0 (by omega) (by omega) (acc i x0 x1 x2 x3) (fun S' R' l' h' => (hG S' R' l').trans (congrArg (acc i x0 x1 x2 x3 R') (by omega)))
      inb_S4x528x128_S1x128x128_0_6_0_s_1_4_1 inb_S4x528x128_S1x128x128_0_7_0_s_1_4_1 inb_S4x528x128_S1x128x128_0_8_0_s_1_4_1 inb_S4x528x128_S1x128x128_0_9_0_s_1_4_1 inb_S4x528x128_S1x128x128_0_10_0_s_1_4_1
      inb_S1x3072_S1x128_0_0 inb_S5x3072_S1x128_0_0 inb_S5x3072_S1x128_1_0 inb_S5x3072_S1x128_2_0 inb_S5x3072_S1x128_3_0 inb_S5x3072_S1x128_4_0 q l R hR _ (by omega)
  · exact absurd S.isLt (by omega)

/-- Chunk 1 of the results, as its slabs hold it. -/
theorem ys_1 (S : Fin 4) (R : Fin 512) (l : Fin 128) :
    View.canon (Val := Elt Ideal) (e := .f32) (kernelRun0_A.sl.HS3_16 (F := Ideal) c i arg2 harg2 arg3 harg3 arg4 harg4 arg5 harg5 arg6 harg6 arg7 harg7 arg12 x0 x1 x2 x3 x4 x5) (ix3 S R l) = yv (acc i x0 x1 x2 x3) (wt x4) (bi x5) R (512 + (128 * S.val + l.val)) := by
  have hG := acc_1 c i arg2 harg2 arg3 harg3 arg4 harg4 arg5 harg5 x0 x1 x2 x3
  unfold kernelRun0_A.sl.HS3_16
  refine row_step 3 3 (by omega) _ _ _ _ S R l _ (fun q hS hR => ?_) (fun h33 => ?_)
  · exact phase_val arg12.view (kernelRun0_A.sl.HS1_4 (F := Ideal) c i arg2 harg2 arg3 harg3 arg4 harg4 arg5 harg5 x0 x1 x2 x3) arg6 harg6 arg7 harg7 x4 x5 3 3 896 (by omega) (by omega) (acc i x0 x1 x2 x3) (fun S' R' l' h' => (hG S' R' l').trans (congrArg (acc i x0 x1 x2 x3 R') (by omega)))
      inb_S4x528x128_S1x128x128_3_9_0_s_1_4_1 inb_S4x528x128_S1x128x128_3_10_0_s_1_4_1 inb_S4x528x128_S1x128x128_3_11_0_s_1_4_1 inb_S4x528x128_S1x128x128_3_12_0_s_1_4_1 inb_S4x528x128_S1x128x128_3_13_0_s_1_4_1
      inb_S1x3072_S1x128_0_896 inb_S5x3072_S1x128_0_896 inb_S5x3072_S1x128_1_896 inb_S5x3072_S1x128_2_896 inb_S5x3072_S1x128_3_896 inb_S5x3072_S1x128_4_896 q l R hR _ (by omega)
  refine row_step 3 2 (by omega) _ _ _ _ S R l _ (fun q hS hR => ?_) (fun h32 => ?_)
  · exact phase_val arg12.view (kernelRun0_A.sl.HS1_4 (F := Ideal) c i arg2 harg2 arg3 harg3 arg4 harg4 arg5 harg5 x0 x1 x2 x3) arg6 harg6 arg7 harg7 x4 x5 3 2 896 (by omega) (by omega) (acc i x0 x1 x2 x3) (fun S' R' l' h' => (hG S' R' l').trans (congrArg (acc i x0 x1 x2 x3 R') (by omega)))
      inb_S4x528x128_S1x128x128_3_8_0_s_1_4_1 inb_S4x528x128_S1x128x128_3_9_0_s_1_4_1 inb_S4x528x128_S1x128x128_3_10_0_s_1_4_1 inb_S4x528x128_S1x128x128_3_11_0_s_1_4_1 inb_S4x528x128_S1x128x128_3_12_0_s_1_4_1
      inb_S1x3072_S1x128_0_896 inb_S5x3072_S1x128_0_896 inb_S5x3072_S1x128_1_896 inb_S5x3072_S1x128_2_896 inb_S5x3072_S1x128_3_896 inb_S5x3072_S1x128_4_896 q l R hR _ (by omega)
  refine row_step 3 1 (by omega) _ _ _ _ S R l _ (fun q hS hR => ?_) (fun h31 => ?_)
  · exact phase_val arg12.view (kernelRun0_A.sl.HS1_4 (F := Ideal) c i arg2 harg2 arg3 harg3 arg4 harg4 arg5 harg5 x0 x1 x2 x3) arg6 harg6 arg7 harg7 x4 x5 3 1 896 (by omega) (by omega) (acc i x0 x1 x2 x3) (fun S' R' l' h' => (hG S' R' l').trans (congrArg (acc i x0 x1 x2 x3 R') (by omega)))
      inb_S4x528x128_S1x128x128_3_7_0_s_1_4_1 inb_S4x528x128_S1x128x128_3_8_0_s_1_4_1 inb_S4x528x128_S1x128x128_3_9_0_s_1_4_1 inb_S4x528x128_S1x128x128_3_10_0_s_1_4_1 inb_S4x528x128_S1x128x128_3_11_0_s_1_4_1
      inb_S1x3072_S1x128_0_896 inb_S5x3072_S1x128_0_896 inb_S5x3072_S1x128_1_896 inb_S5x3072_S1x128_2_896 inb_S5x3072_S1x128_3_896 inb_S5x3072_S1x128_4_896 q l R hR _ (by omega)
  refine row_step 3 0 (by omega) _ _ _ _ S R l _ (fun q hS hR => ?_) (fun h30 => ?_)
  · exact phase_val arg12.view (kernelRun0_A.sl.HS1_4 (F := Ideal) c i arg2 harg2 arg3 harg3 arg4 harg4 arg5 harg5 x0 x1 x2 x3) arg6 harg6 arg7 harg7 x4 x5 3 0 896 (by omega) (by omega) (acc i x0 x1 x2 x3) (fun S' R' l' h' => (hG S' R' l').trans (congrArg (acc i x0 x1 x2 x3 R') (by omega)))
      inb_S4x528x128_S1x128x128_3_6_0_s_1_4_1 inb_S4x528x128_S1x128x128_3_7_0_s_1_4_1 inb_S4x528x128_S1x128x128_3_8_0_s_1_4_1 inb_S4x528x128_S1x128x128_3_9_0_s_1_4_1 inb_S4x528x128_S1x128x128_3_10_0_s_1_4_1
      inb_S1x3072_S1x128_0_896 inb_S5x3072_S1x128_0_896 inb_S5x3072_S1x128_1_896 inb_S5x3072_S1x128_2_896 inb_S5x3072_S1x128_3_896 inb_S5x3072_S1x128_4_896 q l R hR _ (by omega)
  refine row_step 2 3 (by omega) _ _ _ _ S R l _ (fun q hS hR => ?_) (fun h23 => ?_)
  · exact phase_val arg12.view (kernelRun0_A.sl.HS1_4 (F := Ideal) c i arg2 harg2 arg3 harg3 arg4 harg4 arg5 harg5 x0 x1 x2 x3) arg6 harg6 arg7 harg7 x4 x5 2 3 768 (by omega) (by omega) (acc i x0 x1 x2 x3) (fun S' R' l' h' => (hG S' R' l').trans (congrArg (acc i x0 x1 x2 x3 R') (by omega)))
      inb_S4x528x128_S1x128x128_2_9_0_s_1_4_1 inb_S4x528x128_S1x128x128_2_10_0_s_1_4_1 inb_S4x528x128_S1x128x128_2_11_0_s_1_4_1 inb_S4x528x128_S1x128x128_2_12_0_s_1_4_1 inb_S4x528x128_S1x128x128_2_13_0_s_1_4_1
      inb_S1x3072_S1x128_0_768 inb_S5x3072_S1x128_0_768 inb_S5x3072_S1x128_1_768 inb_S5x3072_S1x128_2_768 inb_S5x3072_S1x128_3_768 inb_S5x3072_S1x128_4_768 q l R hR _ (by omega)
  refine row_step 2 2 (by omega) _ _ _ _ S R l _ (fun q hS hR => ?_) (fun h22 => ?_)
  · exact phase_val arg12.view (kernelRun0_A.sl.HS1_4 (F := Ideal) c i arg2 harg2 arg3 harg3 arg4 harg4 arg5 harg5 x0 x1 x2 x3) arg6 harg6 arg7 harg7 x4 x5 2 2 768 (by omega) (by omega) (acc i x0 x1 x2 x3) (fun S' R' l' h' => (hG S' R' l').trans (congrArg (acc i x0 x1 x2 x3 R') (by omega)))
      inb_S4x528x128_S1x128x128_2_8_0_s_1_4_1 inb_S4x528x128_S1x128x128_2_9_0_s_1_4_1 inb_S4x528x128_S1x128x128_2_10_0_s_1_4_1 inb_S4x528x128_S1x128x128_2_11_0_s_1_4_1 inb_S4x528x128_S1x128x128_2_12_0_s_1_4_1
      inb_S1x3072_S1x128_0_768 inb_S5x3072_S1x128_0_768 inb_S5x3072_S1x128_1_768 inb_S5x3072_S1x128_2_768 inb_S5x3072_S1x128_3_768 inb_S5x3072_S1x128_4_768 q l R hR _ (by omega)
  refine row_step 2 1 (by omega) _ _ _ _ S R l _ (fun q hS hR => ?_) (fun h21 => ?_)
  · exact phase_val arg12.view (kernelRun0_A.sl.HS1_4 (F := Ideal) c i arg2 harg2 arg3 harg3 arg4 harg4 arg5 harg5 x0 x1 x2 x3) arg6 harg6 arg7 harg7 x4 x5 2 1 768 (by omega) (by omega) (acc i x0 x1 x2 x3) (fun S' R' l' h' => (hG S' R' l').trans (congrArg (acc i x0 x1 x2 x3 R') (by omega)))
      inb_S4x528x128_S1x128x128_2_7_0_s_1_4_1 inb_S4x528x128_S1x128x128_2_8_0_s_1_4_1 inb_S4x528x128_S1x128x128_2_9_0_s_1_4_1 inb_S4x528x128_S1x128x128_2_10_0_s_1_4_1 inb_S4x528x128_S1x128x128_2_11_0_s_1_4_1
      inb_S1x3072_S1x128_0_768 inb_S5x3072_S1x128_0_768 inb_S5x3072_S1x128_1_768 inb_S5x3072_S1x128_2_768 inb_S5x3072_S1x128_3_768 inb_S5x3072_S1x128_4_768 q l R hR _ (by omega)
  refine row_step 2 0 (by omega) _ _ _ _ S R l _ (fun q hS hR => ?_) (fun h20 => ?_)
  · exact phase_val arg12.view (kernelRun0_A.sl.HS1_4 (F := Ideal) c i arg2 harg2 arg3 harg3 arg4 harg4 arg5 harg5 x0 x1 x2 x3) arg6 harg6 arg7 harg7 x4 x5 2 0 768 (by omega) (by omega) (acc i x0 x1 x2 x3) (fun S' R' l' h' => (hG S' R' l').trans (congrArg (acc i x0 x1 x2 x3 R') (by omega)))
      inb_S4x528x128_S1x128x128_2_6_0_s_1_4_1 inb_S4x528x128_S1x128x128_2_7_0_s_1_4_1 inb_S4x528x128_S1x128x128_2_8_0_s_1_4_1 inb_S4x528x128_S1x128x128_2_9_0_s_1_4_1 inb_S4x528x128_S1x128x128_2_10_0_s_1_4_1
      inb_S1x3072_S1x128_0_768 inb_S5x3072_S1x128_0_768 inb_S5x3072_S1x128_1_768 inb_S5x3072_S1x128_2_768 inb_S5x3072_S1x128_3_768 inb_S5x3072_S1x128_4_768 q l R hR _ (by omega)
  refine row_step 1 3 (by omega) _ _ _ _ S R l _ (fun q hS hR => ?_) (fun h13 => ?_)
  · exact phase_val arg12.view (kernelRun0_A.sl.HS1_4 (F := Ideal) c i arg2 harg2 arg3 harg3 arg4 harg4 arg5 harg5 x0 x1 x2 x3) arg6 harg6 arg7 harg7 x4 x5 1 3 640 (by omega) (by omega) (acc i x0 x1 x2 x3) (fun S' R' l' h' => (hG S' R' l').trans (congrArg (acc i x0 x1 x2 x3 R') (by omega)))
      inb_S4x528x128_S1x128x128_1_9_0_s_1_4_1 inb_S4x528x128_S1x128x128_1_10_0_s_1_4_1 inb_S4x528x128_S1x128x128_1_11_0_s_1_4_1 inb_S4x528x128_S1x128x128_1_12_0_s_1_4_1 inb_S4x528x128_S1x128x128_1_13_0_s_1_4_1
      inb_S1x3072_S1x128_0_640 inb_S5x3072_S1x128_0_640 inb_S5x3072_S1x128_1_640 inb_S5x3072_S1x128_2_640 inb_S5x3072_S1x128_3_640 inb_S5x3072_S1x128_4_640 q l R hR _ (by omega)
  refine row_step 1 2 (by omega) _ _ _ _ S R l _ (fun q hS hR => ?_) (fun h12 => ?_)
  · exact phase_val arg12.view (kernelRun0_A.sl.HS1_4 (F := Ideal) c i arg2 harg2 arg3 harg3 arg4 harg4 arg5 harg5 x0 x1 x2 x3) arg6 harg6 arg7 harg7 x4 x5 1 2 640 (by omega) (by omega) (acc i x0 x1 x2 x3) (fun S' R' l' h' => (hG S' R' l').trans (congrArg (acc i x0 x1 x2 x3 R') (by omega)))
      inb_S4x528x128_S1x128x128_1_8_0_s_1_4_1 inb_S4x528x128_S1x128x128_1_9_0_s_1_4_1 inb_S4x528x128_S1x128x128_1_10_0_s_1_4_1 inb_S4x528x128_S1x128x128_1_11_0_s_1_4_1 inb_S4x528x128_S1x128x128_1_12_0_s_1_4_1
      inb_S1x3072_S1x128_0_640 inb_S5x3072_S1x128_0_640 inb_S5x3072_S1x128_1_640 inb_S5x3072_S1x128_2_640 inb_S5x3072_S1x128_3_640 inb_S5x3072_S1x128_4_640 q l R hR _ (by omega)
  refine row_step 1 1 (by omega) _ _ _ _ S R l _ (fun q hS hR => ?_) (fun h11 => ?_)
  · exact phase_val arg12.view (kernelRun0_A.sl.HS1_4 (F := Ideal) c i arg2 harg2 arg3 harg3 arg4 harg4 arg5 harg5 x0 x1 x2 x3) arg6 harg6 arg7 harg7 x4 x5 1 1 640 (by omega) (by omega) (acc i x0 x1 x2 x3) (fun S' R' l' h' => (hG S' R' l').trans (congrArg (acc i x0 x1 x2 x3 R') (by omega)))
      inb_S4x528x128_S1x128x128_1_7_0_s_1_4_1 inb_S4x528x128_S1x128x128_1_8_0_s_1_4_1 inb_S4x528x128_S1x128x128_1_9_0_s_1_4_1 inb_S4x528x128_S1x128x128_1_10_0_s_1_4_1 inb_S4x528x128_S1x128x128_1_11_0_s_1_4_1
      inb_S1x3072_S1x128_0_640 inb_S5x3072_S1x128_0_640 inb_S5x3072_S1x128_1_640 inb_S5x3072_S1x128_2_640 inb_S5x3072_S1x128_3_640 inb_S5x3072_S1x128_4_640 q l R hR _ (by omega)
  refine row_step 1 0 (by omega) _ _ _ _ S R l _ (fun q hS hR => ?_) (fun h10 => ?_)
  · exact phase_val arg12.view (kernelRun0_A.sl.HS1_4 (F := Ideal) c i arg2 harg2 arg3 harg3 arg4 harg4 arg5 harg5 x0 x1 x2 x3) arg6 harg6 arg7 harg7 x4 x5 1 0 640 (by omega) (by omega) (acc i x0 x1 x2 x3) (fun S' R' l' h' => (hG S' R' l').trans (congrArg (acc i x0 x1 x2 x3 R') (by omega)))
      inb_S4x528x128_S1x128x128_1_6_0_s_1_4_1 inb_S4x528x128_S1x128x128_1_7_0_s_1_4_1 inb_S4x528x128_S1x128x128_1_8_0_s_1_4_1 inb_S4x528x128_S1x128x128_1_9_0_s_1_4_1 inb_S4x528x128_S1x128x128_1_10_0_s_1_4_1
      inb_S1x3072_S1x128_0_640 inb_S5x3072_S1x128_0_640 inb_S5x3072_S1x128_1_640 inb_S5x3072_S1x128_2_640 inb_S5x3072_S1x128_3_640 inb_S5x3072_S1x128_4_640 q l R hR _ (by omega)
  refine row_step 0 3 (by omega) _ _ _ _ S R l _ (fun q hS hR => ?_) (fun h03 => ?_)
  · exact phase_val arg12.view (kernelRun0_A.sl.HS1_4 (F := Ideal) c i arg2 harg2 arg3 harg3 arg4 harg4 arg5 harg5 x0 x1 x2 x3) arg6 harg6 arg7 harg7 x4 x5 0 3 512 (by omega) (by omega) (acc i x0 x1 x2 x3) (fun S' R' l' h' => (hG S' R' l').trans (congrArg (acc i x0 x1 x2 x3 R') (by omega)))
      inb_S4x528x128_S1x128x128_0_9_0_s_1_4_1 inb_S4x528x128_S1x128x128_0_10_0_s_1_4_1 inb_S4x528x128_S1x128x128_0_11_0_s_1_4_1 inb_S4x528x128_S1x128x128_0_12_0_s_1_4_1 inb_S4x528x128_S1x128x128_0_13_0_s_1_4_1
      inb_S1x3072_S1x128_0_512 inb_S5x3072_S1x128_0_512 inb_S5x3072_S1x128_1_512 inb_S5x3072_S1x128_2_512 inb_S5x3072_S1x128_3_512 inb_S5x3072_S1x128_4_512 q l R hR _ (by omega)
  refine row_step 0 2 (by omega) _ _ _ _ S R l _ (fun q hS hR => ?_) (fun h02 => ?_)
  · exact phase_val arg12.view (kernelRun0_A.sl.HS1_4 (F := Ideal) c i arg2 harg2 arg3 harg3 arg4 harg4 arg5 harg5 x0 x1 x2 x3) arg6 harg6 arg7 harg7 x4 x5 0 2 512 (by omega) (by omega) (acc i x0 x1 x2 x3) (fun S' R' l' h' => (hG S' R' l').trans (congrArg (acc i x0 x1 x2 x3 R') (by omega)))
      inb_S4x528x128_S1x128x128_0_8_0_s_1_4_1 inb_S4x528x128_S1x128x128_0_9_0_s_1_4_1 inb_S4x528x128_S1x128x128_0_10_0_s_1_4_1 inb_S4x528x128_S1x128x128_0_11_0_s_1_4_1 inb_S4x528x128_S1x128x128_0_12_0_s_1_4_1
      inb_S1x3072_S1x128_0_512 inb_S5x3072_S1x128_0_512 inb_S5x3072_S1x128_1_512 inb_S5x3072_S1x128_2_512 inb_S5x3072_S1x128_3_512 inb_S5x3072_S1x128_4_512 q l R hR _ (by omega)
  refine row_step 0 1 (by omega) _ _ _ _ S R l _ (fun q hS hR => ?_) (fun h01 => ?_)
  · exact phase_val arg12.view (kernelRun0_A.sl.HS1_4 (F := Ideal) c i arg2 harg2 arg3 harg3 arg4 harg4 arg5 harg5 x0 x1 x2 x3) arg6 harg6 arg7 harg7 x4 x5 0 1 512 (by omega) (by omega) (acc i x0 x1 x2 x3) (fun S' R' l' h' => (hG S' R' l').trans (congrArg (acc i x0 x1 x2 x3 R') (by omega)))
      inb_S4x528x128_S1x128x128_0_7_0_s_1_4_1 inb_S4x528x128_S1x128x128_0_8_0_s_1_4_1 inb_S4x528x128_S1x128x128_0_9_0_s_1_4_1 inb_S4x528x128_S1x128x128_0_10_0_s_1_4_1 inb_S4x528x128_S1x128x128_0_11_0_s_1_4_1
      inb_S1x3072_S1x128_0_512 inb_S5x3072_S1x128_0_512 inb_S5x3072_S1x128_1_512 inb_S5x3072_S1x128_2_512 inb_S5x3072_S1x128_3_512 inb_S5x3072_S1x128_4_512 q l R hR _ (by omega)
  refine row_step 0 0 (by omega) _ _ _ _ S R l _ (fun q hS hR => ?_) (fun h00 => ?_)
  · exact phase_val arg12.view (kernelRun0_A.sl.HS1_4 (F := Ideal) c i arg2 harg2 arg3 harg3 arg4 harg4 arg5 harg5 x0 x1 x2 x3) arg6 harg6 arg7 harg7 x4 x5 0 0 512 (by omega) (by omega) (acc i x0 x1 x2 x3) (fun S' R' l' h' => (hG S' R' l').trans (congrArg (acc i x0 x1 x2 x3 R') (by omega)))
      inb_S4x528x128_S1x128x128_0_6_0_s_1_4_1 inb_S4x528x128_S1x128x128_0_7_0_s_1_4_1 inb_S4x528x128_S1x128x128_0_8_0_s_1_4_1 inb_S4x528x128_S1x128x128_0_9_0_s_1_4_1 inb_S4x528x128_S1x128x128_0_10_0_s_1_4_1
      inb_S1x3072_S1x128_0_512 inb_S5x3072_S1x128_0_512 inb_S5x3072_S1x128_1_512 inb_S5x3072_S1x128_2_512 inb_S5x3072_S1x128_3_512 inb_S5x3072_S1x128_4_512 q l R hR _ (by omega)
  · exact absurd S.isLt (by omega)

/-- Chunk 2 of the results, as its slabs hold it. -/
theorem ys_2 (S : Fin 4) (R : Fin 512) (l : Fin 128) :
    View.canon (Val := Elt Ideal) (e := .f32) (kernelRun0_A.sl.HS2_32 (F := Ideal) c i arg2 harg2 arg3 harg3 arg4 harg4 arg5 harg5 arg6 harg6 arg7 harg7 arg11 x0 x1 x2 x3 x4 x5) (ix3 S R l) = yv (acc i x0 x1 x2 x3) (wt x4) (bi x5) R (1024 + (128 * S.val + l.val)) := by
  have hG := acc_2 c i arg2 harg2 arg3 harg3 arg4 harg4 arg5 harg5 x0 x1 x2 x3
  unfold kernelRun0_A.sl.HS2_32
  refine row_step 3 3 (by omega) _ _ _ _ S R l _ (fun q hS hR => ?_) (fun h33 => ?_)
  · exact phase_val arg11.view (kernelRun0_A.sl.HS0_8 (F := Ideal) c i arg2 harg2 arg3 harg3 arg4 harg4 arg5 harg5 x0 x1 x2 x3) arg6 harg6 arg7 harg7 x4 x5 3 3 1408 (by omega) (by omega) (acc i x0 x1 x2 x3) (fun S' R' l' h' => (hG S' R' l').trans (congrArg (acc i x0 x1 x2 x3 R') (by omega)))
      inb_S4x528x128_S1x128x128_3_9_0_s_1_4_1 inb_S4x528x128_S1x128x128_3_10_0_s_1_4_1 inb_S4x528x128_S1x128x128_3_11_0_s_1_4_1 inb_S4x528x128_S1x128x128_3_12_0_s_1_4_1 inb_S4x528x128_S1x128x128_3_13_0_s_1_4_1
      inb_S1x3072_S1x128_0_1408 inb_S5x3072_S1x128_0_1408 inb_S5x3072_S1x128_1_1408 inb_S5x3072_S1x128_2_1408 inb_S5x3072_S1x128_3_1408 inb_S5x3072_S1x128_4_1408 q l R hR _ (by omega)
  refine row_step 3 2 (by omega) _ _ _ _ S R l _ (fun q hS hR => ?_) (fun h32 => ?_)
  · exact phase_val arg11.view (kernelRun0_A.sl.HS0_8 (F := Ideal) c i arg2 harg2 arg3 harg3 arg4 harg4 arg5 harg5 x0 x1 x2 x3) arg6 harg6 arg7 harg7 x4 x5 3 2 1408 (by omega) (by omega) (acc i x0 x1 x2 x3) (fun S' R' l' h' => (hG S' R' l').trans (congrArg (acc i x0 x1 x2 x3 R') (by omega)))
      inb_S4x528x128_S1x128x128_3_8_0_s_1_4_1 inb_S4x528x128_S1x128x128_3_9_0_s_1_4_1 inb_S4x528x128_S1x128x128_3_10_0_s_1_4_1 inb_S4x528x128_S1x128x128_3_11_0_s_1_4_1 inb_S4x528x128_S1x128x128_3_12_0_s_1_4_1
      inb_S1x3072_S1x128_0_1408 inb_S5x3072_S1x128_0_1408 inb_S5x3072_S1x128_1_1408 inb_S5x3072_S1x128_2_1408 inb_S5x3072_S1x128_3_1408 inb_S5x3072_S1x128_4_1408 q l R hR _ (by omega)
  refine row_step 3 1 (by omega) _ _ _ _ S R l _ (fun q hS hR => ?_) (fun h31 => ?_)
  · exact phase_val arg11.view (kernelRun0_A.sl.HS0_8 (F := Ideal) c i arg2 harg2 arg3 harg3 arg4 harg4 arg5 harg5 x0 x1 x2 x3) arg6 harg6 arg7 harg7 x4 x5 3 1 1408 (by omega) (by omega) (acc i x0 x1 x2 x3) (fun S' R' l' h' => (hG S' R' l').trans (congrArg (acc i x0 x1 x2 x3 R') (by omega)))
      inb_S4x528x128_S1x128x128_3_7_0_s_1_4_1 inb_S4x528x128_S1x128x128_3_8_0_s_1_4_1 inb_S4x528x128_S1x128x128_3_9_0_s_1_4_1 inb_S4x528x128_S1x128x128_3_10_0_s_1_4_1 inb_S4x528x128_S1x128x128_3_11_0_s_1_4_1
      inb_S1x3072_S1x128_0_1408 inb_S5x3072_S1x128_0_1408 inb_S5x3072_S1x128_1_1408 inb_S5x3072_S1x128_2_1408 inb_S5x3072_S1x128_3_1408 inb_S5x3072_S1x128_4_1408 q l R hR _ (by omega)
  refine row_step 3 0 (by omega) _ _ _ _ S R l _ (fun q hS hR => ?_) (fun h30 => ?_)
  · exact phase_val arg11.view (kernelRun0_A.sl.HS0_8 (F := Ideal) c i arg2 harg2 arg3 harg3 arg4 harg4 arg5 harg5 x0 x1 x2 x3) arg6 harg6 arg7 harg7 x4 x5 3 0 1408 (by omega) (by omega) (acc i x0 x1 x2 x3) (fun S' R' l' h' => (hG S' R' l').trans (congrArg (acc i x0 x1 x2 x3 R') (by omega)))
      inb_S4x528x128_S1x128x128_3_6_0_s_1_4_1 inb_S4x528x128_S1x128x128_3_7_0_s_1_4_1 inb_S4x528x128_S1x128x128_3_8_0_s_1_4_1 inb_S4x528x128_S1x128x128_3_9_0_s_1_4_1 inb_S4x528x128_S1x128x128_3_10_0_s_1_4_1
      inb_S1x3072_S1x128_0_1408 inb_S5x3072_S1x128_0_1408 inb_S5x3072_S1x128_1_1408 inb_S5x3072_S1x128_2_1408 inb_S5x3072_S1x128_3_1408 inb_S5x3072_S1x128_4_1408 q l R hR _ (by omega)
  refine row_step 2 3 (by omega) _ _ _ _ S R l _ (fun q hS hR => ?_) (fun h23 => ?_)
  · exact phase_val arg11.view (kernelRun0_A.sl.HS0_8 (F := Ideal) c i arg2 harg2 arg3 harg3 arg4 harg4 arg5 harg5 x0 x1 x2 x3) arg6 harg6 arg7 harg7 x4 x5 2 3 1280 (by omega) (by omega) (acc i x0 x1 x2 x3) (fun S' R' l' h' => (hG S' R' l').trans (congrArg (acc i x0 x1 x2 x3 R') (by omega)))
      inb_S4x528x128_S1x128x128_2_9_0_s_1_4_1 inb_S4x528x128_S1x128x128_2_10_0_s_1_4_1 inb_S4x528x128_S1x128x128_2_11_0_s_1_4_1 inb_S4x528x128_S1x128x128_2_12_0_s_1_4_1 inb_S4x528x128_S1x128x128_2_13_0_s_1_4_1
      inb_S1x3072_S1x128_0_1280 inb_S5x3072_S1x128_0_1280 inb_S5x3072_S1x128_1_1280 inb_S5x3072_S1x128_2_1280 inb_S5x3072_S1x128_3_1280 inb_S5x3072_S1x128_4_1280 q l R hR _ (by omega)
  refine row_step 2 2 (by omega) _ _ _ _ S R l _ (fun q hS hR => ?_) (fun h22 => ?_)
  · exact phase_val arg11.view (kernelRun0_A.sl.HS0_8 (F := Ideal) c i arg2 harg2 arg3 harg3 arg4 harg4 arg5 harg5 x0 x1 x2 x3) arg6 harg6 arg7 harg7 x4 x5 2 2 1280 (by omega) (by omega) (acc i x0 x1 x2 x3) (fun S' R' l' h' => (hG S' R' l').trans (congrArg (acc i x0 x1 x2 x3 R') (by omega)))
      inb_S4x528x128_S1x128x128_2_8_0_s_1_4_1 inb_S4x528x128_S1x128x128_2_9_0_s_1_4_1 inb_S4x528x128_S1x128x128_2_10_0_s_1_4_1 inb_S4x528x128_S1x128x128_2_11_0_s_1_4_1 inb_S4x528x128_S1x128x128_2_12_0_s_1_4_1
      inb_S1x3072_S1x128_0_1280 inb_S5x3072_S1x128_0_1280 inb_S5x3072_S1x128_1_1280 inb_S5x3072_S1x128_2_1280 inb_S5x3072_S1x128_3_1280 inb_S5x3072_S1x128_4_1280 q l R hR _ (by omega)
  refine row_step 2 1 (by omega) _ _ _ _ S R l _ (fun q hS hR => ?_) (fun h21 => ?_)
  · exact phase_val arg11.view (kernelRun0_A.sl.HS0_8 (F := Ideal) c i arg2 harg2 arg3 harg3 arg4 harg4 arg5 harg5 x0 x1 x2 x3) arg6 harg6 arg7 harg7 x4 x5 2 1 1280 (by omega) (by omega) (acc i x0 x1 x2 x3) (fun S' R' l' h' => (hG S' R' l').trans (congrArg (acc i x0 x1 x2 x3 R') (by omega)))
      inb_S4x528x128_S1x128x128_2_7_0_s_1_4_1 inb_S4x528x128_S1x128x128_2_8_0_s_1_4_1 inb_S4x528x128_S1x128x128_2_9_0_s_1_4_1 inb_S4x528x128_S1x128x128_2_10_0_s_1_4_1 inb_S4x528x128_S1x128x128_2_11_0_s_1_4_1
      inb_S1x3072_S1x128_0_1280 inb_S5x3072_S1x128_0_1280 inb_S5x3072_S1x128_1_1280 inb_S5x3072_S1x128_2_1280 inb_S5x3072_S1x128_3_1280 inb_S5x3072_S1x128_4_1280 q l R hR _ (by omega)
  refine row_step 2 0 (by omega) _ _ _ _ S R l _ (fun q hS hR => ?_) (fun h20 => ?_)
  · exact phase_val arg11.view (kernelRun0_A.sl.HS0_8 (F := Ideal) c i arg2 harg2 arg3 harg3 arg4 harg4 arg5 harg5 x0 x1 x2 x3) arg6 harg6 arg7 harg7 x4 x5 2 0 1280 (by omega) (by omega) (acc i x0 x1 x2 x3) (fun S' R' l' h' => (hG S' R' l').trans (congrArg (acc i x0 x1 x2 x3 R') (by omega)))
      inb_S4x528x128_S1x128x128_2_6_0_s_1_4_1 inb_S4x528x128_S1x128x128_2_7_0_s_1_4_1 inb_S4x528x128_S1x128x128_2_8_0_s_1_4_1 inb_S4x528x128_S1x128x128_2_9_0_s_1_4_1 inb_S4x528x128_S1x128x128_2_10_0_s_1_4_1
      inb_S1x3072_S1x128_0_1280 inb_S5x3072_S1x128_0_1280 inb_S5x3072_S1x128_1_1280 inb_S5x3072_S1x128_2_1280 inb_S5x3072_S1x128_3_1280 inb_S5x3072_S1x128_4_1280 q l R hR _ (by omega)
  refine row_step 1 3 (by omega) _ _ _ _ S R l _ (fun q hS hR => ?_) (fun h13 => ?_)
  · exact phase_val arg11.view (kernelRun0_A.sl.HS0_8 (F := Ideal) c i arg2 harg2 arg3 harg3 arg4 harg4 arg5 harg5 x0 x1 x2 x3) arg6 harg6 arg7 harg7 x4 x5 1 3 1152 (by omega) (by omega) (acc i x0 x1 x2 x3) (fun S' R' l' h' => (hG S' R' l').trans (congrArg (acc i x0 x1 x2 x3 R') (by omega)))
      inb_S4x528x128_S1x128x128_1_9_0_s_1_4_1 inb_S4x528x128_S1x128x128_1_10_0_s_1_4_1 inb_S4x528x128_S1x128x128_1_11_0_s_1_4_1 inb_S4x528x128_S1x128x128_1_12_0_s_1_4_1 inb_S4x528x128_S1x128x128_1_13_0_s_1_4_1
      inb_S1x3072_S1x128_0_1152 inb_S5x3072_S1x128_0_1152 inb_S5x3072_S1x128_1_1152 inb_S5x3072_S1x128_2_1152 inb_S5x3072_S1x128_3_1152 inb_S5x3072_S1x128_4_1152 q l R hR _ (by omega)
  refine row_step 1 2 (by omega) _ _ _ _ S R l _ (fun q hS hR => ?_) (fun h12 => ?_)
  · exact phase_val arg11.view (kernelRun0_A.sl.HS0_8 (F := Ideal) c i arg2 harg2 arg3 harg3 arg4 harg4 arg5 harg5 x0 x1 x2 x3) arg6 harg6 arg7 harg7 x4 x5 1 2 1152 (by omega) (by omega) (acc i x0 x1 x2 x3) (fun S' R' l' h' => (hG S' R' l').trans (congrArg (acc i x0 x1 x2 x3 R') (by omega)))
      inb_S4x528x128_S1x128x128_1_8_0_s_1_4_1 inb_S4x528x128_S1x128x128_1_9_0_s_1_4_1 inb_S4x528x128_S1x128x128_1_10_0_s_1_4_1 inb_S4x528x128_S1x128x128_1_11_0_s_1_4_1 inb_S4x528x128_S1x128x128_1_12_0_s_1_4_1
      inb_S1x3072_S1x128_0_1152 inb_S5x3072_S1x128_0_1152 inb_S5x3072_S1x128_1_1152 inb_S5x3072_S1x128_2_1152 inb_S5x3072_S1x128_3_1152 inb_S5x3072_S1x128_4_1152 q l R hR _ (by omega)
  refine row_step 1 1 (by omega) _ _ _ _ S R l _ (fun q hS hR => ?_) (fun h11 => ?_)
  · exact phase_val arg11.view (kernelRun0_A.sl.HS0_8 (F := Ideal) c i arg2 harg2 arg3 harg3 arg4 harg4 arg5 harg5 x0 x1 x2 x3) arg6 harg6 arg7 harg7 x4 x5 1 1 1152 (by omega) (by omega) (acc i x0 x1 x2 x3) (fun S' R' l' h' => (hG S' R' l').trans (congrArg (acc i x0 x1 x2 x3 R') (by omega)))
      inb_S4x528x128_S1x128x128_1_7_0_s_1_4_1 inb_S4x528x128_S1x128x128_1_8_0_s_1_4_1 inb_S4x528x128_S1x128x128_1_9_0_s_1_4_1 inb_S4x528x128_S1x128x128_1_10_0_s_1_4_1 inb_S4x528x128_S1x128x128_1_11_0_s_1_4_1
      inb_S1x3072_S1x128_0_1152 inb_S5x3072_S1x128_0_1152 inb_S5x3072_S1x128_1_1152 inb_S5x3072_S1x128_2_1152 inb_S5x3072_S1x128_3_1152 inb_S5x3072_S1x128_4_1152 q l R hR _ (by omega)
  refine row_step 1 0 (by omega) _ _ _ _ S R l _ (fun q hS hR => ?_) (fun h10 => ?_)
  · exact phase_val arg11.view (kernelRun0_A.sl.HS0_8 (F := Ideal) c i arg2 harg2 arg3 harg3 arg4 harg4 arg5 harg5 x0 x1 x2 x3) arg6 harg6 arg7 harg7 x4 x5 1 0 1152 (by omega) (by omega) (acc i x0 x1 x2 x3) (fun S' R' l' h' => (hG S' R' l').trans (congrArg (acc i x0 x1 x2 x3 R') (by omega)))
      inb_S4x528x128_S1x128x128_1_6_0_s_1_4_1 inb_S4x528x128_S1x128x128_1_7_0_s_1_4_1 inb_S4x528x128_S1x128x128_1_8_0_s_1_4_1 inb_S4x528x128_S1x128x128_1_9_0_s_1_4_1 inb_S4x528x128_S1x128x128_1_10_0_s_1_4_1
      inb_S1x3072_S1x128_0_1152 inb_S5x3072_S1x128_0_1152 inb_S5x3072_S1x128_1_1152 inb_S5x3072_S1x128_2_1152 inb_S5x3072_S1x128_3_1152 inb_S5x3072_S1x128_4_1152 q l R hR _ (by omega)
  refine row_step 0 3 (by omega) _ _ _ _ S R l _ (fun q hS hR => ?_) (fun h03 => ?_)
  · exact phase_val arg11.view (kernelRun0_A.sl.HS0_8 (F := Ideal) c i arg2 harg2 arg3 harg3 arg4 harg4 arg5 harg5 x0 x1 x2 x3) arg6 harg6 arg7 harg7 x4 x5 0 3 1024 (by omega) (by omega) (acc i x0 x1 x2 x3) (fun S' R' l' h' => (hG S' R' l').trans (congrArg (acc i x0 x1 x2 x3 R') (by omega)))
      inb_S4x528x128_S1x128x128_0_9_0_s_1_4_1 inb_S4x528x128_S1x128x128_0_10_0_s_1_4_1 inb_S4x528x128_S1x128x128_0_11_0_s_1_4_1 inb_S4x528x128_S1x128x128_0_12_0_s_1_4_1 inb_S4x528x128_S1x128x128_0_13_0_s_1_4_1
      inb_S1x3072_S1x128_0_1024 inb_S5x3072_S1x128_0_1024 inb_S5x3072_S1x128_1_1024 inb_S5x3072_S1x128_2_1024 inb_S5x3072_S1x128_3_1024 inb_S5x3072_S1x128_4_1024 q l R hR _ (by omega)
  refine row_step 0 2 (by omega) _ _ _ _ S R l _ (fun q hS hR => ?_) (fun h02 => ?_)
  · exact phase_val arg11.view (kernelRun0_A.sl.HS0_8 (F := Ideal) c i arg2 harg2 arg3 harg3 arg4 harg4 arg5 harg5 x0 x1 x2 x3) arg6 harg6 arg7 harg7 x4 x5 0 2 1024 (by omega) (by omega) (acc i x0 x1 x2 x3) (fun S' R' l' h' => (hG S' R' l').trans (congrArg (acc i x0 x1 x2 x3 R') (by omega)))
      inb_S4x528x128_S1x128x128_0_8_0_s_1_4_1 inb_S4x528x128_S1x128x128_0_9_0_s_1_4_1 inb_S4x528x128_S1x128x128_0_10_0_s_1_4_1 inb_S4x528x128_S1x128x128_0_11_0_s_1_4_1 inb_S4x528x128_S1x128x128_0_12_0_s_1_4_1
      inb_S1x3072_S1x128_0_1024 inb_S5x3072_S1x128_0_1024 inb_S5x3072_S1x128_1_1024 inb_S5x3072_S1x128_2_1024 inb_S5x3072_S1x128_3_1024 inb_S5x3072_S1x128_4_1024 q l R hR _ (by omega)
  refine row_step 0 1 (by omega) _ _ _ _ S R l _ (fun q hS hR => ?_) (fun h01 => ?_)
  · exact phase_val arg11.view (kernelRun0_A.sl.HS0_8 (F := Ideal) c i arg2 harg2 arg3 harg3 arg4 harg4 arg5 harg5 x0 x1 x2 x3) arg6 harg6 arg7 harg7 x4 x5 0 1 1024 (by omega) (by omega) (acc i x0 x1 x2 x3) (fun S' R' l' h' => (hG S' R' l').trans (congrArg (acc i x0 x1 x2 x3 R') (by omega)))
      inb_S4x528x128_S1x128x128_0_7_0_s_1_4_1 inb_S4x528x128_S1x128x128_0_8_0_s_1_4_1 inb_S4x528x128_S1x128x128_0_9_0_s_1_4_1 inb_S4x528x128_S1x128x128_0_10_0_s_1_4_1 inb_S4x528x128_S1x128x128_0_11_0_s_1_4_1
      inb_S1x3072_S1x128_0_1024 inb_S5x3072_S1x128_0_1024 inb_S5x3072_S1x128_1_1024 inb_S5x3072_S1x128_2_1024 inb_S5x3072_S1x128_3_1024 inb_S5x3072_S1x128_4_1024 q l R hR _ (by omega)
  refine row_step 0 0 (by omega) _ _ _ _ S R l _ (fun q hS hR => ?_) (fun h00 => ?_)
  · exact phase_val arg11.view (kernelRun0_A.sl.HS0_8 (F := Ideal) c i arg2 harg2 arg3 harg3 arg4 harg4 arg5 harg5 x0 x1 x2 x3) arg6 harg6 arg7 harg7 x4 x5 0 0 1024 (by omega) (by omega) (acc i x0 x1 x2 x3) (fun S' R' l' h' => (hG S' R' l').trans (congrArg (acc i x0 x1 x2 x3 R') (by omega)))
      inb_S4x528x128_S1x128x128_0_6_0_s_1_4_1 inb_S4x528x128_S1x128x128_0_7_0_s_1_4_1 inb_S4x528x128_S1x128x128_0_8_0_s_1_4_1 inb_S4x528x128_S1x128x128_0_9_0_s_1_4_1 inb_S4x528x128_S1x128x128_0_10_0_s_1_4_1
      inb_S1x3072_S1x128_0_1024 inb_S5x3072_S1x128_0_1024 inb_S5x3072_S1x128_1_1024 inb_S5x3072_S1x128_2_1024 inb_S5x3072_S1x128_3_1024 inb_S5x3072_S1x128_4_1024 q l R hR _ (by omega)
  · exact absurd S.isLt (by omega)

end Cert.ConvIdeal.Conv

end
-- ==== Proof.Conv.YsB.lean ====
/- What the rows of results hold, chunks 3 to 5. -/
module

public import proofs.«01_k».proof.Proof.Conv.Acc

@[expose] public section

set_option maxRecDepth 16384
set_option maxHeartbeats 4000000

noncomputable section

namespace Cert.ConvIdeal.Conv

open Cert.ConvIdeal Cert.ConvIdeal.Gen Cert.GatesMath Idealize.ShloMosaic

variable (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1024x3072 .bf16) (harg5 : arg5.IsWhole) (arg6 : Memref sig .tc .vmem S5x3072 .f32) (harg6 : arg6.IsWhole) (arg7 : Memref sig .tc .vmem S1x3072 .f32) (harg7 : arg7.IsWhole) (arg8 : Memref sig .tc .vmem S1x512x2048 .bf16) (harg8 : arg8.IsWhole) (arg9 : Memref sig .tc .vmem S1x512x512 .bf16) (harg9 : arg9.IsWhole) (arg10 : Memref sig .tc .vmem S1x512x512 .bf16) (harg10 : arg10.IsWhole) (arg11 : Memref sig .tc .vmem S4x528x128 .f32) (harg11 : arg11.IsWhole) (arg12 : Memref sig .tc .vmem S4x528x128 .f32) (harg12 : arg12.IsWhole) (arg13 : Memref sig .tc .vmem S4x512x128 .f32) (harg13 : arg13.IsWhole) (arg14 : Memref sig .tc .vmem S4x512x128 .f32) (harg14 : arg14.IsWhole)
    (x0 : Vec Ideal S1x512x1024 .f32) (x1 : Vec Ideal S1x8x1024 .f32) (x2 : Vec Ideal S1x8x1024 .f32) (x3 : Vec Ideal S1024x3072 .bf16) (x4 : Vec Ideal S5x3072 .f32) (x5 : Vec Ideal S1x3072 .f32)

/-- Chunk 3 of the results, as its slabs hold it. -/
theorem ys_3 (S : Fin 4) (R : Fin 512) (l : Fin 128) :
    View.canon (Val := Elt Ideal) (e := .f32) (kernelRun0_A.sl.HS3_32 (F := Ideal) c i arg2 harg2 arg3 harg3 arg4 harg4 arg5 harg5 arg6 harg6 arg7 harg7 arg12 x0 x1 x2 x3 x4 x5) (ix3 S R l) = yv (acc i x0 x1 x2 x3) (wt x4) (bi x5) R (1536 + (128 * S.val + l.val)) := by
  have hG := acc_3 c i arg2 harg2 arg3 harg3 arg4 harg4 arg5 harg5 x0 x1 x2 x3
  unfold kernelRun0_A.sl.HS3_32
  refine row_step 3 3 (by omega) _ _ _ _ S R l _ (fun q hS hR => ?_) (fun h33 => ?_)
  · exact phase_val arg12.view (kernelRun0_A.sl.HS1_8 (F := Ideal) c i arg2 harg2 arg3 harg3 arg4 harg4 arg5 harg5 x0 x1 x2 x3) arg6 harg6 arg7 harg7 x4 x5 3 3 1920 (by omega) (by omega) (acc i x0 x1 x2 x3) (fun S' R' l' h' => (hG S' R' l').trans (congrArg (acc i x0 x1 x2 x3 R') (by omega)))
      inb_S4x528x128_S1x128x128_3_9_0_s_1_4_1 inb_S4x528x128_S1x128x128_3_10_0_s_1_4_1 inb_S4x528x128_S1x128x128_3_11_0_s_1_4_1 inb_S4x528x128_S1x128x128_3_12_0_s_1_4_1 inb_S4x528x128_S1x128x128_3_13_0_s_1_4_1
      inb_S1x3072_S1x128_0_1920 inb_S5x3072_S1x128_0_1920 inb_S5x3072_S1x128_1_1920 inb_S5x3072_S1x128_2_1920 inb_S5x3072_S1x128_3_1920 inb_S5x3072_S1x128_4_1920 q l R hR _ (by omega)
  refine row_step 3 2 (by omega) _ _ _ _ S R l _ (fun q hS hR => ?_) (fun h32 => ?_)
  · exact phase_val arg12.view (kernelRun0_A.sl.HS1_8 (F := Ideal) c i arg2 harg2 arg3 harg3 arg4 harg4 arg5 harg5 x0 x1 x2 x3) arg6 harg6 arg7 harg7 x4 x5 3 2 1920 (by omega) (by omega) (acc i x0 x1 x2 x3) (fun S' R' l' h' => (hG S' R' l').trans (congrArg (acc i x0 x1 x2 x3 R') (by omega)))
      inb_S4x528x128_S1x128x128_3_8_0_s_1_4_1 inb_S4x528x128_S1x128x128_3_9_0_s_1_4_1 inb_S4x528x128_S1x128x128_3_10_0_s_1_4_1 inb_S4x528x128_S1x128x128_3_11_0_s_1_4_1 inb_S4x528x128_S1x128x128_3_12_0_s_1_4_1
      inb_S1x3072_S1x128_0_1920 inb_S5x3072_S1x128_0_1920 inb_S5x3072_S1x128_1_1920 inb_S5x3072_S1x128_2_1920 inb_S5x3072_S1x128_3_1920 inb_S5x3072_S1x128_4_1920 q l R hR _ (by omega)
  refine row_step 3 1 (by omega) _ _ _ _ S R l _ (fun q hS hR => ?_) (fun h31 => ?_)
  · exact phase_val arg12.view (kernelRun0_A.sl.HS1_8 (F := Ideal) c i arg2 harg2 arg3 harg3 arg4 harg4 arg5 harg5 x0 x1 x2 x3) arg6 harg6 arg7 harg7 x4 x5 3 1 1920 (by omega) (by omega) (acc i x0 x1 x2 x3) (fun S' R' l' h' => (hG S' R' l').trans (congrArg (acc i x0 x1 x2 x3 R') (by omega)))
      inb_S4x528x128_S1x128x128_3_7_0_s_1_4_1 inb_S4x528x128_S1x128x128_3_8_0_s_1_4_1 inb_S4x528x128_S1x128x128_3_9_0_s_1_4_1 inb_S4x528x128_S1x128x128_3_10_0_s_1_4_1 inb_S4x528x128_S1x128x128_3_11_0_s_1_4_1
      inb_S1x3072_S1x128_0_1920 inb_S5x3072_S1x128_0_1920 inb_S5x3072_S1x128_1_1920 inb_S5x3072_S1x128_2_1920 inb_S5x3072_S1x128_3_1920 inb_S5x3072_S1x128_4_1920 q l R hR _ (by omega)
  refine row_step 3 0 (by omega) _ _ _ _ S R l _ (fun q hS hR => ?_) (fun h30 => ?_)
  · exact phase_val arg12.view (kernelRun0_A.sl.HS1_8 (F := Ideal) c i arg2 harg2 arg3 harg3 arg4 harg4 arg5 harg5 x0 x1 x2 x3) arg6 harg6 arg7 harg7 x4 x5 3 0 1920 (by omega) (by omega) (acc i x0 x1 x2 x3) (fun S' R' l' h' => (hG S' R' l').trans (congrArg (acc i x0 x1 x2 x3 R') (by omega)))
      inb_S4x528x128_S1x128x128_3_6_0_s_1_4_1 inb_S4x528x128_S1x128x128_3_7_0_s_1_4_1 inb_S4x528x128_S1x128x128_3_8_0_s_1_4_1 inb_S4x528x128_S1x128x128_3_9_0_s_1_4_1 inb_S4x528x128_S1x128x128_3_10_0_s_1_4_1
      inb_S1x3072_S1x128_0_1920 inb_S5x3072_S1x128_0_1920 inb_S5x3072_S1x128_1_1920 inb_S5x3072_S1x128_2_1920 inb_S5x3072_S1x128_3_1920 inb_S5x3072_S1x128_4_1920 q l R hR _ (by omega)
  refine row_step 2 3 (by omega) _ _ _ _ S R l _ (fun q hS hR => ?_) (fun h23 => ?_)
  · exact phase_val arg12.view (kernelRun0_A.sl.HS1_8 (F := Ideal) c i arg2 harg2 arg3 harg3 arg4 harg4 arg5 harg5 x0 x1 x2 x3) arg6 harg6 arg7 harg7 x4 x5 2 3 1792 (by omega) (by omega) (acc i x0 x1 x2 x3) (fun S' R' l' h' => (hG S' R' l').trans (congrArg (acc i x0 x1 x2 x3 R') (by omega)))
      inb_S4x528x128_S1x128x128_2_9_0_s_1_4_1 inb_S4x528x128_S1x128x128_2_10_0_s_1_4_1 inb_S4x528x128_S1x128x128_2_11_0_s_1_4_1 inb_S4x528x128_S1x128x128_2_12_0_s_1_4_1 inb_S4x528x128_S1x128x128_2_13_0_s_1_4_1
      inb_S1x3072_S1x128_0_1792 inb_S5x3072_S1x128_0_1792 inb_S5x3072_S1x128_1_1792 inb_S5x3072_S1x128_2_1792 inb_S5x3072_S1x128_3_1792 inb_S5x3072_S1x128_4_1792 q l R hR _ (by omega)
  refine row_step 2 2 (by omega) _ _ _ _ S R l _ (fun q hS hR => ?_) (fun h22 => ?_)
  · exact phase_val arg12.view (kernelRun0_A.sl.HS1_8 (F := Ideal) c i arg2 harg2 arg3 harg3 arg4 harg4 arg5 harg5 x0 x1 x2 x3) arg6 harg6 arg7 harg7 x4 x5 2 2 1792 (by omega) (by omega) (acc i x0 x1 x2 x3) (fun S' R' l' h' => (hG S' R' l').trans (congrArg (acc i x0 x1 x2 x3 R') (by omega)))
      inb_S4x528x128_S1x128x128_2_8_0_s_1_4_1 inb_S4x528x128_S1x128x128_2_9_0_s_1_4_1 inb_S4x528x128_S1x128x128_2_10_0_s_1_4_1 inb_S4x528x128_S1x128x128_2_11_0_s_1_4_1 inb_S4x528x128_S1x128x128_2_12_0_s_1_4_1
      inb_S1x3072_S1x128_0_1792 inb_S5x3072_S1x128_0_1792 inb_S5x3072_S1x128_1_1792 inb_S5x3072_S1x128_2_1792 inb_S5x3072_S1x128_3_1792 inb_S5x3072_S1x128_4_1792 q l R hR _ (by omega)
  refine row_step 2 1 (by omega) _ _ _ _ S R l _ (fun q hS hR => ?_) (fun h21 => ?_)
  · exact phase_val arg12.view (kernelRun0_A.sl.HS1_8 (F := Ideal) c i arg2 harg2 arg3 harg3 arg4 harg4 arg5 harg5 x0 x1 x2 x3) arg6 harg6 arg7 harg7 x4 x5 2 1 1792 (by omega) (by omega) (acc i x0 x1 x2 x3) (fun S' R' l' h' => (hG S' R' l').trans (congrArg (acc i x0 x1 x2 x3 R') (by omega)))
      inb_S4x528x128_S1x128x128_2_7_0_s_1_4_1 inb_S4x528x128_S1x128x128_2_8_0_s_1_4_1 inb_S4x528x128_S1x128x128_2_9_0_s_1_4_1 inb_S4x528x128_S1x128x128_2_10_0_s_1_4_1 inb_S4x528x128_S1x128x128_2_11_0_s_1_4_1
      inb_S1x3072_S1x128_0_1792 inb_S5x3072_S1x128_0_1792 inb_S5x3072_S1x128_1_1792 inb_S5x3072_S1x128_2_1792 inb_S5x3072_S1x128_3_1792 inb_S5x3072_S1x128_4_1792 q l R hR _ (by omega)
  refine row_step 2 0 (by omega) _ _ _ _ S R l _ (fun q hS hR => ?_) (fun h20 => ?_)
  · exact phase_val arg12.view (kernelRun0_A.sl.HS1_8 (F := Ideal) c i arg2 harg2 arg3 harg3 arg4 harg4 arg5 harg5 x0 x1 x2 x3) arg6 harg6 arg7 harg7 x4 x5 2 0 1792 (by omega) (by omega) (acc i x0 x1 x2 x3) (fun S' R' l' h' => (hG S' R' l').trans (congrArg (acc i x0 x1 x2 x3 R') (by omega)))
      inb_S4x528x128_S1x128x128_2_6_0_s_1_4_1 inb_S4x528x128_S1x128x128_2_7_0_s_1_4_1 inb_S4x528x128_S1x128x128_2_8_0_s_1_4_1 inb_S4x528x128_S1x128x128_2_9_0_s_1_4_1 inb_S4x528x128_S1x128x128_2_10_0_s_1_4_1
      inb_S1x3072_S1x128_0_1792 inb_S5x3072_S1x128_0_1792 inb_S5x3072_S1x128_1_1792 inb_S5x3072_S1x128_2_1792 inb_S5x3072_S1x128_3_1792 inb_S5x3072_S1x128_4_1792 q l R hR _ (by omega)
  refine row_step 1 3 (by omega) _ _ _ _ S R l _ (fun q hS hR => ?_) (fun h13 => ?_)
  · exact phase_val arg12.view (kernelRun0_A.sl.HS1_8 (F := Ideal) c i arg2 harg2 arg3 harg3 arg4 harg4 arg5 harg5 x0 x1 x2 x3) arg6 harg6 arg7 harg7 x4 x5 1 3 1664 (by omega) (by omega) (acc i x0 x1 x2 x3) (fun S' R' l' h' => (hG S' R' l').trans (congrArg (acc i x0 x1 x2 x3 R') (by omega)))
      inb_S4x528x128_S1x128x128_1_9_0_s_1_4_1 inb_S4x528x128_S1x128x128_1_10_0_s_1_4_1 inb_S4x528x128_S1x128x128_1_11_0_s_1_4_1 inb_S4x528x128_S1x128x128_1_12_0_s_1_4_1 inb_S4x528x128_S1x128x128_1_13_0_s_1_4_1
      inb_S1x3072_S1x128_0_1664 inb_S5x3072_S1x128_0_1664 inb_S5x3072_S1x128_1_1664 inb_S5x3072_S1x128_2_1664 inb_S5x3072_S1x128_3_1664 inb_S5x3072_S1x128_4_1664 q l R hR _ (by omega)
  refine row_step 1 2 (by omega) _ _ _ _ S R l _ (fun q hS hR => ?_) (fun h12 => ?_)
  · exact phase_val arg12.view (kernelRun0_A.sl.HS1_8 (F := Ideal) c i arg2 harg2 arg3 harg3 arg4 harg4 arg5 harg5 x0 x1 x2 x3) arg6 harg6 arg7 harg7 x4 x5 1 2 1664 (by omega) (by omega) (acc i x0 x1 x2 x3) (fun S' R' l' h' => (hG S' R' l').trans (congrArg (acc i x0 x1 x2 x3 R') (by omega)))
      inb_S4x528x128_S1x128x128_1_8_0_s_1_4_1 inb_S4x528x128_S1x128x128_1_9_0_s_1_4_1 inb_S4x528x128_S1x128x128_1_10_0_s_1_4_1 inb_S4x528x128_S1x128x128_1_11_0_s_1_4_1 inb_S4x528x128_S1x128x128_1_12_0_s_1_4_1
      inb_S1x3072_S1x128_0_1664 inb_S5x3072_S1x128_0_1664 inb_S5x3072_S1x128_1_1664 inb_S5x3072_S1x128_2_1664 inb_S5x3072_S1x128_3_1664 inb_S5x3072_S1x128_4_1664 q l R hR _ (by omega)
  refine row_step 1 1 (by omega) _ _ _ _ S R l _ (fun q hS hR => ?_) (fun h11 => ?_)
  · exact phase_val arg12.view (kernelRun0_A.sl.HS1_8 (F := Ideal) c i arg2 harg2 arg3 harg3 arg4 harg4 arg5 harg5 x0 x1 x2 x3) arg6 harg6 arg7 harg7 x4 x5 1 1 1664 (by omega) (by omega) (acc i x0 x1 x2 x3) (fun S' R' l' h' => (hG S' R' l').trans (congrArg (acc i x0 x1 x2 x3 R') (by omega)))
      inb_S4x528x128_S1x128x128_1_7_0_s_1_4_1 inb_S4x528x128_S1x128x128_1_8_0_s_1_4_1 inb_S4x528x128_S1x128x128_1_9_0_s_1_4_1 inb_S4x528x128_S1x128x128_1_10_0_s_1_4_1 inb_S4x528x128_S1x128x128_1_11_0_s_1_4_1
      inb_S1x3072_S1x128_0_1664 inb_S5x3072_S1x128_0_1664 inb_S5x3072_S1x128_1_1664 inb_S5x3072_S1x128_2_1664 inb_S5x3072_S1x128_3_1664 inb_S5x3072_S1x128_4_1664 q l R hR _ (by omega)
  refine row_step 1 0 (by omega) _ _ _ _ S R l _ (fun q hS hR => ?_) (fun h10 => ?_)
  · exact phase_val arg12.view (kernelRun0_A.sl.HS1_8 (F := Ideal) c i arg2 harg2 arg3 harg3 arg4 harg4 arg5 harg5 x0 x1 x2 x3) arg6 harg6 arg7 harg7 x4 x5 1 0 1664 (by omega) (by omega) (acc i x0 x1 x2 x3) (fun S' R' l' h' => (hG S' R' l').trans (congrArg (acc i x0 x1 x2 x3 R') (by omega)))
      inb_S4x528x128_S1x128x128_1_6_0_s_1_4_1 inb_S4x528x128_S1x128x128_1_7_0_s_1_4_1 inb_S4x528x128_S1x128x128_1_8_0_s_1_4_1 inb_S4x528x128_S1x128x128_1_9_0_s_1_4_1 inb_S4x528x128_S1x128x128_1_10_0_s_1_4_1
      inb_S1x3072_S1x128_0_1664 inb_S5x3072_S1x128_0_1664 inb_S5x3072_S1x128_1_1664 inb_S5x3072_S1x128_2_1664 inb_S5x3072_S1x128_3_1664 inb_S5x3072_S1x128_4_1664 q l R hR _ (by omega)
  refine row_step 0 3 (by omega) _ _ _ _ S R l _ (fun q hS hR => ?_) (fun h03 => ?_)
  · exact phase_val arg12.view (kernelRun0_A.sl.HS1_8 (F := Ideal) c i arg2 harg2 arg3 harg3 arg4 harg4 arg5 harg5 x0 x1 x2 x3) arg6 harg6 arg7 harg7 x4 x5 0 3 1536 (by omega) (by omega) (acc i x0 x1 x2 x3) (fun S' R' l' h' => (hG S' R' l').trans (congrArg (acc i x0 x1 x2 x3 R') (by omega)))
      inb_S4x528x128_S1x128x128_0_9_0_s_1_4_1 inb_S4x528x128_S1x128x128_0_10_0_s_1_4_1 inb_S4x528x128_S1x128x128_0_11_0_s_1_4_1 inb_S4x528x128_S1x128x128_0_12_0_s_1_4_1 inb_S4x528x128_S1x128x128_0_13_0_s_1_4_1
      inb_S1x3072_S1x128_0_1536 inb_S5x3072_S1x128_0_1536 inb_S5x3072_S1x128_1_1536 inb_S5x3072_S1x128_2_1536 inb_S5x3072_S1x128_3_1536 inb_S5x3072_S1x128_4_1536 q l R hR _ (by omega)
  refine row_step 0 2 (by omega) _ _ _ _ S R l _ (fun q hS hR => ?_) (fun h02 => ?_)
  · exact phase_val arg12.view (kernelRun0_A.sl.HS1_8 (F := Ideal) c i arg2 harg2 arg3 harg3 arg4 harg4 arg5 harg5 x0 x1 x2 x3) arg6 harg6 arg7 harg7 x4 x5 0 2 1536 (by omega) (by omega) (acc i x0 x1 x2 x3) (fun S' R' l' h' => (hG S' R' l').trans (congrArg (acc i x0 x1 x2 x3 R') (by omega)))
      inb_S4x528x128_S1x128x128_0_8_0_s_1_4_1 inb_S4x528x128_S1x128x128_0_9_0_s_1_4_1 inb_S4x528x128_S1x128x128_0_10_0_s_1_4_1 inb_S4x528x128_S1x128x128_0_11_0_s_1_4_1 inb_S4x528x128_S1x128x128_0_12_0_s_1_4_1
      inb_S1x3072_S1x128_0_1536 inb_S5x3072_S1x128_0_1536 inb_S5x3072_S1x128_1_1536 inb_S5x3072_S1x128_2_1536 inb_S5x3072_S1x128_3_1536 inb_S5x3072_S1x128_4_1536 q l R hR _ (by omega)
  refine row_step 0 1 (by omega) _ _ _ _ S R l _ (fun q hS hR => ?_) (fun h01 => ?_)
  · exact phase_val arg12.view (kernelRun0_A.sl.HS1_8 (F := Ideal) c i arg2 harg2 arg3 harg3 arg4 harg4 arg5 harg5 x0 x1 x2 x3) arg6 harg6 arg7 harg7 x4 x5 0 1 1536 (by omega) (by omega) (acc i x0 x1 x2 x3) (fun S' R' l' h' => (hG S' R' l').trans (congrArg (acc i x0 x1 x2 x3 R') (by omega)))
      inb_S4x528x128_S1x128x128_0_7_0_s_1_4_1 inb_S4x528x128_S1x128x128_0_8_0_s_1_4_1 inb_S4x528x128_S1x128x128_0_9_0_s_1_4_1 inb_S4x528x128_S1x128x128_0_10_0_s_1_4_1 inb_S4x528x128_S1x128x128_0_11_0_s_1_4_1
      inb_S1x3072_S1x128_0_1536 inb_S5x3072_S1x128_0_1536 inb_S5x3072_S1x128_1_1536 inb_S5x3072_S1x128_2_1536 inb_S5x3072_S1x128_3_1536 inb_S5x3072_S1x128_4_1536 q l R hR _ (by omega)
  refine row_step 0 0 (by omega) _ _ _ _ S R l _ (fun q hS hR => ?_) (fun h00 => ?_)
  · exact phase_val arg12.view (kernelRun0_A.sl.HS1_8 (F := Ideal) c i arg2 harg2 arg3 harg3 arg4 harg4 arg5 harg5 x0 x1 x2 x3) arg6 harg6 arg7 harg7 x4 x5 0 0 1536 (by omega) (by omega) (acc i x0 x1 x2 x3) (fun S' R' l' h' => (hG S' R' l').trans (congrArg (acc i x0 x1 x2 x3 R') (by omega)))
      inb_S4x528x128_S1x128x128_0_6_0_s_1_4_1 inb_S4x528x128_S1x128x128_0_7_0_s_1_4_1 inb_S4x528x128_S1x128x128_0_8_0_s_1_4_1 inb_S4x528x128_S1x128x128_0_9_0_s_1_4_1 inb_S4x528x128_S1x128x128_0_10_0_s_1_4_1
      inb_S1x3072_S1x128_0_1536 inb_S5x3072_S1x128_0_1536 inb_S5x3072_S1x128_1_1536 inb_S5x3072_S1x128_2_1536 inb_S5x3072_S1x128_3_1536 inb_S5x3072_S1x128_4_1536 q l R hR _ (by omega)
  · exact absurd S.isLt (by omega)

/-- Chunk 4 of the results, as its slabs hold it. -/
theorem ys_4 (S : Fin 4) (R : Fin 512) (l : Fin 128) :
    View.canon (Val := Elt Ideal) (e := .f32) (kernelRun0_A.sl.HS2_48 (F := Ideal) c i arg2 harg2 arg3 harg3 arg4 harg4 arg5 harg5 arg6 harg6 arg7 harg7 arg11 x0 x1 x2 x3 x4 x5) (ix3 S R l) = yv (acc i x0 x1 x2 x3) (wt x4) (bi x5) R (2048 + (128 * S.val + l.val)) := by
  have hG := acc_4 c i arg2 harg2 arg3 harg3 arg4 harg4 arg5 harg5 x0 x1 x2 x3
  unfold kernelRun0_A.sl.HS2_48
  refine row_step 3 3 (by omega) _ _ _ _ S R l _ (fun q hS hR => ?_) (fun h33 => ?_)
  · exact phase_val arg11.view (kernelRun0_A.sl.HS0_12 (F := Ideal) c i arg2 harg2 arg3 harg3 arg4 harg4 arg5 harg5 x0 x1 x2 x3) arg6 harg6 arg7 harg7 x4 x5 3 3 2432 (by omega) (by omega) (acc i x0 x1 x2 x3) (fun S' R' l' h' => (hG S' R' l').trans (congrArg (acc i x0 x1 x2 x3 R') (by omega)))
      inb_S4x528x128_S1x128x128_3_9_0_s_1_4_1 inb_S4x528x128_S1x128x128_3_10_0_s_1_4_1 inb_S4x528x128_S1x128x128_3_11_0_s_1_4_1 inb_S4x528x128_S1x128x128_3_12_0_s_1_4_1 inb_S4x528x128_S1x128x128_3_13_0_s_1_4_1
      inb_S1x3072_S1x128_0_2432 inb_S5x3072_S1x128_0_2432 inb_S5x3072_S1x128_1_2432 inb_S5x3072_S1x128_2_2432 inb_S5x3072_S1x128_3_2432 inb_S5x3072_S1x128_4_2432 q l R hR _ (by omega)
  refine row_step 3 2 (by omega) _ _ _ _ S R l _ (fun q hS hR => ?_) (fun h32 => ?_)
  · exact phase_val arg11.view (kernelRun0_A.sl.HS0_12 (F := Ideal) c i arg2 harg2 arg3 harg3 arg4 harg4 arg5 harg5 x0 x1 x2 x3) arg6 harg6 arg7 harg7 x4 x5 3 2 2432 (by omega) (by omega) (acc i x0 x1 x2 x3) (fun S' R' l' h' => (hG S' R' l').trans (congrArg (acc i x0 x1 x2 x3 R') (by omega)))
      inb_S4x528x128_S1x128x128_3_8_0_s_1_4_1 inb_S4x528x128_S1x128x128_3_9_0_s_1_4_1 inb_S4x528x128_S1x128x128_3_10_0_s_1_4_1 inb_S4x528x128_S1x128x128_3_11_0_s_1_4_1 inb_S4x528x128_S1x128x128_3_12_0_s_1_4_1
      inb_S1x3072_S1x128_0_2432 inb_S5x3072_S1x128_0_2432 inb_S5x3072_S1x128_1_2432 inb_S5x3072_S1x128_2_2432 inb_S5x3072_S1x128_3_2432 inb_S5x3072_S1x128_4_2432 q l R hR _ (by omega)
  refine row_step 3 1 (by omega) _ _ _ _ S R l _ (fun q hS hR => ?_) (fun h31 => ?_)
  · exact phase_val arg11.view (kernelRun0_A.sl.HS0_12 (F := Ideal) c i arg2 harg2 arg3 harg3 arg4 harg4 arg5 harg5 x0 x1 x2 x3) arg6 harg6 arg7 harg7 x4 x5 3 1 2432 (by omega) (by omega) (acc i x0 x1 x2 x3) (fun S' R' l' h' => (hG S' R' l').trans (congrArg (acc i x0 x1 x2 x3 R') (by omega)))
      inb_S4x528x128_S1x128x128_3_7_0_s_1_4_1 inb_S4x528x128_S1x128x128_3_8_0_s_1_4_1 inb_S4x528x128_S1x128x128_3_9_0_s_1_4_1 inb_S4x528x128_S1x128x128_3_10_0_s_1_4_1 inb_S4x528x128_S1x128x128_3_11_0_s_1_4_1
      inb_S1x3072_S1x128_0_2432 inb_S5x3072_S1x128_0_2432 inb_S5x3072_S1x128_1_2432 inb_S5x3072_S1x128_2_2432 inb_S5x3072_S1x128_3_2432 inb_S5x3072_S1x128_4_2432 q l R hR _ (by omega)
  refine row_step 3 0 (by omega) _ _ _ _ S R l _ (fun q hS hR => ?_) (fun h30 => ?_)
  · exact phase_val arg11.view (kernelRun0_A.sl.HS0_12 (F := Ideal) c i arg2 harg2 arg3 harg3 arg4 harg4 arg5 harg5 x0 x1 x2 x3) arg6 harg6 arg7 harg7 x4 x5 3 0 2432 (by omega) (by omega) (acc i x0 x1 x2 x3) (fun S' R' l' h' => (hG S' R' l').trans (congrArg (acc i x0 x1 x2 x3 R') (by omega)))
      inb_S4x528x128_S1x128x128_3_6_0_s_1_4_1 inb_S4x528x128_S1x128x128_3_7_0_s_1_4_1 inb_S4x528x128_S1x128x128_3_8_0_s_1_4_1 inb_S4x528x128_S1x128x128_3_9_0_s_1_4_1 inb_S4x528x128_S1x128x128_3_10_0_s_1_4_1
      inb_S1x3072_S1x128_0_2432 inb_S5x3072_S1x128_0_2432 inb_S5x3072_S1x128_1_2432 inb_S5x3072_S1x128_2_2432 inb_S5x3072_S1x128_3_2432 inb_S5x3072_S1x128_4_2432 q l R hR _ (by omega)
  refine row_step 2 3 (by omega) _ _ _ _ S R l _ (fun q hS hR => ?_) (fun h23 => ?_)
  · exact phase_val arg11.view (kernelRun0_A.sl.HS0_12 (F := Ideal) c i arg2 harg2 arg3 harg3 arg4 harg4 arg5 harg5 x0 x1 x2 x3) arg6 harg6 arg7 harg7 x4 x5 2 3 2304 (by omega) (by omega) (acc i x0 x1 x2 x3) (fun S' R' l' h' => (hG S' R' l').trans (congrArg (acc i x0 x1 x2 x3 R') (by omega)))
      inb_S4x528x128_S1x128x128_2_9_0_s_1_4_1 inb_S4x528x128_S1x128x128_2_10_0_s_1_4_1 inb_S4x528x128_S1x128x128_2_11_0_s_1_4_1 inb_S4x528x128_S1x128x128_2_12_0_s_1_4_1 inb_S4x528x128_S1x128x128_2_13_0_s_1_4_1
      inb_S1x3072_S1x128_0_2304 inb_S5x3072_S1x128_0_2304 inb_S5x3072_S1x128_1_2304 inb_S5x3072_S1x128_2_2304 inb_S5x3072_S1x128_3_2304 inb_S5x3072_S1x128_4_2304 q l R hR _ (by omega)
  refine row_step 2 2 (by omega) _ _ _ _ S R l _ (fun q hS hR => ?_) (fun h22 => ?_)
  · exact phase_val arg11.view (kernelRun0_A.sl.HS0_12 (F := Ideal) c i arg2 harg2 arg3 harg3 arg4 harg4 arg5 harg5 x0 x1 x2 x3) arg6 harg6 arg7 harg7 x4 x5 2 2 2304 (by omega) (by omega) (acc i x0 x1 x2 x3) (fun S' R' l' h' => (hG S' R' l').trans (congrArg (acc i x0 x1 x2 x3 R') (by omega)))
      inb_S4x528x128_S1x128x128_2_8_0_s_1_4_1 inb_S4x528x128_S1x128x128_2_9_0_s_1_4_1 inb_S4x528x128_S1x128x128_2_10_0_s_1_4_1 inb_S4x528x128_S1x128x128_2_11_0_s_1_4_1 inb_S4x528x128_S1x128x128_2_12_0_s_1_4_1
      inb_S1x3072_S1x128_0_2304 inb_S5x3072_S1x128_0_2304 inb_S5x3072_S1x128_1_2304 inb_S5x3072_S1x128_2_2304 inb_S5x3072_S1x128_3_2304 inb_S5x3072_S1x128_4_2304 q l R hR _ (by omega)
  refine row_step 2 1 (by omega) _ _ _ _ S R l _ (fun q hS hR => ?_) (fun h21 => ?_)
  · exact phase_val arg11.view (kernelRun0_A.sl.HS0_12 (F := Ideal) c i arg2 harg2 arg3 harg3 arg4 harg4 arg5 harg5 x0 x1 x2 x3) arg6 harg6 arg7 harg7 x4 x5 2 1 2304 (by omega) (by omega) (acc i x0 x1 x2 x3) (fun S' R' l' h' => (hG S' R' l').trans (congrArg (acc i x0 x1 x2 x3 R') (by omega)))
      inb_S4x528x128_S1x128x128_2_7_0_s_1_4_1 inb_S4x528x128_S1x128x128_2_8_0_s_1_4_1 inb_S4x528x128_S1x128x128_2_9_0_s_1_4_1 inb_S4x528x128_S1x128x128_2_10_0_s_1_4_1 inb_S4x528x128_S1x128x128_2_11_0_s_1_4_1
      inb_S1x3072_S1x128_0_2304 inb_S5x3072_S1x128_0_2304 inb_S5x3072_S1x128_1_2304 inb_S5x3072_S1x128_2_2304 inb_S5x3072_S1x128_3_2304 inb_S5x3072_S1x128_4_2304 q l R hR _ (by omega)
  refine row_step 2 0 (by omega) _ _ _ _ S R l _ (fun q hS hR => ?_) (fun h20 => ?_)
  · exact phase_val arg11.view (kernelRun0_A.sl.HS0_12 (F := Ideal) c i arg2 harg2 arg3 harg3 arg4 harg4 arg5 harg5 x0 x1 x2 x3) arg6 harg6 arg7 harg7 x4 x5 2 0 2304 (by omega) (by omega) (acc i x0 x1 x2 x3) (fun S' R' l' h' => (hG S' R' l').trans (congrArg (acc i x0 x1 x2 x3 R') (by omega)))
      inb_S4x528x128_S1x128x128_2_6_0_s_1_4_1 inb_S4x528x128_S1x128x128_2_7_0_s_1_4_1 inb_S4x528x128_S1x128x128_2_8_0_s_1_4_1 inb_S4x528x128_S1x128x128_2_9_0_s_1_4_1 inb_S4x528x128_S1x128x128_2_10_0_s_1_4_1
      inb_S1x3072_S1x128_0_2304 inb_S5x3072_S1x128_0_2304 inb_S5x3072_S1x128_1_2304 inb_S5x3072_S1x128_2_2304 inb_S5x3072_S1x128_3_2304 inb_S5x3072_S1x128_4_2304 q l R hR _ (by omega)
  refine row_step 1 3 (by omega) _ _ _ _ S R l _ (fun q hS hR => ?_) (fun h13 => ?_)
  · exact phase_val arg11.view (kernelRun0_A.sl.HS0_12 (F := Ideal) c i arg2 harg2 arg3 harg3 arg4 harg4 arg5 harg5 x0 x1 x2 x3) arg6 harg6 arg7 harg7 x4 x5 1 3 2176 (by omega) (by omega) (acc i x0 x1 x2 x3) (fun S' R' l' h' => (hG S' R' l').trans (congrArg (acc i x0 x1 x2 x3 R') (by omega)))
      inb_S4x528x128_S1x128x128_1_9_0_s_1_4_1 inb_S4x528x128_S1x128x128_1_10_0_s_1_4_1 inb_S4x528x128_S1x128x128_1_11_0_s_1_4_1 inb_S4x528x128_S1x128x128_1_12_0_s_1_4_1 inb_S4x528x128_S1x128x128_1_13_0_s_1_4_1
      inb_S1x3072_S1x128_0_2176 inb_S5x3072_S1x128_0_2176 inb_S5x3072_S1x128_1_2176 inb_S5x3072_S1x128_2_2176 inb_S5x3072_S1x128_3_2176 inb_S5x3072_S1x128_4_2176 q l R hR _ (by omega)
  refine row_step 1 2 (by omega) _ _ _ _ S R l _ (fun q hS hR => ?_) (fun h12 => ?_)
  · exact phase_val arg11.view (kernelRun0_A.sl.HS0_12 (F := Ideal) c i arg2 harg2 arg3 harg3 arg4 harg4 arg5 harg5 x0 x1 x2 x3) arg6 harg6 arg7 harg7 x4 x5 1 2 2176 (by omega) (by omega) (acc i x0 x1 x2 x3) (fun S' R' l' h' => (hG S' R' l').trans (congrArg (acc i x0 x1 x2 x3 R') (by omega)))
      inb_S4x528x128_S1x128x128_1_8_0_s_1_4_1 inb_S4x528x128_S1x128x128_1_9_0_s_1_4_1 inb_S4x528x128_S1x128x128_1_10_0_s_1_4_1 inb_S4x528x128_S1x128x128_1_11_0_s_1_4_1 inb_S4x528x128_S1x128x128_1_12_0_s_1_4_1
      inb_S1x3072_S1x128_0_2176 inb_S5x3072_S1x128_0_2176 inb_S5x3072_S1x128_1_2176 inb_S5x3072_S1x128_2_2176 inb_S5x3072_S1x128_3_2176 inb_S5x3072_S1x128_4_2176 q l R hR _ (by omega)
  refine row_step 1 1 (by omega) _ _ _ _ S R l _ (fun q hS hR => ?_) (fun h11 => ?_)
  · exact phase_val arg11.view (kernelRun0_A.sl.HS0_12 (F := Ideal) c i arg2 harg2 arg3 harg3 arg4 harg4 arg5 harg5 x0 x1 x2 x3) arg6 harg6 arg7 harg7 x4 x5 1 1 2176 (by omega) (by omega) (acc i x0 x1 x2 x3) (fun S' R' l' h' => (hG S' R' l').trans (congrArg (acc i x0 x1 x2 x3 R') (by omega)))
      inb_S4x528x128_S1x128x128_1_7_0_s_1_4_1 inb_S4x528x128_S1x128x128_1_8_0_s_1_4_1 inb_S4x528x128_S1x128x128_1_9_0_s_1_4_1 inb_S4x528x128_S1x128x128_1_10_0_s_1_4_1 inb_S4x528x128_S1x128x128_1_11_0_s_1_4_1
      inb_S1x3072_S1x128_0_2176 inb_S5x3072_S1x128_0_2176 inb_S5x3072_S1x128_1_2176 inb_S5x3072_S1x128_2_2176 inb_S5x3072_S1x128_3_2176 inb_S5x3072_S1x128_4_2176 q l R hR _ (by omega)
  refine row_step 1 0 (by omega) _ _ _ _ S R l _ (fun q hS hR => ?_) (fun h10 => ?_)
  · exact phase_val arg11.view (kernelRun0_A.sl.HS0_12 (F := Ideal) c i arg2 harg2 arg3 harg3 arg4 harg4 arg5 harg5 x0 x1 x2 x3) arg6 harg6 arg7 harg7 x4 x5 1 0 2176 (by omega) (by omega) (acc i x0 x1 x2 x3) (fun S' R' l' h' => (hG S' R' l').trans (congrArg (acc i x0 x1 x2 x3 R') (by omega)))
      inb_S4x528x128_S1x128x128_1_6_0_s_1_4_1 inb_S4x528x128_S1x128x128_1_7_0_s_1_4_1 inb_S4x528x128_S1x128x128_1_8_0_s_1_4_1 inb_S4x528x128_S1x128x128_1_9_0_s_1_4_1 inb_S4x528x128_S1x128x128_1_10_0_s_1_4_1
      inb_S1x3072_S1x128_0_2176 inb_S5x3072_S1x128_0_2176 inb_S5x3072_S1x128_1_2176 inb_S5x3072_S1x128_2_2176 inb_S5x3072_S1x128_3_2176 inb_S5x3072_S1x128_4_2176 q l R hR _ (by omega)
  refine row_step 0 3 (by omega) _ _ _ _ S R l _ (fun q hS hR => ?_) (fun h03 => ?_)
  · exact phase_val arg11.view (kernelRun0_A.sl.HS0_12 (F := Ideal) c i arg2 harg2 arg3 harg3 arg4 harg4 arg5 harg5 x0 x1 x2 x3) arg6 harg6 arg7 harg7 x4 x5 0 3 2048 (by omega) (by omega) (acc i x0 x1 x2 x3) (fun S' R' l' h' => (hG S' R' l').trans (congrArg (acc i x0 x1 x2 x3 R') (by omega)))
      inb_S4x528x128_S1x128x128_0_9_0_s_1_4_1 inb_S4x528x128_S1x128x128_0_10_0_s_1_4_1 inb_S4x528x128_S1x128x128_0_11_0_s_1_4_1 inb_S4x528x128_S1x128x128_0_12_0_s_1_4_1 inb_S4x528x128_S1x128x128_0_13_0_s_1_4_1
      inb_S1x3072_S1x128_0_2048 inb_S5x3072_S1x128_0_2048 inb_S5x3072_S1x128_1_2048 inb_S5x3072_S1x128_2_2048 inb_S5x3072_S1x128_3_2048 inb_S5x3072_S1x128_4_2048 q l R hR _ (by omega)
  refine row_step 0 2 (by omega) _ _ _ _ S R l _ (fun q hS hR => ?_) (fun h02 => ?_)
  · exact phase_val arg11.view (kernelRun0_A.sl.HS0_12 (F := Ideal) c i arg2 harg2 arg3 harg3 arg4 harg4 arg5 harg5 x0 x1 x2 x3) arg6 harg6 arg7 harg7 x4 x5 0 2 2048 (by omega) (by omega) (acc i x0 x1 x2 x3) (fun S' R' l' h' => (hG S' R' l').trans (congrArg (acc i x0 x1 x2 x3 R') (by omega)))
      inb_S4x528x128_S1x128x128_0_8_0_s_1_4_1 inb_S4x528x128_S1x128x128_0_9_0_s_1_4_1 inb_S4x528x128_S1x128x128_0_10_0_s_1_4_1 inb_S4x528x128_S1x128x128_0_11_0_s_1_4_1 inb_S4x528x128_S1x128x128_0_12_0_s_1_4_1
      inb_S1x3072_S1x128_0_2048 inb_S5x3072_S1x128_0_2048 inb_S5x3072_S1x128_1_2048 inb_S5x3072_S1x128_2_2048 inb_S5x3072_S1x128_3_2048 inb_S5x3072_S1x128_4_2048 q l R hR _ (by omega)
  refine row_step 0 1 (by omega) _ _ _ _ S R l _ (fun q hS hR => ?_) (fun h01 => ?_)
  · exact phase_val arg11.view (kernelRun0_A.sl.HS0_12 (F := Ideal) c i arg2 harg2 arg3 harg3 arg4 harg4 arg5 harg5 x0 x1 x2 x3) arg6 harg6 arg7 harg7 x4 x5 0 1 2048 (by omega) (by omega) (acc i x0 x1 x2 x3) (fun S' R' l' h' => (hG S' R' l').trans (congrArg (acc i x0 x1 x2 x3 R') (by omega)))
      inb_S4x528x128_S1x128x128_0_7_0_s_1_4_1 inb_S4x528x128_S1x128x128_0_8_0_s_1_4_1 inb_S4x528x128_S1x128x128_0_9_0_s_1_4_1 inb_S4x528x128_S1x128x128_0_10_0_s_1_4_1 inb_S4x528x128_S1x128x128_0_11_0_s_1_4_1
      inb_S1x3072_S1x128_0_2048 inb_S5x3072_S1x128_0_2048 inb_S5x3072_S1x128_1_2048 inb_S5x3072_S1x128_2_2048 inb_S5x3072_S1x128_3_2048 inb_S5x3072_S1x128_4_2048 q l R hR _ (by omega)
  refine row_step 0 0 (by omega) _ _ _ _ S R l _ (fun q hS hR => ?_) (fun h00 => ?_)
  · exact phase_val arg11.view (kernelRun0_A.sl.HS0_12 (F := Ideal) c i arg2 harg2 arg3 harg3 arg4 harg4 arg5 harg5 x0 x1 x2 x3) arg6 harg6 arg7 harg7 x4 x5 0 0 2048 (by omega) (by omega) (acc i x0 x1 x2 x3) (fun S' R' l' h' => (hG S' R' l').trans (congrArg (acc i x0 x1 x2 x3 R') (by omega)))
      inb_S4x528x128_S1x128x128_0_6_0_s_1_4_1 inb_S4x528x128_S1x128x128_0_7_0_s_1_4_1 inb_S4x528x128_S1x128x128_0_8_0_s_1_4_1 inb_S4x528x128_S1x128x128_0_9_0_s_1_4_1 inb_S4x528x128_S1x128x128_0_10_0_s_1_4_1
      inb_S1x3072_S1x128_0_2048 inb_S5x3072_S1x128_0_2048 inb_S5x3072_S1x128_1_2048 inb_S5x3072_S1x128_2_2048 inb_S5x3072_S1x128_3_2048 inb_S5x3072_S1x128_4_2048 q l R hR _ (by omega)
  · exact absurd S.isLt (by omega)

/-- Chunk 5 of the results, as its slabs hold it. -/
theorem ys_5 (S : Fin 4) (R : Fin 512) (l : Fin 128) :
    View.canon (Val := Elt Ideal) (e := .f32) (kernelRun0_A.sl.HS3_48 (F := Ideal) c i arg2 harg2 arg3 harg3 arg4 harg4 arg5 harg5 arg6 harg6 arg7 harg7 arg12 x0 x1 x2 x3 x4 x5) (ix3 S R l) = yv (acc i x0 x1 x2 x3) (wt x4) (bi x5) R (2560 + (128 * S.val + l.val)) := by
  have hG := acc_5 c i arg2 harg2 arg3 harg3 arg4 harg4 arg5 harg5 x0 x1 x2 x3
  unfold kernelRun0_A.sl.HS3_48
  refine row_step 3 3 (by omega) _ _ _ _ S R l _ (fun q hS hR => ?_) (fun h33 => ?_)
  · exact phase_val arg12.view (kernelRun0_A.sl.HS1_12 (F := Ideal) c i arg2 harg2 arg3 harg3 arg4 harg4 arg5 harg5 x0 x1 x2 x3) arg6 harg6 arg7 harg7 x4 x5 3 3 2944 (by omega) (by omega) (acc i x0 x1 x2 x3) (fun S' R' l' h' => (hG S' R' l').trans (congrArg (acc i x0 x1 x2 x3 R') (by omega)))
      inb_S4x528x128_S1x128x128_3_9_0_s_1_4_1 inb_S4x528x128_S1x128x128_3_10_0_s_1_4_1 inb_S4x528x128_S1x128x128_3_11_0_s_1_4_1 inb_S4x528x128_S1x128x128_3_12_0_s_1_4_1 inb_S4x528x128_S1x128x128_3_13_0_s_1_4_1
      inb_S1x3072_S1x128_0_2944 inb_S5x3072_S1x128_0_2944 inb_S5x3072_S1x128_1_2944 inb_S5x3072_S1x128_2_2944 inb_S5x3072_S1x128_3_2944 inb_S5x3072_S1x128_4_2944 q l R hR _ (by omega)
  refine row_step 3 2 (by omega) _ _ _ _ S R l _ (fun q hS hR => ?_) (fun h32 => ?_)
  · exact phase_val arg12.view (kernelRun0_A.sl.HS1_12 (F := Ideal) c i arg2 harg2 arg3 harg3 arg4 harg4 arg5 harg5 x0 x1 x2 x3) arg6 harg6 arg7 harg7 x4 x5 3 2 2944 (by omega) (by omega) (acc i x0 x1 x2 x3) (fun S' R' l' h' => (hG S' R' l').trans (congrArg (acc i x0 x1 x2 x3 R') (by omega)))
      inb_S4x528x128_S1x128x128_3_8_0_s_1_4_1 inb_S4x528x128_S1x128x128_3_9_0_s_1_4_1 inb_S4x528x128_S1x128x128_3_10_0_s_1_4_1 inb_S4x528x128_S1x128x128_3_11_0_s_1_4_1 inb_S4x528x128_S1x128x128_3_12_0_s_1_4_1
      inb_S1x3072_S1x128_0_2944 inb_S5x3072_S1x128_0_2944 inb_S5x3072_S1x128_1_2944 inb_S5x3072_S1x128_2_2944 inb_S5x3072_S1x128_3_2944 inb_S5x3072_S1x128_4_2944 q l R hR _ (by omega)
  refine row_step 3 1 (by omega) _ _ _ _ S R l _ (fun q hS hR => ?_) (fun h31 => ?_)
  · exact phase_val arg12.view (kernelRun0_A.sl.HS1_12 (F := Ideal) c i arg2 harg2 arg3 harg3 arg4 harg4 arg5 harg5 x0 x1 x2 x3) arg6 harg6 arg7 harg7 x4 x5 3 1 2944 (by omega) (by omega) (acc i x0 x1 x2 x3) (fun S' R' l' h' => (hG S' R' l').trans (congrArg (acc i x0 x1 x2 x3 R') (by omega)))
      inb_S4x528x128_S1x128x128_3_7_0_s_1_4_1 inb_S4x528x128_S1x128x128_3_8_0_s_1_4_1 inb_S4x528x128_S1x128x128_3_9_0_s_1_4_1 inb_S4x528x128_S1x128x128_3_10_0_s_1_4_1 inb_S4x528x128_S1x128x128_3_11_0_s_1_4_1
      inb_S1x3072_S1x128_0_2944 inb_S5x3072_S1x128_0_2944 inb_S5x3072_S1x128_1_2944 inb_S5x3072_S1x128_2_2944 inb_S5x3072_S1x128_3_2944 inb_S5x3072_S1x128_4_2944 q l R hR _ (by omega)
  refine row_step 3 0 (by omega) _ _ _ _ S R l _ (fun q hS hR => ?_) (fun h30 => ?_)
  · exact phase_val arg12.view (kernelRun0_A.sl.HS1_12 (F := Ideal) c i arg2 harg2 arg3 harg3 arg4 harg4 arg5 harg5 x0 x1 x2 x3) arg6 harg6 arg7 harg7 x4 x5 3 0 2944 (by omega) (by omega) (acc i x0 x1 x2 x3) (fun S' R' l' h' => (hG S' R' l').trans (congrArg (acc i x0 x1 x2 x3 R') (by omega)))
      inb_S4x528x128_S1x128x128_3_6_0_s_1_4_1 inb_S4x528x128_S1x128x128_3_7_0_s_1_4_1 inb_S4x528x128_S1x128x128_3_8_0_s_1_4_1 inb_S4x528x128_S1x128x128_3_9_0_s_1_4_1 inb_S4x528x128_S1x128x128_3_10_0_s_1_4_1
      inb_S1x3072_S1x128_0_2944 inb_S5x3072_S1x128_0_2944 inb_S5x3072_S1x128_1_2944 inb_S5x3072_S1x128_2_2944 inb_S5x3072_S1x128_3_2944 inb_S5x3072_S1x128_4_2944 q l R hR _ (by omega)
  refine row_step 2 3 (by omega) _ _ _ _ S R l _ (fun q hS hR => ?_) (fun h23 => ?_)
  · exact phase_val arg12.view (kernelRun0_A.sl.HS1_12 (F := Ideal) c i arg2 harg2 arg3 harg3 arg4 harg4 arg5 harg5 x0 x1 x2 x3) arg6 harg6 arg7 harg7 x4 x5 2 3 2816 (by omega) (by omega) (acc i x0 x1 x2 x3) (fun S' R' l' h' => (hG S' R' l').trans (congrArg (acc i x0 x1 x2 x3 R') (by omega)))
      inb_S4x528x128_S1x128x128_2_9_0_s_1_4_1 inb_S4x528x128_S1x128x128_2_10_0_s_1_4_1 inb_S4x528x128_S1x128x128_2_11_0_s_1_4_1 inb_S4x528x128_S1x128x128_2_12_0_s_1_4_1 inb_S4x528x128_S1x128x128_2_13_0_s_1_4_1
      inb_S1x3072_S1x128_0_2816 inb_S5x3072_S1x128_0_2816 inb_S5x3072_S1x128_1_2816 inb_S5x3072_S1x128_2_2816 inb_S5x3072_S1x128_3_2816 inb_S5x3072_S1x128_4_2816 q l R hR _ (by omega)
  refine row_step 2 2 (by omega) _ _ _ _ S R l _ (fun q hS hR => ?_) (fun h22 => ?_)
  · exact phase_val arg12.view (kernelRun0_A.sl.HS1_12 (F := Ideal) c i arg2 harg2 arg3 harg3 arg4 harg4 arg5 harg5 x0 x1 x2 x3) arg6 harg6 arg7 harg7 x4 x5 2 2 2816 (by omega) (by omega) (acc i x0 x1 x2 x3) (fun S' R' l' h' => (hG S' R' l').trans (congrArg (acc i x0 x1 x2 x3 R') (by omega)))
      inb_S4x528x128_S1x128x128_2_8_0_s_1_4_1 inb_S4x528x128_S1x128x128_2_9_0_s_1_4_1 inb_S4x528x128_S1x128x128_2_10_0_s_1_4_1 inb_S4x528x128_S1x128x128_2_11_0_s_1_4_1 inb_S4x528x128_S1x128x128_2_12_0_s_1_4_1
      inb_S1x3072_S1x128_0_2816 inb_S5x3072_S1x128_0_2816 inb_S5x3072_S1x128_1_2816 inb_S5x3072_S1x128_2_2816 inb_S5x3072_S1x128_3_2816 inb_S5x3072_S1x128_4_2816 q l R hR _ (by omega)
  refine row_step 2 1 (by omega) _ _ _ _ S R l _ (fun q hS hR => ?_) (fun h21 => ?_)
  · exact phase_val arg12.view (kernelRun0_A.sl.HS1_12 (F := Ideal) c i arg2 harg2 arg3 harg3 arg4 harg4 arg5 harg5 x0 x1 x2 x3) arg6 harg6 arg7 harg7 x4 x5 2 1 2816 (by omega) (by omega) (acc i x0 x1 x2 x3) (fun S' R' l' h' => (hG S' R' l').trans (congrArg (acc i x0 x1 x2 x3 R') (by omega)))
      inb_S4x528x128_S1x128x128_2_7_0_s_1_4_1 inb_S4x528x128_S1x128x128_2_8_0_s_1_4_1 inb_S4x528x128_S1x128x128_2_9_0_s_1_4_1 inb_S4x528x128_S1x128x128_2_10_0_s_1_4_1 inb_S4x528x128_S1x128x128_2_11_0_s_1_4_1
      inb_S1x3072_S1x128_0_2816 inb_S5x3072_S1x128_0_2816 inb_S5x3072_S1x128_1_2816 inb_S5x3072_S1x128_2_2816 inb_S5x3072_S1x128_3_2816 inb_S5x3072_S1x128_4_2816 q l R hR _ (by omega)
  refine row_step 2 0 (by omega) _ _ _ _ S R l _ (fun q hS hR => ?_) (fun h20 => ?_)
  · exact phase_val arg12.view (kernelRun0_A.sl.HS1_12 (F := Ideal) c i arg2 harg2 arg3 harg3 arg4 harg4 arg5 harg5 x0 x1 x2 x3) arg6 harg6 arg7 harg7 x4 x5 2 0 2816 (by omega) (by omega) (acc i x0 x1 x2 x3) (fun S' R' l' h' => (hG S' R' l').trans (congrArg (acc i x0 x1 x2 x3 R') (by omega)))
      inb_S4x528x128_S1x128x128_2_6_0_s_1_4_1 inb_S4x528x128_S1x128x128_2_7_0_s_1_4_1 inb_S4x528x128_S1x128x128_2_8_0_s_1_4_1 inb_S4x528x128_S1x128x128_2_9_0_s_1_4_1 inb_S4x528x128_S1x128x128_2_10_0_s_1_4_1
      inb_S1x3072_S1x128_0_2816 inb_S5x3072_S1x128_0_2816 inb_S5x3072_S1x128_1_2816 inb_S5x3072_S1x128_2_2816 inb_S5x3072_S1x128_3_2816 inb_S5x3072_S1x128_4_2816 q l R hR _ (by omega)
  refine row_step 1 3 (by omega) _ _ _ _ S R l _ (fun q hS hR => ?_) (fun h13 => ?_)
  · exact phase_val arg12.view (kernelRun0_A.sl.HS1_12 (F := Ideal) c i arg2 harg2 arg3 harg3 arg4 harg4 arg5 harg5 x0 x1 x2 x3) arg6 harg6 arg7 harg7 x4 x5 1 3 2688 (by omega) (by omega) (acc i x0 x1 x2 x3) (fun S' R' l' h' => (hG S' R' l').trans (congrArg (acc i x0 x1 x2 x3 R') (by omega)))
      inb_S4x528x128_S1x128x128_1_9_0_s_1_4_1 inb_S4x528x128_S1x128x128_1_10_0_s_1_4_1 inb_S4x528x128_S1x128x128_1_11_0_s_1_4_1 inb_S4x528x128_S1x128x128_1_12_0_s_1_4_1 inb_S4x528x128_S1x128x128_1_13_0_s_1_4_1
      inb_S1x3072_S1x128_0_2688 inb_S5x3072_S1x128_0_2688 inb_S5x3072_S1x128_1_2688 inb_S5x3072_S1x128_2_2688 inb_S5x3072_S1x128_3_2688 inb_S5x3072_S1x128_4_2688 q l R hR _ (by omega)
  refine row_step 1 2 (by omega) _ _ _ _ S R l _ (fun q hS hR => ?_) (fun h12 => ?_)
  · exact phase_val arg12.view (kernelRun0_A.sl.HS1_12 (F := Ideal) c i arg2 harg2 arg3 harg3 arg4 harg4 arg5 harg5 x0 x1 x2 x3) arg6 harg6 arg7 harg7 x4 x5 1 2 2688 (by omega) (by omega) (acc i x0 x1 x2 x3) (fun S' R' l' h' => (hG S' R' l').trans (congrArg (acc i x0 x1 x2 x3 R') (by omega)))
      inb_S4x528x128_S1x128x128_1_8_0_s_1_4_1 inb_S4x528x128_S1x128x128_1_9_0_s_1_4_1 inb_S4x528x128_S1x128x128_1_10_0_s_1_4_1 inb_S4x528x128_S1x128x128_1_11_0_s_1_4_1 inb_S4x528x128_S1x128x128_1_12_0_s_1_4_1
      inb_S1x3072_S1x128_0_2688 inb_S5x3072_S1x128_0_2688 inb_S5x3072_S1x128_1_2688 inb_S5x3072_S1x128_2_2688 inb_S5x3072_S1x128_3_2688 inb_S5x3072_S1x128_4_2688 q l R hR _ (by omega)
  refine row_step 1 1 (by omega) _ _ _ _ S R l _ (fun q hS hR => ?_) (fun h11 => ?_)
  · exact phase_val arg12.view (kernelRun0_A.sl.HS1_12 (F := Ideal) c i arg2 harg2 arg3 harg3 arg4 harg4 arg5 harg5 x0 x1 x2 x3) arg6 harg6 arg7 harg7 x4 x5 1 1 2688 (by omega) (by omega) (acc i x0 x1 x2 x3) (fun S' R' l' h' => (hG S' R' l').trans (congrArg (acc i x0 x1 x2 x3 R') (by omega)))
      inb_S4x528x128_S1x128x128_1_7_0_s_1_4_1 inb_S4x528x128_S1x128x128_1_8_0_s_1_4_1 inb_S4x528x128_S1x128x128_1_9_0_s_1_4_1 inb_S4x528x128_S1x128x128_1_10_0_s_1_4_1 inb_S4x528x128_S1x128x128_1_11_0_s_1_4_1
      inb_S1x3072_S1x128_0_2688 inb_S5x3072_S1x128_0_2688 inb_S5x3072_S1x128_1_2688 inb_S5x3072_S1x128_2_2688 inb_S5x3072_S1x128_3_2688 inb_S5x3072_S1x128_4_2688 q l R hR _ (by omega)
  refine row_step 1 0 (by omega) _ _ _ _ S R l _ (fun q hS hR => ?_) (fun h10 => ?_)
  · exact phase_val arg12.view (kernelRun0_A.sl.HS1_12 (F := Ideal) c i arg2 harg2 arg3 harg3 arg4 harg4 arg5 harg5 x0 x1 x2 x3) arg6 harg6 arg7 harg7 x4 x5 1 0 2688 (by omega) (by omega) (acc i x0 x1 x2 x3) (fun S' R' l' h' => (hG S' R' l').trans (congrArg (acc i x0 x1 x2 x3 R') (by omega)))
      inb_S4x528x128_S1x128x128_1_6_0_s_1_4_1 inb_S4x528x128_S1x128x128_1_7_0_s_1_4_1 inb_S4x528x128_S1x128x128_1_8_0_s_1_4_1 inb_S4x528x128_S1x128x128_1_9_0_s_1_4_1 inb_S4x528x128_S1x128x128_1_10_0_s_1_4_1
      inb_S1x3072_S1x128_0_2688 inb_S5x3072_S1x128_0_2688 inb_S5x3072_S1x128_1_2688 inb_S5x3072_S1x128_2_2688 inb_S5x3072_S1x128_3_2688 inb_S5x3072_S1x128_4_2688 q l R hR _ (by omega)
  refine row_step 0 3 (by omega) _ _ _ _ S R l _ (fun q hS hR => ?_) (fun h03 => ?_)
  · exact phase_val arg12.view (kernelRun0_A.sl.HS1_12 (F := Ideal) c i arg2 harg2 arg3 harg3 arg4 harg4 arg5 harg5 x0 x1 x2 x3) arg6 harg6 arg7 harg7 x4 x5 0 3 2560 (by omega) (by omega) (acc i x0 x1 x2 x3) (fun S' R' l' h' => (hG S' R' l').trans (congrArg (acc i x0 x1 x2 x3 R') (by omega)))
      inb_S4x528x128_S1x128x128_0_9_0_s_1_4_1 inb_S4x528x128_S1x128x128_0_10_0_s_1_4_1 inb_S4x528x128_S1x128x128_0_11_0_s_1_4_1 inb_S4x528x128_S1x128x128_0_12_0_s_1_4_1 inb_S4x528x128_S1x128x128_0_13_0_s_1_4_1
      inb_S1x3072_S1x128_0_2560 inb_S5x3072_S1x128_0_2560 inb_S5x3072_S1x128_1_2560 inb_S5x3072_S1x128_2_2560 inb_S5x3072_S1x128_3_2560 inb_S5x3072_S1x128_4_2560 q l R hR _ (by omega)
  refine row_step 0 2 (by omega) _ _ _ _ S R l _ (fun q hS hR => ?_) (fun h02 => ?_)
  · exact phase_val arg12.view (kernelRun0_A.sl.HS1_12 (F := Ideal) c i arg2 harg2 arg3 harg3 arg4 harg4 arg5 harg5 x0 x1 x2 x3) arg6 harg6 arg7 harg7 x4 x5 0 2 2560 (by omega) (by omega) (acc i x0 x1 x2 x3) (fun S' R' l' h' => (hG S' R' l').trans (congrArg (acc i x0 x1 x2 x3 R') (by omega)))
      inb_S4x528x128_S1x128x128_0_8_0_s_1_4_1 inb_S4x528x128_S1x128x128_0_9_0_s_1_4_1 inb_S4x528x128_S1x128x128_0_10_0_s_1_4_1 inb_S4x528x128_S1x128x128_0_11_0_s_1_4_1 inb_S4x528x128_S1x128x128_0_12_0_s_1_4_1
      inb_S1x3072_S1x128_0_2560 inb_S5x3072_S1x128_0_2560 inb_S5x3072_S1x128_1_2560 inb_S5x3072_S1x128_2_2560 inb_S5x3072_S1x128_3_2560 inb_S5x3072_S1x128_4_2560 q l R hR _ (by omega)
  refine row_step 0 1 (by omega) _ _ _ _ S R l _ (fun q hS hR => ?_) (fun h01 => ?_)
  · exact phase_val arg12.view (kernelRun0_A.sl.HS1_12 (F := Ideal) c i arg2 harg2 arg3 harg3 arg4 harg4 arg5 harg5 x0 x1 x2 x3) arg6 harg6 arg7 harg7 x4 x5 0 1 2560 (by omega) (by omega) (acc i x0 x1 x2 x3) (fun S' R' l' h' => (hG S' R' l').trans (congrArg (acc i x0 x1 x2 x3 R') (by omega)))
      inb_S4x528x128_S1x128x128_0_7_0_s_1_4_1 inb_S4x528x128_S1x128x128_0_8_0_s_1_4_1 inb_S4x528x128_S1x128x128_0_9_0_s_1_4_1 inb_S4x528x128_S1x128x128_0_10_0_s_1_4_1 inb_S4x528x128_S1x128x128_0_11_0_s_1_4_1
      inb_S1x3072_S1x128_0_2560 inb_S5x3072_S1x128_0_2560 inb_S5x3072_S1x128_1_2560 inb_S5x3072_S1x128_2_2560 inb_S5x3072_S1x128_3_2560 inb_S5x3072_S1x128_4_2560 q l R hR _ (by omega)
  refine row_step 0 0 (by omega) _ _ _ _ S R l _ (fun q hS hR => ?_) (fun h00 => ?_)
  · exact phase_val arg12.view (kernelRun0_A.sl.HS1_12 (F := Ideal) c i arg2 harg2 arg3 harg3 arg4 harg4 arg5 harg5 x0 x1 x2 x3) arg6 harg6 arg7 harg7 x4 x5 0 0 2560 (by omega) (by omega) (acc i x0 x1 x2 x3) (fun S' R' l' h' => (hG S' R' l').trans (congrArg (acc i x0 x1 x2 x3 R') (by omega)))
      inb_S4x528x128_S1x128x128_0_6_0_s_1_4_1 inb_S4x528x128_S1x128x128_0_7_0_s_1_4_1 inb_S4x528x128_S1x128x128_0_8_0_s_1_4_1 inb_S4x528x128_S1x128x128_0_9_0_s_1_4_1 inb_S4x528x128_S1x128x128_0_10_0_s_1_4_1
      inb_S1x3072_S1x128_0_2560 inb_S5x3072_S1x128_0_2560 inb_S5x3072_S1x128_1_2560 inb_S5x3072_S1x128_2_2560 inb_S5x3072_S1x128_3_2560 inb_S5x3072_S1x128_4_2560 q l R hR _ (by omega)
  · exact absurd S.isLt (by omega)

end Cert.ConvIdeal.Conv

end
-- ==== Proof.Conv.Block.lean ====
/- The convolution body's three blocks of results at one index. -/
module

public import proofs.«01_k».proof.Proof.Conv.YsA
public import proofs.«01_k».proof.Proof.Conv.YsB

@[expose] public section

set_option maxRecDepth 16384
set_option maxHeartbeats 4000000

noncomputable section

namespace Cert.ConvIdeal.Conv

open Cert.ConvIdeal Cert.ConvIdeal.Gen Cert.GatesMath Idealize.ShloMosaic

/-- A loaded slab of results, read at an entry. -/
theorem slab_read {sp : Space} (v : View sig .tc sp S4x512x128 .f32) (L : List (View.Piece (Elt Ideal) S4x512x128 .f32)) (s : ℕ) (hs : s < 4)
    (inb : ∀ a, (![s, 0, 0] : Fin 3 → ℕ) a + S1x512x128.size a ≤ S4x512x128.size a) (R : Fin 512) (l : Fin 128) :
    (v.readCov L (Rect.unit (s := S4x512x128) ![s, 0, 0] S1x512x128.size inb).toLoadRect : Vec Ideal S1x512x128 .f32) (ix3 0 R l) = View.canon L (ix3 ⟨s, hs⟩ R l) := by
  refine (congrFun (View.readCov_eq_canon' v L _) _).trans (congrArg _ (funext fun a => Fin.ext ?_))
  match a with
  | ⟨0, _⟩ => show s + 1 * 0 = s; omega
  | ⟨1, _⟩ => show 0 + 1 * R.val = R.val; omega
  | ⟨2, _⟩ => show 0 + 1 * l.val = l.val; omega

/-- Four slabs of results side by side, at an entry. -/
theorem cat_apply (u0 u1 u2 u3 : Vec Ideal S1x512x128 .f32) (Y : ℕ → EReal) (R : Fin 512)
    (h0 : ∀ l : Fin 128, u0 (ix3 0 R l) = Y (128 * 0 + l)) (h1 : ∀ l : Fin 128, u1 (ix3 0 R l) = Y (128 * 1 + l))
    (h2 : ∀ l : Fin 128, u2 (ix3 0 R l) = Y (128 * 2 + l)) (h3 : ∀ l : Fin 128, u3 (ix3 0 R l) = Y (128 * 3 + l)) (f : Fin 512) :
    k0_pay256 u0 u1 u2 u3 (ix3 0 R f) = Y f := by
  pointwise [k0_pay256]
  by_cases c0 : f.val < 128
  · rw [dif_pos c0]
    exact (h0 ⟨f.val, c0⟩).trans (congrArg Y (by show 128 * 0 + f.val = f.val; omega))
  by_cases c1 : f.val - 128 < 128
  · rw [dif_neg c0, dif_pos c1]
    exact (h1 ⟨f.val - 128, c1⟩).trans (congrArg Y (by show 128 * 1 + (f.val - 128) = f.val; omega))
  by_cases c2 : f.val - 128 - 128 < 128
  · rw [dif_neg c0, dif_neg c1, dif_pos c2]
    exact (h2 ⟨f.val - 128 - 128, c2⟩).trans (congrArg Y (by show 128 * 2 + (f.val - 128 - 128) = f.val; omega))
  · have c3 : f.val - 128 - 128 - 128 < 128 := by omega
    rw [dif_neg c0, dif_neg c1, dif_neg c2]
    exact (h3 ⟨f.val - 128 - 128 - 128, c3⟩).trans (congrArg Y (by show 128 * 3 + (f.val - 128 - 128 - 128) = f.val; omega))

/-- Four slabs of results read back and put side by side, at an entry. -/
theorem cat_val {sp : Space} (v : View sig .tc sp S4x512x128 .f32) (L : List (View.Piece (Elt Ideal) S4x512x128 .f32)) (Y : ℕ → EReal) (R : Fin 512)
    (h : ∀ (S : Fin 4) (l : Fin 128), View.canon L (ix3 S R l) = Y (128 * S.val + l.val)) (f : Fin 512) :
    k0_pay256 (v.readCov L (Rect.unit (s := S4x512x128) ![0, 0, 0] S1x512x128.size inb_S4x512x128_S1x512x128_0_0_0).toLoadRect)
      (v.readCov L (Rect.unit (s := S4x512x128) ![1, 0, 0] S1x512x128.size inb_S4x512x128_S1x512x128_1_0_0).toLoadRect)
      (v.readCov L (Rect.unit (s := S4x512x128) ![2, 0, 0] S1x512x128.size inb_S4x512x128_S1x512x128_2_0_0).toLoadRect)
      (v.readCov L (Rect.unit (s := S4x512x128) ![3, 0, 0] S1x512x128.size inb_S4x512x128_S1x512x128_3_0_0).toLoadRect) (ix3 0 R f) = Y f :=
  cat_apply _ _ _ _ Y R (fun l => (slab_read v L 0 (by omega) _ R l).trans (h 0 l)) (fun l => (slab_read v L 1 (by omega) _ R l).trans (h 1 l))
    (fun l => (slab_read v L 2 (by omega) _ R l).trans (h 2 l)) (fun l => (slab_read v L 3 (by omega) _ R l).trans (h 3 l)) f

/-- A chunk stored at columns `p` on of a result of width `n`, read at an entry: the chunk's own entry inside it, the earlier stores' outside it. -/
theorem out_step {n : ℕ} (p : ℕ) (inb : ∀ a, (![0, 0, p] : Fin 3 → ℕ) a + S1x512x512.size a ≤ (⟨3, ![1, 512, n]⟩ : Shape).size a) (w : Vec Ideal S1x512x512 .bf16)
    (L : List (View.Piece (Elt Ideal) (⟨3, ![1, 512, n]⟩ : Shape) .bf16)) (R : Fin 512) (f : Fin n) (v : EReal)
    (hin : ∀ f' : Fin 512, f.val = p + f'.val → w (ix3 0 R f') = v) (hout : ¬(p ≤ f.val ∧ f.val < p + 512) → View.canon L (ix3 0 R f) = v) :
    View.canon (⟨Rect.unit (s := (⟨3, ![1, 512, n]⟩ : Shape)) ![0, 0, p] S1x512x512.size inb, w⟩ :: L) (ix3 0 R f) = v := by
  by_cases h : p ≤ f.val ∧ f.val < p + 512
  · have hf : f.val - p < 512 := by omega
    refine Eq.trans (congrArg _ (funext fun a => Fin.ext ?_)) ((View.canon_cons_emb (Val := Elt Ideal) (e := .bf16) (Rect.unit (s := (⟨3, ![1, 512, n]⟩ : Shape)) ![0, 0, p] S1x512x512.size inb) w L (ix3 0 R ⟨f.val - p, hf⟩)).trans (hin ⟨f.val - p, hf⟩ (by show f.val = p + (f.val - p); omega)))
    match a with
    | ⟨0, _⟩ => show 0 = 0 + 1 * 0; omega
    | ⟨1, _⟩ => show R.val = 0 + 1 * R.val; omega
    | ⟨2, _⟩ => show f.val = p + 1 * (f.val - p); omega
  · refine (View.canon_cons_of_not_mem (Val := Elt Ideal) (e := .bf16) _ L fun hm => h ?_).trans (hout h)
    obtain ⟨j, hj, e⟩ := (LoadRect.mem_set _).1 hm 2
    have e' : f.val = p + 1 * j := e
    have hj' : j < 512 := hj
    omega

variable (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1024x3072 .bf16) (harg5 : arg5.IsWhole) (arg6 : Memref sig .tc .vmem S5x3072 .f32) (harg6 : arg6.IsWhole) (arg7 : Memref sig .tc .vmem S1x3072 .f32) (harg7 : arg7.IsWhole) (arg8 : Memref sig .tc .vmem S1x512x2048 .bf16) (harg8 : arg8.IsWhole) (arg9 : Memref sig .tc .vmem S1x512x512 .bf16) (harg9 : arg9.IsWhole) (arg10 : Memref sig .tc .vmem S1x512x512 .bf16) (harg10 : arg10.IsWhole) (arg11 : Memref sig .tc .vmem S4x528x128 .f32) (harg11 : arg11.IsWhole) (arg12 : Memref sig .tc .vmem S4x528x128 .f32) (harg12 : arg12.IsWhole) (arg13 : Memref sig .tc .vmem S4x512x128 .f32) (harg13 : arg13.IsWhole) (arg14 : Memref sig .tc .vmem S4x512x128 .f32) (harg14 : arg14.IsWhole)
    (x0 : Vec Ideal S1x512x1024 .f32) (x1 : Vec Ideal S1x8x1024 .f32) (x2 : Vec Ideal S1x8x1024 .f32) (x3 : Vec Ideal S1024x3072 .bf16) (x4 : Vec Ideal S5x3072 .f32) (x5 : Vec Ideal S1x3072 .f32)

/-- Result block 6: the results of the channels from 0 on. -/
theorem out_6 (R : Fin 512) (f : Fin 2048) :
    out0_A_6 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 (ix3 0 R f) = yv (acc i x0 x1 x2 x3) (wt x4) (bi x5) R (0 + f.val) := by
  unfold out0_A_6
  refine (congrFun (View.read_writes_junk_eq_canon _ _) _).trans ?_
  unfold kernelRun0_A
  dsimp only
  refine out_step 1536 _ _ _ R f _ (fun f' hf => ?_) (fun h3 => ?_)
  · refine (cat_val arg14.view (kernelRun0_A.sl.HS3_32 (F := Ideal) c i arg2 harg2 arg3 harg3 arg4 harg4 arg5 harg5 arg6 harg6 arg7 harg7 arg12 x0 x1 x2 x3 x4 x5) (fun y => yv (acc i x0 x1 x2 x3) (wt x4) (bi x5) R (1536 + y)) R (fun S l => ys_3 c i arg2 harg2 arg3 harg3 arg4 harg4 arg5 harg5 arg6 harg6 arg7 harg7 arg12 x0 x1 x2 x3 x4 x5 S R l) f').trans ?_
    exact congrArg (yv (acc i x0 x1 x2 x3) (wt x4) (bi x5) R) (by omega)
  refine out_step 1024 _ _ _ R f _ (fun f' hf => ?_) (fun h2 => ?_)
  · refine (cat_val arg13.view (kernelRun0_A.sl.HS2_32 (F := Ideal) c i arg2 harg2 arg3 harg3 arg4 harg4 arg5 harg5 arg6 harg6 arg7 harg7 arg11 x0 x1 x2 x3 x4 x5) (fun y => yv (acc i x0 x1 x2 x3) (wt x4) (bi x5) R (1024 + y)) R (fun S l => ys_2 c i arg2 harg2 arg3 harg3 arg4 harg4 arg5 harg5 arg6 harg6 arg7 harg7 arg11 x0 x1 x2 x3 x4 x5 S R l) f').trans ?_
    exact congrArg (yv (acc i x0 x1 x2 x3) (wt x4) (bi x5) R) (by omega)
  refine out_step 512 _ _ _ R f _ (fun f' hf => ?_) (fun h1 => ?_)
  · refine (cat_val arg14.view (kernelRun0_A.sl.HS3_16 (F := Ideal) c i arg2 harg2 arg3 harg3 arg4 harg4 arg5 harg5 arg6 harg6 arg7 harg7 arg12 x0 x1 x2 x3 x4 x5) (fun y => yv (acc i x0 x1 x2 x3) (wt x4) (bi x5) R (512 + y)) R (fun S l => ys_1 c i arg2 harg2 arg3 harg3 arg4 harg4 arg5 harg5 arg6 harg6 arg7 harg7 arg12 x0 x1 x2 x3 x4 x5 S R l) f').trans ?_
    exact congrArg (yv (acc i x0 x1 x2 x3) (wt x4) (bi x5) R) (by omega)
  refine out_step 0 _ _ _ R f _ (fun f' hf => ?_) (fun h0 => ?_)
  · refine (cat_val arg13.view (kernelRun0_A.sl.HS2_16 (F := Ideal) c i arg2 harg2 arg3 harg3 arg4 harg4 arg5 harg5 arg6 harg6 arg7 harg7 arg11 x0 x1 x2 x3 x4 x5) (fun y => yv (acc i x0 x1 x2 x3) (wt x4) (bi x5) R (0 + y)) R (fun S l => ys_0 c i arg2 harg2 arg3 harg3 arg4 harg4 arg5 harg5 arg6 harg6 arg7 harg7 arg11 x0 x1 x2 x3 x4 x5 S R l) f').trans ?_
    exact congrArg (yv (acc i x0 x1 x2 x3) (wt x4) (bi x5) R) (by omega)
  · exact absurd f.isLt (by omega)

/-- Result block 7: the results of the channels from 2048 on. -/
theorem out_7 (R : Fin 512) (f : Fin 512) :
    out0_A_7 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 (ix3 0 R f) = yv (acc i x0 x1 x2 x3) (wt x4) (bi x5) R (2048 + f.val) := by
  unfold out0_A_7
  refine (congrFun (View.read_writes_junk_eq_canon _ _) _).trans ?_
  unfold kernelRun0_A
  dsimp only
  refine out_step 0 _ _ _ R f _ (fun f' hf => ?_) (fun h4 => ?_)
  · refine (cat_val arg13.view (kernelRun0_A.sl.HS2_48 (F := Ideal) c i arg2 harg2 arg3 harg3 arg4 harg4 arg5 harg5 arg6 harg6 arg7 harg7 arg11 x0 x1 x2 x3 x4 x5) (fun y => yv (acc i x0 x1 x2 x3) (wt x4) (bi x5) R (2048 + y)) R (fun S l => ys_4 c i arg2 harg2 arg3 harg3 arg4 harg4 arg5 harg5 arg6 harg6 arg7 harg7 arg11 x0 x1 x2 x3 x4 x5 S R l) f').trans ?_
    exact congrArg (yv (acc i x0 x1 x2 x3) (wt x4) (bi x5) R) (by omega)
  · exact absurd f.isLt (by omega)

/-- Result block 8: the results of the channels from 2560 on. -/
theorem out_8 (R : Fin 512) (f : Fin 512) :
    out0_A_8 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 (ix3 0 R f) = yv (acc i x0 x1 x2 x3) (wt x4) (bi x5) R (2560 + f.val) := by
  unfold out0_A_8
  refine (congrFun (View.read_writes_junk_eq_canon _ _) _).trans ?_
  unfold kernelRun0_A
  dsimp only
  refine out_step 0 _ _ _ R f _ (fun f' hf => ?_) (fun h5 => ?_)
  · refine (cat_val arg14.view (kernelRun0_A.sl.HS3_48 (F := Ideal) c i arg2 harg2 arg3 harg3 arg4 harg4 arg5 harg5 arg6 harg6 arg7 harg7 arg12 x0 x1 x2 x3 x4 x5) (fun y => yv (acc i x0 x1 x2 x3) (wt x4) (bi x5) R (2560 + y)) R (fun S l => ys_5 c i arg2 harg2 arg3 harg3 arg4 harg4 arg5 harg5 arg6 harg6 arg7 harg7 arg12 x0 x1 x2 x3 x4 x5 S R l) f').trans ?_
    exact congrArg (yv (acc i x0 x1 x2 x3) (wt x4) (bi x5) R) (by omega)
  · exact absurd f.isLt (by omega)

end Cert.ConvIdeal.Conv

end
-- ==== Proof.Conv.Ref.lean ====
/- The reference's convolution at one index. -/
module

public import proofs.«01_k».proof.Proof.Gates.Math
public import proofs.«01_k».proof.Proof.Gen.ConvReferenceIdeal.Run
public import Idealize.ShloMosaic.Lib.Pointwise

@[expose] public section

set_option maxRecDepth 16384

noncomputable section

namespace Cert.ConvReferenceIdeal.Conv

open Cert.ConvReferenceIdeal Cert.ConvReferenceIdeal.Gen Cert.GatesMath Idealize.ShloMosaic Idealize.ShloMosaic.TcCoe Idealize.SL.Sem

variable (x : FVec Ideal S16x4096x1024 .f32) (w : FVec Ideal S1024x9792 .f32) (cw : FVec Ideal S5x3072 .f32) (cb : FVec Ideal S3072 .f32)

/-- The input projection's convolved channels. -/
def xbc : FVec Ideal S16x4096x3072 .f32 :=
  extractStridedSlice S16x4096x3072 ![0, 0, 4608] (Host.dotGeneral dot_S16x4096x1024_S1024x9792_S16x4096x9792_2_0_01_1_n_n none x w) slices_S16x4096x9792_S16x4096x3072_0_0_4608

/-- An array with two rows of zeros before and after each sequence. -/
def padded (p : FVec Ideal S16x4096x3072 .f32) : FVec Ideal S16x4100x3072 .f32 :=
  pad S16x4100x3072 ![0, 2, 0] ![0, 2, 0] ![0, 0, 0] p (sitofp .f32 (constantI S_ 32 0#32)) pads_S16x4096x3072_S16x4100x3072_000_220_000 h_S_

/-- A channel's number along every token. -/
def along (v : FVec Ideal S3072 .f32) : FVec Ideal S16x4096x3072 .f32 :=
  broadcastInDim S16x4096x3072 ![0, 1, 2] bcast_S1x1x3072_S16x4096x3072_0_1_2 (broadcastInDim S1x1x3072 ![2] bcast_S3072_S1x1x3072_2 v)

/-- Tap 0 of the convolution of a padded array. -/
def tap0 (p : FVec Ideal S16x4100x3072 .f32) : FVec Ideal S16x4096x3072 .f32 :=
  mulf (extractStridedSlice S16x4096x3072 ![0, 0, 0] p slices_S16x4100x3072_S16x4096x3072_0_0_0) (along (shapeCast S3072 (extractStridedSlice S1x3072 ![0, 0] cw slices_S5x3072_S1x3072_0_0) shapeCasts_S1x3072_S3072))

/-- Tap 1 of the convolution of a padded array. -/
def tap1 (p : FVec Ideal S16x4100x3072 .f32) : FVec Ideal S16x4096x3072 .f32 :=
  mulf (extractStridedSlice S16x4096x3072 ![0, 1, 0] p slices_S16x4100x3072_S16x4096x3072_0_1_0) (along (shapeCast S3072 (extractStridedSlice S1x3072 ![1, 0] cw slices_S5x3072_S1x3072_1_0) shapeCasts_S1x3072_S3072))

/-- Tap 2 of the convolution of a padded array. -/
def tap2 (p : FVec Ideal S16x4100x3072 .f32) : FVec Ideal S16x4096x3072 .f32 :=
  mulf (extractStridedSlice S16x4096x3072 ![0, 2, 0] p slices_S16x4100x3072_S16x4096x3072_0_2_0) (along (shapeCast S3072 (extractStridedSlice S1x3072 ![2, 0] cw slices_S5x3072_S1x3072_2_0) shapeCasts_S1x3072_S3072))

/-- Tap 3 of the convolution of a padded array. -/
def tap3 (p : FVec Ideal S16x4100x3072 .f32) : FVec Ideal S16x4096x3072 .f32 :=
  mulf (extractStridedSlice S16x4096x3072 ![0, 3, 0] p slices_S16x4100x3072_S16x4096x3072_0_3_0) (along (shapeCast S3072 (extractStridedSlice S1x3072 ![3, 0] cw slices_S5x3072_S1x3072_3_0) shapeCasts_S1x3072_S3072))

/-- Tap 4 of the convolution of a padded array. -/
def tap4 (p : FVec Ideal S16x4100x3072 .f32) : FVec Ideal S16x4096x3072 .f32 :=
  mulf (extractStridedSlice S16x4096x3072 ![0, 4, 0] p slices_S16x4100x3072_S16x4096x3072_0_4_0) (along (shapeCast S3072 (extractStridedSlice S1x3072 ![4, 0] cw slices_S5x3072_S1x3072_4_0) shapeCasts_S1x3072_S3072))

/-- The convolution of a padded array. -/
def conv (p : FVec Ideal S16x4100x3072 .f32) : FVec Ideal S16x4096x3072 .f32 := addf (addf (addf (addf (addf (broadcastInDim S16x4096x3072 ![] bcast_S_S16x4096x3072 (constant S_ .f32 0x00000000#32)) (tap0 cw p)) (tap1 cw p)) (tap2 cw p)) (tap3 cw p)) (tap4 cw p)

/-- The silu of an array. -/
def rsilu (p : FVec Ideal S16x4096x3072 .f32) : FVec Ideal S16x4096x3072 .f32 :=
  mulf p (Host.divf (broadcastInDim S16x4096x3072 ![] bcast_S_S16x4096x3072 (constant S_ .f32 0x3F800000#32)) (addf (broadcastInDim S16x4096x3072 ![] bcast_S_S16x4096x3072 (constant S_ .f32 0x3F800000#32)) (Host.exp (Host.negf p))))

/-- The convolved channels after their silu. -/
def act : FVec Ideal S16x4096x3072 .f32 := rsilu (addf (conv cw (padded (xbc x w))) (along cb))

/-- The three results: runs of the channels. -/
def res0 : FVec Ideal S16x4096x2048 .bf16 := truncf .bf16 (extractStridedSlice S16x4096x2048 ![0, 0, 0] (act x w cw cb) slices_S16x4096x3072_S16x4096x2048_0_0_0) bitsLt_bf16_f32
def res1 : FVec Ideal S16x4096x512 .bf16 := truncf .bf16 (extractStridedSlice S16x4096x512 ![0, 0, 2048] (act x w cw cb) slices_S16x4096x3072_S16x4096x512_0_0_2048) bitsLt_bf16_f32
def res2 : FVec Ideal S16x4096x512 .bf16 := truncf .bf16 (extractStridedSlice S16x4096x512 ![0, 0, 2560] (act x w cw cb) slices_S16x4096x3072_S16x4096x512_0_0_2560) bitsLt_bf16_f32

/-- The product of a token with a column of the projection's weights. -/
def col (b : Fin 16) (i : Fin 4096) (e : Fin 9792) : EReal := ∑ k : Fin 1024, x (ix3 b i k) * w (ix2 k e)

/-- Row `R` of the padded products, of channel `e`. -/
def xp (b : Fin 16) (R e : ℕ) : EReal := if h : (2 ≤ R ∧ R < 4098) ∧ e < 3072 then col x w b ⟨R - 2, by omega⟩ ⟨4608 + e, by omega⟩ else 0

theorem xbc_apply (b : Fin 16) (i : Fin 4096) (e : Fin 3072) : xbc x w (ix3 b i e) = col x w b i ⟨4608 + e, by omega⟩ := by
  pointwise [xbc]
  rfl

theorem padded_apply (b : Fin 16) (R : Fin 4100) (e : Fin 3072) : padded (xbc x w) (ix3 b R e) = xp x w b R e := by
  unfold xp
  have hx := xbc_apply x w b
  generalize xbc x w = p at hx
  by_cases h : 2 ≤ R.val ∧ R.val < 4098
  · rw [dif_pos ⟨h, e.isLt⟩, ← hx]
    pointwise [padded]
    have h2 : R.val - 2 < 4096 := by omega
    simp [h, h2]
  · rw [dif_neg (fun hh => h hh.1)]
    have h2 : ¬(2 ≤ R.val ∧ R.val - 2 < 4096) := by omega
    pointwise [padded]
    rw [dif_neg h2]
    show (((0#32 : BitVec 32).toInt : ℝ) : EReal) = 0
    simp

theorem along_apply (v : FVec Ideal S3072 .f32) (b : Fin 16) (i : Fin 4096) (e : Fin 3072) : along v (ix3 b i e) = v (ix1 e) := by
  pointwise [along]

theorem tap0_apply (p : FVec Ideal S16x4100x3072 .f32) (b : Fin 16) (i : Fin 4096) (e : Fin 3072) : tap0 cw p (ix3 b i e) = p (ix3 b ⟨0 + i, by omega⟩ e) * cw (ix2 0 e) := by
  pointwise [tap0, along]

theorem tap1_apply (p : FVec Ideal S16x4100x3072 .f32) (b : Fin 16) (i : Fin 4096) (e : Fin 3072) : tap1 cw p (ix3 b i e) = p (ix3 b ⟨1 + i, by omega⟩ e) * cw (ix2 1 e) := by
  pointwise [tap1, along]

theorem tap2_apply (p : FVec Ideal S16x4100x3072 .f32) (b : Fin 16) (i : Fin 4096) (e : Fin 3072) : tap2 cw p (ix3 b i e) = p (ix3 b ⟨2 + i, by omega⟩ e) * cw (ix2 2 e) := by
  pointwise [tap2, along]

theorem tap3_apply (p : FVec Ideal S16x4100x3072 .f32) (b : Fin 16) (i : Fin 4096) (e : Fin 3072) : tap3 cw p (ix3 b i e) = p (ix3 b ⟨3 + i, by omega⟩ e) * cw (ix2 3 e) := by
  pointwise [tap3, along]

theorem tap4_apply (p : FVec Ideal S16x4100x3072 .f32) (b : Fin 16) (i : Fin 4096) (e : Fin 3072) : tap4 cw p (ix3 b i e) = p (ix3 b ⟨4 + i, by omega⟩ e) * cw (ix2 4 e) := by
  pointwise [tap4, along]

theorem rsilu_apply (p : FVec Ideal S16x4096x3072 .f32) (b : Fin 16) (i : Fin 4096) (e : Fin 3072) : rsilu p (ix3 b i e) = silu (p (ix3 b i e)) := by
  refine Eq.trans ?_ (silu_mul _)
  pointwise [rsilu]

/-- The convolved channel of a token: the bias and the five weighted products around it. -/
def rv (b : Fin 16) (i e : ℕ) (he : e < 3072) : EReal :=
  silu (cb (ix1 ⟨e, he⟩) + xp x w b i e * cw (ix2 0 ⟨e, he⟩) + xp x w b (1 + i) e * cw (ix2 1 ⟨e, he⟩) + xp x w b (2 + i) e * cw (ix2 2 ⟨e, he⟩) + xp x w b (3 + i) e * cw (ix2 3 ⟨e, he⟩) + xp x w b (4 + i) e * cw (ix2 4 ⟨e, he⟩))

theorem conv_apply (b : Fin 16) (i : Fin 4096) (e : Fin 3072) : conv cw (padded (xbc x w)) (ix3 b i e)
    = 0 + xp x w b (0 + i) e * cw (ix2 0 e) + xp x w b (1 + i) e * cw (ix2 1 e) + xp x w b (2 + i) e * cw (ix2 2 e) + xp x w b (3 + i) e * cw (ix2 3 e) + xp x w b (4 + i) e * cw (ix2 4 e) := by
  have h := fun R => padded_apply x w b R e
  generalize padded (xbc x w) = p at h
  rw [← h ⟨0 + i, by omega⟩, ← h ⟨1 + i, by omega⟩, ← h ⟨2 + i, by omega⟩, ← h ⟨3 + i, by omega⟩, ← h ⟨4 + i, by omega⟩, ← tap0_apply, ← tap1_apply, ← tap2_apply, ← tap3_apply, ← tap4_apply]
  pointwise [conv]

theorem act_apply (b : Fin 16) (i : Fin 4096) (e : Fin 3072) : act x w cw cb (ix3 b i e) = rv x w cw cb b i e e.isLt := by
  refine (rsilu_apply _ b i e).trans (congrArg silu ?_)
  refine (congrArg₂ (· + ·) (conv_apply x w cw b i e) (along_apply cb b i e)).trans ?_
  rw [zero_add, zero_add, add_comm]
  simp only [← add_assoc]

theorem res0_apply (b : Fin 16) (i : Fin 4096) (f : Fin 2048) : res0 x w cw cb (ix3 b i f) = rv x w cw cb b i (0 + f) (by omega) := by
  refine Eq.trans ?_ (act_apply x w cw cb b i ⟨0 + f, by omega⟩)
  unfold res0
  generalize act x w cw cb = p
  pointwise

theorem res1_apply (b : Fin 16) (i : Fin 4096) (f : Fin 512) : res1 x w cw cb (ix3 b i f) = rv x w cw cb b i (2048 + f) (by omega) := by
  refine Eq.trans ?_ (act_apply x w cw cb b i ⟨2048 + f, by omega⟩)
  unfold res1
  generalize act x w cw cb = p
  pointwise

theorem res2_apply (b : Fin 16) (i : Fin 4096) (f : Fin 512) : res2 x w cw cb (ix3 b i f) = rv x w cw cb b i (2560 + f) (by omega) := by
  refine Eq.trans ?_ (act_apply x w cw cb b i ⟨2560 + f, by omega⟩)
  unfold res2
  generalize act x w cw cb = p
  pointwise

variable (m : (ℓ : Loc nD τ sig) → Buf (Elt Ideal) ℓ)

abbrev a0 (c : Dev nD) : FVec Ideal S16x4096x1024 .f32 := m ((c : Thread nD τ).loc main_arg0)
abbrev a1 (c : Dev nD) : FVec Ideal S1024x9792 .f32 := m ((c : Thread nD τ).loc main_arg1)
abbrev a2 (c : Dev nD) : FVec Ideal S5x3072 .f32 := m ((c : Thread nD τ).loc main_arg2)
abbrev a3 (c : Dev nD) : FVec Ideal S3072 .f32 := m ((c : Thread nD τ).loc main_arg3)

/-- The reference runs and ends with the three functions of its arguments, and its arguments unchanged. -/
theorem run (ρ : Dev nD → PrngReg) : θ_run defs (onTc (τ := τ) (main (F := Ideal))) ⟨m, fun _ => 0, ρ⟩ fun r => ∀ c : Dev nD,
    r.2.mem ((c.tc : Thread nD τ).loc main_v53) = res0 (a0 m c) (a1 m c) (a2 m c) (a3 m c)
    ∧ r.2.mem ((c.tc : Thread nD τ).loc main_v54) = res1 (a0 m c) (a1 m c) (a2 m c) (a3 m c)
    ∧ r.2.mem ((c.tc : Thread nD τ).loc main_v55) = res2 (a0 m c) (a1 m c) (a2 m c) (a3 m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  Value.run m ρ

end Cert.ConvReferenceIdeal.Conv

end
-- ==== Proof.Conv.Launch.lean ====
/- The convolution's launch: its prepared arrays, its blocks, and the three result arrays they assemble. -/
module

public import proofs.«01_k».proof.Proof.Conv.Block
public import proofs.«01_k».proof.Proof.Conv.Ref
public import proofs.«01_k».proof.Proof.Gen.ConvIdeal.Value
public import Idealize.ShloMosaic.Lib.Pipeline.Value

@[expose] public section

set_option maxRecDepth 16384

noncomputable section

namespace Cert.ConvIdeal.Conv

open Cert.ConvIdeal Cert.ConvIdeal.Gen Cert.GatesMath Idealize.ShloMosaic Idealize.ShloMosaic.TcCoe Idealize.SL.Sem
open Idealize.ShloMosaic.Pipeline (Dat)

variable (m : (ℓ : Loc nD τ sig) → Buf (Elt Ideal) ℓ)

/-- The argument: the tokens. -/
abbrev ax (c : Dev nD) : FVec Ideal S16x4096x1024 .f32 := m ((c : Thread nD τ).loc main_arg0)
/-- The argument: the input projection's weights. -/
abbrev aw (c : Dev nD) : FVec Ideal S1024x9792 .f32 := m ((c : Thread nD τ).loc main_arg1)
/-- The argument: the convolution's weights. -/
abbrev cw (c : Dev nD) : FVec Ideal S5x3072 .f32 := m ((c : Thread nD τ).loc main_arg2)
/-- The argument: the convolution's bias. -/
abbrev cb (c : Dev nD) : FVec Ideal S3072 .f32 := m ((c : Thread nD τ).loc main_arg3)

/-! ## The arrays the windows read -/

/-- The weights' columns the call uses. -/
def wx (w : FVec Ideal S1024x9792 .f32) : FVec Ideal S1024x3072 .bf16 := truncf .bf16 (extractStridedSlice S1024x3072 ![0, 4608] w slices_S1024x9792_S1024x3072_0_4608) bitsLt_bf16_f32

theorem V_w (c : Dev nD) : @Eq (FVec Ideal S1024x3072 .bf16) (V m c main_v8) (wx (aw m c)) := by
  refine (show V m c main_v8 = StableHlo.after hostOps0 (fun b => m (c, b)) main_v8 from rfl).trans ?_
  unfold hostOps0
  after_results <;> rfl

theorem V_b (c : Dev nD) : @Eq (FVec Ideal S1x3072 .f32) (V m c main_v9) (broadcastInDim S1x3072 ![1] bcast_S3072_S1x3072_1 (cb m c)) := by
  refine (show V m c main_v9 = StableHlo.after hostOps0 (fun b => m (c, b)) main_v9 from rfl).trans ?_
  unfold hostOps0
  after_results <;> rfl

theorem V_b_apply (c : Dev nD) (f : Fin 3072) : (V m c main_v9 : FVec Ideal S1x3072 .f32) (ix2 0 f) = cb m c (ix1 f) := by
  rw [V_b]; pointwise

theorem V_x (c : Dev nD) : @Eq (FVec Ideal S16x4096x1024 .f32) (V m c main_arg0) (ax m c) := by
  refine (show V m c main_arg0 = StableHlo.after hostOps0 (fun b => m (c, b)) main_arg0 from rfl).trans ?_
  unfold hostOps0
  after_results <;> rfl

theorem V_c (c : Dev nD) : @Eq (FVec Ideal S5x3072 .f32) (V m c main_arg2) (cw m c) := by
  refine (show V m c main_arg2 = StableHlo.after hostOps0 (fun b => m (c, b)) main_arg2 from rfl).trans ?_
  unfold hostOps0
  after_results <;> rfl

theorem wx_apply (w : FVec Ideal S1024x9792 .f32) (k : Fin 1024) (e : Fin 3072) : wx w (ix2 k e) = w (ix2 k ⟨4608 + e, by omega⟩) := by
  pointwise [wx]

/-! ## The blocks: point `t` is sequence `t / 8`, token tile `t % 8` -/

theorem ix_0 : ∀ t : Fin grid0.N, win0_0.index t 0 = t.val / 8 ∧ win0_0.index t 1 = t.val % 8 ∧ win0_0.index t 2 = 0 := by decide +kernel
theorem ix_3 : ∀ t : Fin grid0.N, win0_3.index t 0 = 0 ∧ win0_3.index t 1 = 0 := by decide +kernel
theorem ix_4 : ∀ t : Fin grid0.N, win0_4.index t 0 = 0 ∧ win0_4.index t 1 = 0 := by decide +kernel
theorem ix_5 : ∀ t : Fin grid0.N, win0_5.index t 0 = 0 ∧ win0_5.index t 1 = 0 := by decide +kernel
theorem ix_6 : ∀ t : Fin grid0.N, win0_6.index t 0 = t.val / 8 ∧ win0_6.index t 1 = t.val % 8 ∧ win0_6.index t 2 = 0 := by decide +kernel
theorem ix_7 : ∀ t : Fin grid0.N, win0_7.index t 0 = t.val / 8 ∧ win0_7.index t 1 = t.val % 8 ∧ win0_7.index t 2 = 0 := by decide +kernel
theorem ix_8 : ∀ t : Fin grid0.N, win0_8.index t 0 = t.val / 8 ∧ win0_8.index t 1 = t.val % 8 ∧ win0_8.index t 2 = 0 := by decide +kernel

theorem t_lt (t : Fin cfg0.N) : t.val < 128 := by have := t.isLt; have : cfg0.N = 128 := N_0; omega

theorem ix_1 : ∀ t : Fin grid0.N, win0_1.index t 0 = t.val / 8 ∧ win0_1.index t 1 = t.val % 8 * 64 - 1 ∧ win0_1.index t 2 = 0 := by decide +kernel
theorem ix_2 : ∀ t : Fin grid0.N, win0_2.index t 0 = t.val / 8 ∧ win0_2.index t 1 = min (t.val % 8 * 64 + 64) 511 ∧ win0_2.index t 2 = 0 := by decide +kernel
/-- The point's token tile. -/
theorem coord_1 : ∀ t : Fin grid0.N, (grid0.coords t 1).val = t.val % 8 := by decide +kernel

/-- Window 0's block at an index. -/
theorem blk_0 (c : Dev nD) (t : Fin cfg0.N) (y1 : Fin 512) (y2 : Fin 1024) :
    (iblk m c 0 t : Vec Ideal S1x512x1024 .f32) (ix3 0 y1 y2)
      = (V m c main_arg0 : FVec Ideal S16x4096x1024 .f32) (ix3 ⟨t.val / 8, by have := t_lt t; omega⟩ ⟨t.val % 8 * 512 + y1, by omega⟩ y2) := by
  have h := ix_0 t
  show V m c main_arg0 _ = _
  refine congrArg _ (funext fun a => Fin.ext ?_)
  match a with
  | ⟨0, _⟩ => show win0_0.index t 0 * 1 + 1 * 0 = t.val / 8; omega
  | ⟨1, _⟩ => show win0_0.index t 1 * 512 + 1 * y1.val = t.val % 8 * 512 + y1.val; omega
  | ⟨2, _⟩ => show win0_0.index t 2 * 1024 + 1 * y2.val = y2.val; omega

/-- Window 3's block at an index. -/
theorem blk_3 (c : Dev nD) (t : Fin cfg0.N) (y0 : Fin 1024) (y1 : Fin 3072) :
    (iblk m c 3 t : Vec Ideal S1024x3072 .bf16) (ix2 y0 y1)
      = (V m c main_v8 : FVec Ideal S1024x3072 .bf16) (ix2 y0 y1) := by
  have h := ix_3 t
  show V m c main_v8 _ = _
  refine congrArg _ (funext fun a => Fin.ext ?_)
  match a with
  | ⟨0, _⟩ => show win0_3.index t 0 * 1024 + 1 * y0.val = y0.val; omega
  | ⟨1, _⟩ => show win0_3.index t 1 * 3072 + 1 * y1.val = y1.val; omega

/-- Window 4's block at an index. -/
theorem blk_4 (c : Dev nD) (t : Fin cfg0.N) (y0 : Fin 5) (y1 : Fin 3072) :
    (iblk m c 4 t : Vec Ideal S5x3072 .f32) (ix2 y0 y1)
      = (V m c main_arg2 : FVec Ideal S5x3072 .f32) (ix2 y0 y1) := by
  have h := ix_4 t
  show V m c main_arg2 _ = _
  refine congrArg _ (funext fun a => Fin.ext ?_)
  match a with
  | ⟨0, _⟩ => show win0_4.index t 0 * 5 + 1 * y0.val = y0.val; omega
  | ⟨1, _⟩ => show win0_4.index t 1 * 3072 + 1 * y1.val = y1.val; omega

/-- Window 5's block at an index. -/
theorem blk_5 (c : Dev nD) (t : Fin cfg0.N) (y1 : Fin 3072) :
    (iblk m c 5 t : Vec Ideal S1x3072 .f32) (ix2 0 y1)
      = (V m c main_v9 : FVec Ideal S1x3072 .f32) (ix2 0 y1) := by
  have h := ix_5 t
  show V m c main_v9 _ = _
  refine congrArg _ (funext fun a => Fin.ext ?_)
  match a with
  | ⟨0, _⟩ => show win0_5.index t 0 * 1 + 1 * 0 = 0; omega
  | ⟨1, _⟩ => show win0_5.index t 1 * 3072 + 1 * y1.val = y1.val; omega

/-- Window 1's block at an index: eight rows before the tile's. -/
theorem blk_1 (c : Dev nD) (t : Fin cfg0.N) (y1 : Fin 8) (y2 : Fin 1024) :
    (iblk m c 1 t : Vec Ideal S1x8x1024 .f32) (ix3 0 y1 y2)
      = (V m c main_arg0 : FVec Ideal S16x4096x1024 .f32) (ix3 ⟨t.val / 8, by have := t_lt t; omega⟩ ⟨(t.val % 8 * 64 - 1) * 8 + y1, by omega⟩ y2) := by
  have h := ix_1 t
  show V m c main_arg0 _ = _
  refine congrArg _ (funext fun a => Fin.ext ?_)
  match a with
  | ⟨0, _⟩ => show win0_1.index t 0 * 1 + 1 * 0 = t.val / 8; omega
  | ⟨1, _⟩ => show win0_1.index t 1 * 8 + 1 * y1.val = (t.val % 8 * 64 - 1) * 8 + y1.val; rw [h.2.1]; omega
  | ⟨2, _⟩ => show win0_1.index t 2 * 1024 + 1 * y2.val = y2.val; omega

/-- Window 2's block at an index: eight rows after the tile's. -/
theorem blk_2 (c : Dev nD) (t : Fin cfg0.N) (y1 : Fin 8) (y2 : Fin 1024) :
    (iblk m c 2 t : Vec Ideal S1x8x1024 .f32) (ix3 0 y1 y2)
      = (V m c main_arg0 : FVec Ideal S16x4096x1024 .f32) (ix3 ⟨t.val / 8, by have := t_lt t; omega⟩ ⟨min (t.val % 8 * 64 + 64) 511 * 8 + y1, by omega⟩ y2) := by
  have h := ix_2 t
  show V m c main_arg0 _ = _
  refine congrArg _ (funext fun a => Fin.ext ?_)
  match a with
  | ⟨0, _⟩ => show win0_2.index t 0 * 1 + 1 * 0 = t.val / 8; omega
  | ⟨1, _⟩ => show win0_2.index t 1 * 8 + 1 * y1.val = min (t.val % 8 * 64 + 64) 511 * 8 + y1.val; rw [h.2.1]; omega
  | ⟨2, _⟩ => show win0_2.index t 2 * 1024 + 1 * y2.val = y2.val; omega

/-- Result block 6 at an index of its array. -/
theorem blk_6 (G : FVec Ideal S16x4096x2048 .bf16) (t : Fin cfg0.N) (y1 : Fin 512) (y2 : Fin 2048) :
    (((cfg0.win 6).blk t).view.read (Elt Ideal) G : Vec Ideal S1x512x2048 .bf16) (ix3 0 y1 y2)
      = G (ix3 ⟨t.val / 8, by have := t_lt t; omega⟩ ⟨t.val % 8 * 512 + y1, by omega⟩ y2) := by
  have h := ix_6 t
  show G _ = _
  refine congrArg _ (funext fun a => Fin.ext ?_)
  match a with
  | ⟨0, _⟩ => show win0_6.index t 0 * 1 + 1 * 0 = t.val / 8; omega
  | ⟨1, _⟩ => show win0_6.index t 1 * 512 + 1 * y1.val = t.val % 8 * 512 + y1.val; omega
  | ⟨2, _⟩ => show win0_6.index t 2 * 2048 + 1 * y2.val = y2.val; omega

/-- An index of result array 6 is in point `t`'s block when each coordinate is in the block's range. -/
theorem mem_blk_6 (t : Fin cfg0.N) (i : S16x4096x2048.Idx) :
    i ∈ ((cfg0.win 6).blk t).view.set ↔ ((i 0 : Nat) = t.val / 8 ∧ (i 1 : Nat) / 512 = t.val % 8) := by
  show i ∈ ((View.whole main_v10_0).slice (win0_6.rect t)).set ↔ _
  rw [View.set_slice_whole, Rect.mem_set_unit]
  have e := ix_6 t
  have l2 : (i 2 : Nat) < 2048 := (i 2).isLt
  refine ⟨fun h => ?_, fun h a => ?_⟩
  · have h0 : win0_6.index t 0 * 1 ≤ (i 0 : Nat) ∧ (i 0 : Nat) < win0_6.index t 0 * 1 + 1 := h 0
    have h1 : win0_6.index t 1 * 512 ≤ (i 1 : Nat) ∧ (i 1 : Nat) < win0_6.index t 1 * 512 + 512 := h 1
    omega
  · match a with
    | ⟨0, _⟩ => show win0_6.index t 0 * 1 ≤ (i 0 : Nat) ∧ (i 0 : Nat) < win0_6.index t 0 * 1 + 1; omega
    | ⟨1, _⟩ => show win0_6.index t 1 * 512 ≤ (i 1 : Nat) ∧ (i 1 : Nat) < win0_6.index t 1 * 512 + 512; omega
    | ⟨2, _⟩ => show win0_6.index t 2 * 2048 ≤ (i 2 : Nat) ∧ (i 2 : Nat) < win0_6.index t 2 * 2048 + 2048; omega

/-- Result 6's blocks tile its array. -/
theorem cover_6 (i : S16x4096x2048.Idx) : ∃ t : Fin cfg0.N, (cfg0.win 6).flush t = true ∧ i ∈ ((cfg0.win 6).blk t).view.set := by
  have h0 : (i 0 : Nat) < 16 := (i 0).isLt
  have h1 : (i 1 : Nat) < 4096 := (i 1).isLt
  have hN : cfg0.N = 128 := N_0
  refine ⟨⟨(i 0 : Nat) * 8 + (i 1 : Nat) / 512, by omega⟩, flush0_6 _, ?_⟩
  rw [mem_blk_6]
  dsimp only
  omega

/-- Result block 7 at an index of its array. -/
theorem blk_7 (G : FVec Ideal S16x4096x512 .bf16) (t : Fin cfg0.N) (y1 : Fin 512) (y2 : Fin 512) :
    (((cfg0.win 7).blk t).view.read (Elt Ideal) G : Vec Ideal S1x512x512 .bf16) (ix3 0 y1 y2)
      = G (ix3 ⟨t.val / 8, by have := t_lt t; omega⟩ ⟨t.val % 8 * 512 + y1, by omega⟩ y2) := by
  have h := ix_7 t
  show G _ = _
  refine congrArg _ (funext fun a => Fin.ext ?_)
  match a with
  | ⟨0, _⟩ => show win0_7.index t 0 * 1 + 1 * 0 = t.val / 8; omega
  | ⟨1, _⟩ => show win0_7.index t 1 * 512 + 1 * y1.val = t.val % 8 * 512 + y1.val; omega
  | ⟨2, _⟩ => show win0_7.index t 2 * 512 + 1 * y2.val = y2.val; omega

/-- An index of result array 7 is in point `t`'s block when each coordinate is in the block's range. -/
theorem mem_blk_7 (t : Fin cfg0.N) (i : S16x4096x512.Idx) :
    i ∈ ((cfg0.win 7).blk t).view.set ↔ ((i 0 : Nat) = t.val / 8 ∧ (i 1 : Nat) / 512 = t.val % 8) := by
  show i ∈ ((View.whole main_v10_1).slice (win0_7.rect t)).set ↔ _
  rw [View.set_slice_whole, Rect.mem_set_unit]
  have e := ix_7 t
  have l2 : (i 2 : Nat) < 512 := (i 2).isLt
  refine ⟨fun h => ?_, fun h a => ?_⟩
  · have h0 : win0_7.index t 0 * 1 ≤ (i 0 : Nat) ∧ (i 0 : Nat) < win0_7.index t 0 * 1 + 1 := h 0
    have h1 : win0_7.index t 1 * 512 ≤ (i 1 : Nat) ∧ (i 1 : Nat) < win0_7.index t 1 * 512 + 512 := h 1
    omega
  · match a with
    | ⟨0, _⟩ => show win0_7.index t 0 * 1 ≤ (i 0 : Nat) ∧ (i 0 : Nat) < win0_7.index t 0 * 1 + 1; omega
    | ⟨1, _⟩ => show win0_7.index t 1 * 512 ≤ (i 1 : Nat) ∧ (i 1 : Nat) < win0_7.index t 1 * 512 + 512; omega
    | ⟨2, _⟩ => show win0_7.index t 2 * 512 ≤ (i 2 : Nat) ∧ (i 2 : Nat) < win0_7.index t 2 * 512 + 512; omega

/-- Result 7's blocks tile its array. -/
theorem cover_7 (i : S16x4096x512.Idx) : ∃ t : Fin cfg0.N, (cfg0.win 7).flush t = true ∧ i ∈ ((cfg0.win 7).blk t).view.set := by
  have h0 : (i 0 : Nat) < 16 := (i 0).isLt
  have h1 : (i 1 : Nat) < 4096 := (i 1).isLt
  have hN : cfg0.N = 128 := N_0
  refine ⟨⟨(i 0 : Nat) * 8 + (i 1 : Nat) / 512, by omega⟩, flush0_7 _, ?_⟩
  rw [mem_blk_7]
  dsimp only
  omega

/-- Result block 8 at an index of its array. -/
theorem blk_8 (G : FVec Ideal S16x4096x512 .bf16) (t : Fin cfg0.N) (y1 : Fin 512) (y2 : Fin 512) :
    (((cfg0.win 8).blk t).view.read (Elt Ideal) G : Vec Ideal S1x512x512 .bf16) (ix3 0 y1 y2)
      = G (ix3 ⟨t.val / 8, by have := t_lt t; omega⟩ ⟨t.val % 8 * 512 + y1, by omega⟩ y2) := by
  have h := ix_8 t
  show G _ = _
  refine congrArg _ (funext fun a => Fin.ext ?_)
  match a with
  | ⟨0, _⟩ => show win0_8.index t 0 * 1 + 1 * 0 = t.val / 8; omega
  | ⟨1, _⟩ => show win0_8.index t 1 * 512 + 1 * y1.val = t.val % 8 * 512 + y1.val; omega
  | ⟨2, _⟩ => show win0_8.index t 2 * 512 + 1 * y2.val = y2.val; omega

/-- An index of result array 8 is in point `t`'s block when each coordinate is in the block's range. -/
theorem mem_blk_8 (t : Fin cfg0.N) (i : S16x4096x512.Idx) :
    i ∈ ((cfg0.win 8).blk t).view.set ↔ ((i 0 : Nat) = t.val / 8 ∧ (i 1 : Nat) / 512 = t.val % 8) := by
  show i ∈ ((View.whole main_v10_2).slice (win0_8.rect t)).set ↔ _
  rw [View.set_slice_whole, Rect.mem_set_unit]
  have e := ix_8 t
  have l2 : (i 2 : Nat) < 512 := (i 2).isLt
  refine ⟨fun h => ?_, fun h a => ?_⟩
  · have h0 : win0_8.index t 0 * 1 ≤ (i 0 : Nat) ∧ (i 0 : Nat) < win0_8.index t 0 * 1 + 1 := h 0
    have h1 : win0_8.index t 1 * 512 ≤ (i 1 : Nat) ∧ (i 1 : Nat) < win0_8.index t 1 * 512 + 512 := h 1
    omega
  · match a with
    | ⟨0, _⟩ => show win0_8.index t 0 * 1 ≤ (i 0 : Nat) ∧ (i 0 : Nat) < win0_8.index t 0 * 1 + 1; omega
    | ⟨1, _⟩ => show win0_8.index t 1 * 512 ≤ (i 1 : Nat) ∧ (i 1 : Nat) < win0_8.index t 1 * 512 + 512; omega
    | ⟨2, _⟩ => show win0_8.index t 2 * 512 ≤ (i 2 : Nat) ∧ (i 2 : Nat) < win0_8.index t 2 * 512 + 512; omega

/-- Result 8's blocks tile its array. -/
theorem cover_8 (i : S16x4096x512.Idx) : ∃ t : Fin cfg0.N, (cfg0.win 8).flush t = true ∧ i ∈ ((cfg0.win 8).blk t).view.set := by
  have h0 : (i 0 : Nat) < 16 := (i 0).isLt
  have h1 : (i 1 : Nat) < 4096 := (i 1).isLt
  have hN : cfg0.N = 128 := N_0
  refine ⟨⟨(i 0 : Nat) * 8 + (i 1 : Nat) / 512, by omega⟩, flush0_8 _, ?_⟩
  rw [mem_blk_8]
  dsimp only
  omega

/-! ## The rows the products are taken of -/

theorem gt_zero : ∀ j : Fin 8, Scalar.cmpi .sgt (BitVec.ofNat 32 j.val) 0#32 = if 0 < j.val then 1#1 else 0#1 := by decide
theorem lt_seven : ∀ j : Fin 8, Scalar.cmpi .slt (BitVec.ofNat 32 j.val) 7#32 = if j.val < 7 then 1#1 else 0#1 := by decide

section
variable (i : grid0.Coords) (x0 : Vec Ideal S1x512x1024 .f32) (x1 x2 : Vec Ideal S1x8x1024 .f32)

/-- The eight rows before the tile: the earlier tile's, and zeros at the sequence's start. -/
theorem rows_lo (j : Fin 8) (hj : (i 1).val = j.val) (R : Fin 528) (h : R.val < 8) (k : Fin 1024) :
    rows i x0 x1 x2 (ix2 R k) = if 0 < j.val then x1 (ix3 0 ⟨R, h⟩ k) else 0 := by
  unfold rows
  pointwise [k0_pay2]
  rw [dif_pos h, hj, gt_zero]
  split <;> rfl

/-- The tile's own rows. -/
theorem rows_mid (R : Fin 528) (h : ¬ R.val < 8) (h' : R.val - 8 < 512) (k : Fin 1024) : rows i x0 x1 x2 (ix2 R k) = x0 (ix3 0 ⟨R - 8, h'⟩ k) := by
  unfold rows
  pointwise [k0_pay2]
  rw [dif_neg h, dif_pos h']

/-- The eight rows after the tile: the later tile's, and zeros at the sequence's end. -/
theorem rows_hi (j : Fin 8) (hj : (i 1).val = j.val) (R : Fin 528) (h : ¬ R.val < 8) (h' : ¬ R.val - 8 < 512) (k : Fin 1024) :
    rows i x0 x1 x2 (ix2 R k) = if j.val < 7 then x2 (ix3 0 ⟨R - 8 - 512, by omega⟩ k) else 0 := by
  unfold rows
  pointwise [k0_pay2]
  rw [dif_neg h, dif_neg h', hj, lt_seven]
  split <;> rfl
end

open Cert.ConvReferenceIdeal.Conv (res0 res1 res2 xp rv col res0_apply res1_apply res2_apply)

/-- The product of a row with a weight column is the reference's padded product of that row. -/
theorem acc_eq (c : Dev nD) (t : Fin cfg0.N) (Q e : ℕ) (hQ : 6 ≤ Q) (hQ' : Q < 522) (he : e < 3072) :
    acc (grid0.coords t) (iblk m c 0 t) (iblk m c 1 t) (iblk m c 2 t) (iblk m c 3 t) Q e
      = xp (ax m c) (aw m c) ⟨t.val / 8, by have := t_lt t; omega⟩ (t.val % 8 * 512 + (Q - 6)) e := by
  have ht := t_lt t
  have hj := coord_1 t
  have hw : ∀ k : Fin 1024, (iblk m c 3 t : Vec Ideal S1024x3072 .bf16) (ix2 k ⟨e, he⟩) = aw m c (ix2 k ⟨4608 + e, by omega⟩) := fun k => by
    rw [blk_3, V_w, wx_apply]
  rw [acc, dif_pos ⟨by omega, he⟩]
  unfold xp col
  have hj8 : t.val % 8 < 8 := by omega
  by_cases h1 : Q < 8
  · by_cases h0 : 0 < t.val % 8
    · rw [dif_pos ⟨by omega, he⟩]
      refine Finset.sum_congr rfl fun k _ => ?_
      rw [rows_lo (grid0.coords t) (iblk m c 0 t) (iblk m c 1 t) (iblk m c 2 t) ⟨t.val % 8, hj8⟩ hj ⟨Q, by omega⟩ h1 k, hw, if_pos h0, blk_1, V_x]
      refine congrArg (· * _) (congrArg (fun z => ax m c (ix3 _ z k)) (Fin.ext ?_))
      show (t.val % 8 * 64 - 1) * 8 + Q = t.val % 8 * 512 + (Q - 6) - 2
      omega
    · rw [dif_neg (by omega)]
      refine Finset.sum_eq_zero fun k _ => ?_
      rw [rows_lo (grid0.coords t) (iblk m c 0 t) (iblk m c 1 t) (iblk m c 2 t) ⟨t.val % 8, hj8⟩ hj ⟨Q, by omega⟩ h1 k, if_neg h0, zero_mul]
  by_cases h2 : Q - 8 < 512
  · rw [dif_pos ⟨by omega, he⟩]
    refine Finset.sum_congr rfl fun k _ => ?_
    rw [rows_mid (grid0.coords t) (iblk m c 0 t) (iblk m c 1 t) (iblk m c 2 t) ⟨Q, by omega⟩ h1 h2 k, hw, blk_0, V_x]
    refine congrArg (· * _) (congrArg (fun z => ax m c (ix3 _ z k)) (Fin.ext ?_))
    show t.val % 8 * 512 + (Q - 8) = t.val % 8 * 512 + (Q - 6) - 2
    omega
  · by_cases h0 : t.val % 8 < 7
    · rw [dif_pos ⟨by omega, he⟩]
      refine Finset.sum_congr rfl fun k _ => ?_
      rw [rows_hi (grid0.coords t) (iblk m c 0 t) (iblk m c 1 t) (iblk m c 2 t) ⟨t.val % 8, hj8⟩ hj ⟨Q, by omega⟩ h1 h2 k, hw, if_pos h0, blk_2, V_x]
      refine congrArg (· * _) (congrArg (fun z => ax m c (ix3 _ z k)) (Fin.ext ?_))
      show min (t.val % 8 * 64 + 64) 511 * 8 + (Q - 8 - 512) = t.val % 8 * 512 + (Q - 6) - 2
      omega
    · rw [dif_neg (by omega)]
      refine Finset.sum_eq_zero fun k _ => ?_
      rw [rows_hi (grid0.coords t) (iblk m c 0 t) (iblk m c 1 t) (iblk m c 2 t) ⟨t.val % 8, hj8⟩ hj ⟨Q, by omega⟩ h1 h2 k, if_neg h0, zero_mul]

/-- A row's result is the reference's at its token. -/
theorem yv_eq (c : Dev nD) (t : Fin cfg0.N) (R e : ℕ) (hR : R < 512) (he : e < 3072) :
    yv (acc (grid0.coords t) (iblk m c 0 t) (iblk m c 1 t) (iblk m c 2 t) (iblk m c 3 t)) (wt (iblk m c 4 t)) (bi (iblk m c 5 t)) R e
      = rv (ax m c) (aw m c) (cw m c) (cb m c) ⟨t.val / 8, by have := t_lt t; omega⟩ (t.val % 8 * 512 + R) e he := by
  have hb : bi (iblk m c 5 t) e = cb m c (ix1 ⟨e, he⟩) := by rw [bi, dif_pos he, blk_5, V_b_apply]
  have hc : ∀ k : Fin 5, wt (iblk m c 4 t) k e = cw m c (ix2 k ⟨e, he⟩) := fun k => by rw [wt, dif_pos ⟨k.isLt, he⟩, blk_4, V_c]
  have ha : ∀ d : ℕ, d < 5 → acc (grid0.coords t) (iblk m c 0 t) (iblk m c 1 t) (iblk m c 2 t) (iblk m c 3 t) (6 + d + R) e
      = xp (ax m c) (aw m c) ⟨t.val / 8, by have := t_lt t; omega⟩ (d + (t.val % 8 * 512 + R)) e := fun d hd =>
    (acc_eq m c t (6 + d + R) e (by omega) (by omega) he).trans (congrArg (fun n => xp (ax m c) (aw m c) _ n e) (by omega))
  have a0 := ha 0 (by omega)
  rw [Nat.zero_add] at a0
  unfold yv rv
  rw [hb]
  exact congrArg silu (congrArg₂ (· + ·) (congrArg₂ (· + ·) (congrArg₂ (· + ·) (congrArg₂ (· + ·) (congrArg₂ (· + ·) rfl
    (congrArg₂ (· * ·) a0 (hc 0))) (congrArg₂ (· * ·) (ha 1 (by omega)) (hc 1))) (congrArg₂ (· * ·) (ha 2 (by omega)) (hc 2))) (congrArg₂ (· * ·) (ha 3 (by omega)) (hc 3))) (congrArg₂ (· * ·) (ha 4 (by omega)) (hc 4)))

/-- An index of a block. -/
theorem exists_ix {n : ℕ} (y : (⟨3, ![1, 512, n]⟩ : Shape).Idx) : ∃ (i : Fin 512) (f : Fin n), y = ix3 0 i f :=
  ⟨y 1, y 2, funext fun a => by match a with | ⟨0, _⟩ => exact Subsingleton.elim (α := Fin 1) _ _ | ⟨1, _⟩ => rfl | ⟨2, _⟩ => rfl⟩

abbrev goal0 (c : Dev nD) : FVec Ideal S16x4096x2048 .bf16 := res0 (ax m c) (aw m c) (cw m c) (cb m c)
abbrev goal1 (c : Dev nD) : FVec Ideal S16x4096x512 .bf16 := res1 (ax m c) (aw m c) (cw m c) (cb m c)
abbrev goal2 (c : Dev nD) : FVec Ideal S16x4096x512 .bf16 := res2 (ax m c) (aw m c) (cw m c) (cb m c)

/-- What point `t` writes back to result 0 is block `t` of the reference's function. -/
theorem flushed_0_eq (c : Dev nD) (t : Fin cfg0.N) :
    (dats m 0 c).flushed 6 t = ((cfg0.win 6).blk t).view.read (Elt Ideal) (goal0 m c) := by
  have ht := t_lt t
  rw [Value.flushed6_A]
  funext y
  obtain ⟨i, f, rfl⟩ := exists_ix y
  refine Eq.trans ?_ (blk_6 (goal0 m c) t i f).symm
  refine (out_6 (R := i) (f := f) ..).trans ?_
  refine Eq.trans ?_ (res0_apply (ax m c) (aw m c) (cw m c) (cb m c) ⟨t.val / 8, by omega⟩ ⟨t.val % 8 * 512 + i, by omega⟩ f).symm
  exact yv_eq m c t i (0 + f) i.isLt (by omega)

/-- What point `t` writes back to result 1 is block `t` of the reference's function. -/
theorem flushed_1_eq (c : Dev nD) (t : Fin cfg0.N) :
    (dats m 0 c).flushed 7 t = ((cfg0.win 7).blk t).view.read (Elt Ideal) (goal1 m c) := by
  have ht := t_lt t
  rw [Value.flushed7_A]
  funext y
  obtain ⟨i, f, rfl⟩ := exists_ix y
  refine Eq.trans ?_ (blk_7 (goal1 m c) t i f).symm
  refine (out_7 (R := i) (f := f) ..).trans ?_
  refine Eq.trans ?_ (res1_apply (ax m c) (aw m c) (cw m c) (cb m c) ⟨t.val / 8, by omega⟩ ⟨t.val % 8 * 512 + i, by omega⟩ f).symm
  exact yv_eq m c t i (2048 + f) i.isLt (by omega)

/-- What point `t` writes back to result 2 is block `t` of the reference's function. -/
theorem flushed_2_eq (c : Dev nD) (t : Fin cfg0.N) :
    (dats m 0 c).flushed 8 t = ((cfg0.win 8).blk t).view.read (Elt Ideal) (goal2 m c) := by
  have ht := t_lt t
  rw [Value.flushed8_A]
  funext y
  obtain ⟨i, f, rfl⟩ := exists_ix y
  refine Eq.trans ?_ (blk_8 (goal2 m c) t i f).symm
  refine (out_8 (R := i) (f := f) ..).trans ?_
  refine Eq.trans ?_ (res2_apply (ax m c) (aw m c) (cw m c) (cb m c) ⟨t.val / 8, by omega⟩ ⟨t.val % 8 * 512 + i, by omega⟩ f).symm
  exact yv_eq m c t i (2560 + f) i.isLt (by omega)

/-- So result 0 ends holding the reference's function of the arguments. -/
theorem final_0 (c : Dev nD) : (dats m 0 c).arrAt 6 cfg0.N = goal0 m c :=
  (dats m 0 c).arrAt_eq_of_cover 6 (goal0 m c) (fun t _ => flushed_0_eq m c t) cover_6

/-- So result 1 ends holding the reference's function of the arguments. -/
theorem final_1 (c : Dev nD) : (dats m 0 c).arrAt 7 cfg0.N = goal1 m c :=
  (dats m 0 c).arrAt_eq_of_cover 7 (goal1 m c) (fun t _ => flushed_1_eq m c t) cover_7

/-- So result 2 ends holding the reference's function of the arguments. -/
theorem final_2 (c : Dev nD) : (dats m 0 c).arrAt 8 cfg0.N = goal2 m c :=
  (dats m 0 c).arrAt_eq_of_cover 8 (goal2 m c) (fun t _ => flushed_2_eq m c t) cover_8

end Cert.ConvIdeal.Conv

end
-- ==== Proof.Conv.Claims.lean ====
/- The convolution's claims: its frames, and its agreement with the reference. -/
module

public import proofs.«01_k».proof.Defs
public import proofs.«01_k».proof.Proof.Conv.Launch
public import proofs.«01_k».proof.Proof.Gen.Conv.Frame
public import proofs.«01_k».proof.Proof.Gen.ConvIdeal.Frame
public import Idealize.ShloMosaic.Adequacy
public import Idealize.ShloMosaic.Init

@[expose] public section

set_option maxRecDepth 16384

noncomputable section

namespace Cert.Proof.Conv

open Idealize.ShloMosaic Idealize.ShloMosaic.TcCoe Idealize.SL.Sem

/-- The kernel runs, its arguments end unchanged, and its counters end at zero. -/
theorem frame_p : Cert.quiescent_Conv (hConv := Cert.Conv.Gen.facts) := fun m ρ _ => Cert.Conv.Gen.frame m ρ

/-- So does the idealized kernel. -/
theorem frame_pi : Cert.quiescent_ConvIdeal (hConvIdeal := Cert.ConvIdeal.Gen.facts) := fun m ρ _ => Cert.ConvIdeal.Gen.frame m ρ

/-- So does the reference. -/
theorem frame_ri : Cert.quiescent_ConvReferenceIdeal (hConvReferenceIdeal := Cert.ConvReferenceIdeal.Gen.facts) := fun m ρ _ =>
  (θ_run Cert.ConvReferenceIdeal.defs _ _).mono (fun r h => ⟨fun c => (h c).2.2.2, sem_eq_zero_of_no_sems (by decide) r.2⟩)
    (Cert.ConvReferenceIdeal.Conv.run m ρ)

/-- No operation is idealized. -/
theorem preserves : Cert.preserves_Conv_ConvIdeal := trivial

/-- At `Ideal`, from arguments that agree, the kernel's three result arrays and the reference's end equal. -/
theorem algebraic : Cert.algebraic_ConvIdeal_ConvReferenceIdeal (hConvIdeal := Cert.ConvIdeal.Gen.facts)
    (hConvReferenceIdeal := Cert.ConvReferenceIdeal.Gen.facts) := fun m ρ m' ρ' _ hag =>
  have hr : ∀ c, Cert.ConvReferenceIdeal.Conv.a0 m' c = Cert.ConvIdeal.Conv.ax m c ∧ Cert.ConvReferenceIdeal.Conv.a1 m' c = Cert.ConvIdeal.Conv.aw m c
      ∧ Cert.ConvReferenceIdeal.Conv.a2 m' c = Cert.ConvIdeal.Conv.cw m c ∧ Cert.ConvReferenceIdeal.Conv.a3 m' c = Cert.ConvIdeal.Conv.cb m c := fun c => hag c
  ⟨fun c => Cert.ConvIdeal.Conv.goal0 m c, fun c => Cert.ConvIdeal.Conv.goal1 m c, fun c => Cert.ConvIdeal.Conv.goal2 m c,
    (θ_run Cert.ConvIdeal.defs _ _).mono (fun _ h c => ⟨(h c).1.trans (Cert.ConvIdeal.Conv.final_0 m c), (h c).2.1.trans (Cert.ConvIdeal.Conv.final_1 m c),
        (h c).2.2.1.trans (Cert.ConvIdeal.Conv.final_2 m c), (h c).2.2.2⟩)
      (Cert.ConvIdeal.Value.run_blocks m ρ),
    (θ_run Cert.ConvReferenceIdeal.defs _ _).mono (fun _ h c =>
        ⟨(h c).1.trans (by rw [(hr c).1, (hr c).2.1, (hr c).2.2.1, (hr c).2.2.2]),
        (h c).2.1.trans (by rw [(hr c).1, (hr c).2.1, (hr c).2.2.1, (hr c).2.2.2]),
        (h c).2.2.1.trans (by rw [(hr c).1, (hr c).2.1, (hr c).2.2.1, (hr c).2.2.2]), (h c).2.2.2⟩)
      (Cert.ConvReferenceIdeal.Conv.run m' ρ')⟩

end Cert.Proof.Conv

end
-- ==== Proof.States.Claims.lean ====
/- The backward states' claims: its frames, and that no operation is idealized. -/
module

public import proofs.«01_k».proof.Defs
public import proofs.«01_k».proof.Proof.Gen.States.Frame
public import proofs.«01_k».proof.Proof.Gen.StatesIdeal.Frame

@[expose] public section

set_option maxRecDepth 16384

noncomputable section

namespace Cert.Proof.States

open Idealize.ShloMosaic

/-- The kernel runs, its arguments end unchanged, and its counters end at zero. -/
theorem frame_p : Cert.quiescent_States (hStates := Cert.States.Gen.facts) := fun m ρ _ => Cert.States.Gen.frame m ρ

/-- So does the idealized kernel. -/
theorem frame_pi : Cert.quiescent_StatesIdeal (hStatesIdeal := Cert.StatesIdeal.Gen.facts) := fun m ρ _ => Cert.StatesIdeal.Gen.frame m ρ

/-- No operation is idealized. -/
theorem preserves : Cert.preserves_States_StatesIdeal := trivial

end Cert.Proof.States

end
-- ==== Proof.Merge.Row.lean ====
/- One token of the merge: its residual row and its layer norm. -/
module

public import Idealize.ShloMosaic.Lib.Pointwise

@[expose] public section

set_option maxRecDepth 16384

noncomputable section

namespace Cert.MergeRow

open Idealize.ShloMosaic

/-- The residual's factor, as its bits. -/
abbrev alpha : EReal := Ideal.ofBits .f32 0x3F9837F0#32
/-- The row's length. -/
abbrev width : EReal := Ideal.ofBits .f32 0x44800000#32
/-- The layer norm's epsilon, as its bits. -/
abbrev eps : EReal := Ideal.ofBits .f32 0x3727C5AC#32

/-- The gated sum of the two branches' projections. -/
def mixed (att : Fin 1024 → EReal) (y gates : Fin 2048 → EReal) (wa : Fin 1024 → Fin 1024 → EReal) (ws : Fin 2048 → Fin 1024 → EReal)
    (e : Fin 1024) : EReal :=
  gates ⟨e, by omega⟩ * (∑ k, att k * wa k e) + gates ⟨1024 + e, by omega⟩ * ∑ k, y k * ws k e

/-- The scaled input plus the projected mix. -/
def res (x att : Fin 1024 → EReal) (y gates : Fin 2048 → EReal) (wa : Fin 1024 → Fin 1024 → EReal) (ws : Fin 2048 → Fin 1024 → EReal)
    (wo : Fin 1024 → Fin 1024 → EReal) (f : Fin 1024) : EReal :=
  alpha * x f + ∑ e, mixed att y gates wa ws e * wo e f

/-- A row's average. -/
def mean (r : Fin 1024 → EReal) : EReal := Ideal.div (∑ f, r f) width

/-- A row less its average. -/
def dev (r : Fin 1024 → EReal) (f : Fin 1024) : EReal := r f - mean r

/-- A row's layer norm. -/
def lnorm (r g b : Fin 1024 → EReal) (f : Fin 1024) : EReal :=
  dev r f * Ideal.rsqrt (Ideal.div (∑ e, dev r e * dev r e) width + eps) * g f + b f

end Cert.MergeRow

end
-- ==== Proof.Merge.Block.lean ====
/- The merge body's block of results at one index. -/
module

public import proofs.«01_k».proof.Proof.Merge.Row
public import proofs.«01_k».proof.Proof.Gen.MergeIdeal.Frame
public import Idealize.ShloMosaic.Lib.Pointwise

@[expose] public section

set_option maxRecDepth 16384

noncomputable section

namespace Cert.MergeIdeal.Merge

open Cert.MergeIdeal Cert.MergeIdeal.Gen Cert.MergeRow Idealize.ShloMosaic

theorem hz2 : (![0, 0] : Fin 2 → Nat) = fun _ => 0 := funext fun a => by fin_cases a <;> rfl
theorem hz3 : (![0, 0, 0] : Fin 3 → Nat) = fun _ => 0 := funext fun a => by fin_cases a <;> rfl

/-- The residual at one token and feature. -/
theorem res_apply (x : Vec Ideal S1x512x1024 .f32) (att : Vec Ideal S1x512x1024 .bf16) (y g : Vec Ideal S1x512x2048 .bf16)
    (wa : Vec Ideal S1024x1024 .bf16) (ws : Vec Ideal S2048x1024 .bf16) (wo : Vec Ideal S1024x1024 .bf16) (i : Fin 512) (f : Fin 1024) :
    k0_pay2 (View.ld att r0_0) (View.ld wa r0_1) (View.ld y r0_2) (View.ld ws r0_3) (View.ld g r0_4) (View.ld g r0_5) (View.ld wo r0_1) (View.ld x r0_0) (ix2 i f)
      = res (fun e => x (ix3 0 i e)) (fun e => att (ix3 0 i e)) (fun e => y (ix3 0 i e)) (fun e => g (ix3 0 i e))
        (fun k e => wa (ix2 k e)) (fun k e => ws (ix2 k e)) (fun k e => wo (ix2 k e)) f := by
  pointwise [k0_pay2]
  simp only [res, mixed, Nat.zero_add]

/-- The layer norm at one token and feature, of the residuals `r`. -/
theorem norm_apply (r : FVec Ideal S512x1024 .f32) (s : FVec Ideal S512x1 .f32) (lg lb : Vec Ideal S1x1024 .f32) (i : Fin 512) (f : Fin 1024)
    (hs : s (ix2 i 0) = ∑ e : Fin 1024, r (ix2 i e)) :
    k0_pay1 r s k0_pay4 (View.ld lg r0_6) (View.ld lb r0_6) (ix3 0 i f)
      = lnorm (fun e => r (ix2 i e)) (fun e => lg (ix2 0 e)) (fun e => lb (ix2 0 e)) f := by
  pointwise [k0_pay1, k0_pay4]
  simp only [lnorm, dev, mean, ← hs]

/-- The row sums. -/
theorem sum_apply (a0 : Vec Ideal S1x512x1024 .bf16) (a1 : Vec Ideal S1024x1024 .bf16) (a2 : Vec Ideal S1x512x2048 .bf16) (a3 : Vec Ideal S2048x1024 .bf16)
    (a4 a5 : Vec Ideal S1x512x1024 .bf16) (a6 : Vec Ideal S1024x1024 .bf16) (a7 : Vec Ideal S1x512x1024 .f32) (i : Fin 512) :
    k0_pay3 a0 a1 a2 a3 a4 a5 a6 a7 (ix2 i 0) = ∑ e : Fin 1024, k0_pay2 a0 a1 a2 a3 a4 a5 a6 a7 (ix2 i e) := by
  unfold k0_pay3
  generalize k0_pay2 a0 a1 a2 a3 a4 a5 a6 a7 = r
  pointwise

/-- The block the body stores, at token `i` and feature `f`: the layer norm of the token's residual row. -/
theorem out_apply (x : Vec Ideal S1x512x1024 .f32) (att : Vec Ideal S1x512x1024 .bf16) (y g : Vec Ideal S1x512x2048 .bf16)
    (wa : Vec Ideal S1024x1024 .bf16) (ws : Vec Ideal S2048x1024 .bf16) (wo : Vec Ideal S1024x1024 .bf16) (lg lb : Vec Ideal S1x1024 .f32)
    (i : Fin 512) (f : Fin 1024) :
    out0_9 x att y g wa ws wo lg lb (ix3 0 i f)
      = lnorm (res (fun e => x (ix3 0 i e)) (fun e => att (ix3 0 i e)) (fun e => y (ix3 0 i e)) (fun e => g (ix3 0 i e))
        (fun k e => wa (ix2 k e)) (fun k e => ws (ix2 k e)) (fun k e => wo (ix2 k e))) (fun e => lg (ix2 0 e)) (fun e => lb (ix2 0 e)) f := by
  unfold out0_9
  rw [View.canon_unit_zero hz3]
  refine (norm_apply _ _ lg lb i f (sum_apply _ _ _ _ _ _ _ _ i)).trans ?_
  exact congrArg (fun r => lnorm r _ _ f) (funext fun e => res_apply x att y g wa ws wo i e)

end Cert.MergeIdeal.Merge

end
-- ==== Proof.Merge.Ref.lean ====
/- The reference's merge over 4096 tokens at one index: the layer norm of the token's residual row. -/
module

public import proofs.«01_k».proof.Proof.Merge.Row
public import proofs.«01_k».proof.Proof.Gen.MergeReferenceIdeal.Run
public import Idealize.ShloMosaic.Lib.Pointwise

@[expose] public section

set_option maxRecDepth 16384

noncomputable section

namespace Cert.MergeReferenceIdeal.Merge

open Cert.MergeReferenceIdeal Cert.MergeReferenceIdeal.Gen Cert.MergeRow Idealize.ShloMosaic Idealize.ShloMosaic.TcCoe Idealize.SL.Sem

variable (x att : FVec Ideal S16x4096x1024 .f32) (y g : FVec Ideal S16x4096x2048 .f32) (wa : FVec Ideal S1024x1024 .f32)
  (ws : FVec Ideal S2048x1024 .f32) (wo : FVec Ideal S1024x1024 .f32) (lg lb : FVec Ideal S1024 .f32)

/-- The gated mix. -/
def rmix : FVec Ideal S16x4096x1024 .f32 :=
  addf (mulf (extractStridedSlice S16x4096x1024 ![0, 0, 0] g slices_S16x4096x2048_S16x4096x1024_0_0_0) (Host.dotGeneral dot_S16x4096x1024_S1024x1024_S16x4096x1024_2_0_01_1_n_n none att wa)) (mulf (extractStridedSlice S16x4096x1024 ![0, 0, 1024] g slices_S16x4096x2048_S16x4096x1024_0_0_1024) (Host.dotGeneral dot_S16x4096x2048_S2048x1024_S16x4096x1024_2_0_01_1_n_n none y ws))

/-- The residual, of the mix. -/
def rres (z : FVec Ideal S16x4096x1024 .f32) : FVec Ideal S16x4096x1024 .f32 :=
  addf (mulf (broadcastInDim S16x4096x1024 ![] bcast_S_S16x4096x1024 (constant S_ .f32 0x3F9837F0#32)) x) (Host.dotGeneral dot_S16x4096x1024_S1024x1024_S16x4096x1024_2_0_01_1_n_n none z wo)

/-- The rows' averages. -/
def rmean (r : FVec Ideal S16x4096x1024 .f32) : FVec Ideal S16x4096x1 .f32 :=
  Host.divf (broadcastInDim S16x4096x1 ![0, 1] bcast_S16x4096_S16x4096x1_0_1 (Host.reduceAdd r (constant S_ .f32 0x00000000#32) reducesTo_S16x4096x1024_S16x4096_d2 h_S_)) (broadcastInDim S16x4096x1 ![] bcast_S_S16x4096x1 (constant S_ .f32 0x44800000#32))

/-- The rows less their averages. -/
def rdev (r : FVec Ideal S16x4096x1024 .f32) : FVec Ideal S16x4096x1024 .f32 :=
  subf r (broadcastInDim S16x4096x1024 ![0, 1, 2] bcast_S16x4096x1_S16x4096x1024_0_1_2 (rmean r))

/-- The layer norm, of the rows less their averages. -/
def rnorm (d : FVec Ideal S16x4096x1024 .f32) : FVec Ideal S16x4096x1024 .f32 :=
  addf (mulf (mulf d (broadcastInDim S16x4096x1024 ![0, 1, 2] bcast_S16x4096x1_S16x4096x1024_0_1_2 (Host.rsqrt (addf (rmean (mulf d d)) (broadcastInDim S16x4096x1 ![] bcast_S_S16x4096x1 (constant S_ .f32 0x3727C5AC#32)))))) (broadcastInDim S16x4096x1024 ![0, 1, 2] bcast_S1x1x1024_S16x4096x1024_0_1_2 (broadcastInDim S1x1x1024 ![2] bcast_S1024_S1x1x1024_2 lg))) (broadcastInDim S16x4096x1024 ![0, 1, 2] bcast_S1x1x1024_S16x4096x1024_0_1_2 (broadcastInDim S1x1x1024 ![2] bcast_S1024_S1x1x1024_2 lb))

/-- The reference's result, of its nine arguments. -/
def result : FVec Ideal S16x4096x1024 .f32 := rnorm lg lb (rdev (rres x wo (rmix att y g wa ws)))

theorem rmix_apply (b : Fin 16) (i : Fin 4096) (e : Fin 1024) : rmix att y g wa ws (ix3 b i e)
    = mixed (fun k => att (ix3 b i k)) (fun k => y (ix3 b i k)) (fun k => g (ix3 b i k)) (fun k e => wa (ix2 k e)) (fun k e => ws (ix2 k e)) e := by
  pointwise [rmix]
  simp only [mixed]

theorem rres_apply (z : FVec Ideal S16x4096x1024 .f32) (b : Fin 16) (i : Fin 4096) (f : Fin 1024) : rres x wo z (ix3 b i f)
    = alpha * x (ix3 b i f) + ∑ e : Fin 1024, z (ix3 b i e) * wo (ix2 e f) := by
  pointwise [rres]

theorem rmean_apply (r : FVec Ideal S16x4096x1024 .f32) (b : Fin 16) (i : Fin 4096) : rmean r (ix3 b i 0)
    = mean fun e => r (ix3 b i e) := by
  pointwise [rmean]
  simp only [mean]

theorem rdev_apply (r : FVec Ideal S16x4096x1024 .f32) (b : Fin 16) (i : Fin 4096) (f : Fin 1024) : rdev r (ix3 b i f)
    = dev (fun e => r (ix3 b i e)) f := by
  have h : rdev r (ix3 b i f) = r (ix3 b i f) - rmean r (ix3 b i 0) := by
    unfold rdev
    generalize rmean r = s
    pointwise
  rw [h, rmean_apply]
  rfl

theorem rnorm_apply (d : FVec Ideal S16x4096x1024 .f32) (b : Fin 16) (i : Fin 4096) (f : Fin 1024) : rnorm lg lb d (ix3 b i f)
    = d (ix3 b i f) * Ideal.rsqrt (mean (fun e => d (ix3 b i e) * d (ix3 b i e)) + eps) * lg (ix1 f) + lb (ix1 f) := by
  have h : rnorm lg lb d (ix3 b i f)
      = d (ix3 b i f) * Ideal.rsqrt (rmean (mulf d d) (ix3 b i 0) + eps) * lg (ix1 f) + lb (ix1 f) := by
    unfold rnorm
    generalize rmean (mulf d d) = s
    pointwise
  rw [h, rmean_apply]
  rfl

/-- The reference's result at one index. -/
theorem result_apply (b : Fin 16) (i : Fin 4096) (f : Fin 1024) : result x att y g wa ws wo lg lb (ix3 b i f)
    = lnorm (res (fun e => x (ix3 b i e)) (fun e => att (ix3 b i e)) (fun e => y (ix3 b i e)) (fun e => g (ix3 b i e))
        (fun k e => wa (ix2 k e)) (fun k e => ws (ix2 k e)) (fun k e => wo (ix2 k e))) (fun e => lg (ix1 e)) (fun e => lb (ix1 e)) f := by
  have hr : (fun e => rres x wo (rmix att y g wa ws) (ix3 b i e))
      = res (fun e => x (ix3 b i e)) (fun e => att (ix3 b i e)) (fun e => y (ix3 b i e)) (fun e => g (ix3 b i e))
        (fun k e => wa (ix2 k e)) (fun k e => ws (ix2 k e)) (fun k e => wo (ix2 k e)) := funext fun e => by
    rw [rres_apply]
    simp only [rmix_apply]
    rfl
  unfold result
  rw [rnorm_apply]
  simp only [rdev_apply, hr]
  rfl

variable (m : (ℓ : Loc nD τ sig) → Buf (Elt Ideal) ℓ)

/-- The result the run ends with is `result`, of the arguments. -/
theorem res_eq (c : Dev nD) : Value.res_out0 m c
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := rfl

end Cert.MergeReferenceIdeal.Merge

end
-- ==== Proof.Merge.Launch.lean ====
/- The merge's launch over 4096 tokens: its prepared arrays, its blocks, and the result array they assemble. -/
module

public import proofs.«01_k».proof.Proof.Merge.Block
public import proofs.«01_k».proof.Proof.Merge.Ref
public import proofs.«01_k».proof.Proof.Gen.MergeIdeal.Value
public import Idealize.ShloMosaic.Lib.Pipeline.Value

@[expose] public section

set_option maxRecDepth 16384

noncomputable section

namespace Cert.MergeIdeal.Merge

open Cert.MergeIdeal Cert.MergeIdeal.Gen Cert.MergeRow Idealize.ShloMosaic Idealize.ShloMosaic.TcCoe Idealize.SL.Sem
open Idealize.ShloMosaic.Pipeline (Dat)

variable (m : (ℓ : Loc nD τ sig) → Buf (Elt Ideal) ℓ)

/-- The argument: the tokens. -/
abbrev ax (c : Dev nD) : FVec Ideal S16x4096x1024 .f32 := m ((c : Thread nD τ).loc main_arg0)
/-- The argument: the attention's output. -/
abbrev aa (c : Dev nD) : FVec Ideal S16x4096x1024 .f32 := m ((c : Thread nD τ).loc main_arg1)
/-- The argument: the recurrence's output. -/
abbrev ay (c : Dev nD) : FVec Ideal S16x4096x2048 .f32 := m ((c : Thread nD τ).loc main_arg2)
/-- The argument: the gates. -/
abbrev ag (c : Dev nD) : FVec Ideal S16x4096x2048 .f32 := m ((c : Thread nD τ).loc main_arg3)
/-- The argument: the attention's projection. -/
abbrev wa (c : Dev nD) : FVec Ideal S1024x1024 .f32 := m ((c : Thread nD τ).loc main_arg4)
/-- The argument: the recurrence's projection. -/
abbrev ws (c : Dev nD) : FVec Ideal S2048x1024 .f32 := m ((c : Thread nD τ).loc main_arg5)
/-- The argument: the output projection. -/
abbrev wo (c : Dev nD) : FVec Ideal S1024x1024 .f32 := m ((c : Thread nD τ).loc main_arg6)
/-- The argument: the norm's scale. -/
abbrev lg (c : Dev nD) : FVec Ideal S1024 .f32 := m ((c : Thread nD τ).loc main_arg7)
/-- The argument: the norm's shift. -/
abbrev lb (c : Dev nD) : FVec Ideal S1024 .f32 := m ((c : Thread nD τ).loc main_arg8)

/-! ## The arrays the windows read -/

theorem V_aa (c : Dev nD) : @Eq (FVec Ideal S16x4096x1024 .bf16) (V m c main_v0) (truncf .bf16 (aa m c) bitsLt_bf16_f32) := by
  refine (show V m c main_v0 = StableHlo.after hostOps0 (fun b => m (c, b)) main_v0 from rfl).trans ?_
  unfold hostOps0
  after_results <;> rfl

theorem V_ay (c : Dev nD) : @Eq (FVec Ideal S16x4096x2048 .bf16) (V m c main_v1) (truncf .bf16 (ay m c) bitsLt_bf16_f32) := by
  refine (show V m c main_v1 = StableHlo.after hostOps0 (fun b => m (c, b)) main_v1 from rfl).trans ?_
  unfold hostOps0
  after_results <;> rfl

theorem V_ag (c : Dev nD) : @Eq (FVec Ideal S16x4096x2048 .bf16) (V m c main_v2) (truncf .bf16 (ag m c) bitsLt_bf16_f32) := by
  refine (show V m c main_v2 = StableHlo.after hostOps0 (fun b => m (c, b)) main_v2 from rfl).trans ?_
  unfold hostOps0
  after_results <;> rfl

theorem V_wa (c : Dev nD) : @Eq (FVec Ideal S1024x1024 .bf16) (V m c main_v3) (truncf .bf16 (wa m c) bitsLt_bf16_f32) := by
  refine (show V m c main_v3 = StableHlo.after hostOps0 (fun b => m (c, b)) main_v3 from rfl).trans ?_
  unfold hostOps0
  after_results <;> rfl

theorem V_ws (c : Dev nD) : @Eq (FVec Ideal S2048x1024 .bf16) (V m c main_v4) (truncf .bf16 (ws m c) bitsLt_bf16_f32) := by
  refine (show V m c main_v4 = StableHlo.after hostOps0 (fun b => m (c, b)) main_v4 from rfl).trans ?_
  unfold hostOps0
  after_results <;> rfl

theorem V_wo (c : Dev nD) : @Eq (FVec Ideal S1024x1024 .bf16) (V m c main_v5) (truncf .bf16 (wo m c) bitsLt_bf16_f32) := by
  refine (show V m c main_v5 = StableHlo.after hostOps0 (fun b => m (c, b)) main_v5 from rfl).trans ?_
  unfold hostOps0
  after_results <;> rfl

theorem V_lg (c : Dev nD) : @Eq (FVec Ideal S1x1024 .f32) (V m c main_v6) (broadcastInDim S1x1024 ![1] bcast_S1024_S1x1024_1 (lg m c)) := by
  refine (show V m c main_v6 = StableHlo.after hostOps0 (fun b => m (c, b)) main_v6 from rfl).trans ?_
  unfold hostOps0
  after_results <;> rfl

theorem V_lg_apply (c : Dev nD) (f : Fin 1024) : (V m c main_v6 : FVec Ideal S1x1024 .f32) (ix2 0 f) = lg m c (ix1 f) := by
  rw [V_lg]; pointwise

theorem V_lb (c : Dev nD) : @Eq (FVec Ideal S1x1024 .f32) (V m c main_v7) (broadcastInDim S1x1024 ![1] bcast_S1024_S1x1024_1 (lb m c)) := by
  refine (show V m c main_v7 = StableHlo.after hostOps0 (fun b => m (c, b)) main_v7 from rfl).trans ?_
  unfold hostOps0
  after_results <;> rfl

theorem V_lb_apply (c : Dev nD) (f : Fin 1024) : (V m c main_v7 : FVec Ideal S1x1024 .f32) (ix2 0 f) = lb m c (ix1 f) := by
  rw [V_lb]; pointwise

theorem V_ax (c : Dev nD) : @Eq (FVec Ideal S16x4096x1024 .f32) (V m c main_arg0) (ax m c) := by
  refine (show V m c main_arg0 = StableHlo.after hostOps0 (fun b => m (c, b)) main_arg0 from rfl).trans ?_
  unfold hostOps0
  after_results <;> rfl

/-! ## The blocks: point `t` is sequence `t / 8`, token tile `t % 8` -/

theorem ix_0 : ∀ t : Fin grid0.N, win0_0.index t 0 = t.val / 8 ∧ win0_0.index t 1 = t.val % 8 ∧ win0_0.index t 2 = 0 := by decide +kernel
theorem ix_1 : ∀ t : Fin grid0.N, win0_1.index t 0 = t.val / 8 ∧ win0_1.index t 1 = t.val % 8 ∧ win0_1.index t 2 = 0 := by decide +kernel
theorem ix_2 : ∀ t : Fin grid0.N, win0_2.index t 0 = t.val / 8 ∧ win0_2.index t 1 = t.val % 8 ∧ win0_2.index t 2 = 0 := by decide +kernel
theorem ix_3 : ∀ t : Fin grid0.N, win0_3.index t 0 = t.val / 8 ∧ win0_3.index t 1 = t.val % 8 ∧ win0_3.index t 2 = 0 := by decide +kernel
theorem ix_4 : ∀ t : Fin grid0.N, win0_4.index t 0 = 0 ∧ win0_4.index t 1 = 0 := by decide +kernel
theorem ix_5 : ∀ t : Fin grid0.N, win0_5.index t 0 = 0 ∧ win0_5.index t 1 = 0 := by decide +kernel
theorem ix_6 : ∀ t : Fin grid0.N, win0_6.index t 0 = 0 ∧ win0_6.index t 1 = 0 := by decide +kernel
theorem ix_7 : ∀ t : Fin grid0.N, win0_7.index t 0 = 0 ∧ win0_7.index t 1 = 0 := by decide +kernel
theorem ix_8 : ∀ t : Fin grid0.N, win0_8.index t 0 = 0 ∧ win0_8.index t 1 = 0 := by decide +kernel
theorem ix_9 : ∀ t : Fin grid0.N, win0_9.index t 0 = t.val / 8 ∧ win0_9.index t 1 = t.val % 8 ∧ win0_9.index t 2 = 0 := by decide +kernel

theorem t_lt (t : Fin cfg0.N) : t.val < 128 := by have := t.isLt; have : cfg0.N = 128 := N_0; omega

/-- Window 0's block at an index. -/
theorem blk_0 (c : Dev nD) (t : Fin cfg0.N) (y1 : Fin 512) (y2 : Fin 1024) :
    (iblk m c 0 t : Vec Ideal S1x512x1024 .f32) (ix3 0 y1 y2)
      = (V m c main_arg0 : FVec Ideal S16x4096x1024 .f32) (ix3 ⟨t.val / 8, by have := t_lt t; omega⟩ ⟨t.val % 8 * 512 + y1, by omega⟩ y2) := by
  have h := ix_0 t
  show V m c main_arg0 _ = _
  refine congrArg _ (funext fun a => Fin.ext ?_)
  match a with
  | ⟨0, _⟩ => show win0_0.index t 0 * 1 + 1 * 0 = t.val / 8; omega
  | ⟨1, _⟩ => show win0_0.index t 1 * 512 + 1 * y1.val = t.val % 8 * 512 + y1.val; omega
  | ⟨2, _⟩ => show win0_0.index t 2 * 1024 + 1 * y2.val = y2.val; omega

/-- Window 1's block at an index. -/
theorem blk_1 (c : Dev nD) (t : Fin cfg0.N) (y1 : Fin 512) (y2 : Fin 1024) :
    (iblk m c 1 t : Vec Ideal S1x512x1024 .bf16) (ix3 0 y1 y2)
      = (V m c main_v0 : FVec Ideal S16x4096x1024 .bf16) (ix3 ⟨t.val / 8, by have := t_lt t; omega⟩ ⟨t.val % 8 * 512 + y1, by omega⟩ y2) := by
  have h := ix_1 t
  show V m c main_v0 _ = _
  refine congrArg _ (funext fun a => Fin.ext ?_)
  match a with
  | ⟨0, _⟩ => show win0_1.index t 0 * 1 + 1 * 0 = t.val / 8; omega
  | ⟨1, _⟩ => show win0_1.index t 1 * 512 + 1 * y1.val = t.val % 8 * 512 + y1.val; omega
  | ⟨2, _⟩ => show win0_1.index t 2 * 1024 + 1 * y2.val = y2.val; omega

/-- Window 2's block at an index. -/
theorem blk_2 (c : Dev nD) (t : Fin cfg0.N) (y1 : Fin 512) (y2 : Fin 2048) :
    (iblk m c 2 t : Vec Ideal S1x512x2048 .bf16) (ix3 0 y1 y2)
      = (V m c main_v1 : FVec Ideal S16x4096x2048 .bf16) (ix3 ⟨t.val / 8, by have := t_lt t; omega⟩ ⟨t.val % 8 * 512 + y1, by omega⟩ y2) := by
  have h := ix_2 t
  show V m c main_v1 _ = _
  refine congrArg _ (funext fun a => Fin.ext ?_)
  match a with
  | ⟨0, _⟩ => show win0_2.index t 0 * 1 + 1 * 0 = t.val / 8; omega
  | ⟨1, _⟩ => show win0_2.index t 1 * 512 + 1 * y1.val = t.val % 8 * 512 + y1.val; omega
  | ⟨2, _⟩ => show win0_2.index t 2 * 2048 + 1 * y2.val = y2.val; omega

/-- Window 3's block at an index. -/
theorem blk_3 (c : Dev nD) (t : Fin cfg0.N) (y1 : Fin 512) (y2 : Fin 2048) :
    (iblk m c 3 t : Vec Ideal S1x512x2048 .bf16) (ix3 0 y1 y2)
      = (V m c main_v2 : FVec Ideal S16x4096x2048 .bf16) (ix3 ⟨t.val / 8, by have := t_lt t; omega⟩ ⟨t.val % 8 * 512 + y1, by omega⟩ y2) := by
  have h := ix_3 t
  show V m c main_v2 _ = _
  refine congrArg _ (funext fun a => Fin.ext ?_)
  match a with
  | ⟨0, _⟩ => show win0_3.index t 0 * 1 + 1 * 0 = t.val / 8; omega
  | ⟨1, _⟩ => show win0_3.index t 1 * 512 + 1 * y1.val = t.val % 8 * 512 + y1.val; omega
  | ⟨2, _⟩ => show win0_3.index t 2 * 2048 + 1 * y2.val = y2.val; omega

/-- Window 4's block at an index. -/
theorem blk_4 (c : Dev nD) (t : Fin cfg0.N) (y0 : Fin 1024) (y1 : Fin 1024) :
    (iblk m c 4 t : Vec Ideal S1024x1024 .bf16) (ix2 y0 y1)
      = (V m c main_v3 : FVec Ideal S1024x1024 .bf16) (ix2 y0 y1) := by
  have h := ix_4 t
  show V m c main_v3 _ = _
  refine congrArg _ (funext fun a => Fin.ext ?_)
  match a with
  | ⟨0, _⟩ => show win0_4.index t 0 * 1024 + 1 * y0.val = y0.val; omega
  | ⟨1, _⟩ => show win0_4.index t 1 * 1024 + 1 * y1.val = y1.val; omega

/-- Window 5's block at an index. -/
theorem blk_5 (c : Dev nD) (t : Fin cfg0.N) (y0 : Fin 2048) (y1 : Fin 1024) :
    (iblk m c 5 t : Vec Ideal S2048x1024 .bf16) (ix2 y0 y1)
      = (V m c main_v4 : FVec Ideal S2048x1024 .bf16) (ix2 y0 y1) := by
  have h := ix_5 t
  show V m c main_v4 _ = _
  refine congrArg _ (funext fun a => Fin.ext ?_)
  match a with
  | ⟨0, _⟩ => show win0_5.index t 0 * 2048 + 1 * y0.val = y0.val; omega
  | ⟨1, _⟩ => show win0_5.index t 1 * 1024 + 1 * y1.val = y1.val; omega

/-- Window 6's block at an index. -/
theorem blk_6 (c : Dev nD) (t : Fin cfg0.N) (y0 : Fin 1024) (y1 : Fin 1024) :
    (iblk m c 6 t : Vec Ideal S1024x1024 .bf16) (ix2 y0 y1)
      = (V m c main_v5 : FVec Ideal S1024x1024 .bf16) (ix2 y0 y1) := by
  have h := ix_6 t
  show V m c main_v5 _ = _
  refine congrArg _ (funext fun a => Fin.ext ?_)
  match a with
  | ⟨0, _⟩ => show win0_6.index t 0 * 1024 + 1 * y0.val = y0.val; omega
  | ⟨1, _⟩ => show win0_6.index t 1 * 1024 + 1 * y1.val = y1.val; omega

/-- Window 7's block at an index. -/
theorem blk_7 (c : Dev nD) (t : Fin cfg0.N) (y1 : Fin 1024) :
    (iblk m c 7 t : Vec Ideal S1x1024 .f32) (ix2 0 y1)
      = (V m c main_v6 : FVec Ideal S1x1024 .f32) (ix2 0 y1) := by
  have h := ix_7 t
  show V m c main_v6 _ = _
  refine congrArg _ (funext fun a => Fin.ext ?_)
  match a with
  | ⟨0, _⟩ => show win0_7.index t 0 * 1 + 1 * 0 = 0; omega
  | ⟨1, _⟩ => show win0_7.index t 1 * 1024 + 1 * y1.val = y1.val; omega

/-- Window 8's block at an index. -/
theorem blk_8 (c : Dev nD) (t : Fin cfg0.N) (y1 : Fin 1024) :
    (iblk m c 8 t : Vec Ideal S1x1024 .f32) (ix2 0 y1)
      = (V m c main_v7 : FVec Ideal S1x1024 .f32) (ix2 0 y1) := by
  have h := ix_8 t
  show V m c main_v7 _ = _
  refine congrArg _ (funext fun a => Fin.ext ?_)
  match a with
  | ⟨0, _⟩ => show win0_8.index t 0 * 1 + 1 * 0 = 0; omega
  | ⟨1, _⟩ => show win0_8.index t 1 * 1024 + 1 * y1.val = y1.val; omega

/-- Result block 9 at an index of its array. -/
theorem blk_9 (G : FVec Ideal S16x4096x1024 .f32) (t : Fin cfg0.N) (y1 : Fin 512) (y2 : Fin 1024) :
    (((cfg0.win 9).blk t).view.read (Elt Ideal) G : Vec Ideal S1x512x1024 .f32) (ix3 0 y1 y2)
      = G (ix3 ⟨t.val / 8, by have := t_lt t; omega⟩ ⟨t.val % 8 * 512 + y1, by omega⟩ y2) := by
  have h := ix_9 t
  show G _ = _
  refine congrArg _ (funext fun a => Fin.ext ?_)
  match a with
  | ⟨0, _⟩ => show win0_9.index t 0 * 1 + 1 * 0 = t.val / 8; omega
  | ⟨1, _⟩ => show win0_9.index t 1 * 512 + 1 * y1.val = t.val % 8 * 512 + y1.val; omega
  | ⟨2, _⟩ => show win0_9.index t 2 * 1024 + 1 * y2.val = y2.val; omega

/-- An index of result array 9 is in point `t`'s block when each coordinate is in the block's range. -/
theorem mem_blk_9 (t : Fin cfg0.N) (i : S16x4096x1024.Idx) :
    i ∈ ((cfg0.win 9).blk t).view.set ↔ ((i 0 : Nat) = t.val / 8 ∧ (i 1 : Nat) / 512 = t.val % 8) := by
  show i ∈ ((View.whole main_v8).slice (win0_9.rect t)).set ↔ _
  rw [View.set_slice_whole, Rect.mem_set_unit]
  have e := ix_9 t
  have l2 : (i 2 : Nat) < 1024 := (i 2).isLt
  refine ⟨fun h => ?_, fun h a => ?_⟩
  · have h0 : win0_9.index t 0 * 1 ≤ (i 0 : Nat) ∧ (i 0 : Nat) < win0_9.index t 0 * 1 + 1 := h 0
    have h1 : win0_9.index t 1 * 512 ≤ (i 1 : Nat) ∧ (i 1 : Nat) < win0_9.index t 1 * 512 + 512 := h 1
    omega
  · match a with
    | ⟨0, _⟩ => show win0_9.index t 0 * 1 ≤ (i 0 : Nat) ∧ (i 0 : Nat) < win0_9.index t 0 * 1 + 1; omega
    | ⟨1, _⟩ => show win0_9.index t 1 * 512 ≤ (i 1 : Nat) ∧ (i 1 : Nat) < win0_9.index t 1 * 512 + 512; omega
    | ⟨2, _⟩ => show win0_9.index t 2 * 1024 ≤ (i 2 : Nat) ∧ (i 2 : Nat) < win0_9.index t 2 * 1024 + 1024; omega

/-- Result 9's blocks tile its array. -/
theorem cover_9 (i : S16x4096x1024.Idx) : ∃ t : Fin cfg0.N, (cfg0.win 9).flush t = true ∧ i ∈ ((cfg0.win 9).blk t).view.set := by
  have h0 : (i 0 : Nat) < 16 := (i 0).isLt
  have h1 : (i 1 : Nat) < 4096 := (i 1).isLt
  have hN : cfg0.N = 128 := N_0
  refine ⟨⟨(i 0 : Nat) * 8 + (i 1 : Nat) / 512, by omega⟩, flush0_9 _, ?_⟩
  rw [mem_blk_9]
  dsimp only
  omega

/-! ## The result -/

/-- The reference's function of the kernel's arguments. -/
abbrev goal (c : Dev nD) : FVec Ideal S16x4096x1024 .f32 :=
  Cert.MergeReferenceIdeal.Merge.result (ax m c) (aa m c) (ay m c) (ag m c) (wa m c) (ws m c) (wo m c) (lg m c) (lb m c)

/-- What point `t` writes back is block `t` of the reference's function. -/
theorem flushed_eq (c : Dev nD) (t : Fin cfg0.N) :
    (dats m 0 c).flushed 9 t = ((cfg0.win 9).blk t).view.read (Elt Ideal) (goal m c) := by
  have ht := t_lt t
  rw [Value.flushed9]
  funext y
  obtain ⟨z, i, f, rfl⟩ : ∃ (z : Fin 1) (i : Fin 512) (f : Fin 1024), y = ix3 z i f :=
    ⟨y 0, y 1, y 2, funext fun a => by match a with | ⟨0, _⟩ => rfl | ⟨1, _⟩ => rfl | ⟨2, _⟩ => rfl⟩
  obtain rfl : z = 0 := Subsingleton.elim _ _
  refine Eq.trans ?_ (blk_9 (goal m c) t i f).symm
  refine Eq.trans ?_ (Cert.MergeReferenceIdeal.Merge.result_apply (ax m c) (aa m c) (ay m c) (ag m c) (wa m c) (ws m c) (wo m c) (lg m c)
    (lb m c) ⟨t.val / 8, by omega⟩ ⟨t.val % 8 * 512 + i, by omega⟩ f).symm
  refine (out_apply (iblk m c 0 t) (iblk m c 1 t) (iblk m c 2 t) (iblk m c 3 t) (iblk m c 4 t) (iblk m c 5 t) (iblk m c 6 t)
    (iblk m c 7 t) (iblk m c 8 t) i f).trans ?_
  have e0 : (fun e => (iblk m c 0 t : Vec Ideal S1x512x1024 .f32) (ix3 0 i e))
      = fun e => ax m c (ix3 ⟨t.val / 8, by omega⟩ ⟨t.val % 8 * 512 + i, by omega⟩ e) := funext fun e => by rw [blk_0, V_ax]
  have e1 : (fun e => (iblk m c 1 t : Vec Ideal S1x512x1024 .bf16) (ix3 0 i e))
      = fun e => aa m c (ix3 ⟨t.val / 8, by omega⟩ ⟨t.val % 8 * 512 + i, by omega⟩ e) := funext fun e => by rw [blk_1, V_aa]; rfl
  have e2 : (fun e => (iblk m c 2 t : Vec Ideal S1x512x2048 .bf16) (ix3 0 i e))
      = fun e => ay m c (ix3 ⟨t.val / 8, by omega⟩ ⟨t.val % 8 * 512 + i, by omega⟩ e) := funext fun e => by rw [blk_2, V_ay]; rfl
  have e3 : (fun e => (iblk m c 3 t : Vec Ideal S1x512x2048 .bf16) (ix3 0 i e))
      = fun e => ag m c (ix3 ⟨t.val / 8, by omega⟩ ⟨t.val % 8 * 512 + i, by omega⟩ e) := funext fun e => by rw [blk_3, V_ag]; rfl
  have e4 : (fun k e => (iblk m c 4 t : Vec Ideal S1024x1024 .bf16) (ix2 k e)) = fun k e => wa m c (ix2 k e) :=
    funext fun k => funext fun e => by rw [blk_4, V_wa]; rfl
  have e5 : (fun k e => (iblk m c 5 t : Vec Ideal S2048x1024 .bf16) (ix2 k e)) = fun k e => ws m c (ix2 k e) :=
    funext fun k => funext fun e => by rw [blk_5, V_ws]; rfl
  have e6 : (fun k e => (iblk m c 6 t : Vec Ideal S1024x1024 .bf16) (ix2 k e)) = fun k e => wo m c (ix2 k e) :=
    funext fun k => funext fun e => by rw [blk_6, V_wo]; rfl
  have e7 : (fun e => (iblk m c 7 t : Vec Ideal S1x1024 .f32) (ix2 0 e)) = fun e => lg m c (ix1 e) :=
    funext fun e => by rw [blk_7, V_lg_apply]
  have e8 : (fun e => (iblk m c 8 t : Vec Ideal S1x1024 .f32) (ix2 0 e)) = fun e => lb m c (ix1 e) :=
    funext fun e => by rw [blk_8, V_lb_apply]
  exact congrArg₂ (fun r p => lnorm r (Prod.fst p) (Prod.snd p) f)
    (congr (congr (congr (congr (congr (congr (congrArg res e0) e1) e2) e3) e4) e5) e6) (congrArg₂ Prod.mk e7 e8)

/-- So the result array ends holding the reference's function of the arguments. -/
theorem final (c : Dev nD) : (dats m 0 c).arrAt 9 cfg0.N = goal m c :=
  (dats m 0 c).arrAt_eq_of_cover 9 (goal m c) (fun t _ => flushed_eq m c t) cover_9

end Cert.MergeIdeal.Merge

end
-- ==== Proof.Merge.Claims.lean ====
/- The merge's claims over 4096 tokens: its frames, and its agreement with the reference. -/
module

public import proofs.«01_k».proof.Defs
public import proofs.«01_k».proof.Proof.Merge.Launch
public import proofs.«01_k».proof.Proof.Gen.Merge.Frame
public import proofs.«01_k».proof.Proof.Gen.MergeIdeal.Frame
public import Idealize.ShloMosaic.Adequacy
public import Idealize.ShloMosaic.Init

@[expose] public section

set_option maxRecDepth 16384

noncomputable section

namespace Cert.Proof.Merge

open Idealize.ShloMosaic Idealize.ShloMosaic.TcCoe Idealize.SL.Sem

/-- The kernel runs, its arguments end unchanged, and its counters end at zero. -/
theorem frame_p : Cert.quiescent_Merge (hMerge := Cert.Merge.Gen.facts) := fun m ρ _ => Cert.Merge.Gen.frame m ρ

/-- So does the idealized kernel. -/
theorem frame_pi : Cert.quiescent_MergeIdeal (hMergeIdeal := Cert.MergeIdeal.Gen.facts) := fun m ρ _ => Cert.MergeIdeal.Gen.frame m ρ

/-- So does the reference. -/
theorem frame_ri : Cert.quiescent_MergeReferenceIdeal (hMergeReferenceIdeal := Cert.MergeReferenceIdeal.Gen.facts) := fun m ρ _ =>
  (θ_run Cert.MergeReferenceIdeal.defs _ _).mono (fun r h => ⟨fun c => (h c).2, sem_eq_zero_of_no_sems (by decide) r.2⟩)
    (Cert.MergeReferenceIdeal.Value.run m ρ)

/-- No operation is idealized. -/
theorem preserves : Cert.preserves_Merge_MergeIdeal := trivial

/-- At `Ideal`, from arguments that agree, the kernel's result array and the reference's end equal. -/
theorem algebraic : Cert.algebraic_MergeIdeal_MergeReferenceIdeal (hMergeIdeal := Cert.MergeIdeal.Gen.facts)
    (hMergeReferenceIdeal := Cert.MergeReferenceIdeal.Gen.facts) := fun m ρ m' ρ' _ hag =>
  ⟨fun c => Cert.MergeIdeal.Merge.goal m c,
    (θ_run Cert.MergeIdeal.defs _ _).mono (fun _ h c => ⟨(h c).1.trans (Cert.MergeIdeal.Merge.final m c), (h c).2⟩)
      (Cert.MergeIdeal.Value.run_blocks m ρ),
    (θ_run Cert.MergeReferenceIdeal.defs _ _).mono (fun _ h c => ⟨((h c).1.trans (Cert.MergeReferenceIdeal.Merge.res_eq m' c)).trans
        (by rw [(hag c).1, (hag c).2.1, (hag c).2.2.1, (hag c).2.2.2.1, (hag c).2.2.2.2.1, (hag c).2.2.2.2.2.1,
          (hag c).2.2.2.2.2.2.1, (hag c).2.2.2.2.2.2.2.1, (hag c).2.2.2.2.2.2.2.2]), (h c).2⟩)
      (Cert.MergeReferenceIdeal.Value.run m' ρ')⟩

end Cert.Proof.Merge

end
-- ==== Proof.MergePrompt.Ref.lean ====
/- The reference's merge over 2048 tokens at one index: the layer norm of the token's residual row. -/
module

public import proofs.«01_k».proof.Proof.Merge.Row
public import proofs.«01_k».proof.Proof.Gen.MergePromptReferenceIdeal.Run
public import Idealize.ShloMosaic.Lib.Pointwise

@[expose] public section

set_option maxRecDepth 16384

noncomputable section

namespace Cert.MergePromptReferenceIdeal.Merge

open Cert.MergePromptReferenceIdeal Cert.MergePromptReferenceIdeal.Gen Cert.MergeRow Idealize.ShloMosaic Idealize.ShloMosaic.TcCoe Idealize.SL.Sem

variable (x att : FVec Ideal S16x2048x1024 .f32) (y g : FVec Ideal S16x2048x2048 .f32) (wa : FVec Ideal S1024x1024 .f32)
  (ws : FVec Ideal S2048x1024 .f32) (wo : FVec Ideal S1024x1024 .f32) (lg lb : FVec Ideal S1024 .f32)

/-- The gated mix. -/
def rmix : FVec Ideal S16x2048x1024 .f32 :=
  addf (mulf (extractStridedSlice S16x2048x1024 ![0, 0, 0] g slices_S16x2048x2048_S16x2048x1024_0_0_0) (Host.dotGeneral dot_S16x2048x1024_S1024x1024_S16x2048x1024_2_0_01_1_n_n none att wa)) (mulf (extractStridedSlice S16x2048x1024 ![0, 0, 1024] g slices_S16x2048x2048_S16x2048x1024_0_0_1024) (Host.dotGeneral dot_S16x2048x2048_S2048x1024_S16x2048x1024_2_0_01_1_n_n none y ws))

/-- The residual, of the mix. -/
def rres (z : FVec Ideal S16x2048x1024 .f32) : FVec Ideal S16x2048x1024 .f32 :=
  addf (mulf (broadcastInDim S16x2048x1024 ![] bcast_S_S16x2048x1024 (constant S_ .f32 0x3F9837F0#32)) x) (Host.dotGeneral dot_S16x2048x1024_S1024x1024_S16x2048x1024_2_0_01_1_n_n none z wo)

/-- The rows' averages. -/
def rmean (r : FVec Ideal S16x2048x1024 .f32) : FVec Ideal S16x2048x1 .f32 :=
  Host.divf (broadcastInDim S16x2048x1 ![0, 1] bcast_S16x2048_S16x2048x1_0_1 (Host.reduceAdd r (constant S_ .f32 0x00000000#32) reducesTo_S16x2048x1024_S16x2048_d2 h_S_)) (broadcastInDim S16x2048x1 ![] bcast_S_S16x2048x1 (constant S_ .f32 0x44800000#32))

/-- The rows less their averages. -/
def rdev (r : FVec Ideal S16x2048x1024 .f32) : FVec Ideal S16x2048x1024 .f32 :=
  subf r (broadcastInDim S16x2048x1024 ![0, 1, 2] bcast_S16x2048x1_S16x2048x1024_0_1_2 (rmean r))

/-- The layer norm, of the rows less their averages. -/
def rnorm (d : FVec Ideal S16x2048x1024 .f32) : FVec Ideal S16x2048x1024 .f32 :=
  addf (mulf (mulf d (broadcastInDim S16x2048x1024 ![0, 1, 2] bcast_S16x2048x1_S16x2048x1024_0_1_2 (Host.rsqrt (addf (rmean (mulf d d)) (broadcastInDim S16x2048x1 ![] bcast_S_S16x2048x1 (constant S_ .f32 0x3727C5AC#32)))))) (broadcastInDim S16x2048x1024 ![0, 1, 2] bcast_S1x1x1024_S16x2048x1024_0_1_2 (broadcastInDim S1x1x1024 ![2] bcast_S1024_S1x1x1024_2 lg))) (broadcastInDim S16x2048x1024 ![0, 1, 2] bcast_S1x1x1024_S16x2048x1024_0_1_2 (broadcastInDim S1x1x1024 ![2] bcast_S1024_S1x1x1024_2 lb))

/-- The reference's result, of its nine arguments. -/
def result : FVec Ideal S16x2048x1024 .f32 := rnorm lg lb (rdev (rres x wo (rmix att y g wa ws)))

theorem rmix_apply (b : Fin 16) (i : Fin 2048) (e : Fin 1024) : rmix att y g wa ws (ix3 b i e)
    = mixed (fun k => att (ix3 b i k)) (fun k => y (ix3 b i k)) (fun k => g (ix3 b i k)) (fun k e => wa (ix2 k e)) (fun k e => ws (ix2 k e)) e := by
  pointwise [rmix]
  simp only [mixed]

theorem rres_apply (z : FVec Ideal S16x2048x1024 .f32) (b : Fin 16) (i : Fin 2048) (f : Fin 1024) : rres x wo z (ix3 b i f)
    = alpha * x (ix3 b i f) + ∑ e : Fin 1024, z (ix3 b i e) * wo (ix2 e f) := by
  pointwise [rres]

theorem rmean_apply (r : FVec Ideal S16x2048x1024 .f32) (b : Fin 16) (i : Fin 2048) : rmean r (ix3 b i 0)
    = mean fun e => r (ix3 b i e) := by
  pointwise [rmean]
  simp only [mean]

theorem rdev_apply (r : FVec Ideal S16x2048x1024 .f32) (b : Fin 16) (i : Fin 2048) (f : Fin 1024) : rdev r (ix3 b i f)
    = dev (fun e => r (ix3 b i e)) f := by
  have h : rdev r (ix3 b i f) = r (ix3 b i f) - rmean r (ix3 b i 0) := by
    unfold rdev
    generalize rmean r = s
    pointwise
  rw [h, rmean_apply]
  rfl

theorem rnorm_apply (d : FVec Ideal S16x2048x1024 .f32) (b : Fin 16) (i : Fin 2048) (f : Fin 1024) : rnorm lg lb d (ix3 b i f)
    = d (ix3 b i f) * Ideal.rsqrt (mean (fun e => d (ix3 b i e) * d (ix3 b i e)) + eps) * lg (ix1 f) + lb (ix1 f) := by
  have h : rnorm lg lb d (ix3 b i f)
      = d (ix3 b i f) * Ideal.rsqrt (rmean (mulf d d) (ix3 b i 0) + eps) * lg (ix1 f) + lb (ix1 f) := by
    unfold rnorm
    generalize rmean (mulf d d) = s
    pointwise
  rw [h, rmean_apply]
  rfl

/-- The reference's result at one index. -/
theorem result_apply (b : Fin 16) (i : Fin 2048) (f : Fin 1024) : result x att y g wa ws wo lg lb (ix3 b i f)
    = lnorm (res (fun e => x (ix3 b i e)) (fun e => att (ix3 b i e)) (fun e => y (ix3 b i e)) (fun e => g (ix3 b i e))
        (fun k e => wa (ix2 k e)) (fun k e => ws (ix2 k e)) (fun k e => wo (ix2 k e))) (fun e => lg (ix1 e)) (fun e => lb (ix1 e)) f := by
  have hr : (fun e => rres x wo (rmix att y g wa ws) (ix3 b i e))
      = res (fun e => x (ix3 b i e)) (fun e => att (ix3 b i e)) (fun e => y (ix3 b i e)) (fun e => g (ix3 b i e))
        (fun k e => wa (ix2 k e)) (fun k e => ws (ix2 k e)) (fun k e => wo (ix2 k e)) := funext fun e => by
    rw [rres_apply]
    simp only [rmix_apply]
    rfl
  unfold result
  rw [rnorm_apply]
  simp only [rdev_apply, hr]
  rfl

variable (m : (ℓ : Loc nD τ sig) → Buf (Elt Ideal) ℓ)

/-- The result the run ends with is `result`, of the arguments. -/
theorem res_eq (c : Dev nD) : Value.res_out0 m c
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := rfl

end Cert.MergePromptReferenceIdeal.Merge

end
-- ==== Proof.MergePrompt.Launch.lean ====
/- The merge's launch over 2048 tokens: its prepared arrays, its blocks, and the result array they assemble. -/
module

public import proofs.«01_k».proof.Proof.Merge.Block
public import proofs.«01_k».proof.Proof.MergePrompt.Ref
public import proofs.«01_k».proof.Proof.Gen.MergePromptIdeal.Value
public import Idealize.ShloMosaic.Lib.Pipeline.Value

@[expose] public section

set_option maxRecDepth 16384

noncomputable section

namespace Cert.MergePromptIdeal.Merge

open Cert.MergePromptIdeal Cert.MergePromptIdeal.Gen Cert.MergeRow Idealize.ShloMosaic Idealize.ShloMosaic.TcCoe Idealize.SL.Sem
open Idealize.ShloMosaic.Pipeline (Dat)

variable (m : (ℓ : Loc nD τ sig) → Buf (Elt Ideal) ℓ)

/-- The argument: the tokens. -/
abbrev ax (c : Dev nD) : FVec Ideal S16x2048x1024 .f32 := m ((c : Thread nD τ).loc main_arg0)
/-- The argument: the attention's output. -/
abbrev aa (c : Dev nD) : FVec Ideal S16x2048x1024 .f32 := m ((c : Thread nD τ).loc main_arg1)
/-- The argument: the recurrence's output. -/
abbrev ay (c : Dev nD) : FVec Ideal S16x2048x2048 .f32 := m ((c : Thread nD τ).loc main_arg2)
/-- The argument: the gates. -/
abbrev ag (c : Dev nD) : FVec Ideal S16x2048x2048 .f32 := m ((c : Thread nD τ).loc main_arg3)
/-- The argument: the attention's projection. -/
abbrev wa (c : Dev nD) : FVec Ideal S1024x1024 .f32 := m ((c : Thread nD τ).loc main_arg4)
/-- The argument: the recurrence's projection. -/
abbrev ws (c : Dev nD) : FVec Ideal S2048x1024 .f32 := m ((c : Thread nD τ).loc main_arg5)
/-- The argument: the output projection. -/
abbrev wo (c : Dev nD) : FVec Ideal S1024x1024 .f32 := m ((c : Thread nD τ).loc main_arg6)
/-- The argument: the norm's scale. -/
abbrev lg (c : Dev nD) : FVec Ideal S1024 .f32 := m ((c : Thread nD τ).loc main_arg7)
/-- The argument: the norm's shift. -/
abbrev lb (c : Dev nD) : FVec Ideal S1024 .f32 := m ((c : Thread nD τ).loc main_arg8)

/-! ## The arrays the windows read -/

theorem V_aa (c : Dev nD) : @Eq (FVec Ideal S16x2048x1024 .bf16) (V m c main_v0) (truncf .bf16 (aa m c) bitsLt_bf16_f32) := by
  refine (show V m c main_v0 = StableHlo.after hostOps0 (fun b => m (c, b)) main_v0 from rfl).trans ?_
  unfold hostOps0
  after_results <;> rfl

theorem V_ay (c : Dev nD) : @Eq (FVec Ideal S16x2048x2048 .bf16) (V m c main_v1) (truncf .bf16 (ay m c) bitsLt_bf16_f32) := by
  refine (show V m c main_v1 = StableHlo.after hostOps0 (fun b => m (c, b)) main_v1 from rfl).trans ?_
  unfold hostOps0
  after_results <;> rfl

theorem V_ag (c : Dev nD) : @Eq (FVec Ideal S16x2048x2048 .bf16) (V m c main_v2) (truncf .bf16 (ag m c) bitsLt_bf16_f32) := by
  refine (show V m c main_v2 = StableHlo.after hostOps0 (fun b => m (c, b)) main_v2 from rfl).trans ?_
  unfold hostOps0
  after_results <;> rfl

theorem V_wa (c : Dev nD) : @Eq (FVec Ideal S1024x1024 .bf16) (V m c main_v3) (truncf .bf16 (wa m c) bitsLt_bf16_f32) := by
  refine (show V m c main_v3 = StableHlo.after hostOps0 (fun b => m (c, b)) main_v3 from rfl).trans ?_
  unfold hostOps0
  after_results <;> rfl

theorem V_ws (c : Dev nD) : @Eq (FVec Ideal S2048x1024 .bf16) (V m c main_v4) (truncf .bf16 (ws m c) bitsLt_bf16_f32) := by
  refine (show V m c main_v4 = StableHlo.after hostOps0 (fun b => m (c, b)) main_v4 from rfl).trans ?_
  unfold hostOps0
  after_results <;> rfl

theorem V_wo (c : Dev nD) : @Eq (FVec Ideal S1024x1024 .bf16) (V m c main_v5) (truncf .bf16 (wo m c) bitsLt_bf16_f32) := by
  refine (show V m c main_v5 = StableHlo.after hostOps0 (fun b => m (c, b)) main_v5 from rfl).trans ?_
  unfold hostOps0
  after_results <;> rfl

theorem V_lg (c : Dev nD) : @Eq (FVec Ideal S1x1024 .f32) (V m c main_v6) (broadcastInDim S1x1024 ![1] bcast_S1024_S1x1024_1 (lg m c)) := by
  refine (show V m c main_v6 = StableHlo.after hostOps0 (fun b => m (c, b)) main_v6 from rfl).trans ?_
  unfold hostOps0
  after_results <;> rfl

theorem V_lg_apply (c : Dev nD) (f : Fin 1024) : (V m c main_v6 : FVec Ideal S1x1024 .f32) (ix2 0 f) = lg m c (ix1 f) := by
  rw [V_lg]; pointwise

theorem V_lb (c : Dev nD) : @Eq (FVec Ideal S1x1024 .f32) (V m c main_v7) (broadcastInDim S1x1024 ![1] bcast_S1024_S1x1024_1 (lb m c)) := by
  refine (show V m c main_v7 = StableHlo.after hostOps0 (fun b => m (c, b)) main_v7 from rfl).trans ?_
  unfold hostOps0
  after_results <;> rfl

theorem V_lb_apply (c : Dev nD) (f : Fin 1024) : (V m c main_v7 : FVec Ideal S1x1024 .f32) (ix2 0 f) = lb m c (ix1 f) := by
  rw [V_lb]; pointwise

theorem V_ax (c : Dev nD) : @Eq (FVec Ideal S16x2048x1024 .f32) (V m c main_arg0) (ax m c) := by
  refine (show V m c main_arg0 = StableHlo.after hostOps0 (fun b => m (c, b)) main_arg0 from rfl).trans ?_
  unfold hostOps0
  after_results <;> rfl

/-! ## The blocks: point `t` is sequence `t / 4`, token tile `t % 4` -/

theorem ix_0 : ∀ t : Fin grid0.N, win0_0.index t 0 = t.val / 4 ∧ win0_0.index t 1 = t.val % 4 ∧ win0_0.index t 2 = 0 := by decide +kernel
theorem ix_1 : ∀ t : Fin grid0.N, win0_1.index t 0 = t.val / 4 ∧ win0_1.index t 1 = t.val % 4 ∧ win0_1.index t 2 = 0 := by decide +kernel
theorem ix_2 : ∀ t : Fin grid0.N, win0_2.index t 0 = t.val / 4 ∧ win0_2.index t 1 = t.val % 4 ∧ win0_2.index t 2 = 0 := by decide +kernel
theorem ix_3 : ∀ t : Fin grid0.N, win0_3.index t 0 = t.val / 4 ∧ win0_3.index t 1 = t.val % 4 ∧ win0_3.index t 2 = 0 := by decide +kernel
theorem ix_4 : ∀ t : Fin grid0.N, win0_4.index t 0 = 0 ∧ win0_4.index t 1 = 0 := by decide +kernel
theorem ix_5 : ∀ t : Fin grid0.N, win0_5.index t 0 = 0 ∧ win0_5.index t 1 = 0 := by decide +kernel
theorem ix_6 : ∀ t : Fin grid0.N, win0_6.index t 0 = 0 ∧ win0_6.index t 1 = 0 := by decide +kernel
theorem ix_7 : ∀ t : Fin grid0.N, win0_7.index t 0 = 0 ∧ win0_7.index t 1 = 0 := by decide +kernel
theorem ix_8 : ∀ t : Fin grid0.N, win0_8.index t 0 = 0 ∧ win0_8.index t 1 = 0 := by decide +kernel
theorem ix_9 : ∀ t : Fin grid0.N, win0_9.index t 0 = t.val / 4 ∧ win0_9.index t 1 = t.val % 4 ∧ win0_9.index t 2 = 0 := by decide +kernel

theorem t_lt (t : Fin cfg0.N) : t.val < 64 := by have := t.isLt; have : cfg0.N = 64 := N_0; omega

/-- Window 0's block at an index. -/
theorem blk_0 (c : Dev nD) (t : Fin cfg0.N) (y1 : Fin 512) (y2 : Fin 1024) :
    (iblk m c 0 t : Vec Ideal S1x512x1024 .f32) (ix3 0 y1 y2)
      = (V m c main_arg0 : FVec Ideal S16x2048x1024 .f32) (ix3 ⟨t.val / 4, by have := t_lt t; omega⟩ ⟨t.val % 4 * 512 + y1, by omega⟩ y2) := by
  have h := ix_0 t
  show V m c main_arg0 _ = _
  refine congrArg _ (funext fun a => Fin.ext ?_)
  match a with
  | ⟨0, _⟩ => show win0_0.index t 0 * 1 + 1 * 0 = t.val / 4; omega
  | ⟨1, _⟩ => show win0_0.index t 1 * 512 + 1 * y1.val = t.val % 4 * 512 + y1.val; omega
  | ⟨2, _⟩ => show win0_0.index t 2 * 1024 + 1 * y2.val = y2.val; omega

/-- Window 1's block at an index. -/
theorem blk_1 (c : Dev nD) (t : Fin cfg0.N) (y1 : Fin 512) (y2 : Fin 1024) :
    (iblk m c 1 t : Vec Ideal S1x512x1024 .bf16) (ix3 0 y1 y2)
      = (V m c main_v0 : FVec Ideal S16x2048x1024 .bf16) (ix3 ⟨t.val / 4, by have := t_lt t; omega⟩ ⟨t.val % 4 * 512 + y1, by omega⟩ y2) := by
  have h := ix_1 t
  show V m c main_v0 _ = _
  refine congrArg _ (funext fun a => Fin.ext ?_)
  match a with
  | ⟨0, _⟩ => show win0_1.index t 0 * 1 + 1 * 0 = t.val / 4; omega
  | ⟨1, _⟩ => show win0_1.index t 1 * 512 + 1 * y1.val = t.val % 4 * 512 + y1.val; omega
  | ⟨2, _⟩ => show win0_1.index t 2 * 1024 + 1 * y2.val = y2.val; omega

/-- Window 2's block at an index. -/
theorem blk_2 (c : Dev nD) (t : Fin cfg0.N) (y1 : Fin 512) (y2 : Fin 2048) :
    (iblk m c 2 t : Vec Ideal S1x512x2048 .bf16) (ix3 0 y1 y2)
      = (V m c main_v1 : FVec Ideal S16x2048x2048 .bf16) (ix3 ⟨t.val / 4, by have := t_lt t; omega⟩ ⟨t.val % 4 * 512 + y1, by omega⟩ y2) := by
  have h := ix_2 t
  show V m c main_v1 _ = _
  refine congrArg _ (funext fun a => Fin.ext ?_)
  match a with
  | ⟨0, _⟩ => show win0_2.index t 0 * 1 + 1 * 0 = t.val / 4; omega
  | ⟨1, _⟩ => show win0_2.index t 1 * 512 + 1 * y1.val = t.val % 4 * 512 + y1.val; omega
  | ⟨2, _⟩ => show win0_2.index t 2 * 2048 + 1 * y2.val = y2.val; omega

/-- Window 3's block at an index. -/
theorem blk_3 (c : Dev nD) (t : Fin cfg0.N) (y1 : Fin 512) (y2 : Fin 2048) :
    (iblk m c 3 t : Vec Ideal S1x512x2048 .bf16) (ix3 0 y1 y2)
      = (V m c main_v2 : FVec Ideal S16x2048x2048 .bf16) (ix3 ⟨t.val / 4, by have := t_lt t; omega⟩ ⟨t.val % 4 * 512 + y1, by omega⟩ y2) := by
  have h := ix_3 t
  show V m c main_v2 _ = _
  refine congrArg _ (funext fun a => Fin.ext ?_)
  match a with
  | ⟨0, _⟩ => show win0_3.index t 0 * 1 + 1 * 0 = t.val / 4; omega
  | ⟨1, _⟩ => show win0_3.index t 1 * 512 + 1 * y1.val = t.val % 4 * 512 + y1.val; omega
  | ⟨2, _⟩ => show win0_3.index t 2 * 2048 + 1 * y2.val = y2.val; omega

/-- Window 4's block at an index. -/
theorem blk_4 (c : Dev nD) (t : Fin cfg0.N) (y0 : Fin 1024) (y1 : Fin 1024) :
    (iblk m c 4 t : Vec Ideal S1024x1024 .bf16) (ix2 y0 y1)
      = (V m c main_v3 : FVec Ideal S1024x1024 .bf16) (ix2 y0 y1) := by
  have h := ix_4 t
  show V m c main_v3 _ = _
  refine congrArg _ (funext fun a => Fin.ext ?_)
  match a with
  | ⟨0, _⟩ => show win0_4.index t 0 * 1024 + 1 * y0.val = y0.val; omega
  | ⟨1, _⟩ => show win0_4.index t 1 * 1024 + 1 * y1.val = y1.val; omega

/-- Window 5's block at an index. -/
theorem blk_5 (c : Dev nD) (t : Fin cfg0.N) (y0 : Fin 2048) (y1 : Fin 1024) :
    (iblk m c 5 t : Vec Ideal S2048x1024 .bf16) (ix2 y0 y1)
      = (V m c main_v4 : FVec Ideal S2048x1024 .bf16) (ix2 y0 y1) := by
  have h := ix_5 t
  show V m c main_v4 _ = _
  refine congrArg _ (funext fun a => Fin.ext ?_)
  match a with
  | ⟨0, _⟩ => show win0_5.index t 0 * 2048 + 1 * y0.val = y0.val; omega
  | ⟨1, _⟩ => show win0_5.index t 1 * 1024 + 1 * y1.val = y1.val; omega

/-- Window 6's block at an index. -/
theorem blk_6 (c : Dev nD) (t : Fin cfg0.N) (y0 : Fin 1024) (y1 : Fin 1024) :
    (iblk m c 6 t : Vec Ideal S1024x1024 .bf16) (ix2 y0 y1)
      = (V m c main_v5 : FVec Ideal S1024x1024 .bf16) (ix2 y0 y1) := by
  have h := ix_6 t
  show V m c main_v5 _ = _
  refine congrArg _ (funext fun a => Fin.ext ?_)
  match a with
  | ⟨0, _⟩ => show win0_6.index t 0 * 1024 + 1 * y0.val = y0.val; omega
  | ⟨1, _⟩ => show win0_6.index t 1 * 1024 + 1 * y1.val = y1.val; omega

/-- Window 7's block at an index. -/
theorem blk_7 (c : Dev nD) (t : Fin cfg0.N) (y1 : Fin 1024) :
    (iblk m c 7 t : Vec Ideal S1x1024 .f32) (ix2 0 y1)
      = (V m c main_v6 : FVec Ideal S1x1024 .f32) (ix2 0 y1) := by
  have h := ix_7 t
  show V m c main_v6 _ = _
  refine congrArg _ (funext fun a => Fin.ext ?_)
  match a with
  | ⟨0, _⟩ => show win0_7.index t 0 * 1 + 1 * 0 = 0; omega
  | ⟨1, _⟩ => show win0_7.index t 1 * 1024 + 1 * y1.val = y1.val; omega

/-- Window 8's block at an index. -/
theorem blk_8 (c : Dev nD) (t : Fin cfg0.N) (y1 : Fin 1024) :
    (iblk m c 8 t : Vec Ideal S1x1024 .f32) (ix2 0 y1)
      = (V m c main_v7 : FVec Ideal S1x1024 .f32) (ix2 0 y1) := by
  have h := ix_8 t
  show V m c main_v7 _ = _
  refine congrArg _ (funext fun a => Fin.ext ?_)
  match a with
  | ⟨0, _⟩ => show win0_8.index t 0 * 1 + 1 * 0 = 0; omega
  | ⟨1, _⟩ => show win0_8.index t 1 * 1024 + 1 * y1.val = y1.val; omega

/-- Result block 9 at an index of its array. -/
theorem blk_9 (G : FVec Ideal S16x2048x1024 .f32) (t : Fin cfg0.N) (y1 : Fin 512) (y2 : Fin 1024) :
    (((cfg0.win 9).blk t).view.read (Elt Ideal) G : Vec Ideal S1x512x1024 .f32) (ix3 0 y1 y2)
      = G (ix3 ⟨t.val / 4, by have := t_lt t; omega⟩ ⟨t.val % 4 * 512 + y1, by omega⟩ y2) := by
  have h := ix_9 t
  show G _ = _
  refine congrArg _ (funext fun a => Fin.ext ?_)
  match a with
  | ⟨0, _⟩ => show win0_9.index t 0 * 1 + 1 * 0 = t.val / 4; omega
  | ⟨1, _⟩ => show win0_9.index t 1 * 512 + 1 * y1.val = t.val % 4 * 512 + y1.val; omega
  | ⟨2, _⟩ => show win0_9.index t 2 * 1024 + 1 * y2.val = y2.val; omega

/-- An index of result array 9 is in point `t`'s block when each coordinate is in the block's range. -/
theorem mem_blk_9 (t : Fin cfg0.N) (i : S16x2048x1024.Idx) :
    i ∈ ((cfg0.win 9).blk t).view.set ↔ ((i 0 : Nat) = t.val / 4 ∧ (i 1 : Nat) / 512 = t.val % 4) := by
  show i ∈ ((View.whole main_v8).slice (win0_9.rect t)).set ↔ _
  rw [View.set_slice_whole, Rect.mem_set_unit]
  have e := ix_9 t
  have l2 : (i 2 : Nat) < 1024 := (i 2).isLt
  refine ⟨fun h => ?_, fun h a => ?_⟩
  · have h0 : win0_9.index t 0 * 1 ≤ (i 0 : Nat) ∧ (i 0 : Nat) < win0_9.index t 0 * 1 + 1 := h 0
    have h1 : win0_9.index t 1 * 512 ≤ (i 1 : Nat) ∧ (i 1 : Nat) < win0_9.index t 1 * 512 + 512 := h 1
    omega
  · match a with
    | ⟨0, _⟩ => show win0_9.index t 0 * 1 ≤ (i 0 : Nat) ∧ (i 0 : Nat) < win0_9.index t 0 * 1 + 1; omega
    | ⟨1, _⟩ => show win0_9.index t 1 * 512 ≤ (i 1 : Nat) ∧ (i 1 : Nat) < win0_9.index t 1 * 512 + 512; omega
    | ⟨2, _⟩ => show win0_9.index t 2 * 1024 ≤ (i 2 : Nat) ∧ (i 2 : Nat) < win0_9.index t 2 * 1024 + 1024; omega

/-- Result 9's blocks tile its array. -/
theorem cover_9 (i : S16x2048x1024.Idx) : ∃ t : Fin cfg0.N, (cfg0.win 9).flush t = true ∧ i ∈ ((cfg0.win 9).blk t).view.set := by
  have h0 : (i 0 : Nat) < 16 := (i 0).isLt
  have h1 : (i 1 : Nat) < 2048 := (i 1).isLt
  have hN : cfg0.N = 64 := N_0
  refine ⟨⟨(i 0 : Nat) * 4 + (i 1 : Nat) / 512, by omega⟩, flush0_9 _, ?_⟩
  rw [mem_blk_9]
  dsimp only
  omega

/-! ## The result -/

/-- The reference's function of the kernel's arguments. -/
abbrev goal (c : Dev nD) : FVec Ideal S16x2048x1024 .f32 :=
  Cert.MergePromptReferenceIdeal.Merge.result (ax m c) (aa m c) (ay m c) (ag m c) (wa m c) (ws m c) (wo m c) (lg m c) (lb m c)

/-- What point `t` writes back is block `t` of the reference's function. -/
theorem flushed_eq (c : Dev nD) (t : Fin cfg0.N) :
    (dats m 0 c).flushed 9 t = ((cfg0.win 9).blk t).view.read (Elt Ideal) (goal m c) := by
  have ht := t_lt t
  rw [Value.flushed9]
  funext y
  obtain ⟨z, i, f, rfl⟩ : ∃ (z : Fin 1) (i : Fin 512) (f : Fin 1024), y = ix3 z i f :=
    ⟨y 0, y 1, y 2, funext fun a => by match a with | ⟨0, _⟩ => rfl | ⟨1, _⟩ => rfl | ⟨2, _⟩ => rfl⟩
  obtain rfl : z = 0 := Subsingleton.elim _ _
  refine Eq.trans ?_ (blk_9 (goal m c) t i f).symm
  refine Eq.trans ?_ (Cert.MergePromptReferenceIdeal.Merge.result_apply (ax m c) (aa m c) (ay m c) (ag m c) (wa m c) (ws m c) (wo m c) (lg m c)
    (lb m c) ⟨t.val / 4, by omega⟩ ⟨t.val % 4 * 512 + i, by omega⟩ f).symm
  refine (Cert.MergeIdeal.Merge.out_apply (iblk m c 0 t) (iblk m c 1 t) (iblk m c 2 t) (iblk m c 3 t) (iblk m c 4 t) (iblk m c 5 t) (iblk m c 6 t)
    (iblk m c 7 t) (iblk m c 8 t) i f).trans ?_
  have e0 : (fun e => (iblk m c 0 t : Vec Ideal S1x512x1024 .f32) (ix3 0 i e))
      = fun e => ax m c (ix3 ⟨t.val / 4, by omega⟩ ⟨t.val % 4 * 512 + i, by omega⟩ e) := funext fun e => by rw [blk_0, V_ax]
  have e1 : (fun e => (iblk m c 1 t : Vec Ideal S1x512x1024 .bf16) (ix3 0 i e))
      = fun e => aa m c (ix3 ⟨t.val / 4, by omega⟩ ⟨t.val % 4 * 512 + i, by omega⟩ e) := funext fun e => by rw [blk_1, V_aa]; rfl
  have e2 : (fun e => (iblk m c 2 t : Vec Ideal S1x512x2048 .bf16) (ix3 0 i e))
      = fun e => ay m c (ix3 ⟨t.val / 4, by omega⟩ ⟨t.val % 4 * 512 + i, by omega⟩ e) := funext fun e => by rw [blk_2, V_ay]; rfl
  have e3 : (fun e => (iblk m c 3 t : Vec Ideal S1x512x2048 .bf16) (ix3 0 i e))
      = fun e => ag m c (ix3 ⟨t.val / 4, by omega⟩ ⟨t.val % 4 * 512 + i, by omega⟩ e) := funext fun e => by rw [blk_3, V_ag]; rfl
  have e4 : (fun k e => (iblk m c 4 t : Vec Ideal S1024x1024 .bf16) (ix2 k e)) = fun k e => wa m c (ix2 k e) :=
    funext fun k => funext fun e => by rw [blk_4, V_wa]; rfl
  have e5 : (fun k e => (iblk m c 5 t : Vec Ideal S2048x1024 .bf16) (ix2 k e)) = fun k e => ws m c (ix2 k e) :=
    funext fun k => funext fun e => by rw [blk_5, V_ws]; rfl
  have e6 : (fun k e => (iblk m c 6 t : Vec Ideal S1024x1024 .bf16) (ix2 k e)) = fun k e => wo m c (ix2 k e) :=
    funext fun k => funext fun e => by rw [blk_6, V_wo]; rfl
  have e7 : (fun e => (iblk m c 7 t : Vec Ideal S1x1024 .f32) (ix2 0 e)) = fun e => lg m c (ix1 e) :=
    funext fun e => by rw [blk_7, V_lg_apply]
  have e8 : (fun e => (iblk m c 8 t : Vec Ideal S1x1024 .f32) (ix2 0 e)) = fun e => lb m c (ix1 e) :=
    funext fun e => by rw [blk_8, V_lb_apply]
  exact congrArg₂ (fun r p => lnorm r (Prod.fst p) (Prod.snd p) f)
    (congr (congr (congr (congr (congr (congr (congrArg res e0) e1) e2) e3) e4) e5) e6) (congrArg₂ Prod.mk e7 e8)

/-- So the result array ends holding the reference's function of the arguments. -/
theorem final (c : Dev nD) : (dats m 0 c).arrAt 9 cfg0.N = goal m c :=
  (dats m 0 c).arrAt_eq_of_cover 9 (goal m c) (fun t _ => flushed_eq m c t) cover_9

end Cert.MergePromptIdeal.Merge

end
-- ==== Proof.MergePrompt.Claims.lean ====
/- The merge's claims over 2048 tokens: its frames, and its agreement with the reference. -/
module

public import proofs.«01_k».proof.Defs
public import proofs.«01_k».proof.Proof.MergePrompt.Launch
public import proofs.«01_k».proof.Proof.Gen.MergePrompt.Frame
public import proofs.«01_k».proof.Proof.Gen.MergePromptIdeal.Frame
public import Idealize.ShloMosaic.Adequacy
public import Idealize.ShloMosaic.Init

@[expose] public section

set_option maxRecDepth 16384

noncomputable section

namespace Cert.Proof.MergePrompt

open Idealize.ShloMosaic Idealize.ShloMosaic.TcCoe Idealize.SL.Sem

/-- The kernel runs, its arguments end unchanged, and its counters end at zero. -/
theorem frame_p : Cert.quiescent_MergePrompt (hMergePrompt := Cert.MergePrompt.Gen.facts) := fun m ρ _ => Cert.MergePrompt.Gen.frame m ρ

/-- So does the idealized kernel. -/
theorem frame_pi : Cert.quiescent_MergePromptIdeal (hMergePromptIdeal := Cert.MergePromptIdeal.Gen.facts) := fun m ρ _ => Cert.MergePromptIdeal.Gen.frame m ρ

/-- So does the reference. -/
theorem frame_ri : Cert.quiescent_MergePromptReferenceIdeal (hMergePromptReferenceIdeal := Cert.MergePromptReferenceIdeal.Gen.facts) := fun m ρ _ =>
  (θ_run Cert.MergePromptReferenceIdeal.defs _ _).mono (fun r h => ⟨fun c => (h c).2, sem_eq_zero_of_no_sems (by decide) r.2⟩)
    (Cert.MergePromptReferenceIdeal.Value.run m ρ)

/-- No operation is idealized. -/
theorem preserves : Cert.preserves_MergePrompt_MergePromptIdeal := trivial

/-- At `Ideal`, from arguments that agree, the kernel's result array and the reference's end equal. -/
theorem algebraic : Cert.algebraic_MergePromptIdeal_MergePromptReferenceIdeal (hMergePromptIdeal := Cert.MergePromptIdeal.Gen.facts)
    (hMergePromptReferenceIdeal := Cert.MergePromptReferenceIdeal.Gen.facts) := fun m ρ m' ρ' _ hag =>
  ⟨fun c => Cert.MergePromptIdeal.Merge.goal m c,
    (θ_run Cert.MergePromptIdeal.defs _ _).mono (fun _ h c => ⟨(h c).1.trans (Cert.MergePromptIdeal.Merge.final m c), (h c).2⟩)
      (Cert.MergePromptIdeal.Value.run_blocks m ρ),
    (θ_run Cert.MergePromptReferenceIdeal.defs _ _).mono (fun _ h c => ⟨((h c).1.trans (Cert.MergePromptReferenceIdeal.Merge.res_eq m' c)).trans
        (by rw [(hag c).1, (hag c).2.1, (hag c).2.2.1, (hag c).2.2.2.1, (hag c).2.2.2.2.1, (hag c).2.2.2.2.2.1,
          (hag c).2.2.2.2.2.2.1, (hag c).2.2.2.2.2.2.2.1, (hag c).2.2.2.2.2.2.2.2]), (h c).2⟩)
      (Cert.MergePromptReferenceIdeal.Value.run m' ρ')⟩

end Cert.Proof.MergePrompt

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvReferenceIdeal
public import proofs.«01_k».proof.Proof.Gen.QkvIdeal.Value
public import proofs.«01_k».proof.Proof.Gen.QkvReferenceIdeal.Run
public import proofs.«01_k».proof.Proof.Gen.Gates
public import proofs.«01_k».proof.Proof.Gen.Gates.Skeleton
public import proofs.«01_k».proof.Proof.Gen.Gates.Launch
public import proofs.«01_k».proof.Proof.Gen.Gates.Points
public import proofs.«01_k».proof.Proof.Gen.Gates.Frame
public import proofs.«01_k».proof.Proof.Gen.GatesIdeal
public import proofs.«01_k».proof.Proof.Gen.GatesIdeal.Skeleton
public import proofs.«01_k».proof.Proof.Gen.GatesIdeal.Launch
public import proofs.«01_k».proof.Proof.Gen.GatesIdeal.Points
public import proofs.«01_k».proof.Proof.Gen.GatesIdeal.Frame
public import proofs.«01_k».proof.Proof.Gen.GatesReferenceIdeal
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvReferenceIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeReferenceIdeal
public import proofs.«01_k».proof.Proof.Gen.MergePrompt
public import proofs.«01_k».proof.Proof.Gen.MergePrompt.Skeleton
public import proofs.«01_k».proof.Proof.Gen.MergePrompt.Launch
public import proofs.«01_k».proof.Proof.Gen.MergePrompt.Points
public import proofs.«01_k».proof.Proof.Gen.MergePrompt.Frame
public import proofs.«01_k».proof.Proof.Gen.MergePromptIdeal
public import proofs.«01_k».proof.Proof.Gen.MergePromptIdeal.Skeleton
public import proofs.«01_k».proof.Proof.Gen.MergePromptIdeal.Launch
public import proofs.«01_k».proof.Proof.Gen.MergePromptIdeal.Points
public import proofs.«01_k».proof.Proof.Gen.MergePromptIdeal.Frame
public import proofs.«01_k».proof.Proof.Gen.MergePromptReferenceIdeal
public import proofs.«01_k».proof.Proof.Gen.Pre_finite_scores
public import proofs.«01_k».proof.Proof.Gen.KernelIdeal.Value
public import proofs.«01_k».proof.Proof.Gen.GatesIdeal.Value
public import proofs.«01_k».proof.Proof.Gen.ConvIdeal.Value
public import proofs.«01_k».proof.Proof.Gen.MergeIdeal.Value
public import proofs.«01_k».proof.Proof.Gen.MergePromptIdeal.Value
public import proofs.«01_k».proof.Proof.Gen.ReferenceIdeal.Run
public import proofs.«01_k».proof.Proof.Gen.GatesReferenceIdeal.Run
public import proofs.«01_k».proof.Proof.Gen.ConvReferenceIdeal.Run
public import proofs.«01_k».proof.Proof.Gen.MergeReferenceIdeal.Run
public import proofs.«01_k».proof.Proof.Gen.MergePromptReferenceIdeal.Run
public import proofs.«01_k».proof.Proof.Gen.States
public import proofs.«01_k».proof.Proof.Gen.States.Skeleton
public import proofs.«01_k».proof.Proof.Gen.States.Launch
public import proofs.«01_k».proof.Proof.Gen.States.Points
public import proofs.«01_k».proof.Proof.Gen.States.Frame
public import proofs.«01_k».proof.Proof.Gen.StatesIdeal
public import proofs.«01_k».proof.Proof.Gen.StatesIdeal.Skeleton
public import proofs.«01_k».proof.Proof.Gen.StatesIdeal.Launch
public import proofs.«01_k».proof.Proof.Gen.StatesIdeal.Points
public import proofs.«01_k».proof.Proof.Gen.StatesIdeal.Frame
public import proofs.«01_k».proof.Proof.Attn.Claims
public import proofs.«01_k».proof.Proof.Qkv.Claims
public import proofs.«01_k».proof.Proof.Gates.Claims
public import proofs.«01_k».proof.Proof.Conv.Claims
public import proofs.«01_k».proof.Proof.States.Claims
public import proofs.«01_k».proof.Proof.Merge.Claims
public import proofs.«01_k».proof.Proof.MergePrompt.Claims
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim :=
  ⟨Cert.Kernel.Gen.facts, Cert.KernelIdeal.Gen.facts, Cert.ReferenceIdeal.Gen.facts, Cert.Qkv.Gen.facts, Cert.QkvIdeal.Gen.facts,
    Cert.QkvReferenceIdeal.Gen.facts, Cert.Gates.Gen.facts,
    Cert.GatesIdeal.Gen.facts, Cert.GatesReferenceIdeal.Gen.facts, Cert.Conv.Gen.facts,
    Cert.ConvIdeal.Gen.facts, Cert.ConvReferenceIdeal.Gen.facts, Cert.States.Gen.facts, Cert.StatesIdeal.Gen.facts, Cert.Merge.Gen.facts,
    Cert.MergeIdeal.Gen.facts, Cert.MergeReferenceIdeal.Gen.facts, Cert.MergePrompt.Gen.facts,
    Cert.MergePromptIdeal.Gen.facts, Cert.MergePromptReferenceIdeal.Gen.facts, Cert.Pre_finite_scores.facts,
    Attn.frame_p, Attn.frame_pi, Attn.frame_pi_pre, Attn.frame_ri, Attn.frame_ri_pre, Qkv.frame_p, Qkv.frame_pi,
    Qkv.frame_ri, Gates.frame_p,
    Gates.frame_pi, Gates.frame_ri, Conv.frame_p, Conv.frame_pi, Conv.frame_ri, States.frame_p, States.frame_pi, Merge.frame_p, Merge.frame_pi,
    Merge.frame_ri, MergePrompt.frame_p, MergePrompt.frame_pi, MergePrompt.frame_ri, Attn.preserves,
    Attn.algebraic, Qkv.preserves, Qkv.algebraic, Gates.preserves, Gates.algebraic, Conv.preserves, Conv.algebraic, States.preserves, Merge.preserves,
    Merge.algebraic, MergePrompt.preserves, MergePrompt.algebraic⟩

end Cert.Proof

end
